-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleReferenceIdeal (m : (ℓ : Loc Cert.MergeSampleReferenceIdeal.nD Cert.MergeSampleReferenceIdeal.τ Cert.MergeSampleReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectSample (m : (ℓ : Loc Cert.ProjectSample.nD Cert.ProjectSample.τ Cert.ProjectSample.sig) → Buf (Elt Bits) ℓ) : Prop :=
  True

def Pre_ProjectSampleIdeal (m : (ℓ : Loc Cert.ProjectSampleIdeal.nD Cert.ProjectSampleIdeal.τ Cert.ProjectSampleIdeal.sig) → Buf (Elt Ideal) ℓ) : Prop :=
  True

def Pre_ProjectSampleReferenceIdeal (m : (ℓ : Loc Cert.ProjectSampleReferenceIdeal.nD Cert.ProjectSampleReferenceIdeal.τ Cert.ProjectSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ r.2.sem = fun _ => 0)

def quiescent_MergeSampleReferenceIdeal [hMergeSampleReferenceIdeal : Cert.MergeSampleReferenceIdeal.Facts] : Prop :=
  ∀ (m : (ℓ : Loc Cert.MergeSampleReferenceIdeal.nD Cert.MergeSampleReferenceIdeal.τ Cert.MergeSampleReferenceIdeal.sig) → Buf (Elt Ideal) ℓ) (g : Dev Cert.MergeSampleReferenceIdeal.nD → PrngReg), Pre_MergeSampleReferenceIdeal m →
    θ_run (Cert.MergeSampleReferenceIdeal.defs (F := Ideal)) (onTc (τ := Cert.MergeSampleReferenceIdeal.τ) (Cert.MergeSampleReferenceIdeal.main (F := Ideal))) ⟨m, fun _ => 0, g⟩ (fun r => (∀ c : Dev Cert.MergeSampleReferenceIdeal.nD,
      r.2.mem ((c.tc : Thread Cert.MergeSampleReferenceIdeal.nD Cert.MergeSampleReferenceIdeal.τ).loc Cert.MergeSampleReferenceIdeal.main_arg0) = m ((c.tc : Thread Cert.MergeSampleReferenceIdeal.nD Cert.MergeSampleReferenceIdeal.τ).loc Cert.MergeSampleReferenceIdeal.main_arg0)
      ∧ r.2.mem ((c.tc : Thread Cert.MergeSampleReferenceIdeal.nD Cert.MergeSampleReferenceIdeal.τ).loc Cert.MergeSampleReferenceIdeal.main_arg1) = m ((c.tc : Thread Cert.MergeSampleReferenceIdeal.nD Cert.MergeSampleReferenceIdeal.τ).loc Cert.MergeSampleReferenceIdeal.main_arg1)
      ∧ r.2.mem ((c.tc : Thread Cert.MergeSampleReferenceIdeal.nD Cert.MergeSampleReferenceIdeal.τ).loc Cert.MergeSampleReferenceIdeal.main_arg2) = m ((c.tc : Thread Cert.MergeSampleReferenceIdeal.nD Cert.MergeSampleReferenceIdeal.τ).loc Cert.MergeSampleReferenceIdeal.main_arg2)
      ∧ r.2.mem ((c.tc : Thread Cert.MergeSampleReferenceIdeal.nD Cert.MergeSampleReferenceIdeal.τ).loc Cert.MergeSampleReferenceIdeal.main_arg3) = m ((c.tc : Thread Cert.MergeSampleReferenceIdeal.nD Cert.MergeSampleReferenceIdeal.τ).loc Cert.MergeSampleReferenceIdeal.main_arg3)
      ∧ r.2.mem ((c.tc : Thread Cert.MergeSampleReferenceIdeal.nD Cert.MergeSampleReferenceIdeal.τ).loc Cert.MergeSampleReferenceIdeal.main_arg4) = m ((c.tc : Thread Cert.MergeSampleReferenceIdeal.nD Cert.MergeSampleReferenceIdeal.τ).loc Cert.MergeSampleReferenceIdeal.main_arg4)
      ∧ r.2.mem ((c.tc : Thread Cert.MergeSampleReferenceIdeal.nD Cert.MergeSampleReferenceIdeal.τ).loc Cert.MergeSampleReferenceIdeal.main_arg5) = m ((c.tc : Thread Cert.MergeSampleReferenceIdeal.nD Cert.MergeSampleReferenceIdeal.τ).loc Cert.MergeSampleReferenceIdeal.main_arg5)
      ∧ r.2.mem ((c.tc : Thread Cert.MergeSampleReferenceIdeal.nD Cert.MergeSampleReferenceIdeal.τ).loc Cert.MergeSampleReferenceIdeal.main_arg6) = m ((c.tc : Thread Cert.MergeSampleReferenceIdeal.nD Cert.MergeSampleReferenceIdeal.τ).loc Cert.MergeSampleReferenceIdeal.main_arg6)
      ∧ r.2.mem ((c.tc : Thread Cert.MergeSampleReferenceIdeal.nD Cert.MergeSampleReferenceIdeal.τ).loc Cert.MergeSampleReferenceIdeal.main_arg7) = m ((c.tc : Thread Cert.MergeSampleReferenceIdeal.nD Cert.MergeSampleReferenceIdeal.τ).loc Cert.MergeSampleReferenceIdeal.main_arg7))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7)
      ∧ r.2.mem ((c.tc : Thread Cert.Project.nD Cert.Project.τ).loc Cert.Project.main_arg8) = m ((c.tc : Thread Cert.Project.nD Cert.Project.τ).loc Cert.Project.main_arg8)
      ∧ r.2.mem ((c.tc : Thread Cert.Project.nD Cert.Project.τ).loc Cert.Project.main_arg9) = m ((c.tc : Thread Cert.Project.nD Cert.Project.τ).loc Cert.Project.main_arg9)
      ∧ r.2.mem ((c.tc : Thread Cert.Project.nD Cert.Project.τ).loc Cert.Project.main_arg10) = m ((c.tc : Thread Cert.Project.nD Cert.Project.τ).loc Cert.Project.main_arg10)
      ∧ r.2.mem ((c.tc : Thread Cert.Project.nD Cert.Project.τ).loc Cert.Project.main_arg11) = m ((c.tc : Thread Cert.Project.nD Cert.Project.τ).loc Cert.Project.main_arg11)
      ∧ r.2.mem ((c.tc : Thread Cert.Project.nD Cert.Project.τ).loc Cert.Project.main_arg12) = m ((c.tc : Thread Cert.Project.nD Cert.Project.τ).loc Cert.Project.main_arg12))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
      ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
      ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
      ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10)
      ∧ r.2.mem ((c.tc : Thread Cert.ProjectIdeal.nD Cert.ProjectIdeal.τ).loc Cert.ProjectIdeal.main_arg11) = m ((c.tc : Thread Cert.ProjectIdeal.nD Cert.ProjectIdeal.τ).loc Cert.ProjectIdeal.main_arg11)
      ∧ r.2.mem ((c.tc : Thread Cert.ProjectIdeal.nD Cert.ProjectIdeal.τ).loc Cert.ProjectIdeal.main_arg12) = m ((c.tc : Thread Cert.ProjectIdeal.nD Cert.ProjectIdeal.τ).loc Cert.ProjectIdeal.main_arg12))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6)
      ∧ r.2.mem ((c.tc : Thread Cert.ProjectReferenceIdeal.nD Cert.ProjectReferenceIdeal.τ).loc Cert.ProjectReferenceIdeal.main_arg7) = m ((c.tc : Thread Cert.ProjectReferenceIdeal.nD Cert.ProjectReferenceIdeal.τ).loc Cert.ProjectReferenceIdeal.main_arg7)
      ∧ r.2.mem ((c.tc : Thread Cert.ProjectReferenceIdeal.nD Cert.ProjectReferenceIdeal.τ).loc Cert.ProjectReferenceIdeal.main_arg8) = m ((c.tc : Thread Cert.ProjectReferenceIdeal.nD Cert.ProjectReferenceIdeal.τ).loc Cert.ProjectReferenceIdeal.main_arg8)
      ∧ r.2.mem ((c.tc : Thread Cert.ProjectReferenceIdeal.nD Cert.ProjectReferenceIdeal.τ).loc Cert.ProjectReferenceIdeal.main_arg9) = m ((c.tc : Thread Cert.ProjectReferenceIdeal.nD Cert.ProjectReferenceIdeal.τ).loc Cert.ProjectReferenceIdeal.main_arg9)
      ∧ r.2.mem ((c.tc : Thread Cert.ProjectReferenceIdeal.nD Cert.ProjectReferenceIdeal.τ).loc Cert.ProjectReferenceIdeal.main_arg10) = m ((c.tc : Thread Cert.ProjectReferenceIdeal.nD Cert.ProjectReferenceIdeal.τ).loc Cert.ProjectReferenceIdeal.main_arg10)
      ∧ r.2.mem ((c.tc : Thread Cert.ProjectReferenceIdeal.nD Cert.ProjectReferenceIdeal.τ).loc Cert.ProjectReferenceIdeal.main_arg11) = m ((c.tc : Thread Cert.ProjectReferenceIdeal.nD Cert.ProjectReferenceIdeal.τ).loc Cert.ProjectReferenceIdeal.main_arg11)
      ∧ r.2.mem ((c.tc : Thread Cert.ProjectReferenceIdeal.nD Cert.ProjectReferenceIdeal.τ).loc Cert.ProjectReferenceIdeal.main_arg12) = m ((c.tc : Thread Cert.ProjectReferenceIdeal.nD Cert.ProjectReferenceIdeal.τ).loc Cert.ProjectReferenceIdeal.main_arg12))
      ∧ r.2.sem = fun _ => 0)

def quiescent_ProjectSample [hProjectSample : Cert.ProjectSample.Facts] : Prop :=
  ∀ (m : (ℓ : Loc Cert.ProjectSample.nD Cert.ProjectSample.τ Cert.ProjectSample.sig) → Buf (Elt Bits) ℓ) (g : Dev Cert.ProjectSample.nD → PrngReg), Pre_ProjectSample m →
    θ_run (Cert.ProjectSample.defs (F := Bits)) (onTc (τ := Cert.ProjectSample.τ) (Cert.ProjectSample.main (F := Bits))) ⟨m, fun _ => 0, g⟩ (fun r => (∀ c : Dev Cert.ProjectSample.nD,
      r.2.mem ((c.tc : Thread Cert.ProjectSample.nD Cert.ProjectSample.τ).loc Cert.ProjectSample.main_arg0) = m ((c.tc : Thread Cert.ProjectSample.nD Cert.ProjectSample.τ).loc Cert.ProjectSample.main_arg0)
      ∧ r.2.mem ((c.tc : Thread Cert.ProjectSample.nD Cert.ProjectSample.τ).loc Cert.ProjectSample.main_arg1) = m ((c.tc : Thread Cert.ProjectSample.nD Cert.ProjectSample.τ).loc Cert.ProjectSample.main_arg1)
      ∧ r.2.mem ((c.tc : Thread Cert.ProjectSample.nD Cert.ProjectSample.τ).loc Cert.ProjectSample.main_arg2) = m ((c.tc : Thread Cert.ProjectSample.nD Cert.ProjectSample.τ).loc Cert.ProjectSample.main_arg2)
      ∧ r.2.mem ((c.tc : Thread Cert.ProjectSample.nD Cert.ProjectSample.τ).loc Cert.ProjectSample.main_arg3) = m ((c.tc : Thread Cert.ProjectSample.nD Cert.ProjectSample.τ).loc Cert.ProjectSample.main_arg3)
      ∧ r.2.mem ((c.tc : Thread Cert.ProjectSample.nD Cert.ProjectSample.τ).loc Cert.ProjectSample.main_arg4) = m ((c.tc : Thread Cert.ProjectSample.nD Cert.ProjectSample.τ).loc Cert.ProjectSample.main_arg4)
      ∧ r.2.mem ((c.tc : Thread Cert.ProjectSample.nD Cert.ProjectSample.τ).loc Cert.ProjectSample.main_arg5) = m ((c.tc : Thread Cert.ProjectSample.nD Cert.ProjectSample.τ).loc Cert.ProjectSample.main_arg5)
      ∧ r.2.mem ((c.tc : Thread Cert.ProjectSample.nD Cert.ProjectSample.τ).loc Cert.ProjectSample.main_arg6) = m ((c.tc : Thread Cert.ProjectSample.nD Cert.ProjectSample.τ).loc Cert.ProjectSample.main_arg6)
      ∧ r.2.mem ((c.tc : Thread Cert.ProjectSample.nD Cert.ProjectSample.τ).loc Cert.ProjectSample.main_arg7) = m ((c.tc : Thread Cert.ProjectSample.nD Cert.ProjectSample.τ).loc Cert.ProjectSample.main_arg7)
      ∧ r.2.mem ((c.tc : Thread Cert.ProjectSample.nD Cert.ProjectSample.τ).loc Cert.ProjectSample.main_arg8) = m ((c.tc : Thread Cert.ProjectSample.nD Cert.ProjectSample.τ).loc Cert.ProjectSample.main_arg8)
      ∧ r.2.mem ((c.tc : Thread Cert.ProjectSample.nD Cert.ProjectSample.τ).loc Cert.ProjectSample.main_arg9) = m ((c.tc : Thread Cert.ProjectSample.nD Cert.ProjectSample.τ).loc Cert.ProjectSample.main_arg9)
      ∧ r.2.mem ((c.tc : Thread Cert.ProjectSample.nD Cert.ProjectSample.τ).loc Cert.ProjectSample.main_arg10) = m ((c.tc : Thread Cert.ProjectSample.nD Cert.ProjectSample.τ).loc Cert.ProjectSample.main_arg10)
      ∧ r.2.mem ((c.tc : Thread Cert.ProjectSample.nD Cert.ProjectSample.τ).loc Cert.ProjectSample.main_arg11) = m ((c.tc : Thread Cert.ProjectSample.nD Cert.ProjectSample.τ).loc Cert.ProjectSample.main_arg11)
      ∧ r.2.mem ((c.tc : Thread Cert.ProjectSample.nD Cert.ProjectSample.τ).loc Cert.ProjectSample.main_arg12) = m ((c.tc : Thread Cert.ProjectSample.nD Cert.ProjectSample.τ).loc Cert.ProjectSample.main_arg12))
      ∧ r.2.sem = fun _ => 0)

def quiescent_ProjectSampleIdeal [hProjectSampleIdeal : Cert.ProjectSampleIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg), Pre_ProjectSampleIdeal m →
    θ_run (Cert.ProjectSampleIdeal.defs (F := Ideal)) (onTc (τ := Cert.ProjectSampleIdeal.τ) (Cert.ProjectSampleIdeal.main (F := Ideal))) ⟨m, fun _ => 0, g⟩ (fun r => (∀ c : Dev Cert.ProjectSampleIdeal.nD,
      r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
      ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
      ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
      ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3)
      ∧ r.2.mem ((c.tc : Thread Cert.ProjectSampleIdeal.nD Cert.ProjectSampleIdeal.τ).loc Cert.ProjectSampleIdeal.main_arg4) = m ((c.tc : Thread Cert.ProjectSampleIdeal.nD Cert.ProjectSampleIdeal.τ).loc Cert.ProjectSampleIdeal.main_arg4)
      ∧ r.2.mem ((c.tc : Thread Cert.ProjectSampleIdeal.nD Cert.ProjectSampleIdeal.τ).loc Cert.ProjectSampleIdeal.main_arg5) = m ((c.tc : Thread Cert.ProjectSampleIdeal.nD Cert.ProjectSampleIdeal.τ).loc Cert.ProjectSampleIdeal.main_arg5)
      ∧ r.2.mem ((c.tc : Thread Cert.ProjectSampleIdeal.nD Cert.ProjectSampleIdeal.τ).loc Cert.ProjectSampleIdeal.main_arg6) = m ((c.tc : Thread Cert.ProjectSampleIdeal.nD Cert.ProjectSampleIdeal.τ).loc Cert.ProjectSampleIdeal.main_arg6)
      ∧ r.2.mem ((c.tc : Thread Cert.ProjectSampleIdeal.nD Cert.ProjectSampleIdeal.τ).loc Cert.ProjectSampleIdeal.main_arg7) = m ((c.tc : Thread Cert.ProjectSampleIdeal.nD Cert.ProjectSampleIdeal.τ).loc Cert.ProjectSampleIdeal.main_arg7)
      ∧ r.2.mem ((c.tc : Thread Cert.ProjectSampleIdeal.nD Cert.ProjectSampleIdeal.τ).loc Cert.ProjectSampleIdeal.main_arg8) = m ((c.tc : Thread Cert.ProjectSampleIdeal.nD Cert.ProjectSampleIdeal.τ).loc Cert.ProjectSampleIdeal.main_arg8)
      ∧ r.2.mem ((c.tc : Thread Cert.ProjectSampleIdeal.nD Cert.ProjectSampleIdeal.τ).loc Cert.ProjectSampleIdeal.main_arg9) = m ((c.tc : Thread Cert.ProjectSampleIdeal.nD Cert.ProjectSampleIdeal.τ).loc Cert.ProjectSampleIdeal.main_arg9)
      ∧ r.2.mem ((c.tc : Thread Cert.ProjectSampleIdeal.nD Cert.ProjectSampleIdeal.τ).loc Cert.ProjectSampleIdeal.main_arg10) = m ((c.tc : Thread Cert.ProjectSampleIdeal.nD Cert.ProjectSampleIdeal.τ).loc Cert.ProjectSampleIdeal.main_arg10)
      ∧ r.2.mem ((c.tc : Thread Cert.ProjectSampleIdeal.nD Cert.ProjectSampleIdeal.τ).loc Cert.ProjectSampleIdeal.main_arg11) = m ((c.tc : Thread Cert.ProjectSampleIdeal.nD Cert.ProjectSampleIdeal.τ).loc Cert.ProjectSampleIdeal.main_arg11)
      ∧ r.2.mem ((c.tc : Thread Cert.ProjectSampleIdeal.nD Cert.ProjectSampleIdeal.τ).loc Cert.ProjectSampleIdeal.main_arg12) = m ((c.tc : Thread Cert.ProjectSampleIdeal.nD Cert.ProjectSampleIdeal.τ).loc Cert.ProjectSampleIdeal.main_arg12))
      ∧ r.2.sem = fun _ => 0)

def quiescent_ProjectSampleReferenceIdeal [hProjectSampleReferenceIdeal : Cert.ProjectSampleReferenceIdeal.Facts] : Prop :=
  ∀ (m : (ℓ : Loc Cert.ProjectSampleReferenceIdeal.nD Cert.ProjectSampleReferenceIdeal.τ Cert.ProjectSampleReferenceIdeal.sig) → Buf (Elt Ideal) ℓ) (g : Dev Cert.ProjectSampleReferenceIdeal.nD → PrngReg), Pre_ProjectSampleReferenceIdeal m →
    θ_run (Cert.ProjectSampleReferenceIdeal.defs (F := Ideal)) (onTc (τ := Cert.ProjectSampleReferenceIdeal.τ) (Cert.ProjectSampleReferenceIdeal.main (F := Ideal))) ⟨m, fun _ => 0, g⟩ (fun r => (∀ c : Dev Cert.ProjectSampleReferenceIdeal.nD,
      r.2.mem ((c.tc : Thread Cert.ProjectSampleReferenceIdeal.nD Cert.ProjectSampleReferenceIdeal.τ).loc Cert.ProjectSampleReferenceIdeal.main_arg0) = m ((c.tc : Thread Cert.ProjectSampleReferenceIdeal.nD Cert.ProjectSampleReferenceIdeal.τ).loc Cert.ProjectSampleReferenceIdeal.main_arg0)
      ∧ r.2.mem ((c.tc : Thread Cert.ProjectSampleReferenceIdeal.nD Cert.ProjectSampleReferenceIdeal.τ).loc Cert.ProjectSampleReferenceIdeal.main_arg1) = m ((c.tc : Thread Cert.ProjectSampleReferenceIdeal.nD Cert.ProjectSampleReferenceIdeal.τ).loc Cert.ProjectSampleReferenceIdeal.main_arg1)
      ∧ r.2.mem ((c.tc : Thread Cert.ProjectSampleReferenceIdeal.nD Cert.ProjectSampleReferenceIdeal.τ).loc Cert.ProjectSampleReferenceIdeal.main_arg2) = m ((c.tc : Thread Cert.ProjectSampleReferenceIdeal.nD Cert.ProjectSampleReferenceIdeal.τ).loc Cert.ProjectSampleReferenceIdeal.main_arg2)
      ∧ r.2.mem ((c.tc : Thread Cert.ProjectSampleReferenceIdeal.nD Cert.ProjectSampleReferenceIdeal.τ).loc Cert.ProjectSampleReferenceIdeal.main_arg3) = m ((c.tc : Thread Cert.ProjectSampleReferenceIdeal.nD Cert.ProjectSampleReferenceIdeal.τ).loc Cert.ProjectSampleReferenceIdeal.main_arg3)
      ∧ r.2.mem ((c.tc : Thread Cert.ProjectSampleReferenceIdeal.nD Cert.ProjectSampleReferenceIdeal.τ).loc Cert.ProjectSampleReferenceIdeal.main_arg4) = m ((c.tc : Thread Cert.ProjectSampleReferenceIdeal.nD Cert.ProjectSampleReferenceIdeal.τ).loc Cert.ProjectSampleReferenceIdeal.main_arg4)
      ∧ r.2.mem ((c.tc : Thread Cert.ProjectSampleReferenceIdeal.nD Cert.ProjectSampleReferenceIdeal.τ).loc Cert.ProjectSampleReferenceIdeal.main_arg5) = m ((c.tc : Thread Cert.ProjectSampleReferenceIdeal.nD Cert.ProjectSampleReferenceIdeal.τ).loc Cert.ProjectSampleReferenceIdeal.main_arg5)
      ∧ r.2.mem ((c.tc : Thread Cert.ProjectSampleReferenceIdeal.nD Cert.ProjectSampleReferenceIdeal.τ).loc Cert.ProjectSampleReferenceIdeal.main_arg6) = m ((c.tc : Thread Cert.ProjectSampleReferenceIdeal.nD Cert.ProjectSampleReferenceIdeal.τ).loc Cert.ProjectSampleReferenceIdeal.main_arg6)
      ∧ r.2.mem ((c.tc : Thread Cert.ProjectSampleReferenceIdeal.nD Cert.ProjectSampleReferenceIdeal.τ).loc Cert.ProjectSampleReferenceIdeal.main_arg7) = m ((c.tc : Thread Cert.ProjectSampleReferenceIdeal.nD Cert.ProjectSampleReferenceIdeal.τ).loc Cert.ProjectSampleReferenceIdeal.main_arg7)
      ∧ r.2.mem ((c.tc : Thread Cert.ProjectSampleReferenceIdeal.nD Cert.ProjectSampleReferenceIdeal.τ).loc Cert.ProjectSampleReferenceIdeal.main_arg8) = m ((c.tc : Thread Cert.ProjectSampleReferenceIdeal.nD Cert.ProjectSampleReferenceIdeal.τ).loc Cert.ProjectSampleReferenceIdeal.main_arg8)
      ∧ r.2.mem ((c.tc : Thread Cert.ProjectSampleReferenceIdeal.nD Cert.ProjectSampleReferenceIdeal.τ).loc Cert.ProjectSampleReferenceIdeal.main_arg9) = m ((c.tc : Thread Cert.ProjectSampleReferenceIdeal.nD Cert.ProjectSampleReferenceIdeal.τ).loc Cert.ProjectSampleReferenceIdeal.main_arg9)
      ∧ r.2.mem ((c.tc : Thread Cert.ProjectSampleReferenceIdeal.nD Cert.ProjectSampleReferenceIdeal.τ).loc Cert.ProjectSampleReferenceIdeal.main_arg10) = m ((c.tc : Thread Cert.ProjectSampleReferenceIdeal.nD Cert.ProjectSampleReferenceIdeal.τ).loc Cert.ProjectSampleReferenceIdeal.main_arg10)
      ∧ r.2.mem ((c.tc : Thread Cert.ProjectSampleReferenceIdeal.nD Cert.ProjectSampleReferenceIdeal.τ).loc Cert.ProjectSampleReferenceIdeal.main_arg11) = m ((c.tc : Thread Cert.ProjectSampleReferenceIdeal.nD Cert.ProjectSampleReferenceIdeal.τ).loc Cert.ProjectSampleReferenceIdeal.main_arg11)
      ∧ r.2.mem ((c.tc : Thread Cert.ProjectSampleReferenceIdeal.nD Cert.ProjectSampleReferenceIdeal.τ).loc Cert.ProjectSampleReferenceIdeal.main_arg12) = m ((c.tc : Thread Cert.ProjectSampleReferenceIdeal.nD Cert.ProjectSampleReferenceIdeal.τ).loc Cert.ProjectSampleReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v24) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_MergeSample_MergeSampleIdeal : Prop :=
  True

def algebraic_MergeSampleIdeal_MergeSampleReferenceIdeal [hMergeSampleIdeal : Cert.MergeSampleIdeal.Facts] [hMergeSampleReferenceIdeal : Cert.MergeSampleReferenceIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleReferenceIdeal.nD Cert.MergeSampleReferenceIdeal.τ Cert.MergeSampleReferenceIdeal.sig) → Buf (Elt Ideal) ℓ) (g' : Dev Cert.MergeSampleReferenceIdeal.nD → PrngReg), Pre_MergeSampleIdeal m →
    (∀ c : Dev Cert.MergeSampleIdeal.nD,
      m' ((c.tc : Thread Cert.MergeSampleReferenceIdeal.nD Cert.MergeSampleReferenceIdeal.τ).loc Cert.MergeSampleReferenceIdeal.main_arg0) = m ((c.tc : Thread Cert.MergeSampleIdeal.nD Cert.MergeSampleIdeal.τ).loc Cert.MergeSampleIdeal.main_arg0)
      ∧ m' ((c.tc : Thread Cert.MergeSampleReferenceIdeal.nD Cert.MergeSampleReferenceIdeal.τ).loc Cert.MergeSampleReferenceIdeal.main_arg1) = m ((c.tc : Thread Cert.MergeSampleIdeal.nD Cert.MergeSampleIdeal.τ).loc Cert.MergeSampleIdeal.main_arg1)
      ∧ m' ((c.tc : Thread Cert.MergeSampleReferenceIdeal.nD Cert.MergeSampleReferenceIdeal.τ).loc Cert.MergeSampleReferenceIdeal.main_arg2) = m ((c.tc : Thread Cert.MergeSampleIdeal.nD Cert.MergeSampleIdeal.τ).loc Cert.MergeSampleIdeal.main_arg2)
      ∧ m' ((c.tc : Thread Cert.MergeSampleReferenceIdeal.nD Cert.MergeSampleReferenceIdeal.τ).loc Cert.MergeSampleReferenceIdeal.main_arg3) = m ((c.tc : Thread Cert.MergeSampleIdeal.nD Cert.MergeSampleIdeal.τ).loc Cert.MergeSampleIdeal.main_arg3)
      ∧ m' ((c.tc : Thread Cert.MergeSampleReferenceIdeal.nD Cert.MergeSampleReferenceIdeal.τ).loc Cert.MergeSampleReferenceIdeal.main_arg4) = m ((c.tc : Thread Cert.MergeSampleIdeal.nD Cert.MergeSampleIdeal.τ).loc Cert.MergeSampleIdeal.main_arg4)
      ∧ m' ((c.tc : Thread Cert.MergeSampleReferenceIdeal.nD Cert.MergeSampleReferenceIdeal.τ).loc Cert.MergeSampleReferenceIdeal.main_arg5) = m ((c.tc : Thread Cert.MergeSampleIdeal.nD Cert.MergeSampleIdeal.τ).loc Cert.MergeSampleIdeal.main_arg5)
      ∧ m' ((c.tc : Thread Cert.MergeSampleReferenceIdeal.nD Cert.MergeSampleReferenceIdeal.τ).loc Cert.MergeSampleReferenceIdeal.main_arg6) = m ((c.tc : Thread Cert.MergeSampleIdeal.nD Cert.MergeSampleIdeal.τ).loc Cert.MergeSampleIdeal.main_arg6)
      ∧ m' ((c.tc : Thread Cert.MergeSampleReferenceIdeal.nD Cert.MergeSampleReferenceIdeal.τ).loc Cert.MergeSampleReferenceIdeal.main_arg7) = m ((c.tc : Thread Cert.MergeSampleIdeal.nD Cert.MergeSampleIdeal.τ).loc Cert.MergeSampleIdeal.main_arg7)) →
    ∃ (v0 : (c : Dev Cert.MergeSampleIdeal.nD) → Buf (Elt Ideal) ((c.tc : Thread Cert.MergeSampleIdeal.nD Cert.MergeSampleIdeal.τ).loc Cert.MergeSampleIdeal.main_v4)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v4) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ θ_run (Cert.MergeSampleReferenceIdeal.defs (F := Ideal)) (onTc (τ := Cert.MergeSampleReferenceIdeal.τ) (Cert.MergeSampleReferenceIdeal.main (F := Ideal))) ⟨m', fun _ => 0, g'⟩ (fun r => ∀ c : Dev Cert.MergeSampleReferenceIdeal.nD,
          r.2.mem ((c.tc : Thread Cert.MergeSampleReferenceIdeal.nD Cert.MergeSampleReferenceIdeal.τ).loc Cert.MergeSampleReferenceIdeal.main_v24) = v0 c
          ∧ r.2.mem ((c.tc : Thread Cert.MergeSampleReferenceIdeal.nD Cert.MergeSampleReferenceIdeal.τ).loc Cert.MergeSampleReferenceIdeal.main_arg0) = m' ((c.tc : Thread Cert.MergeSampleReferenceIdeal.nD Cert.MergeSampleReferenceIdeal.τ).loc Cert.MergeSampleReferenceIdeal.main_arg0)
          ∧ r.2.mem ((c.tc : Thread Cert.MergeSampleReferenceIdeal.nD Cert.MergeSampleReferenceIdeal.τ).loc Cert.MergeSampleReferenceIdeal.main_arg1) = m' ((c.tc : Thread Cert.MergeSampleReferenceIdeal.nD Cert.MergeSampleReferenceIdeal.τ).loc Cert.MergeSampleReferenceIdeal.main_arg1)
          ∧ r.2.mem ((c.tc : Thread Cert.MergeSampleReferenceIdeal.nD Cert.MergeSampleReferenceIdeal.τ).loc Cert.MergeSampleReferenceIdeal.main_arg2) = m' ((c.tc : Thread Cert.MergeSampleReferenceIdeal.nD Cert.MergeSampleReferenceIdeal.τ).loc Cert.MergeSampleReferenceIdeal.main_arg2)
          ∧ r.2.mem ((c.tc : Thread Cert.MergeSampleReferenceIdeal.nD Cert.MergeSampleReferenceIdeal.τ).loc Cert.MergeSampleReferenceIdeal.main_arg3) = m' ((c.tc : Thread Cert.MergeSampleReferenceIdeal.nD Cert.MergeSampleReferenceIdeal.τ).loc Cert.MergeSampleReferenceIdeal.main_arg3)
          ∧ r.2.mem ((c.tc : Thread Cert.MergeSampleReferenceIdeal.nD Cert.MergeSampleReferenceIdeal.τ).loc Cert.MergeSampleReferenceIdeal.main_arg4) = m' ((c.tc : Thread Cert.MergeSampleReferenceIdeal.nD Cert.MergeSampleReferenceIdeal.τ).loc Cert.MergeSampleReferenceIdeal.main_arg4)
          ∧ r.2.mem ((c.tc : Thread Cert.MergeSampleReferenceIdeal.nD Cert.MergeSampleReferenceIdeal.τ).loc Cert.MergeSampleReferenceIdeal.main_arg5) = m' ((c.tc : Thread Cert.MergeSampleReferenceIdeal.nD Cert.MergeSampleReferenceIdeal.τ).loc Cert.MergeSampleReferenceIdeal.main_arg5)
          ∧ r.2.mem ((c.tc : Thread Cert.MergeSampleReferenceIdeal.nD Cert.MergeSampleReferenceIdeal.τ).loc Cert.MergeSampleReferenceIdeal.main_arg6) = m' ((c.tc : Thread Cert.MergeSampleReferenceIdeal.nD Cert.MergeSampleReferenceIdeal.τ).loc Cert.MergeSampleReferenceIdeal.main_arg6)
          ∧ r.2.mem ((c.tc : Thread Cert.MergeSampleReferenceIdeal.nD Cert.MergeSampleReferenceIdeal.τ).loc Cert.MergeSampleReferenceIdeal.main_arg7) = m' ((c.tc : Thread Cert.MergeSampleReferenceIdeal.nD Cert.MergeSampleReferenceIdeal.τ).loc Cert.MergeSampleReferenceIdeal.main_arg7))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)
      ∧ m' ((c.tc : Thread Cert.ProjectReferenceIdeal.nD Cert.ProjectReferenceIdeal.τ).loc Cert.ProjectReferenceIdeal.main_arg7) = m ((c.tc : Thread Cert.ProjectIdeal.nD Cert.ProjectIdeal.τ).loc Cert.ProjectIdeal.main_arg7)
      ∧ m' ((c.tc : Thread Cert.ProjectReferenceIdeal.nD Cert.ProjectReferenceIdeal.τ).loc Cert.ProjectReferenceIdeal.main_arg8) = m ((c.tc : Thread Cert.ProjectIdeal.nD Cert.ProjectIdeal.τ).loc Cert.ProjectIdeal.main_arg8)
      ∧ m' ((c.tc : Thread Cert.ProjectReferenceIdeal.nD Cert.ProjectReferenceIdeal.τ).loc Cert.ProjectReferenceIdeal.main_arg9) = m ((c.tc : Thread Cert.ProjectIdeal.nD Cert.ProjectIdeal.τ).loc Cert.ProjectIdeal.main_arg9)
      ∧ m' ((c.tc : Thread Cert.ProjectReferenceIdeal.nD Cert.ProjectReferenceIdeal.τ).loc Cert.ProjectReferenceIdeal.main_arg10) = m ((c.tc : Thread Cert.ProjectIdeal.nD Cert.ProjectIdeal.τ).loc Cert.ProjectIdeal.main_arg10)
      ∧ m' ((c.tc : Thread Cert.ProjectReferenceIdeal.nD Cert.ProjectReferenceIdeal.τ).loc Cert.ProjectReferenceIdeal.main_arg11) = m ((c.tc : Thread Cert.ProjectIdeal.nD Cert.ProjectIdeal.τ).loc Cert.ProjectIdeal.main_arg11)
      ∧ m' ((c.tc : Thread Cert.ProjectReferenceIdeal.nD Cert.ProjectReferenceIdeal.τ).loc Cert.ProjectReferenceIdeal.main_arg12) = m ((c.tc : Thread Cert.ProjectIdeal.nD Cert.ProjectIdeal.τ).loc Cert.ProjectIdeal.main_arg12)) →
    ∃ (v0 : (c : Dev Cert.ProjectIdeal.nD) → Buf (Elt Ideal) ((c.tc : Thread Cert.ProjectIdeal.nD Cert.ProjectIdeal.τ).loc Cert.ProjectIdeal.main_v129_1)) (v1 : (c : Dev Cert.ProjectIdeal.nD) → Buf (Elt Ideal) ((c.tc : Thread Cert.ProjectIdeal.nD Cert.ProjectIdeal.τ).loc Cert.ProjectIdeal.main_v129_2)) (v2 : (c : Dev Cert.ProjectIdeal.nD) → Buf (Elt Ideal) ((c.tc : Thread Cert.ProjectIdeal.nD Cert.ProjectIdeal.τ).loc Cert.ProjectIdeal.main_v129_4)) (v3 : (c : Dev Cert.ProjectIdeal.nD) → Buf (Elt Ideal) ((c.tc : Thread Cert.ProjectIdeal.nD Cert.ProjectIdeal.τ).loc Cert.ProjectIdeal.main_v129_9)) (v4 : (c : Dev Cert.ProjectIdeal.nD) → Buf (Elt Ideal) ((c.tc : Thread Cert.ProjectIdeal.nD Cert.ProjectIdeal.τ).loc Cert.ProjectIdeal.main_v129_5)) (v5 : (c : Dev Cert.ProjectIdeal.nD) → Buf (Elt Ideal) ((c.tc : Thread Cert.ProjectIdeal.nD Cert.ProjectIdeal.τ).loc Cert.ProjectIdeal.main_v129_0)) (v6 : (c : Dev Cert.ProjectIdeal.nD) → Buf (Elt Ideal) ((c.tc : Thread Cert.ProjectIdeal.nD Cert.ProjectIdeal.τ).loc Cert.ProjectIdeal.main_v129_3)) (v7 : (c : Dev Cert.ProjectIdeal.nD) → Buf (Elt Ideal) ((c.tc : Thread Cert.ProjectIdeal.nD Cert.ProjectIdeal.τ).loc Cert.ProjectIdeal.main_v129_7)) (v8 : (c : Dev Cert.ProjectIdeal.nD) → Buf (Elt Ideal) ((c.tc : Thread Cert.ProjectIdeal.nD Cert.ProjectIdeal.τ).loc Cert.ProjectIdeal.main_v129_8)) (v9 : (c : Dev Cert.ProjectIdeal.nD) → Buf (Elt Ideal) ((c.tc : Thread Cert.ProjectIdeal.nD Cert.ProjectIdeal.τ).loc Cert.ProjectIdeal.main_v129_10)) (v10 : (c : Dev Cert.ProjectIdeal.nD) → Buf (Elt Ideal) ((c.tc : Thread Cert.ProjectIdeal.nD Cert.ProjectIdeal.τ).loc Cert.ProjectIdeal.main_v129_11)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v129_1) = v0 c
          ∧ r.2.mem ((c.tc : Thread Cert.ProjectIdeal.nD Cert.ProjectIdeal.τ).loc Cert.ProjectIdeal.main_v129_2) = v1 c
          ∧ r.2.mem ((c.tc : Thread Cert.ProjectIdeal.nD Cert.ProjectIdeal.τ).loc Cert.ProjectIdeal.main_v129_4) = v2 c
          ∧ r.2.mem ((c.tc : Thread Cert.ProjectIdeal.nD Cert.ProjectIdeal.τ).loc Cert.ProjectIdeal.main_v129_9) = v3 c
          ∧ r.2.mem ((c.tc : Thread Cert.ProjectIdeal.nD Cert.ProjectIdeal.τ).loc Cert.ProjectIdeal.main_v129_5) = v4 c
          ∧ r.2.mem ((c.tc : Thread Cert.ProjectIdeal.nD Cert.ProjectIdeal.τ).loc Cert.ProjectIdeal.main_v129_0) = v5 c
          ∧ r.2.mem ((c.tc : Thread Cert.ProjectIdeal.nD Cert.ProjectIdeal.τ).loc Cert.ProjectIdeal.main_v129_3) = v6 c
          ∧ r.2.mem ((c.tc : Thread Cert.ProjectIdeal.nD Cert.ProjectIdeal.τ).loc Cert.ProjectIdeal.main_v129_7) = v7 c
          ∧ r.2.mem ((c.tc : Thread Cert.ProjectIdeal.nD Cert.ProjectIdeal.τ).loc Cert.ProjectIdeal.main_v129_8) = v8 c
          ∧ r.2.mem ((c.tc : Thread Cert.ProjectIdeal.nD Cert.ProjectIdeal.τ).loc Cert.ProjectIdeal.main_v129_10) = v9 c
          ∧ r.2.mem ((c.tc : Thread Cert.ProjectIdeal.nD Cert.ProjectIdeal.τ).loc Cert.ProjectIdeal.main_v129_11) = v10 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
          ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
          ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
          ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10)
          ∧ r.2.mem ((c.tc : Thread Cert.ProjectIdeal.nD Cert.ProjectIdeal.τ).loc Cert.ProjectIdeal.main_arg11) = m ((c.tc : Thread Cert.ProjectIdeal.nD Cert.ProjectIdeal.τ).loc Cert.ProjectIdeal.main_arg11)
          ∧ r.2.mem ((c.tc : Thread Cert.ProjectIdeal.nD Cert.ProjectIdeal.τ).loc Cert.ProjectIdeal.main_arg12) = m ((c.tc : Thread Cert.ProjectIdeal.nD Cert.ProjectIdeal.τ).loc Cert.ProjectIdeal.main_arg12))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v350) = v0 c
          ∧ r.2.mem ((c.tc : Thread Cert.ProjectReferenceIdeal.nD Cert.ProjectReferenceIdeal.τ).loc Cert.ProjectReferenceIdeal.main_v351) = v1 c
          ∧ r.2.mem ((c.tc : Thread Cert.ProjectReferenceIdeal.nD Cert.ProjectReferenceIdeal.τ).loc Cert.ProjectReferenceIdeal.main_v352) = v2 c
          ∧ r.2.mem ((c.tc : Thread Cert.ProjectReferenceIdeal.nD Cert.ProjectReferenceIdeal.τ).loc Cert.ProjectReferenceIdeal.main_v353) = v3 c
          ∧ r.2.mem ((c.tc : Thread Cert.ProjectReferenceIdeal.nD Cert.ProjectReferenceIdeal.τ).loc Cert.ProjectReferenceIdeal.main_v354) = v4 c
          ∧ r.2.mem ((c.tc : Thread Cert.ProjectReferenceIdeal.nD Cert.ProjectReferenceIdeal.τ).loc Cert.ProjectReferenceIdeal.main_v356) = v5 c
          ∧ r.2.mem ((c.tc : Thread Cert.ProjectReferenceIdeal.nD Cert.ProjectReferenceIdeal.τ).loc Cert.ProjectReferenceIdeal.main_v358) = v6 c
          ∧ r.2.mem ((c.tc : Thread Cert.ProjectReferenceIdeal.nD Cert.ProjectReferenceIdeal.τ).loc Cert.ProjectReferenceIdeal.main_v360) = v7 c
          ∧ r.2.mem ((c.tc : Thread Cert.ProjectReferenceIdeal.nD Cert.ProjectReferenceIdeal.τ).loc Cert.ProjectReferenceIdeal.main_v362) = v8 c
          ∧ r.2.mem ((c.tc : Thread Cert.ProjectReferenceIdeal.nD Cert.ProjectReferenceIdeal.τ).loc Cert.ProjectReferenceIdeal.main_v364) = v9 c
          ∧ r.2.mem ((c.tc : Thread Cert.ProjectReferenceIdeal.nD Cert.ProjectReferenceIdeal.τ).loc Cert.ProjectReferenceIdeal.main_v365) = v10 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6)
          ∧ r.2.mem ((c.tc : Thread Cert.ProjectReferenceIdeal.nD Cert.ProjectReferenceIdeal.τ).loc Cert.ProjectReferenceIdeal.main_arg7) = m' ((c.tc : Thread Cert.ProjectReferenceIdeal.nD Cert.ProjectReferenceIdeal.τ).loc Cert.ProjectReferenceIdeal.main_arg7)
          ∧ r.2.mem ((c.tc : Thread Cert.ProjectReferenceIdeal.nD Cert.ProjectReferenceIdeal.τ).loc Cert.ProjectReferenceIdeal.main_arg8) = m' ((c.tc : Thread Cert.ProjectReferenceIdeal.nD Cert.ProjectReferenceIdeal.τ).loc Cert.ProjectReferenceIdeal.main_arg8)
          ∧ r.2.mem ((c.tc : Thread Cert.ProjectReferenceIdeal.nD Cert.ProjectReferenceIdeal.τ).loc Cert.ProjectReferenceIdeal.main_arg9) = m' ((c.tc : Thread Cert.ProjectReferenceIdeal.nD Cert.ProjectReferenceIdeal.τ).loc Cert.ProjectReferenceIdeal.main_arg9)
          ∧ r.2.mem ((c.tc : Thread Cert.ProjectReferenceIdeal.nD Cert.ProjectReferenceIdeal.τ).loc Cert.ProjectReferenceIdeal.main_arg10) = m' ((c.tc : Thread Cert.ProjectReferenceIdeal.nD Cert.ProjectReferenceIdeal.τ).loc Cert.ProjectReferenceIdeal.main_arg10)
          ∧ r.2.mem ((c.tc : Thread Cert.ProjectReferenceIdeal.nD Cert.ProjectReferenceIdeal.τ).loc Cert.ProjectReferenceIdeal.main_arg11) = m' ((c.tc : Thread Cert.ProjectReferenceIdeal.nD Cert.ProjectReferenceIdeal.τ).loc Cert.ProjectReferenceIdeal.main_arg11)
          ∧ r.2.mem ((c.tc : Thread Cert.ProjectReferenceIdeal.nD Cert.ProjectReferenceIdeal.τ).loc Cert.ProjectReferenceIdeal.main_arg12) = m' ((c.tc : Thread Cert.ProjectReferenceIdeal.nD Cert.ProjectReferenceIdeal.τ).loc Cert.ProjectReferenceIdeal.main_arg12))

def preserves_ProjectSample_ProjectSampleIdeal : Prop :=
  True

def algebraic_ProjectSampleIdeal_ProjectSampleReferenceIdeal [hProjectSampleIdeal : Cert.ProjectSampleIdeal.Facts] [hProjectSampleReferenceIdeal : Cert.ProjectSampleReferenceIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg)
    (m' : (ℓ : Loc Cert.ProjectSampleReferenceIdeal.nD Cert.ProjectSampleReferenceIdeal.τ Cert.ProjectSampleReferenceIdeal.sig) → Buf (Elt Ideal) ℓ) (g' : Dev Cert.ProjectSampleReferenceIdeal.nD → PrngReg), Pre_ProjectSampleIdeal m →
    (∀ c : Dev Cert.ProjectSampleIdeal.nD,
      m' ((c.tc : Thread Cert.ProjectSampleReferenceIdeal.nD Cert.ProjectSampleReferenceIdeal.τ).loc Cert.ProjectSampleReferenceIdeal.main_arg0) = m ((c.tc : Thread Cert.ProjectSampleIdeal.nD Cert.ProjectSampleIdeal.τ).loc Cert.ProjectSampleIdeal.main_arg0)
      ∧ m' ((c.tc : Thread Cert.ProjectSampleReferenceIdeal.nD Cert.ProjectSampleReferenceIdeal.τ).loc Cert.ProjectSampleReferenceIdeal.main_arg1) = m ((c.tc : Thread Cert.ProjectSampleIdeal.nD Cert.ProjectSampleIdeal.τ).loc Cert.ProjectSampleIdeal.main_arg1)
      ∧ m' ((c.tc : Thread Cert.ProjectSampleReferenceIdeal.nD Cert.ProjectSampleReferenceIdeal.τ).loc Cert.ProjectSampleReferenceIdeal.main_arg2) = m ((c.tc : Thread Cert.ProjectSampleIdeal.nD Cert.ProjectSampleIdeal.τ).loc Cert.ProjectSampleIdeal.main_arg2)
      ∧ m' ((c.tc : Thread Cert.ProjectSampleReferenceIdeal.nD Cert.ProjectSampleReferenceIdeal.τ).loc Cert.ProjectSampleReferenceIdeal.main_arg3) = m ((c.tc : Thread Cert.ProjectSampleIdeal.nD Cert.ProjectSampleIdeal.τ).loc Cert.ProjectSampleIdeal.main_arg3)
      ∧ m' ((c.tc : Thread Cert.ProjectSampleReferenceIdeal.nD Cert.ProjectSampleReferenceIdeal.τ).loc Cert.ProjectSampleReferenceIdeal.main_arg4) = m ((c.tc : Thread Cert.ProjectSampleIdeal.nD Cert.ProjectSampleIdeal.τ).loc Cert.ProjectSampleIdeal.main_arg4)
      ∧ m' ((c.tc : Thread Cert.ProjectSampleReferenceIdeal.nD Cert.ProjectSampleReferenceIdeal.τ).loc Cert.ProjectSampleReferenceIdeal.main_arg5) = m ((c.tc : Thread Cert.ProjectSampleIdeal.nD Cert.ProjectSampleIdeal.τ).loc Cert.ProjectSampleIdeal.main_arg5)
      ∧ m' ((c.tc : Thread Cert.ProjectSampleReferenceIdeal.nD Cert.ProjectSampleReferenceIdeal.τ).loc Cert.ProjectSampleReferenceIdeal.main_arg6) = m ((c.tc : Thread Cert.ProjectSampleIdeal.nD Cert.ProjectSampleIdeal.τ).loc Cert.ProjectSampleIdeal.main_arg6)
      ∧ m' ((c.tc : Thread Cert.ProjectSampleReferenceIdeal.nD Cert.ProjectSampleReferenceIdeal.τ).loc Cert.ProjectSampleReferenceIdeal.main_arg7) = m ((c.tc : Thread Cert.ProjectSampleIdeal.nD Cert.ProjectSampleIdeal.τ).loc Cert.ProjectSampleIdeal.main_arg7)
      ∧ m' ((c.tc : Thread Cert.ProjectSampleReferenceIdeal.nD Cert.ProjectSampleReferenceIdeal.τ).loc Cert.ProjectSampleReferenceIdeal.main_arg8) = m ((c.tc : Thread Cert.ProjectSampleIdeal.nD Cert.ProjectSampleIdeal.τ).loc Cert.ProjectSampleIdeal.main_arg8)
      ∧ m' ((c.tc : Thread Cert.ProjectSampleReferenceIdeal.nD Cert.ProjectSampleReferenceIdeal.τ).loc Cert.ProjectSampleReferenceIdeal.main_arg9) = m ((c.tc : Thread Cert.ProjectSampleIdeal.nD Cert.ProjectSampleIdeal.τ).loc Cert.ProjectSampleIdeal.main_arg9)
      ∧ m' ((c.tc : Thread Cert.ProjectSampleReferenceIdeal.nD Cert.ProjectSampleReferenceIdeal.τ).loc Cert.ProjectSampleReferenceIdeal.main_arg10) = m ((c.tc : Thread Cert.ProjectSampleIdeal.nD Cert.ProjectSampleIdeal.τ).loc Cert.ProjectSampleIdeal.main_arg10)
      ∧ m' ((c.tc : Thread Cert.ProjectSampleReferenceIdeal.nD Cert.ProjectSampleReferenceIdeal.τ).loc Cert.ProjectSampleReferenceIdeal.main_arg11) = m ((c.tc : Thread Cert.ProjectSampleIdeal.nD Cert.ProjectSampleIdeal.τ).loc Cert.ProjectSampleIdeal.main_arg11)
      ∧ m' ((c.tc : Thread Cert.ProjectSampleReferenceIdeal.nD Cert.ProjectSampleReferenceIdeal.τ).loc Cert.ProjectSampleReferenceIdeal.main_arg12) = m ((c.tc : Thread Cert.ProjectSampleIdeal.nD Cert.ProjectSampleIdeal.τ).loc Cert.ProjectSampleIdeal.main_arg12)) →
    ∃ (v0 : (c : Dev Cert.ProjectSampleIdeal.nD) → Buf (Elt Ideal) ((c.tc : Thread Cert.ProjectSampleIdeal.nD Cert.ProjectSampleIdeal.τ).loc Cert.ProjectSampleIdeal.main_v129_1)) (v1 : (c : Dev Cert.ProjectSampleIdeal.nD) → Buf (Elt Ideal) ((c.tc : Thread Cert.ProjectSampleIdeal.nD Cert.ProjectSampleIdeal.τ).loc Cert.ProjectSampleIdeal.main_v129_2)) (v2 : (c : Dev Cert.ProjectSampleIdeal.nD) → Buf (Elt Ideal) ((c.tc : Thread Cert.ProjectSampleIdeal.nD Cert.ProjectSampleIdeal.τ).loc Cert.ProjectSampleIdeal.main_v129_4)) (v3 : (c : Dev Cert.ProjectSampleIdeal.nD) → Buf (Elt Ideal) ((c.tc : Thread Cert.ProjectSampleIdeal.nD Cert.ProjectSampleIdeal.τ).loc Cert.ProjectSampleIdeal.main_v129_9)) (v4 : (c : Dev Cert.ProjectSampleIdeal.nD) → Buf (Elt Ideal) ((c.tc : Thread Cert.ProjectSampleIdeal.nD Cert.ProjectSampleIdeal.τ).loc Cert.ProjectSampleIdeal.main_v129_5)) (v5 : (c : Dev Cert.ProjectSampleIdeal.nD) → Buf (Elt Ideal) ((c.tc : Thread Cert.ProjectSampleIdeal.nD Cert.ProjectSampleIdeal.τ).loc Cert.ProjectSampleIdeal.main_v129_0)) (v6 : (c : Dev Cert.ProjectSampleIdeal.nD) → Buf (Elt Ideal) ((c.tc : Thread Cert.ProjectSampleIdeal.nD Cert.ProjectSampleIdeal.τ).loc Cert.ProjectSampleIdeal.main_v129_3)) (v7 : (c : Dev Cert.ProjectSampleIdeal.nD) → Buf (Elt Ideal) ((c.tc : Thread Cert.ProjectSampleIdeal.nD Cert.ProjectSampleIdeal.τ).loc Cert.ProjectSampleIdeal.main_v129_7)) (v8 : (c : Dev Cert.ProjectSampleIdeal.nD) → Buf (Elt Ideal) ((c.tc : Thread Cert.ProjectSampleIdeal.nD Cert.ProjectSampleIdeal.τ).loc Cert.ProjectSampleIdeal.main_v129_8)) (v9 : (c : Dev Cert.ProjectSampleIdeal.nD) → Buf (Elt Ideal) ((c.tc : Thread Cert.ProjectSampleIdeal.nD Cert.ProjectSampleIdeal.τ).loc Cert.ProjectSampleIdeal.main_v129_10)) (v10 : (c : Dev Cert.ProjectSampleIdeal.nD) → Buf (Elt Ideal) ((c.tc : Thread Cert.ProjectSampleIdeal.nD Cert.ProjectSampleIdeal.τ).loc Cert.ProjectSampleIdeal.main_v129_11)),
      θ_run (Cert.ProjectSampleIdeal.defs (F := Ideal)) (onTc (τ := Cert.ProjectSampleIdeal.τ) (Cert.ProjectSampleIdeal.main (F := Ideal))) ⟨m, fun _ => 0, g⟩ (fun r => ∀ c : Dev Cert.ProjectSampleIdeal.nD,
          r.2.mem ((c.tc : Thread Cert.ProjectSampleIdeal.nD Cert.ProjectSampleIdeal.τ).loc Cert.ProjectSampleIdeal.main_v129_1) = v0 c
          ∧ r.2.mem ((c.tc : Thread Cert.ProjectSampleIdeal.nD Cert.ProjectSampleIdeal.τ).loc Cert.ProjectSampleIdeal.main_v129_2) = v1 c
          ∧ r.2.mem ((c.tc : Thread Cert.ProjectSampleIdeal.nD Cert.ProjectSampleIdeal.τ).loc Cert.ProjectSampleIdeal.main_v129_4) = v2 c
          ∧ r.2.mem ((c.tc : Thread Cert.ProjectSampleIdeal.nD Cert.ProjectSampleIdeal.τ).loc Cert.ProjectSampleIdeal.main_v129_9) = v3 c
          ∧ r.2.mem ((c.tc : Thread Cert.ProjectSampleIdeal.nD Cert.ProjectSampleIdeal.τ).loc Cert.ProjectSampleIdeal.main_v129_5) = v4 c
          ∧ r.2.mem ((c.tc : Thread Cert.ProjectSampleIdeal.nD Cert.ProjectSampleIdeal.τ).loc Cert.ProjectSampleIdeal.main_v129_0) = v5 c
          ∧ r.2.mem ((c.tc : Thread Cert.ProjectSampleIdeal.nD Cert.ProjectSampleIdeal.τ).loc Cert.ProjectSampleIdeal.main_v129_3) = v6 c
          ∧ r.2.mem ((c.tc : Thread Cert.ProjectSampleIdeal.nD Cert.ProjectSampleIdeal.τ).loc Cert.ProjectSampleIdeal.main_v129_7) = v7 c
          ∧ r.2.mem ((c.tc : Thread Cert.ProjectSampleIdeal.nD Cert.ProjectSampleIdeal.τ).loc Cert.ProjectSampleIdeal.main_v129_8) = v8 c
          ∧ r.2.mem ((c.tc : Thread Cert.ProjectSampleIdeal.nD Cert.ProjectSampleIdeal.τ).loc Cert.ProjectSampleIdeal.main_v129_10) = v9 c
          ∧ r.2.mem ((c.tc : Thread Cert.ProjectSampleIdeal.nD Cert.ProjectSampleIdeal.τ).loc Cert.ProjectSampleIdeal.main_v129_11) = v10 c
          ∧ r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
          ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
          ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
          ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3)
          ∧ r.2.mem ((c.tc : Thread Cert.ProjectSampleIdeal.nD Cert.ProjectSampleIdeal.τ).loc Cert.ProjectSampleIdeal.main_arg4) = m ((c.tc : Thread Cert.ProjectSampleIdeal.nD Cert.ProjectSampleIdeal.τ).loc Cert.ProjectSampleIdeal.main_arg4)
          ∧ r.2.mem ((c.tc : Thread Cert.ProjectSampleIdeal.nD Cert.ProjectSampleIdeal.τ).loc Cert.ProjectSampleIdeal.main_arg5) = m ((c.tc : Thread Cert.ProjectSampleIdeal.nD Cert.ProjectSampleIdeal.τ).loc Cert.ProjectSampleIdeal.main_arg5)
          ∧ r.2.mem ((c.tc : Thread Cert.ProjectSampleIdeal.nD Cert.ProjectSampleIdeal.τ).loc Cert.ProjectSampleIdeal.main_arg6) = m ((c.tc : Thread Cert.ProjectSampleIdeal.nD Cert.ProjectSampleIdeal.τ).loc Cert.ProjectSampleIdeal.main_arg6)
          ∧ r.2.mem ((c.tc : Thread Cert.ProjectSampleIdeal.nD Cert.ProjectSampleIdeal.τ).loc Cert.ProjectSampleIdeal.main_arg7) = m ((c.tc : Thread Cert.ProjectSampleIdeal.nD Cert.ProjectSampleIdeal.τ).loc Cert.ProjectSampleIdeal.main_arg7)
          ∧ r.2.mem ((c.tc : Thread Cert.ProjectSampleIdeal.nD Cert.ProjectSampleIdeal.τ).loc Cert.ProjectSampleIdeal.main_arg8) = m ((c.tc : Thread Cert.ProjectSampleIdeal.nD Cert.ProjectSampleIdeal.τ).loc Cert.ProjectSampleIdeal.main_arg8)
          ∧ r.2.mem ((c.tc : Thread Cert.ProjectSampleIdeal.nD Cert.ProjectSampleIdeal.τ).loc Cert.ProjectSampleIdeal.main_arg9) = m ((c.tc : Thread Cert.ProjectSampleIdeal.nD Cert.ProjectSampleIdeal.τ).loc Cert.ProjectSampleIdeal.main_arg9)
          ∧ r.2.mem ((c.tc : Thread Cert.ProjectSampleIdeal.nD Cert.ProjectSampleIdeal.τ).loc Cert.ProjectSampleIdeal.main_arg10) = m ((c.tc : Thread Cert.ProjectSampleIdeal.nD Cert.ProjectSampleIdeal.τ).loc Cert.ProjectSampleIdeal.main_arg10)
          ∧ r.2.mem ((c.tc : Thread Cert.ProjectSampleIdeal.nD Cert.ProjectSampleIdeal.τ).loc Cert.ProjectSampleIdeal.main_arg11) = m ((c.tc : Thread Cert.ProjectSampleIdeal.nD Cert.ProjectSampleIdeal.τ).loc Cert.ProjectSampleIdeal.main_arg11)
          ∧ r.2.mem ((c.tc : Thread Cert.ProjectSampleIdeal.nD Cert.ProjectSampleIdeal.τ).loc Cert.ProjectSampleIdeal.main_arg12) = m ((c.tc : Thread Cert.ProjectSampleIdeal.nD Cert.ProjectSampleIdeal.τ).loc Cert.ProjectSampleIdeal.main_arg12))
      ∧ θ_run (Cert.ProjectSampleReferenceIdeal.defs (F := Ideal)) (onTc (τ := Cert.ProjectSampleReferenceIdeal.τ) (Cert.ProjectSampleReferenceIdeal.main (F := Ideal))) ⟨m', fun _ => 0, g'⟩ (fun r => ∀ c : Dev Cert.ProjectSampleReferenceIdeal.nD,
          r.2.mem ((c.tc : Thread Cert.ProjectSampleReferenceIdeal.nD Cert.ProjectSampleReferenceIdeal.τ).loc Cert.ProjectSampleReferenceIdeal.main_v346) = v0 c
          ∧ r.2.mem ((c.tc : Thread Cert.ProjectSampleReferenceIdeal.nD Cert.ProjectSampleReferenceIdeal.τ).loc Cert.ProjectSampleReferenceIdeal.main_v347) = v1 c
          ∧ r.2.mem ((c.tc : Thread Cert.ProjectSampleReferenceIdeal.nD Cert.ProjectSampleReferenceIdeal.τ).loc Cert.ProjectSampleReferenceIdeal.main_v348) = v2 c
          ∧ r.2.mem ((c.tc : Thread Cert.ProjectSampleReferenceIdeal.nD Cert.ProjectSampleReferenceIdeal.τ).loc Cert.ProjectSampleReferenceIdeal.main_v349) = v3 c
          ∧ r.2.mem ((c.tc : Thread Cert.ProjectSampleReferenceIdeal.nD Cert.ProjectSampleReferenceIdeal.τ).loc Cert.ProjectSampleReferenceIdeal.main_v350) = v4 c
          ∧ r.2.mem ((c.tc : Thread Cert.ProjectSampleReferenceIdeal.nD Cert.ProjectSampleReferenceIdeal.τ).loc Cert.ProjectSampleReferenceIdeal.main_v352) = v5 c
          ∧ r.2.mem ((c.tc : Thread Cert.ProjectSampleReferenceIdeal.nD Cert.ProjectSampleReferenceIdeal.τ).loc Cert.ProjectSampleReferenceIdeal.main_v354) = v6 c
          ∧ r.2.mem ((c.tc : Thread Cert.ProjectSampleReferenceIdeal.nD Cert.ProjectSampleReferenceIdeal.τ).loc Cert.ProjectSampleReferenceIdeal.main_v356) = v7 c
          ∧ r.2.mem ((c.tc : Thread Cert.ProjectSampleReferenceIdeal.nD Cert.ProjectSampleReferenceIdeal.τ).loc Cert.ProjectSampleReferenceIdeal.main_v358) = v8 c
          ∧ r.2.mem ((c.tc : Thread Cert.ProjectSampleReferenceIdeal.nD Cert.ProjectSampleReferenceIdeal.τ).loc Cert.ProjectSampleReferenceIdeal.main_v360) = v9 c
          ∧ r.2.mem ((c.tc : Thread Cert.ProjectSampleReferenceIdeal.nD Cert.ProjectSampleReferenceIdeal.τ).loc Cert.ProjectSampleReferenceIdeal.main_v361) = v10 c
          ∧ r.2.mem ((c.tc : Thread Cert.ProjectSampleReferenceIdeal.nD Cert.ProjectSampleReferenceIdeal.τ).loc Cert.ProjectSampleReferenceIdeal.main_arg0) = m' ((c.tc : Thread Cert.ProjectSampleReferenceIdeal.nD Cert.ProjectSampleReferenceIdeal.τ).loc Cert.ProjectSampleReferenceIdeal.main_arg0)
          ∧ r.2.mem ((c.tc : Thread Cert.ProjectSampleReferenceIdeal.nD Cert.ProjectSampleReferenceIdeal.τ).loc Cert.ProjectSampleReferenceIdeal.main_arg1) = m' ((c.tc : Thread Cert.ProjectSampleReferenceIdeal.nD Cert.ProjectSampleReferenceIdeal.τ).loc Cert.ProjectSampleReferenceIdeal.main_arg1)
          ∧ r.2.mem ((c.tc : Thread Cert.ProjectSampleReferenceIdeal.nD Cert.ProjectSampleReferenceIdeal.τ).loc Cert.ProjectSampleReferenceIdeal.main_arg2) = m' ((c.tc : Thread Cert.ProjectSampleReferenceIdeal.nD Cert.ProjectSampleReferenceIdeal.τ).loc Cert.ProjectSampleReferenceIdeal.main_arg2)
          ∧ r.2.mem ((c.tc : Thread Cert.ProjectSampleReferenceIdeal.nD Cert.ProjectSampleReferenceIdeal.τ).loc Cert.ProjectSampleReferenceIdeal.main_arg3) = m' ((c.tc : Thread Cert.ProjectSampleReferenceIdeal.nD Cert.ProjectSampleReferenceIdeal.τ).loc Cert.ProjectSampleReferenceIdeal.main_arg3)
          ∧ r.2.mem ((c.tc : Thread Cert.ProjectSampleReferenceIdeal.nD Cert.ProjectSampleReferenceIdeal.τ).loc Cert.ProjectSampleReferenceIdeal.main_arg4) = m' ((c.tc : Thread Cert.ProjectSampleReferenceIdeal.nD Cert.ProjectSampleReferenceIdeal.τ).loc Cert.ProjectSampleReferenceIdeal.main_arg4)
          ∧ r.2.mem ((c.tc : Thread Cert.ProjectSampleReferenceIdeal.nD Cert.ProjectSampleReferenceIdeal.τ).loc Cert.ProjectSampleReferenceIdeal.main_arg5) = m' ((c.tc : Thread Cert.ProjectSampleReferenceIdeal.nD Cert.ProjectSampleReferenceIdeal.τ).loc Cert.ProjectSampleReferenceIdeal.main_arg5)
          ∧ r.2.mem ((c.tc : Thread Cert.ProjectSampleReferenceIdeal.nD Cert.ProjectSampleReferenceIdeal.τ).loc Cert.ProjectSampleReferenceIdeal.main_arg6) = m' ((c.tc : Thread Cert.ProjectSampleReferenceIdeal.nD Cert.ProjectSampleReferenceIdeal.τ).loc Cert.ProjectSampleReferenceIdeal.main_arg6)
          ∧ r.2.mem ((c.tc : Thread Cert.ProjectSampleReferenceIdeal.nD Cert.ProjectSampleReferenceIdeal.τ).loc Cert.ProjectSampleReferenceIdeal.main_arg7) = m' ((c.tc : Thread Cert.ProjectSampleReferenceIdeal.nD Cert.ProjectSampleReferenceIdeal.τ).loc Cert.ProjectSampleReferenceIdeal.main_arg7)
          ∧ r.2.mem ((c.tc : Thread Cert.ProjectSampleReferenceIdeal.nD Cert.ProjectSampleReferenceIdeal.τ).loc Cert.ProjectSampleReferenceIdeal.main_arg8) = m' ((c.tc : Thread Cert.ProjectSampleReferenceIdeal.nD Cert.ProjectSampleReferenceIdeal.τ).loc Cert.ProjectSampleReferenceIdeal.main_arg8)
          ∧ r.2.mem ((c.tc : Thread Cert.ProjectSampleReferenceIdeal.nD Cert.ProjectSampleReferenceIdeal.τ).loc Cert.ProjectSampleReferenceIdeal.main_arg9) = m' ((c.tc : Thread Cert.ProjectSampleReferenceIdeal.nD Cert.ProjectSampleReferenceIdeal.τ).loc Cert.ProjectSampleReferenceIdeal.main_arg9)
          ∧ r.2.mem ((c.tc : Thread Cert.ProjectSampleReferenceIdeal.nD Cert.ProjectSampleReferenceIdeal.τ).loc Cert.ProjectSampleReferenceIdeal.main_arg10) = m' ((c.tc : Thread Cert.ProjectSampleReferenceIdeal.nD Cert.ProjectSampleReferenceIdeal.τ).loc Cert.ProjectSampleReferenceIdeal.main_arg10)
          ∧ r.2.mem ((c.tc : Thread Cert.ProjectSampleReferenceIdeal.nD Cert.ProjectSampleReferenceIdeal.τ).loc Cert.ProjectSampleReferenceIdeal.main_arg11) = m' ((c.tc : Thread Cert.ProjectSampleReferenceIdeal.nD Cert.ProjectSampleReferenceIdeal.τ).loc Cert.ProjectSampleReferenceIdeal.main_arg11)
          ∧ r.2.mem ((c.tc : Thread Cert.ProjectSampleReferenceIdeal.nD Cert.ProjectSampleReferenceIdeal.τ).loc Cert.ProjectSampleReferenceIdeal.main_arg12) = m' ((c.tc : Thread Cert.ProjectSampleReferenceIdeal.nD Cert.ProjectSampleReferenceIdeal.τ).loc Cert.ProjectSampleReferenceIdeal.main_arg12))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hMergeSample : Cert.MergeSample.Facts) (hMergeSampleIdeal : Cert.MergeSampleIdeal.Facts) (hMergeSampleReferenceIdeal : Cert.MergeSampleReferenceIdeal.Facts) (hProject : Cert.Project.Facts) (hProjectIdeal : Cert.ProjectIdeal.Facts) (hProjectReferenceIdeal : Cert.ProjectReferenceIdeal.Facts) (hProjectSample : Cert.ProjectSample.Facts) (hProjectSampleIdeal : Cert.ProjectSampleIdeal.Facts) (hProjectSampleReferenceIdeal : Cert.ProjectSampleReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_MergeSample (hMergeSample := hMergeSample)
    ∧ quiescent_MergeSampleIdeal (hMergeSampleIdeal := hMergeSampleIdeal)
    ∧ quiescent_MergeSampleReferenceIdeal (hMergeSampleReferenceIdeal := hMergeSampleReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_ProjectSample (hProjectSample := hProjectSample)
    ∧ quiescent_ProjectSampleIdeal (hProjectSampleIdeal := hProjectSampleIdeal)
    ∧ quiescent_ProjectSampleReferenceIdeal (hProjectSampleReferenceIdeal := hProjectSampleReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_MergeSample_MergeSampleIdeal
    ∧ algebraic_MergeSampleIdeal_MergeSampleReferenceIdeal (hMergeSampleIdeal := hMergeSampleIdeal) (hMergeSampleReferenceIdeal := hMergeSampleReferenceIdeal)
    ∧ preserves_Project_ProjectIdeal
    ∧ algebraic_ProjectIdeal_ProjectReferenceIdeal (hProjectIdeal := hProjectIdeal) (hProjectReferenceIdeal := hProjectReferenceIdeal)
    ∧ preserves_ProjectSample_ProjectSampleIdeal
    ∧ algebraic_ProjectSampleIdeal_ProjectSampleReferenceIdeal (hProjectSampleIdeal := hProjectSampleIdeal) (hProjectSampleReferenceIdeal := hProjectSampleReferenceIdeal)
-- ==== Pre_finite.lean ====
abbrev S32768x1024 : Shape := ⟨2, ![32768, 1024]⟩
abbrev S32768x512 : Shape := ⟨2, ![32768, 512]⟩
abbrev S32768x64 : Shape := ⟨2, ![32768, 64]⟩
abbrev S32768x256 : Shape := ⟨2, ![32768, 256]⟩
abbrev S256x8x128 : Shape := ⟨3, ![256, 8, 128]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  bcast_S_S32768x512 : S_.BroadcastsInDim S32768x512 (![] : Fin 0 → Fin S32768x512.rank)
  bcast_S_S32768x64 : S_.BroadcastsInDim S32768x64 (![] : Fin 0 → Fin S32768x64.rank)

variable [Facts]

def fn {F : FTy → Type} [FloatOps F] (main_arg0 : FVec F S32768x1024 .bf16) (main_arg1 : FVec F S32768x512 .bf16) (main_arg2 : FVec F S32768x1024 .bf16) (main_arg3 : FVec F S32768x64 .bf16) (main_arg4 : FVec F S32768x256 .bf16) (main_arg5 : FVec F S256x8x128 .f32) : IVec S32768x1024 1 × IVec S32768x512 1 × IVec S32768x1024 1 × IVec S32768x64 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S32768x512 .f32 := (extf .f32 · bitsLt_bf16_f32) main_arg1
  let main_v5 : FVec F S32768x512 .f32 := Host.absf main_v4
  let main_cst_0 : FVec F S_ .f32 := constant S_ .f32 0x7F800000#32
  let main_v6 : FVec F S32768x512 .f32 := broadcastInDim S32768x512 ![] bcast_S_S32768x512 main_cst_0
  let main_v7 : IVec S32768x512 1 := cmpf .olt main_v5 main_v6
  let main_v8 : FVec F S32768x1024 .f32 := (extf .f32 · bitsLt_bf16_f32) main_arg2
  let main_v9 : FVec F S32768x1024 .f32 := Host.absf main_v8
  let main_cst_1 : FVec F S_ .f32 := constant S_ .f32 0x7F800000#32
  let main_v10 : FVec F S32768x1024 .f32 := broadcastInDim S32768x1024 ![] bcast_S_S32768x1024 main_cst_1
  let main_v11 : IVec S32768x1024 1 := cmpf .olt main_v9 main_v10
  let main_v12 : FVec F S32768x64 .f32 := (extf .f32 · bitsLt_bf16_f32) main_arg3
  let main_v13 : FVec F S32768x64 .f32 := Host.absf main_v12
  let main_cst_2 : FVec F S_ .f32 := constant S_ .f32 0x7F800000#32
  let main_v14 : FVec F S32768x64 .f32 := broadcastInDim S32768x64 ![] bcast_S_S32768x64 main_cst_2
  let main_v15 : IVec S32768x64 1 := cmpf .olt main_v13 main_v14
  (main_v3, main_v7, main_v11, main_v15)
-- ==== Kernel.lean ====
abbrev S32768x1024 : Shape := ⟨2, ![32768, 1024]⟩
abbrev S32768x512 : Shape := ⟨2, ![32768, 512]⟩
abbrev S32768x64 : Shape := ⟨2, ![32768, 64]⟩
abbrev S32768x256 : Shape := ⟨2, ![32768, 256]⟩
abbrev S256x8x128 : Shape := ⟨3, ![256, 8, 128]⟩
abbrev S_ : Shape := ⟨0, ![]⟩
abbrev S256x1024 : Shape := ⟨2, ![256, 1024]⟩
abbrev S128x1024 : Shape := ⟨2, ![128, 1024]⟩
abbrev S128x512 : Shape := ⟨2, ![128, 512]⟩
abbrev S2048x1024 : Shape := ⟨2, ![2048, 1024]⟩
abbrev S2048x256 : Shape := ⟨2, ![2048, 256]⟩
abbrev S128x1 : Shape := ⟨2, ![128, 1]⟩
abbrev S1x2048 : Shape := ⟨2, ![1, 2048]⟩
abbrev S128x2048 : Shape := ⟨2, ![128, 2048]⟩
abbrev S128x128 : Shape := ⟨2, ![128, 128]⟩
abbrev S2048x128 : Shape := ⟨2, ![2048, 128]⟩
abbrev S128 : Shape := ⟨1, ![128]⟩
abbrev S128x256 : Shape := ⟨2, ![128, 256]⟩
abbrev S256x128 : Shape := ⟨2, ![256, 128]⟩

abbrev nBuf : Space → Nat
  | .hbm => 12
  | .vmem => 13
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S32768x1024, .bf16⟩
  | .hbm, ⟨3, _⟩ => ⟨S32768x64, .bf16⟩
  | .hbm, ⟨4, _⟩ => ⟨S32768x256, .bf16⟩
  | .hbm, ⟨5, _⟩ => ⟨S256x8x128, .f32⟩
  | .hbm, ⟨6, _⟩ => ⟨S_, .bf16⟩
  | .hbm, ⟨7, _⟩ => ⟨S32768x64, .bf16⟩
  | .hbm, ⟨8, _⟩ => ⟨S32768x256, .bf16⟩
  | .hbm, ⟨9, _⟩ => ⟨S256x1024, .f32⟩
  | .hbm, ⟨10, _⟩ => ⟨S256x1024, .bf16⟩
  | .hbm, ⟨11, _⟩ => ⟨S32768x1024, .f32⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S2048x1024, .bf16⟩
  | .local _ .vmem, ⟨5, _⟩ => ⟨S2048x1024, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x1024, .bf16⟩
  | .local _ .vmem, ⟨11, _⟩ => ⟨S128x1024, .f32⟩
  | .local _ .vmem, ⟨12, _⟩ => ⟨S128x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32768x1024 : Shape := ⟨2, ![32768, 1024]⟩
abbrev S32768x512 : Shape := ⟨2, ![32768, 512]⟩
abbrev S32768x64 : Shape := ⟨2, ![32768, 64]⟩
abbrev S32768x256 : Shape := ⟨2, ![32768, 256]⟩
abbrev S256x8x128 : Shape := ⟨3, ![256, 8, 128]⟩
abbrev S16x2048x8x128 : Shape := ⟨4, ![16, 2048, 8, 128]⟩
abbrev S16x2048x8x64 : Shape := ⟨4, ![16, 2048, 8, 64]⟩
abbrev S16x2048x64 : Shape := ⟨3, ![16, 2048, 64]⟩
abbrev S16x2048x256 : Shape := ⟨3, ![16, 2048, 256]⟩
abbrev S2048 : Shape := ⟨1, ![2048]⟩
abbrev S16x8x2048x2048 : Shape := ⟨4, ![16, 8, 2048, 2048]⟩
abbrev S16x2048x2048x8 : Shape := ⟨4, ![16, 2048, 2048, 8]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S16x8x2048 : Shape := ⟨3, ![16, 8, 2048]⟩
abbrev S16x8x2048x1 : Shape := ⟨4, ![16, 8, 2048, 1]⟩
abbrev S16x256x8x2048 : Shape := ⟨4, ![16, 256, 8, 2048]⟩
abbrev S16x2048x8x256 : Shape := ⟨4, ![16, 2048, 8, 256]⟩
abbrev S8x128x16x2048 : Shape := ⟨4, ![8, 128, 16, 2048]⟩

abbrev nBuf : Space → Nat
  | .hbm => 54
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S32768x1024, .bf16⟩
  | .hbm, ⟨3, _⟩ => ⟨S32768x64, .bf16⟩
  | .hbm, ⟨4, _⟩ => ⟨S32768x256, .bf16⟩
  | .hbm, ⟨5, _⟩ => ⟨S256x8x128, .f32⟩
  | .hbm, ⟨6, _⟩ => ⟨S32768x1024, .f32⟩
  | .hbm, ⟨7, _⟩ => ⟨S16x2048x8x128, .f32⟩
  | .hbm, ⟨8, _⟩ => ⟨S32768x512, .f32⟩
  | .hbm, ⟨9, _⟩ => ⟨S16x2048x8x64, .f32⟩
  | .hbm, ⟨10, _⟩ => ⟨S32768x1024, .f32⟩
  | .hbm, ⟨11, _⟩ => ⟨S16x2048x8x128, .f32⟩
  | .hbm, ⟨12, _⟩ => ⟨S32768x64, .f32⟩
  | .hbm, ⟨13, _⟩ => ⟨S16x2048x64, .f32⟩
  | .hbm, ⟨14, _⟩ => ⟨S32768x256, .f32⟩
  | .hbm, ⟨15, _⟩ => ⟨S16x2048x256, .f32⟩
  | .hbm, ⟨16, _⟩ => ⟨S2048, .i32⟩
  | .hbm, ⟨17, _⟩ => ⟨S16x8x2048x2048, .f32⟩
  | .hbm, ⟨18, _⟩ => ⟨S16x2048x2048x8, .f32⟩
  | .hbm, ⟨19, _⟩ => ⟨S16x8x2048x2048, .f32⟩
  | .hbm, ⟨20, _⟩ => ⟨S16x8x2048x2048, .f32⟩
  | .hbm, ⟨21, _⟩ => ⟨S_, .f32⟩
  | .hbm, ⟨22, _⟩ => ⟨S16x8x2048x2048, .f32⟩
  | .hbm, ⟨23, _⟩ => ⟨S16x8x2048x2048, .f32⟩
  | .hbm, ⟨24, _⟩ => ⟨S1x2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S1x1x2048x2048, .i1⟩
  | .hbm, ⟨30, _⟩ => ⟨S_, .f32⟩
  | .hbm, ⟨31, _⟩ => ⟨S_, .f32⟩
  | .hbm, ⟨32, _⟩ => ⟨S16x8x2048x2048, .i1⟩
  | .hbm, ⟨33, _⟩ => ⟨S16x8x2048x2048, .f32⟩
  | .hbm, ⟨34, _⟩ => ⟨S16x8x2048x2048, .f32⟩
  | .hbm, ⟨35, _⟩ => ⟨S_, .f32⟩
  | .hbm, ⟨36, _⟩ => ⟨S16x8x2048, .f32⟩
  | .hbm, ⟨37, _⟩ => ⟨S_, .f32⟩
  | .hbm, ⟨38, _⟩ => ⟨S16x8x2048, .f32⟩
  | .hbm, ⟨39, _⟩ => ⟨S16x8x2048, .f32⟩
  | .hbm, ⟨40, _⟩ => ⟨S16x8x2048x1, .f32⟩
  | .hbm, ⟨41, _⟩ => ⟨S16x8x2048x2048, .f32⟩
  | .hbm, ⟨42, _⟩ => ⟨S16x8x2048x2048, .f32⟩
  | .hbm, ⟨43, _⟩ => ⟨S16x8x2048x2048, .f32⟩
  | .hbm, ⟨44, _⟩ => ⟨S_, .f32⟩
  | .hbm, ⟨45, _⟩ => ⟨S16x8x2048, .f32⟩
  | .hbm, ⟨46, _⟩ => ⟨S16x8x2048x1, .f32⟩
  | .hbm, ⟨47, _⟩ => ⟨S16x8x2048x2048, .f32⟩
  | .hbm, ⟨48, _⟩ => ⟨S16x8x2048x2048, .f32⟩
  | .hbm, ⟨49, _⟩ => ⟨S16x256x8x2048, .f32⟩
  | .hbm, ⟨50, _⟩ => ⟨S16x2048x8x256, .f32⟩
  | .hbm, ⟨51, _⟩ => ⟨S8x128x16x2048, .f32⟩
  | .hbm, ⟨52, _⟩ => ⟨S16x2048x8x128, .f32⟩
  | .hbm, ⟨53, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Merge.lean ====
abbrev S32768x1024 : Shape := ⟨2, ![32768, 1024]⟩
abbrev S32768x2048 : Shape := ⟨2, ![32768, 2048]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x2048, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024x1024, .bf16⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S256x1024, .f32⟩
  | .local _ .vmem, ⟨13, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S32768x1024 : Shape := ⟨2, ![32768, 1024]⟩
abbrev S32768x2048 : Shape := ⟨2, ![32768, 2048]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x2048, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S32768x4096, .f32⟩
  | .hbm, ⟨32, _⟩ => ⟨S_, .f32⟩
  | .hbm, ⟨33, _⟩ => ⟨S32768x4096, .f32⟩
  | .hbm, ⟨34, _⟩ => ⟨S32768x4096, .f32⟩
  | .hbm, ⟨35, _⟩ => ⟨S32768x4096, .f32⟩
  | .hbm, ⟨36, _⟩ => ⟨S32768x1024, .f32⟩
  | .hbm, ⟨37, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== MergeSample.lean ====
abbrev S128x1024 : Shape := ⟨2, ![128, 1024]⟩
abbrev S128x2048 : Shape := ⟨2, ![128, 2048]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S128 : Shape := ⟨1, ![128]⟩
abbrev S128x1 : Shape := ⟨2, ![128, 1]⟩

abbrev nBuf : Space → Nat
  | .hbm => 13
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x2048, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024x1024, .bf16⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x2048, .f32⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== MergeSampleReferenceIdeal.lean ====
abbrev S128x1024 : Shape := ⟨2, ![128, 1024]⟩
abbrev S128x2048 : Shape := ⟨2, ![128, 2048]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x4096 : Shape := ⟨2, ![128, 4096]⟩

abbrev nBuf : Space → Nat
  | .hbm => 38
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x2048, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128, .f32⟩
  | .hbm, ⟨18, _⟩ => ⟨S128x1, .f32⟩
  | .hbm, ⟨19, _⟩ => ⟨S_, .f32⟩
  | .hbm, ⟨20, _⟩ => ⟨S128x1, .f32⟩
  | .hbm, ⟨21, _⟩ => ⟨S128x1, .f32⟩
  | .hbm, ⟨22, _⟩ => ⟨S_, .f32⟩
  | .hbm, ⟨23, _⟩ => ⟨S128x1, .f32⟩
  | .hbm, ⟨24, _⟩ => ⟨S128x1, .f32⟩
  | .hbm, ⟨25, _⟩ => ⟨S128x1, .f32⟩
  | .hbm, ⟨26, _⟩ => ⟨S128x1024, .f32⟩
  | .hbm, ⟨27, _⟩ => ⟨S128x1024, .f32⟩
  | .hbm, ⟨28, _⟩ => ⟨S1x1024, .f32⟩
  | .hbm, ⟨29, _⟩ => ⟨S128x1024, .f32⟩
  | .hbm, ⟨30, _⟩ => ⟨S128x1024, .f32⟩
  | .hbm, ⟨31, _⟩ => ⟨S128x4096, .f32⟩
  | .hbm, ⟨32, _⟩ => ⟨S_, .f32⟩
  | .hbm, ⟨33, _⟩ => ⟨S128x4096, .f32⟩
  | .hbm, ⟨34, _⟩ => ⟨S128x4096, .f32⟩
  | .hbm, ⟨35, _⟩ => ⟨S128x4096, .f32⟩
  | .hbm, ⟨36, _⟩ => ⟨S128x1024, .f32⟩
  | .hbm, ⟨37, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Project.lean ====
abbrev S16x2048x1024 : Shape := ⟨3, ![16, 2048, 1024]⟩
abbrev S1024 : Shape := ⟨1, ![1024]⟩
abbrev S1024x5256 : Shape := ⟨2, ![1024, 5256]⟩
abbrev S128 : Shape := ⟨1, ![128]⟩
abbrev S256 : Shape := ⟨1, ![256]⟩
abbrev S256x8x192 : Shape := ⟨3, ![256, 8, 192]⟩
abbrev S256x8x128 : Shape := ⟨3, ![256, 8, 128]⟩
abbrev S64 : Shape := ⟨1, ![64]⟩
abbrev S1024x1024 : Shape := ⟨2, ![1024, 1024]⟩
abbrev S1024x512 : Shape := ⟨2, ![1024, 512]⟩
abbrev S1024x64 : Shape := ⟨2, ![1024, 64]⟩
abbrev S1024x8 : Shape := ⟨2, ![1024, 8]⟩
abbrev S1024x256 : Shape := ⟨2, ![1024, 256]⟩
abbrev S1024x2048 : Shape := ⟨2, ![1024, 2048]⟩
abbrev S_ : Shape := ⟨0, ![]⟩
abbrev S1024x120 : Shape := ⟨2, ![1024, 120]⟩
abbrev S1024x5376 : Shape := ⟨2, ![1024, 5376]⟩
abbrev S256x1024 : Shape := ⟨2, ![256, 1024]⟩
abbrev S256x8x64 : Shape := ⟨3, ![256, 8, 64]⟩
abbrev S256x512 : Shape := ⟨2, ![256, 512]⟩
abbrev S256x1536 : Shape := ⟨2, ![256, 1536]⟩
abbrev S1x1024 : Shape := ⟨2, ![1, 1024]⟩
abbrev S1x128 : Shape := ⟨2, ![1, 128]⟩
abbrev S1x256 : Shape := ⟨2, ![1, 256]⟩
abbrev S1x64 : Shape := ⟨2, ![1, 64]⟩
abbrev S2x64 : Shape := ⟨2, ![2, 64]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S8 : Shape := ⟨1, ![8]⟩
abbrev S1x8 : Shape := ⟨2, ![1, 8]⟩
abbrev S2048x8 : Shape := ⟨2, ![2048, 8]⟩
abbrev S32 : Shape := ⟨1, ![32]⟩
abbrev S1x32 : Shape := ⟨2, ![1, 32]⟩
abbrev S2048x32 : Shape := ⟨2, ![2048, 32]⟩
abbrev S2048x96 : Shape := ⟨2, ![2048, 96]⟩
abbrev S2048x128 : Shape := ⟨2, ![2048, 128]⟩
abbrev S2048x48 : Shape := ⟨2, ![2048, 48]⟩
abbrev S2048x64 : Shape := ⟨2, ![2048, 64]⟩
abbrev S2048x1792 : Shape := ⟨2, ![2048, 1792]⟩
abbrev S32768x1024 : Shape := ⟨2, ![32768, 1024]⟩
abbrev S32768x512 : Shape := ⟨2, ![32768, 512]⟩
abbrev S32768x64 : Shape := ⟨2, ![32768, 64]⟩
abbrev S32768x128 : Shape := ⟨2, ![32768, 128]⟩
abbrev S32768x256 : Shape := ⟨2, ![32768, 256]⟩
abbrev S32768x2048 : Shape := ⟨2, ![32768, 2048]⟩
abbrev S256x1792 : Shape := ⟨2, ![256, 1792]⟩
abbrev S256x64 : Shape := ⟨2, ![256, 64]⟩
abbrev S256x128 : Shape := ⟨2, ![256, 128]⟩
abbrev S256x256 : Shape := ⟨2, ![256, 256]⟩
abbrev S256x2048 : Shape := ⟨2, ![256, 2048]⟩
abbrev S256x1 : Shape := ⟨2, ![256, 1]⟩
abbrev S1024x128 : Shape := ⟨2, ![1024, 128]⟩

abbrev nBuf : Space → Nat
  | .hbm => 192
  | .vmem => 40
  | .smem => 0
  | _ => 0

abbrev hbmTy0_0 (i : Nat) : BufTy := match i % 128 with
  | 0 => ⟨S16x2048x1024, .f32⟩
  | 1 => ⟨S1024, .f32⟩
  | 2 => ⟨S1024x5256, .f32⟩
  | 3 => ⟨S128, .f32⟩
  | 4 => ⟨S128, .f32⟩
  | 5 => ⟨S256, .f32⟩
  | 6 => ⟨S256x8x192, .f32⟩
  | 7 => ⟨S256, .f32⟩
  | 8 => ⟨S256x8x128, .f32⟩
  | 9 => ⟨S128, .f32⟩
  | 10 => ⟨S128, .f32⟩
  | 11 => ⟨S64, .f32⟩
  | 12 => ⟨S64, .f32⟩
  | 13 => ⟨S1024x1024, .f32⟩
  | 14 => ⟨S1024x512, .f32⟩
  | 15 => ⟨S1024x512, .f32⟩
  | 16 => ⟨S1024x512, .f32⟩
  | 17 => ⟨S1024x64, .f32⟩
  | 18 => ⟨S1024x8, .f32⟩
  | 19 => ⟨S1024x256, .f32⟩
  | 20 => ⟨S1024x256, .f32⟩
  | 21 => ⟨S1024x64, .f32⟩
  | 22 => ⟨S1024x2048, .f32⟩
  | 23 => ⟨S_, .f32⟩
  | 24 => ⟨S1024x120, .f32⟩
  | 25 => ⟨S1024x5376, .f32⟩
  | 26 => ⟨S1024x5376, .bf16⟩
  | 27 => ⟨S256x8x128, .f32⟩
  | 28 => ⟨S256x1024, .f32⟩
  | 29 => ⟨S256x8x64, .f32⟩
  | 30 => ⟨S256x512, .f32⟩
  | 31 => ⟨S256x1536, .f32⟩
  | 32 => ⟨S256x1536, .bf16⟩
  | 33 => ⟨S1x1024, .f32⟩
  | 34 => ⟨S1x128, .f32⟩
  | 35 => ⟨S1x128, .f32⟩
  | 36 => ⟨S1x256, .f32⟩
  | 37 => ⟨S1x256, .f32⟩
  | 38 => ⟨S256x1024, .f32⟩
  | 39 => ⟨S256x1024, .bf16⟩
  | 40 => ⟨S1x128, .f32⟩
  | 41 => ⟨S1x128, .f32⟩
  | 42 => ⟨S1x64, .f32⟩
  | 43 => ⟨S2x64, .f32⟩
  | 44 => ⟨S128, .f32⟩
  | 45 => ⟨S1x128, .f32⟩
  | 46 => ⟨S_, .f32⟩
  | 47 => ⟨S64, .f32⟩
  | 48 => ⟨S128, .f32⟩
  | 49 => ⟨S1x128, .f32⟩
  | 50 => ⟨S2048, .i32⟩
  | 51 => ⟨S2048, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S2048x1, .f32⟩
  | 61 => ⟨S1x16, .f32⟩
  | 62 => ⟨S2048x16, .f32⟩
  | 63 => ⟨S2048x16, .f32⟩
  | 64 => ⟨S2048x16, .f32⟩
  | 65 => ⟨S2048x16, .f32⟩
  | 66 => ⟨S2048x16, .f32⟩
  | 67 => ⟨S8, .f32⟩
  | 68 => ⟨S8, .f32⟩
  | 69 => ⟨S_, .f32⟩
  | 70 => ⟨S8, .f32⟩
  | 71 => ⟨S8, .f32⟩
  | 72 => ⟨S_, .f32⟩
  | 73 => ⟨S8, .f32⟩
  | 74 => ⟨S8, .f32⟩
  | 75 => ⟨S2048x1, .f32⟩
  | 76 => ⟨S1x8, .f32⟩
  | 77 => ⟨S2048x8, .f32⟩
  | 78 => ⟨S2048x8, .f32⟩
  | 79 => ⟨S2048x8, .f32⟩
  | 80 => ⟨S2048x8, .f32⟩
  | 81 => ⟨S2048x8, .f32⟩
  | 82 => ⟨S32, .f32⟩
  | 83 => ⟨S32, .f32⟩
  | 84 => ⟨S_, .f32⟩
  | 85 => ⟨S32, .f32⟩
  | 86 => ⟨S32, .f32⟩
  | 87 => ⟨S_, .f32⟩
  | 88 => ⟨S32, .f32⟩
  | 89 => ⟨S32, .f32⟩
  | 90 => ⟨S2048x1, .f32⟩
  | 91 => ⟨S1x32, .f32⟩
  | 92 => ⟨S2048x32, .f32⟩
  | 93 => ⟨S2048x32, .f32⟩
  | 94 => ⟨S2048x32, .f32⟩
  | 95 => ⟨S2048x32, .f32⟩
  | 96 => ⟨S2048x32, .f32⟩
  | 97 => ⟨S_, .f32⟩
  | 98 => ⟨S2048x96, .f32⟩
  | 99 => ⟨S2048x128, .f32⟩
  | 100 => ⟨S_, .f32⟩
  | 101 => ⟨S2048x16, .f32⟩
  | 102 => ⟨S_, .f32⟩
  | 103 => ⟨S2048x96, .f32⟩
  | 104 => ⟨S2048x128, .f32⟩
  | 105 => ⟨S2048x16, .f32⟩
  | 106 => ⟨S_, .f32⟩
  | 107 => ⟨S2048x16, .f32⟩
  | 108 => ⟨S_, .f32⟩
  | 109 => ⟨S2048x96, .f32⟩
  | 110 => ⟨S2048x128, .f32⟩
  | 111 => ⟨S_, .f32⟩
  | 112 => ⟨S2048x48, .f32⟩
  | 113 => ⟨S_, .f32⟩
  | 114 => ⟨S2048x48, .f32⟩
  | 115 => ⟨S2048x128, .f32⟩
  | 116 => ⟨S_, .f32⟩
  | 117 => ⟨S2048x8, .f32⟩
  | 118 => ⟨S_, .f32⟩
  | 119 => ⟨S2048x48, .f32⟩
  | 120 => ⟨S_, .f32⟩
  | 121 => ⟨S2048x8, .f32⟩
  | 122 => ⟨S_, .f32⟩
  | 123 => ⟨S2048x48, .f32⟩
  | 124 => ⟨S2048x128, .f32⟩
  | 125 => ⟨S2048x8, .f32⟩
  | 126 => ⟨S_, .f32⟩
  | 127 => ⟨S2048x8, .f32⟩
  | _ => ⟨S16x2048x1024, .f32⟩

abbrev hbmTy0_1 (i : Nat) : BufTy := match i % 128 with
  | 0 => ⟨S_, .f32⟩
  | 1 => ⟨S2048x48, .f32⟩
  | 2 => ⟨S2048x8, .f32⟩
  | 3 => ⟨S_, .f32⟩
  | 4 => ⟨S2048x8, .f32⟩
  | 5 => ⟨S_, .f32⟩
  | 6 => ⟨S2048x48, .f32⟩
  | 7 => ⟨S2048x128, .f32⟩
  | 8 => ⟨S2048x128, .f32⟩
  | 9 => ⟨S_, .f32⟩
  | 10 => ⟨S2048x32, .f32⟩
  | 11 => ⟨S_, .f32⟩
  | 12 => ⟨S2048x32, .f32⟩
  | 13 => ⟨S2048x128, .f32⟩
  | 14 => ⟨S2048x32, .f32⟩
  | 15 => ⟨S_, .f32⟩
  | 16 => ⟨S2048x32, .f32⟩
  | 17 => ⟨S2048x32, .f32⟩
  | 18 => ⟨S_, .f32⟩
  | 19 => ⟨S2048x32, .f32⟩
  | 20 => ⟨S2048x128, .f32⟩
  | 21 => ⟨S_, .f32⟩
  | 22 => ⟨S2048x48, .f32⟩
  | 23 => ⟨S2048x128, .f32⟩
  | 24 => ⟨S_, .f32⟩
  | 25 => ⟨S2048x8, .f32⟩
  | 26 => ⟨S_, .f32⟩
  | 27 => ⟨S2048x48, .f32⟩
  | 28 => ⟨S_, .f32⟩
  | 29 => ⟨S2048x64, .f32⟩
  | 30 => ⟨S2048x128, .f32⟩
  | 31 => ⟨S2048x8, .f32⟩
  | 32 => ⟨S_, .f32⟩
  | 33 => ⟨S2048x8, .f32⟩
  | 34 => ⟨S_, .f32⟩
  | 35 => ⟨S2048x48, .f32⟩
  | 36 => ⟨S_, .f32⟩
  | 37 => ⟨S2048x64, .f32⟩
  | 38 => ⟨S2048x128, .f32⟩
  | 39 => ⟨S_, .f32⟩
  | 40 => ⟨S2048x64, .f32⟩
  | 41 => ⟨S_, .f32⟩
  | 42 => ⟨S2048x32, .f32⟩
  | 43 => ⟨S2048x128, .f32⟩
  | 44 => ⟨S_, .f32⟩
  | 45 => ⟨S2048x64, .f32⟩
  | 46 => ⟨S2048x32, .f32⟩
  | 47 => ⟨S_, .f32⟩
  | 48 => ⟨S2048x32, .f32⟩
  | 49 => ⟨S2048x128, .f32⟩
  | 50 => ⟨S2048x1792, .f32⟩
  | 51 => ⟨S32768x1024, .f32⟩
  | 52 => ⟨S32768x1024, .bf16⟩
  | 53 => ⟨S32768x512, .f32⟩
  | 54 => ⟨S32768x512, .f32⟩
  | 55 => ⟨S32768x512, .bf16⟩
  | 56 => ⟨S32768x64, .f32⟩
  | 57 => ⟨S32768x64, .f32⟩
  | 58 => ⟨S32768x128, .f32⟩
  | 59 => ⟨S32768x1024, .bf16⟩
  | 60 => ⟨S32768x512, .bf16⟩
  | 61 => ⟨S32768x256, .f32⟩
  | 62 => ⟨S32768x1024, .bf16⟩
  | 63 => ⟨S32768x2048, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1792, .f32⟩
  | .local _ .vmem, ⟨3, _⟩ => ⟨S256x1792, .f32⟩
  | .local _ .vmem, ⟨4, _⟩ => ⟨S1x1024, .f32⟩
  | .local _ .vmem, ⟨5, _⟩ => ⟨S1024x5376, .bf16⟩
  | .local _ .vmem, ⟨6, _⟩ => ⟨S1x128, .f32⟩
  | .local _ .vmem, ⟨7, _⟩ => ⟨S1x128, .f32⟩
  | .local _ .vmem, ⟨8, _⟩ => ⟨S1x256, .f32⟩
  | .local _ .vmem, ⟨9, _⟩ => ⟨S256x1536, .bf16⟩
  | .local _ .vmem, ⟨10, _⟩ => ⟨S1x256, .f32⟩
  | .local _ .vmem, ⟨11, _⟩ => ⟨S256x1024, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S256x1024, .bf16⟩
  | .local _ .vmem, ⟨17, _⟩ => ⟨S256x1024, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .bf16⟩
  | .local _ .vmem, ⟨23, _⟩ => ⟨S256x512, .bf16⟩
  | .local _ .vmem, ⟨24, _⟩ => ⟨S256x64, .f32⟩
  | .local _ .vmem, ⟨25, _⟩ => ⟨S256x64, .f32⟩
  | .local _ .vmem, ⟨26, _⟩ => ⟨S256x64, .f32⟩
  | .local _ .vmem, ⟨27, _⟩ => ⟨S256x64, .f32⟩
  | .local _ .vmem, ⟨28, _⟩ => ⟨S256x128, .f32⟩
  | .local _ .vmem, ⟨29, _⟩ => ⟨S256x128, .f32⟩
  | .local _ .vmem, ⟨30, _⟩ => ⟨S256x1024, .bf16⟩
  | .local _ .vmem, ⟨31, _⟩ => ⟨S256x1024, .bf16⟩
  | .local _ .vmem, ⟨32, _⟩ => ⟨S256x512, .bf16⟩
  | .local _ .vmem, ⟨33, _⟩ => ⟨S256x512, .bf16⟩
  | .local _ .vmem, ⟨34, _⟩ => ⟨S256x256, .f32⟩
  | .local _ .vmem, ⟨35, _⟩ => ⟨S256x256, .f32⟩
  | .local _ .vmem, ⟨36, _⟩ => ⟨S256x1024, .bf16⟩
  | .local _ .vmem, ⟨37, _⟩ => ⟨S256x1024, .bf16⟩
  | .local _ .vmem, ⟨38, _⟩ => ⟨S256x2048, .f32⟩
  | .local _ .vmem, ⟨39, _⟩ => ⟨S256x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_1 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_3 : Ref sig .tc := ⟨.hbm, 69, rfl⟩
abbrev main_v52 : Ref sig .tc := ⟨.hbm, 70, rfl⟩
abbrev main_v53 : Ref sig .tc := ⟨.hbm, 71, rfl⟩
abbrev main_cst_4 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_5 : Ref sig .tc := ⟨.hbm, 84, rfl⟩
abbrev main_v65 : Ref sig .tc := ⟨.hbm, 85, rfl⟩
abbrev main_v66 : Ref sig .tc := ⟨.hbm, 86, rfl⟩
abbrev main_cst_6 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_7 : Ref sig .tc := ⟨.hbm, 97, rfl⟩
abbrev main_v76 : Ref sig .tc := ⟨.hbm, 98, rfl⟩
abbrev main_v77 : Ref sig .tc := ⟨.hbm, 99, rfl⟩
abbrev main_cst_8 : Ref sig .tc := ⟨.hbm, 100, rfl⟩
abbrev main_v78 : Ref sig .tc := ⟨.hbm, 101, rfl⟩
abbrev main_cst_9 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_10 : Ref sig .tc := ⟨.hbm, 106, rfl⟩
abbrev main_v82 : Ref sig .tc := ⟨.hbm, 107, rfl⟩
abbrev main_cst_11 : Ref sig .tc := ⟨.hbm, 108, rfl⟩
abbrev main_v83 : Ref sig .tc := ⟨.hbm, 109, rfl⟩
abbrev main_v84 : Ref sig .tc := ⟨.hbm, 110, rfl⟩
abbrev main_cst_12 : Ref sig .tc := ⟨.hbm, 111, rfl⟩
abbrev main_v85 : Ref sig .tc := ⟨.hbm, 112, rfl⟩
abbrev main_cst_13 : Ref sig .tc := ⟨.hbm, 113, rfl⟩
abbrev main_v86 : Ref sig .tc := ⟨.hbm, 114, rfl⟩
abbrev main_v87 : Ref sig .tc := ⟨.hbm, 115, rfl⟩
abbrev main_cst_14 : Ref sig .tc := ⟨.hbm, 116, rfl⟩
abbrev main_v88 : Ref sig .tc := ⟨.hbm, 117, rfl⟩
abbrev main_cst_15 : Ref sig .tc := ⟨.hbm, 118, rfl⟩
abbrev main_v89 : Ref sig .tc := ⟨.hbm, 119, rfl⟩
abbrev main_cst_16 : Ref sig .tc := ⟨.hbm, 120, rfl⟩
abbrev main_v90 : Ref sig .tc := ⟨.hbm, 121, rfl⟩
abbrev main_cst_17 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_18 : Ref sig .tc := ⟨.hbm, 126, rfl⟩
abbrev main_v94 : Ref sig .tc := ⟨.hbm, 127, rfl⟩
abbrev main_cst_19 : Ref sig .tc := ⟨.hbm, 128, rfl⟩
abbrev main_v95 : Ref sig .tc := ⟨.hbm, 129, rfl⟩
abbrev main_v96 : Ref sig .tc := ⟨.hbm, 130, rfl⟩
abbrev main_cst_20 : Ref sig .tc := ⟨.hbm, 131, rfl⟩
abbrev main_v97 : Ref sig .tc := ⟨.hbm, 132, rfl⟩
abbrev main_cst_21 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_22 : Ref sig .tc := ⟨.hbm, 137, rfl⟩
abbrev main_v101 : Ref sig .tc := ⟨.hbm, 138, rfl⟩
abbrev main_cst_23 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_24 : Ref sig .tc := ⟨.hbm, 143, rfl⟩
abbrev main_v105 : Ref sig .tc := ⟨.hbm, 144, rfl⟩
abbrev main_v106 : Ref sig .tc := ⟨.hbm, 145, rfl⟩
abbrev main_cst_25 : Ref sig .tc := ⟨.hbm, 146, rfl⟩
abbrev main_v107 : Ref sig .tc := ⟨.hbm, 147, rfl⟩
abbrev main_v108 : Ref sig .tc := ⟨.hbm, 148, rfl⟩
abbrev main_cst_26 : Ref sig .tc := ⟨.hbm, 149, rfl⟩
abbrev main_v109 : Ref sig .tc := ⟨.hbm, 150, rfl⟩
abbrev main_v110 : Ref sig .tc := ⟨.hbm, 151, rfl⟩
abbrev main_cst_27 : Ref sig .tc := ⟨.hbm, 152, rfl⟩
abbrev main_v111 : Ref sig .tc := ⟨.hbm, 153, rfl⟩
abbrev main_cst_28 : Ref sig .tc := ⟨.hbm, 154, rfl⟩
abbrev main_v112 : Ref sig .tc := ⟨.hbm, 155, rfl⟩
abbrev main_cst_29 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_30 : Ref sig .tc := ⟨.hbm, 160, rfl⟩
abbrev main_v116 : Ref sig .tc := ⟨.hbm, 161, rfl⟩
abbrev main_cst_31 : Ref sig .tc := ⟨.hbm, 162, rfl⟩
abbrev main_v117 : Ref sig .tc := ⟨.hbm, 163, rfl⟩
abbrev main_cst_32 : Ref sig .tc := ⟨.hbm, 164, rfl⟩
abbrev main_v118 : Ref sig .tc := ⟨.hbm, 165, rfl⟩
abbrev main_v119 : Ref sig .tc := ⟨.hbm, 166, rfl⟩
abbrev main_cst_33 : Ref sig .tc := ⟨.hbm, 167, rfl⟩
abbrev main_v120 : Ref sig .tc := ⟨.hbm, 168, rfl⟩
abbrev main_cst_34 : Ref sig .tc := ⟨.hbm, 169, rfl⟩
abbrev main_v121 : Ref sig .tc := ⟨.hbm, 170, rfl⟩
abbrev main_v122 : Ref sig .tc := ⟨.hbm, 171, rfl⟩
abbrev main_cst_35 : Ref sig .tc := ⟨.hbm, 172, rfl⟩
abbrev main_v123 : Ref sig .tc := ⟨.hbm, 173, rfl⟩
abbrev main_v124 : Ref sig .tc := ⟨.hbm, 174, rfl⟩
abbrev main_cst_36 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129_0 : Ref sig .tc := ⟨.hbm, 180, rfl⟩
abbrev main_v129_1 : Ref sig .tc := ⟨.hbm, 181, rfl⟩
abbrev main_v129_2 : Ref sig .tc := ⟨.hbm, 182, rfl⟩
abbrev main_v129_3 : Ref sig .tc := ⟨.hbm, 183, rfl⟩
abbrev main_v129_4 : Ref sig .tc := ⟨.hbm, 184, rfl⟩
abbrev main_v129_5 : Ref sig .tc := ⟨.hbm, 185, rfl⟩
abbrev main_v129_6 : Ref sig .tc := ⟨.hbm, 186, rfl⟩
abbrev main_v129_7 : Ref sig .tc := ⟨.hbm, 187, rfl⟩
abbrev main_v129_8 : Ref sig .tc := ⟨.hbm, 188, rfl⟩
abbrev main_v129_9 : Ref sig .tc := ⟨.hbm, 189, rfl⟩
abbrev main_v129_10 : Ref sig .tc := ⟨.hbm, 190, rfl⟩
abbrev main_v129_11 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5376 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x2048 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== ProjectReferenceIdeal.lean ====
abbrev S16x2048x1024 : Shape := ⟨3, ![16, 2048, 1024]⟩
abbrev S1024 : Shape := ⟨1, ![1024]⟩
abbrev S1024x5256 : Shape := ⟨2, ![1024, 5256]⟩
abbrev S128 : Shape := ⟨1, ![128]⟩
abbrev S256 : Shape := ⟨1, ![256]⟩
abbrev S256x8x192 : Shape := ⟨3, ![256, 8, 192]⟩
abbrev S256x8x128 : Shape := ⟨3, ![256, 8, 128]⟩
abbrev S64 : Shape := ⟨1, ![64]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5256 : Shape := ⟨3, ![16, 2048, 5256]⟩
abbrev S16x2048x512 : Shape := ⟨3, ![16, 2048, 512]⟩
abbrev S16x2048x64 : Shape := ⟨3, ![16, 2048, 64]⟩
abbrev S16x2048x8 : Shape := ⟨3, ![16, 2048, 8]⟩
abbrev S16x2048x256 : Shape := ⟨3, ![16, 2048, 256]⟩
abbrev S16x2048x2048 : Shape := ⟨3, ![16, 2048, 2048]⟩
abbrev S16x2048x8x128 : Shape := ⟨4, ![16, 2048, 8, 128]⟩
abbrev S16x2048x8x1 : Shape := ⟨4, ![16, 2048, 8, 1]⟩
abbrev S1x1x1x128 : Shape := ⟨4, ![1, 1, 1, 128]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S16x2048x8x16 : Shape := ⟨4, ![16, 2048, 8, 16]⟩
abbrev S16x2048x8x96 : Shape := ⟨4, ![16, 2048, 8, 96]⟩
abbrev S1x2048x1x16 : Shape := ⟨4, ![1, 2048, 1, 16]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S16x2048x4x16 : Shape := ⟨4, ![16, 2048, 4, 16]⟩
abbrev S16x2048x4x96 : Shape := ⟨4, ![16, 2048, 4, 96]⟩
abbrev S16x2048x8x64 : Shape := ⟨4, ![16, 2048, 8, 64]⟩
abbrev S8 : Shape := ⟨1, ![8]⟩
abbrev S1x8 : Shape := ⟨2, ![1, 8]⟩
abbrev S2048x8 : Shape := ⟨2, ![2048, 8]⟩
abbrev S2048x1x8 : Shape := ⟨3, ![2048, 1, 8]⟩
abbrev S16x2048x8x8 : Shape := ⟨4, ![16, 2048, 8, 8]⟩
abbrev S16x2048x8x48 : Shape := ⟨4, ![16, 2048, 8, 48]⟩
abbrev S1x2048x1x8 : Shape := ⟨4, ![1, 2048, 1, 8]⟩
abbrev S16x2048x1x64 : Shape := ⟨4, ![16, 2048, 1, 64]⟩
abbrev S16x2048x1x8 : Shape := ⟨4, ![16, 2048, 1, 8]⟩
abbrev S16x2048x1x48 : Shape := ⟨4, ![16, 2048, 1, 48]⟩
abbrev S1x1x256 : Shape := ⟨3, ![1, 1, 256]⟩
abbrev S16x2048x8x192 : Shape := ⟨4, ![16, 2048, 8, 192]⟩
abbrev S1x1x1x64 : Shape := ⟨4, ![1, 1, 1, 64]⟩
abbrev S32 : Shape := ⟨1, ![32]⟩
abbrev S1x32 : Shape := ⟨2, ![1, 32]⟩
abbrev S2048x32 : Shape := ⟨2, ![2048, 32]⟩
abbrev S2048x1x32 : Shape := ⟨3, ![2048, 1, 32]⟩
abbrev S16x2048x8x32 : Shape := ⟨4, ![16, 2048, 8, 32]⟩
abbrev S16x2048x8x0 : Shape := ⟨4, ![16, 2048, 8, 0]⟩
abbrev S1x2048x1x32 : Shape := ⟨4, ![1, 2048, 1, 32]⟩
abbrev S1x1x64 : Shape := ⟨3, ![1, 1, 64]⟩
abbrev S16x2048x1x32 : Shape := ⟨4, ![16, 2048, 1, 32]⟩
abbrev S16x2048x1x0 : Shape := ⟨4, ![16, 2048, 1, 0]⟩
abbrev S32768x512 : Shape := ⟨2, ![32768, 512]⟩
abbrev S32768x64 : Shape := ⟨2, ![32768, 64]⟩
abbrev S32768x256 : Shape := ⟨2, ![32768, 256]⟩
abbrev S32768x1024 : Shape := ⟨2, ![32768, 1024]⟩
abbrev S32768x2048 : Shape := ⟨2, ![32768, 2048]⟩

abbrev nBuf : Space → Nat
  | .hbm => 420
  | .vmem => 0
  | .smem => 0
  | _ => 0

abbrev hbmTy0_0 (i : Nat) : BufTy := match i % 128 with
  | 0 => ⟨S16x2048x1024, .f32⟩
  | 1 => ⟨S1024, .f32⟩
  | 2 => ⟨S1024x5256, .f32⟩
  | 3 => ⟨S128, .f32⟩
  | 4 => ⟨S128, .f32⟩
  | 5 => ⟨S256, .f32⟩
  | 6 => ⟨S256x8x192, .f32⟩
  | 7 => ⟨S256, .f32⟩
  | 8 => ⟨S256x8x128, .f32⟩
  | 9 => ⟨S128, .f32⟩
  | 10 => ⟨S128, .f32⟩
  | 11 => ⟨S64, .f32⟩
  | 12 => ⟨S64, .f32⟩
  | 13 => ⟨S2048, .i32⟩
  | 14 => ⟨S16x2048x1024, .f32⟩
  | 15 => ⟨S_, .f32⟩
  | 16 => ⟨S16x2048, .f32⟩
  | 17 => ⟨S16x2048x1, .f32⟩
  | 18 => ⟨S_, .f32⟩
  | 19 => ⟨S16x2048x1, .f32⟩
  | 20 => ⟨S16x2048x1, .f32⟩
  | 21 => ⟨S_, .f32⟩
  | 22 => ⟨S16x2048x1, .f32⟩
  | 23 => ⟨S16x2048x1, .f32⟩
  | 24 => ⟨S16x2048x1, .f32⟩
  | 25 => ⟨S16x2048x1024, .f32⟩
  | 26 => ⟨S16x2048x1024, .f32⟩
  | 27 => ⟨S1x1x1024, .f32⟩
  | 28 => ⟨S16x2048x1024, .f32⟩
  | 29 => ⟨S16x2048x1024, .f32⟩
  | 30 => ⟨S16x2048x5256, .f32⟩
  | 31 => ⟨S16x2048x1024, .f32⟩
  | 32 => ⟨S16x2048x512, .f32⟩
  | 33 => ⟨S16x2048x512, .f32⟩
  | 34 => ⟨S16x2048x512, .f32⟩
  | 35 => ⟨S16x2048x64, .f32⟩
  | 36 => ⟨S16x2048x8, .f32⟩
  | 37 => ⟨S16x2048x256, .f32⟩
  | 38 => ⟨S16x2048x256, .f32⟩
  | 39 => ⟨S16x2048x64, .f32⟩
  | 40 => ⟨S16x2048x2048, .f32⟩
  | 41 => ⟨S16x2048x8x128, .f32⟩
  | 42 => ⟨S16x2048x8x128, .f32⟩
  | 43 => ⟨S_, .f32⟩
  | 44 => ⟨S16x2048x8, .f32⟩
  | 45 => ⟨S16x2048x8x1, .f32⟩
  | 46 => ⟨S_, .f32⟩
  | 47 => ⟨S16x2048x8x1, .f32⟩
  | 48 => ⟨S16x2048x8x1, .f32⟩
  | 49 => ⟨S_, .f32⟩
  | 50 => ⟨S16x2048x8x1, .f32⟩
  | 51 => ⟨S16x2048x8x1, .f32⟩
  | 52 => ⟨S16x2048x8x1, .f32⟩
  | 53 => ⟨S16x2048x8x128, .f32⟩
  | 54 => ⟨S16x2048x8x128, .f32⟩
  | 55 => ⟨S1x1x1x128, .f32⟩
  | 56 => ⟨S16x2048x8x128, .f32⟩
  | 57 => ⟨S16x2048x8x128, .f32⟩
  | 58 => ⟨S16, .f32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S16, .f32⟩
  | 66 => ⟨S2048, .f32⟩
  | 67 => ⟨S2048x1, .f32⟩
  | 68 => ⟨S1x16, .f32⟩
  | 69 => ⟨S2048x16, .f32⟩
  | 70 => ⟨S2048x16, .f32⟩
  | 71 => ⟨S2048x16, .f32⟩
  | 72 => ⟨S2048x16, .f32⟩
  | 73 => ⟨S2048x1x16, .f32⟩
  | 74 => ⟨S2048x16, .f32⟩
  | 75 => ⟨S2048x1x16, .f32⟩
  | 76 => ⟨S16x2048x8x16, .f32⟩
  | 77 => ⟨S16x2048x8x16, .f32⟩
  | 78 => ⟨S16x2048x8x96, .f32⟩
  | 79 => ⟨S1x2048x1x16, .f32⟩
  | 80 => ⟨S16x2048x8x16, .f32⟩
  | 81 => ⟨S16x2048x8x16, .f32⟩
  | 82 => ⟨S1x2048x1x16, .f32⟩
  | 83 => ⟨S16x2048x8x16, .f32⟩
  | 84 => ⟨S16x2048x8x16, .f32⟩
  | 85 => ⟨S16x2048x8x16, .f32⟩
  | 86 => ⟨S1x2048x1x16, .f32⟩
  | 87 => ⟨S16x2048x8x16, .f32⟩
  | 88 => ⟨S16x2048x8x16, .f32⟩
  | 89 => ⟨S1x2048x1x16, .f32⟩
  | 90 => ⟨S16x2048x8x16, .f32⟩
  | 91 => ⟨S16x2048x8x16, .f32⟩
  | 92 => ⟨S16x2048x8x16, .f32⟩
  | 93 => ⟨S16x2048x8x128, .f32⟩
  | 94 => ⟨S16x2048x4x128, .f32⟩
  | 95 => ⟨S16x2048x4x128, .f32⟩
  | 96 => ⟨S_, .f32⟩
  | 97 => ⟨S16x2048x4, .f32⟩
  | 98 => ⟨S16x2048x4x1, .f32⟩
  | 99 => ⟨S_, .f32⟩
  | 100 => ⟨S16x2048x4x1, .f32⟩
  | 101 => ⟨S16x2048x4x1, .f32⟩
  | 102 => ⟨S_, .f32⟩
  | 103 => ⟨S16x2048x4x1, .f32⟩
  | 104 => ⟨S16x2048x4x1, .f32⟩
  | 105 => ⟨S16x2048x4x1, .f32⟩
  | 106 => ⟨S16x2048x4x128, .f32⟩
  | 107 => ⟨S16x2048x4x128, .f32⟩
  | 108 => ⟨S1x1x1x128, .f32⟩
  | 109 => ⟨S16x2048x4x128, .f32⟩
  | 110 => ⟨S16x2048x4x128, .f32⟩
  | 111 => ⟨S16, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S2048, .f32⟩
  | 120 => ⟨S2048x1, .f32⟩
  | 121 => ⟨S1x16, .f32⟩
  | 122 => ⟨S2048x16, .f32⟩
  | 123 => ⟨S2048x16, .f32⟩
  | 124 => ⟨S2048x16, .f32⟩
  | 125 => ⟨S2048x16, .f32⟩
  | 126 => ⟨S2048x1x16, .f32⟩
  | 127 => ⟨S2048x16, .f32⟩
  | _ => ⟨S16x2048x1024, .f32⟩

abbrev hbmTy0_1 (i : Nat) : BufTy := match i % 128 with
  | 0 => ⟨S2048x1x16, .f32⟩
  | 1 => ⟨S16x2048x4x16, .f32⟩
  | 2 => ⟨S16x2048x4x16, .f32⟩
  | 3 => ⟨S16x2048x4x96, .f32⟩
  | 4 => ⟨S1x2048x1x16, .f32⟩
  | 5 => ⟨S16x2048x4x16, .f32⟩
  | 6 => ⟨S16x2048x4x16, .f32⟩
  | 7 => ⟨S1x2048x1x16, .f32⟩
  | 8 => ⟨S16x2048x4x16, .f32⟩
  | 9 => ⟨S16x2048x4x16, .f32⟩
  | 10 => ⟨S16x2048x4x16, .f32⟩
  | 11 => ⟨S1x2048x1x16, .f32⟩
  | 12 => ⟨S16x2048x4x16, .f32⟩
  | 13 => ⟨S16x2048x4x16, .f32⟩
  | 14 => ⟨S1x2048x1x16, .f32⟩
  | 15 => ⟨S16x2048x4x16, .f32⟩
  | 16 => ⟨S16x2048x4x16, .f32⟩
  | 17 => ⟨S16x2048x4x16, .f32⟩
  | 18 => ⟨S16x2048x4x128, .f32⟩
  | 19 => ⟨S16x2048x8x64, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S2048, .f32⟩
  | 29 => ⟨S2048x1, .f32⟩
  | 30 => ⟨S1x8, .f32⟩
  | 31 => ⟨S2048x8, .f32⟩
  | 32 => ⟨S2048x8, .f32⟩
  | 33 => ⟨S2048x8, .f32⟩
  | 34 => ⟨S2048x8, .f32⟩
  | 35 => ⟨S2048x1x8, .f32⟩
  | 36 => ⟨S2048x8, .f32⟩
  | 37 => ⟨S2048x1x8, .f32⟩
  | 38 => ⟨S16x2048x8x8, .f32⟩
  | 39 => ⟨S16x2048x8x8, .f32⟩
  | 40 => ⟨S16x2048x8x48, .f32⟩
  | 41 => ⟨S1x2048x1x8, .f32⟩
  | 42 => ⟨S16x2048x8x8, .f32⟩
  | 43 => ⟨S16x2048x8x8, .f32⟩
  | 44 => ⟨S1x2048x1x8, .f32⟩
  | 45 => ⟨S16x2048x8x8, .f32⟩
  | 46 => ⟨S16x2048x8x8, .f32⟩
  | 47 => ⟨S16x2048x8x8, .f32⟩
  | 48 => ⟨S1x2048x1x8, .f32⟩
  | 49 => ⟨S16x2048x8x8, .f32⟩
  | 50 => ⟨S16x2048x8x8, .f32⟩
  | 51 => ⟨S1x2048x1x8, .f32⟩
  | 52 => ⟨S16x2048x8x8, .f32⟩
  | 53 => ⟨S16x2048x8x8, .f32⟩
  | 54 => ⟨S16x2048x8x8, .f32⟩
  | 55 => ⟨S16x2048x8x64, .f32⟩
  | 56 => ⟨S16x2048x1x64, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S2048, .f32⟩
  | 66 => ⟨S2048x1, .f32⟩
  | 67 => ⟨S1x8, .f32⟩
  | 68 => ⟨S2048x8, .f32⟩
  | 69 => ⟨S2048x8, .f32⟩
  | 70 => ⟨S2048x8, .f32⟩
  | 71 => ⟨S2048x8, .f32⟩
  | 72 => ⟨S2048x1x8, .f32⟩
  | 73 => ⟨S2048x8, .f32⟩
  | 74 => ⟨S2048x1x8, .f32⟩
  | 75 => ⟨S16x2048x1x8, .f32⟩
  | 76 => ⟨S16x2048x1x8, .f32⟩
  | 77 => ⟨S16x2048x1x48, .f32⟩
  | 78 => ⟨S1x2048x1x8, .f32⟩
  | 79 => ⟨S16x2048x1x8, .f32⟩
  | 80 => ⟨S16x2048x1x8, .f32⟩
  | 81 => ⟨S1x2048x1x8, .f32⟩
  | 82 => ⟨S16x2048x1x8, .f32⟩
  | 83 => ⟨S16x2048x1x8, .f32⟩
  | 84 => ⟨S16x2048x1x8, .f32⟩
  | 85 => ⟨S1x2048x1x8, .f32⟩
  | 86 => ⟨S16x2048x1x8, .f32⟩
  | 87 => ⟨S16x2048x1x8, .f32⟩
  | 88 => ⟨S1x2048x1x8, .f32⟩
  | 89 => ⟨S16x2048x1x8, .f32⟩
  | 90 => ⟨S16x2048x1x8, .f32⟩
  | 91 => ⟨S16x2048x1x8, .f32⟩
  | 92 => ⟨S16x2048x1x64, .f32⟩
  | 93 => ⟨S16x2048x64, .f32⟩
  | 94 => ⟨S16x2048x256, .f32⟩
  | 95 => ⟨S_, .f32⟩
  | 96 => ⟨S16x2048, .f32⟩
  | 97 => ⟨S16x2048x1, .f32⟩
  | 98 => ⟨S_, .f32⟩
  | 99 => ⟨S16x2048x1, .f32⟩
  | 100 => ⟨S16x2048x1, .f32⟩
  | 101 => ⟨S_, .f32⟩
  | 102 => ⟨S16x2048x1, .f32⟩
  | 103 => ⟨S16x2048x1, .f32⟩
  | 104 => ⟨S16x2048x1, .f32⟩
  | 105 => ⟨S16x2048x256, .f32⟩
  | 106 => ⟨S16x2048x256, .f32⟩
  | 107 => ⟨S1x1x256, .f32⟩
  | 108 => ⟨S16x2048x256, .f32⟩
  | 109 => ⟨S16x2048x256, .f32⟩
  | 110 => ⟨S16x2048x8x192, .f32⟩
  | 111 => ⟨S16x2048x8x128, .f32⟩
  | 112 => ⟨S16x2048x8x128, .f32⟩
  | 113 => ⟨S_, .f32⟩
  | 114 => ⟨S16x2048x8, .f32⟩
  | 115 => ⟨S16x2048x8x1, .f32⟩
  | 116 => ⟨S_, .f32⟩
  | 117 => ⟨S16x2048x8x1, .f32⟩
  | 118 => ⟨S16x2048x8x1, .f32⟩
  | 119 => ⟨S_, .f32⟩
  | 120 => ⟨S16x2048x8x1, .f32⟩
  | 121 => ⟨S16x2048x8x1, .f32⟩
  | 122 => ⟨S16x2048x8x1, .f32⟩
  | 123 => ⟨S16x2048x8x128, .f32⟩
  | 124 => ⟨S16x2048x8x128, .f32⟩
  | 125 => ⟨S1x1x1x128, .f32⟩
  | 126 => ⟨S16x2048x8x128, .f32⟩
  | 127 => ⟨S16x2048x8x128, .f32⟩
  | _ => ⟨S16x2048x1024, .f32⟩

abbrev hbmTy0_2 (i : Nat) : BufTy := match i % 128 with
  | 0 => ⟨S16x2048x8x64, .f32⟩
  | 1 => ⟨S16x2048x8x64, .f32⟩
  | 2 => ⟨S_, .f32⟩
  | 3 => ⟨S16x2048x8, .f32⟩
  | 4 => ⟨S16x2048x8x1, .f32⟩
  | 5 => ⟨S_, .f32⟩
  | 6 => ⟨S16x2048x8x1, .f32⟩
  | 7 => ⟨S16x2048x8x1, .f32⟩
  | 8 => ⟨S_, .f32⟩
  | 9 => ⟨S16x2048x8x1, .f32⟩
  | 10 => ⟨S16x2048x8x1, .f32⟩
  | 11 => ⟨S16x2048x8x1, .f32⟩
  | 12 => ⟨S16x2048x8x64, .f32⟩
  | 13 => ⟨S16x2048x8x64, .f32⟩
  | 14 => ⟨S1x1x1x64, .f32⟩
  | 15 => ⟨S16x2048x8x64, .f32⟩
  | 16 => ⟨S16x2048x8x64, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S2048, .f32⟩
  | 26 => ⟨S2048x1, .f32⟩
  | 27 => ⟨S1x32, .f32⟩
  | 28 => ⟨S2048x32, .f32⟩
  | 29 => ⟨S2048x32, .f32⟩
  | 30 => ⟨S2048x32, .f32⟩
  | 31 => ⟨S2048x32, .f32⟩
  | 32 => ⟨S2048x1x32, .f32⟩
  | 33 => ⟨S2048x32, .f32⟩
  | 34 => ⟨S2048x1x32, .f32⟩
  | 35 => ⟨S16x2048x8x32, .f32⟩
  | 36 => ⟨S16x2048x8x32, .f32⟩
  | 37 => ⟨S16x2048x8x0, .f32⟩
  | 38 => ⟨S1x2048x1x32, .f32⟩
  | 39 => ⟨S16x2048x8x32, .f32⟩
  | 40 => ⟨S16x2048x8x32, .f32⟩
  | 41 => ⟨S1x2048x1x32, .f32⟩
  | 42 => ⟨S16x2048x8x32, .f32⟩
  | 43 => ⟨S16x2048x8x32, .f32⟩
  | 44 => ⟨S16x2048x8x32, .f32⟩
  | 45 => ⟨S1x2048x1x32, .f32⟩
  | 46 => ⟨S16x2048x8x32, .f32⟩
  | 47 => ⟨S16x2048x8x32, .f32⟩
  | 48 => ⟨S1x2048x1x32, .f32⟩
  | 49 => ⟨S16x2048x8x32, .f32⟩
  | 50 => ⟨S16x2048x8x32, .f32⟩
  | 51 => ⟨S16x2048x8x32, .f32⟩
  | 52 => ⟨S16x2048x8x64, .f32⟩
  | 53 => ⟨S16x2048x256, .f32⟩
  | 54 => ⟨S_, .f32⟩
  | 55 => ⟨S16x2048, .f32⟩
  | 56 => ⟨S16x2048x1, .f32⟩
  | 57 => ⟨S_, .f32⟩
  | 58 => ⟨S16x2048x1, .f32⟩
  | 59 => ⟨S16x2048x1, .f32⟩
  | 60 => ⟨S_, .f32⟩
  | 61 => ⟨S16x2048x1, .f32⟩
  | 62 => ⟨S16x2048x1, .f32⟩
  | 63 => ⟨S16x2048x1, .f32⟩
  | 64 => ⟨S16x2048x256, .f32⟩
  | 65 => ⟨S16x2048x256, .f32⟩
  | 66 => ⟨S1x1x256, .f32⟩
  | 67 => ⟨S16x2048x256, .f32⟩
  | 68 => ⟨S16x2048x256, .f32⟩
  | 69 => ⟨S16x2048x64, .f32⟩
  | 70 => ⟨S_, .f32⟩
  | 71 => ⟨S16x2048, .f32⟩
  | 72 => ⟨S16x2048x1, .f32⟩
  | 73 => ⟨S_, .f32⟩
  | 74 => ⟨S16x2048x1, .f32⟩
  | 75 => ⟨S16x2048x1, .f32⟩
  | 76 => ⟨S_, .f32⟩
  | 77 => ⟨S16x2048x1, .f32⟩
  | 78 => ⟨S16x2048x1, .f32⟩
  | 79 => ⟨S16x2048x1, .f32⟩
  | 80 => ⟨S16x2048x64, .f32⟩
  | 81 => ⟨S16x2048x64, .f32⟩
  | 82 => ⟨S1x1x64, .f32⟩
  | 83 => ⟨S16x2048x64, .f32⟩
  | 84 => ⟨S16x2048x64, .f32⟩
  | 85 => ⟨S16x2048x1x64, .f32⟩
  | 86 => ⟨S32, .f32⟩
  | 87 => ⟨S32, .f32⟩
  | 88 => ⟨S_, .f32⟩
  | 89 => ⟨S32, .f32⟩
  | 90 => ⟨S32, .f32⟩
  | 91 => ⟨S_, .f32⟩
  | 92 => ⟨S32, .f32⟩
  | 93 => ⟨S32, .f32⟩
  | 94 => ⟨S2048, .f32⟩
  | 95 => ⟨S2048x1, .f32⟩
  | 96 => ⟨S1x32, .f32⟩
  | 97 => ⟨S2048x32, .f32⟩
  | 98 => ⟨S2048x32, .f32⟩
  | 99 => ⟨S2048x32, .f32⟩
  | 100 => ⟨S2048x32, .f32⟩
  | 101 => ⟨S2048x1x32, .f32⟩
  | 102 => ⟨S2048x32, .f32⟩
  | 103 => ⟨S2048x1x32, .f32⟩
  | 104 => ⟨S16x2048x1x32, .f32⟩
  | 105 => ⟨S16x2048x1x32, .f32⟩
  | 106 => ⟨S16x2048x1x0, .f32⟩
  | 107 => ⟨S1x2048x1x32, .f32⟩
  | 108 => ⟨S16x2048x1x32, .f32⟩
  | 109 => ⟨S16x2048x1x32, .f32⟩
  | 110 => ⟨S1x2048x1x32, .f32⟩
  | 111 => ⟨S16x2048x1x32, .f32⟩
  | 112 => ⟨S16x2048x1x32, .f32⟩
  | 113 => ⟨S16x2048x1x32, .f32⟩
  | 114 => ⟨S1x2048x1x32, .f32⟩
  | 115 => ⟨S16x2048x1x32, .f32⟩
  | 116 => ⟨S16x2048x1x32, .f32⟩
  | 117 => ⟨S1x2048x1x32, .f32⟩
  | 118 => ⟨S16x2048x1x32, .f32⟩
  | 119 => ⟨S16x2048x1x32, .f32⟩
  | 120 => ⟨S16x2048x1x32, .f32⟩
  | 121 => ⟨S16x2048x1x64, .f32⟩
  | 122 => ⟨S16x2048x64, .f32⟩
  | 123 => ⟨S16x2048x8x128, .f32⟩
  | 124 => ⟨S16x2048x8x128, .f32⟩
  | 125 => ⟨S_, .f32⟩
  | 126 => ⟨S16x2048x8, .f32⟩
  | 127 => ⟨S16x2048x8x1, .f32⟩
  | _ => ⟨S16x2048x1024, .f32⟩

abbrev hbmTy0_3 (i : Nat) : BufTy := match i % 128 with
  | 0 => ⟨S_, .f32⟩
  | 1 => ⟨S16x2048x8x1, .f32⟩
  | 2 => ⟨S16x2048x8x1, .f32⟩
  | 3 => ⟨S_, .f32⟩
  | 4 => ⟨S16x2048x8x1, .f32⟩
  | 5 => ⟨S16x2048x8x1, .f32⟩
  | 6 => ⟨S16x2048x8x1, .f32⟩
  | 7 => ⟨S16x2048x8x128, .f32⟩
  | 8 => ⟨S16x2048x8x128, .f32⟩
  | 9 => ⟨S1x1x1x128, .f32⟩
  | 10 => ⟨S16x2048x8x128, .f32⟩
  | 11 => ⟨S16x2048x8x128, .f32⟩
  | 12 => ⟨S16x2048x2048, .f32⟩
  | 13 => ⟨S16x2048x2048, .f32⟩
  | 14 => ⟨S_, .f32⟩
  | 15 => ⟨S16x2048x2048, .f32⟩
  | 16 => ⟨S16x2048x2048, .f32⟩
  | 17 => ⟨S_, .f32⟩
  | 18 => ⟨S16x2048x2048, .f32⟩
  | 19 => ⟨S16x2048x2048, .f32⟩
  | 20 => ⟨S32768x512, .f32⟩
  | 21 => ⟨S32768x512, .f32⟩
  | 22 => ⟨S32768x64, .f32⟩
  | 23 => ⟨S32768x256, .f32⟩
  | 24 => ⟨S32768x64, .f32⟩
  | 25 => ⟨S32768x1024, .f32⟩
  | 26 => ⟨S32768x1024, .bf16⟩
  | 27 => ⟨S32768x512, .f32⟩
  | 28 => ⟨S32768x512, .bf16⟩
  | 29 => ⟨S32768x1024, .f32⟩
  | 30 => ⟨S32768x1024, .bf16⟩
  | 31 => ⟨S32768x512, .f32⟩
  | 32 => ⟨S32768x512, .bf16⟩
  | 33 => ⟨S32768x1024, .f32⟩
  | 34 => ⟨S32768x1024, .bf16⟩
  | 35 => ⟨S32768x2048, .f32⟩
  | _ => ⟨S16x2048x1024, .f32⟩

abbrev hbmTy (i : Nat) : BufTy := match i / 128 with
  | 0 => hbmTy0_0 i
  | 1 => hbmTy0_1 i
  | 2 => hbmTy0_2 i
  | 3 => hbmTy0_3 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_7 : Ref sig .tc := ⟨.hbm, 96, rfl⟩
abbrev main_v75 : Ref sig .tc := ⟨.hbm, 97, rfl⟩
abbrev main_v76 : Ref sig .tc := ⟨.hbm, 98, rfl⟩
abbrev main_cst_8 : Ref sig .tc := ⟨.hbm, 99, rfl⟩
abbrev main_v77 : Ref sig .tc := ⟨.hbm, 100, rfl⟩
abbrev main_v78 : Ref sig .tc := ⟨.hbm, 101, rfl⟩
abbrev main_cst_9 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_10 : Ref sig .tc := ⟨.hbm, 113, rfl⟩
abbrev main_v89 : Ref sig .tc := ⟨.hbm, 114, rfl⟩
abbrev main_v90 : Ref sig .tc := ⟨.hbm, 115, rfl⟩
abbrev main_cst_11 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_cst_12 : Ref sig .tc := ⟨.hbm, 150, rfl⟩
abbrev main_v124 : Ref sig .tc := ⟨.hbm, 151, rfl⟩
abbrev main_v125 : Ref sig .tc := ⟨.hbm, 152, rfl⟩
abbrev main_cst_13 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_cst_14 : Ref sig .tc := ⟨.hbm, 187, rfl⟩
abbrev main_v159 : Ref sig .tc := ⟨.hbm, 188, rfl⟩
abbrev main_v160 : Ref sig .tc := ⟨.hbm, 189, rfl⟩
abbrev main_cst_15 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_cst_16 : Ref sig .tc := ⟨.hbm, 223, rfl⟩
abbrev main_v193 : Ref sig .tc := ⟨.hbm, 224, rfl⟩
abbrev main_v194 : Ref sig .tc := ⟨.hbm, 225, rfl⟩
abbrev main_cst_17 : Ref sig .tc := ⟨.hbm, 226, rfl⟩
abbrev main_v195 : Ref sig .tc := ⟨.hbm, 227, rfl⟩
abbrev main_v196 : Ref sig .tc := ⟨.hbm, 228, rfl⟩
abbrev main_cst_18 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_cst_19 : Ref sig .tc := ⟨.hbm, 241, rfl⟩
abbrev main_v208 : Ref sig .tc := ⟨.hbm, 242, rfl⟩
abbrev main_v209 : Ref sig .tc := ⟨.hbm, 243, rfl⟩
abbrev main_cst_20 : Ref sig .tc := ⟨.hbm, 244, rfl⟩
abbrev main_v210 : Ref sig .tc := ⟨.hbm, 245, rfl⟩
abbrev main_v211 : Ref sig .tc := ⟨.hbm, 246, rfl⟩
abbrev main_cst_21 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_cst_22 : Ref sig .tc := ⟨.hbm, 258, rfl⟩
abbrev main_v222 : Ref sig .tc := ⟨.hbm, 259, rfl⟩
abbrev main_v223 : Ref sig .tc := ⟨.hbm, 260, rfl⟩
abbrev main_cst_23 : Ref sig .tc := ⟨.hbm, 261, rfl⟩
abbrev main_v224 : Ref sig .tc := ⟨.hbm, 262, rfl⟩
abbrev main_v225 : Ref sig .tc := ⟨.hbm, 263, rfl⟩
abbrev main_cst_24 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_cst_25 : Ref sig .tc := ⟨.hbm, 275, rfl⟩
abbrev main_v236 : Ref sig .tc := ⟨.hbm, 276, rfl⟩
abbrev main_v237 : Ref sig .tc := ⟨.hbm, 277, rfl⟩
abbrev main_cst_26 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_cst_27 : Ref sig .tc := ⟨.hbm, 310, rfl⟩
abbrev main_v269 : Ref sig .tc := ⟨.hbm, 311, rfl⟩
abbrev main_v270 : Ref sig .tc := ⟨.hbm, 312, rfl⟩
abbrev main_cst_28 : Ref sig .tc := ⟨.hbm, 313, rfl⟩
abbrev main_v271 : Ref sig .tc := ⟨.hbm, 314, rfl⟩
abbrev main_v272 : Ref sig .tc := ⟨.hbm, 315, rfl⟩
abbrev main_cst_29 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_cst_30 : Ref sig .tc := ⟨.hbm, 326, rfl⟩
abbrev main_v282 : Ref sig .tc := ⟨.hbm, 327, rfl⟩
abbrev main_v283 : Ref sig .tc := ⟨.hbm, 328, rfl⟩
abbrev main_cst_31 : Ref sig .tc := ⟨.hbm, 329, rfl⟩
abbrev main_v284 : Ref sig .tc := ⟨.hbm, 330, rfl⟩
abbrev main_v285 : Ref sig .tc := ⟨.hbm, 331, rfl⟩
abbrev main_cst_32 : Ref sig .tc := ⟨.hbm, 332, rfl⟩
abbrev main_v286 : Ref sig .tc := ⟨.hbm, 333, rfl⟩
abbrev main_v287 : Ref sig .tc := ⟨.hbm, 334, rfl⟩
abbrev main_v288 : Ref sig .tc := ⟨.hbm, 335, rfl⟩
abbrev main_v289 : Ref sig .tc := ⟨.hbm, 336, rfl⟩
abbrev main_v290 : Ref sig .tc := ⟨.hbm, 337, rfl⟩
abbrev main_v291 : Ref sig .tc := ⟨.hbm, 338, rfl⟩
abbrev main_v292 : Ref sig .tc := ⟨.hbm, 339, rfl⟩
abbrev main_v293 : Ref sig .tc := ⟨.hbm, 340, rfl⟩
abbrev main_v294 : Ref sig .tc := ⟨.hbm, 341, rfl⟩
abbrev main_v295 : Ref sig .tc := ⟨.hbm, 342, rfl⟩
abbrev main_v296 : Ref sig .tc := ⟨.hbm, 343, rfl⟩
abbrev main_cst_33 : Ref sig .tc := ⟨.hbm, 344, rfl⟩
abbrev main_v297 : Ref sig .tc := ⟨.hbm, 345, rfl⟩
abbrev main_v298 : Ref sig .tc := ⟨.hbm, 346, rfl⟩
abbrev main_cst_34 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_v306 : Ref sig .tc := ⟨.hbm, 355, rfl⟩
abbrev main_v307 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_v317 : Ref sig .tc := ⟨.hbm, 366, rfl⟩
abbrev main_v318 : Ref sig .tc := ⟨.hbm, 367, rfl⟩
abbrev main_v319 : Ref sig .tc := ⟨.hbm, 368, rfl⟩
abbrev main_v320 : Ref sig .tc := ⟨.hbm, 369, rfl⟩
abbrev main_v321 : Ref sig .tc := ⟨.hbm, 370, rfl⟩
abbrev main_v322 : Ref sig .tc := ⟨.hbm, 371, rfl⟩
abbrev main_v323 : Ref sig .tc := ⟨.hbm, 372, rfl⟩
abbrev main_v324 : Ref sig .tc := ⟨.hbm, 373, rfl⟩
abbrev main_v325 : Ref sig .tc := ⟨.hbm, 374, rfl⟩
abbrev main_v326 : Ref sig .tc := ⟨.hbm, 375, rfl⟩
abbrev main_v327 : Ref sig .tc := ⟨.hbm, 376, rfl⟩
abbrev main_v328 : Ref sig .tc := ⟨.hbm, 377, rfl⟩
abbrev main_v329 : Ref sig .tc := ⟨.hbm, 378, rfl⟩
abbrev main_v330 : Ref sig .tc := ⟨.hbm, 379, rfl⟩
abbrev main_v331 : Ref sig .tc := ⟨.hbm, 380, rfl⟩
abbrev main_cst_35 : Ref sig .tc := ⟨.hbm, 381, rfl⟩
abbrev main_v332 : Ref sig .tc := ⟨.hbm, 382, rfl⟩
abbrev main_v333 : Ref sig .tc := ⟨.hbm, 383, rfl⟩
abbrev main_cst_36 : Ref sig .tc := ⟨.hbm, 384, rfl⟩
abbrev main_v334 : Ref sig .tc := ⟨.hbm, 385, rfl⟩
abbrev main_v335 : Ref sig .tc := ⟨.hbm, 386, rfl⟩
abbrev main_cst_37 : Ref sig .tc := ⟨.hbm, 387, rfl⟩
abbrev main_v336 : Ref sig .tc := ⟨.hbm, 388, rfl⟩
abbrev main_v337 : Ref sig .tc := ⟨.hbm, 389, rfl⟩
abbrev main_v338 : Ref sig .tc := ⟨.hbm, 390, rfl⟩
abbrev main_v339 : Ref sig .tc := ⟨.hbm, 391, rfl⟩
abbrev main_v340 : Ref sig .tc := ⟨.hbm, 392, rfl⟩
abbrev main_v341 : Ref sig .tc := ⟨.hbm, 393, rfl⟩
abbrev main_v342 : Ref sig .tc := ⟨.hbm, 394, rfl⟩
abbrev main_v343 : Ref sig .tc := ⟨.hbm, 395, rfl⟩
abbrev main_v344 : Ref sig .tc := ⟨.hbm, 396, rfl⟩
abbrev main_v345 : Ref sig .tc := ⟨.hbm, 397, rfl⟩
abbrev main_cst_38 : Ref sig .tc := ⟨.hbm, 398, rfl⟩
abbrev main_v346 : Ref sig .tc := ⟨.hbm, 399, rfl⟩
abbrev main_v347 : Ref sig .tc := ⟨.hbm, 400, rfl⟩
abbrev main_cst_39 : Ref sig .tc := ⟨.hbm, 401, rfl⟩
abbrev main_v348 : Ref sig .tc := ⟨.hbm, 402, rfl⟩
abbrev main_v349 : Ref sig .tc := ⟨.hbm, 403, rfl⟩
abbrev main_v350 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_v354 : Ref sig .tc := ⟨.hbm, 408, rfl⟩
abbrev main_v355 : Ref sig .tc := ⟨.hbm, 409, rfl⟩
abbrev main_v356 : Ref sig .tc := ⟨.hbm, 410, rfl⟩
abbrev main_v357 : Ref sig .tc := ⟨.hbm, 411, rfl⟩
abbrev main_v358 : Ref sig .tc := ⟨.hbm, 412, rfl⟩
abbrev main_v359 : Ref sig .tc := ⟨.hbm, 413, rfl⟩
abbrev main_v360 : Ref sig .tc := ⟨.hbm, 414, rfl⟩
abbrev main_v361 : Ref sig .tc := ⟨.hbm, 415, rfl⟩
abbrev main_v362 : Ref sig .tc := ⟨.hbm, 416, rfl⟩
abbrev main_v363 : Ref sig .tc := ⟨.hbm, 417, rfl⟩
abbrev main_v364 : Ref sig .tc := ⟨.hbm, 418, rfl⟩
abbrev main_v365 : Ref sig .tc := ⟨.hbm, 419, rfl⟩

abbrev nD : Nat := 1
abbrev τ : Topo := Topo.v7x

variable {F : FTy → Type} [FloatOps F]
-- ==== ProjectSample.lean ====
abbrev S128x1x1024 : Shape := ⟨3, ![128, 1, 1024]⟩
abbrev S1024 : Shape := ⟨1, ![1024]⟩
abbrev S1024x5256 : Shape := ⟨2, ![1024, 5256]⟩
abbrev S128 : Shape := ⟨1, ![128]⟩
abbrev S256 : Shape := ⟨1, ![256]⟩
abbrev S256x8x192 : Shape := ⟨3, ![256, 8, 192]⟩
abbrev S256x8x128 : Shape := ⟨3, ![256, 8, 128]⟩
abbrev S64 : Shape := ⟨1, ![64]⟩
abbrev S1024x1024 : Shape := ⟨2, ![1024, 1024]⟩
abbrev S1024x512 : Shape := ⟨2, ![1024, 512]⟩
abbrev S1024x64 : Shape := ⟨2, ![1024, 64]⟩
abbrev S1024x8 : Shape := ⟨2, ![1024, 8]⟩
abbrev S1024x256 : Shape := ⟨2, ![1024, 256]⟩
abbrev S1024x2048 : Shape := ⟨2, ![1024, 2048]⟩
abbrev S_ : Shape := ⟨0, ![]⟩
abbrev S1024x120 : Shape := ⟨2, ![1024, 120]⟩
abbrev S1024x5376 : Shape := ⟨2, ![1024, 5376]⟩
abbrev S256x1024 : Shape := ⟨2, ![256, 1024]⟩
abbrev S256x8x64 : Shape := ⟨3, ![256, 8, 64]⟩
abbrev S256x512 : Shape := ⟨2, ![256, 512]⟩
abbrev S256x1536 : Shape := ⟨2, ![256, 1536]⟩
abbrev S1x1024 : Shape := ⟨2, ![1, 1024]⟩
abbrev S1x128 : Shape := ⟨2, ![1, 128]⟩
abbrev S1x256 : Shape := ⟨2, ![1, 256]⟩
abbrev S1x64 : Shape := ⟨2, ![1, 64]⟩
abbrev S2x64 : Shape := ⟨2, ![2, 64]⟩
abbrev S16 : Shape := ⟨1, ![16]⟩
abbrev S128x1 : Shape := ⟨2, ![128, 1]⟩
abbrev S1x16 : Shape := ⟨2, ![1, 16]⟩
abbrev S128x16 : Shape := ⟨2, ![128, 16]⟩
abbrev S8 : Shape := ⟨1, ![8]⟩
abbrev S1x8 : Shape := ⟨2, ![1, 8]⟩
abbrev S128x8 : Shape := ⟨2, ![128, 8]⟩
abbrev S32 : Shape := ⟨1, ![32]⟩
abbrev S1x32 : Shape := ⟨2, ![1, 32]⟩
abbrev S128x32 : Shape := ⟨2, ![128, 32]⟩
abbrev S128x96 : Shape := ⟨2, ![128, 96]⟩
abbrev S128x128 : Shape := ⟨2, ![128, 128]⟩
abbrev S128x48 : Shape := ⟨2, ![128, 48]⟩
abbrev S128x64 : Shape := ⟨2, ![128, 64]⟩
abbrev S128x1792 : Shape := ⟨2, ![128, 1792]⟩
abbrev S128x1024 : Shape := ⟨2, ![128, 1024]⟩
abbrev S128x512 : Shape := ⟨2, ![128, 512]⟩
abbrev S128x256 : Shape := ⟨2, ![128, 256]⟩
abbrev S128x2048 : Shape := ⟨2, ![128, 2048]⟩
abbrev S1024x128 : Shape := ⟨2, ![1024, 128]⟩
abbrev S128x1536 : Shape := ⟨2, ![128, 1536]⟩

abbrev nBuf : Space → Nat
  | .hbm => 193
  | .vmem => 26
  | .smem => 0
  | _ => 0

abbrev hbmTy0_0 (i : Nat) : BufTy := match i % 128 with
  | 0 => ⟨S128x1x1024, .f32⟩
  | 1 => ⟨S1024, .f32⟩
  | 2 => ⟨S1024x5256, .f32⟩
  | 3 => ⟨S128, .f32⟩
  | 4 => ⟨S128, .f32⟩
  | 5 => ⟨S256, .f32⟩
  | 6 => ⟨S256x8x192, .f32⟩
  | 7 => ⟨S256, .f32⟩
  | 8 => ⟨S256x8x128, .f32⟩
  | 9 => ⟨S128, .f32⟩
  | 10 => ⟨S128, .f32⟩
  | 11 => ⟨S64, .f32⟩
  | 12 => ⟨S64, .f32⟩
  | 13 => ⟨S1024x1024, .f32⟩
  | 14 => ⟨S1024x512, .f32⟩
  | 15 => ⟨S1024x512, .f32⟩
  | 16 => ⟨S1024x512, .f32⟩
  | 17 => ⟨S1024x64, .f32⟩
  | 18 => ⟨S1024x8, .f32⟩
  | 19 => ⟨S1024x256, .f32⟩
  | 20 => ⟨S1024x256, .f32⟩
  | 21 => ⟨S1024x64, .f32⟩
  | 22 => ⟨S1024x2048, .f32⟩
  | 23 => ⟨S_, .f32⟩
  | 24 => ⟨S1024x120, .f32⟩
  | 25 => ⟨S1024x5376, .f32⟩
  | 26 => ⟨S1024x5376, .bf16⟩
  | 27 => ⟨S256x8x128, .f32⟩
  | 28 => ⟨S256x1024, .f32⟩
  | 29 => ⟨S256x8x64, .f32⟩
  | 30 => ⟨S256x512, .f32⟩
  | 31 => ⟨S256x1536, .f32⟩
  | 32 => ⟨S256x1536, .bf16⟩
  | 33 => ⟨S1x1024, .f32⟩
  | 34 => ⟨S1x128, .f32⟩
  | 35 => ⟨S1x128, .f32⟩
  | 36 => ⟨S1x256, .f32⟩
  | 37 => ⟨S1x256, .f32⟩
  | 38 => ⟨S256x1024, .f32⟩
  | 39 => ⟨S256x1024, .bf16⟩
  | 40 => ⟨S1x128, .f32⟩
  | 41 => ⟨S1x128, .f32⟩
  | 42 => ⟨S1x64, .f32⟩
  | 43 => ⟨S2x64, .f32⟩
  | 44 => ⟨S128, .f32⟩
  | 45 => ⟨S1x128, .f32⟩
  | 46 => ⟨S_, .f32⟩
  | 47 => ⟨S64, .f32⟩
  | 48 => ⟨S128, .f32⟩
  | 49 => ⟨S1x128, .f32⟩
  | 50 => ⟨S_, .i32⟩
  | 51 => ⟨S128, .i32⟩
  | 52 => ⟨S128, .f32⟩
  | 53 => ⟨S16, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S128x1, .f32⟩
  | 62 => ⟨S1x16, .f32⟩
  | 63 => ⟨S128x16, .f32⟩
  | 64 => ⟨S128x16, .f32⟩
  | 65 => ⟨S128x16, .f32⟩
  | 66 => ⟨S128x16, .f32⟩
  | 67 => ⟨S128x16, .f32⟩
  | 68 => ⟨S8, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S8, .f32⟩
  | 76 => ⟨S128x1, .f32⟩
  | 77 => ⟨S1x8, .f32⟩
  | 78 => ⟨S128x8, .f32⟩
  | 79 => ⟨S128x8, .f32⟩
  | 80 => ⟨S128x8, .f32⟩
  | 81 => ⟨S128x8, .f32⟩
  | 82 => ⟨S128x8, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S128x1, .f32⟩
  | 92 => ⟨S1x32, .f32⟩
  | 93 => ⟨S128x32, .f32⟩
  | 94 => ⟨S128x32, .f32⟩
  | 95 => ⟨S128x32, .f32⟩
  | 96 => ⟨S128x32, .f32⟩
  | 97 => ⟨S128x32, .f32⟩
  | 98 => ⟨S_, .f32⟩
  | 99 => ⟨S128x96, .f32⟩
  | 100 => ⟨S128x128, .f32⟩
  | 101 => ⟨S_, .f32⟩
  | 102 => ⟨S128x16, .f32⟩
  | 103 => ⟨S_, .f32⟩
  | 104 => ⟨S128x96, .f32⟩
  | 105 => ⟨S128x128, .f32⟩
  | 106 => ⟨S128x16, .f32⟩
  | 107 => ⟨S_, .f32⟩
  | 108 => ⟨S128x16, .f32⟩
  | 109 => ⟨S_, .f32⟩
  | 110 => ⟨S128x96, .f32⟩
  | 111 => ⟨S128x128, .f32⟩
  | 112 => ⟨S_, .f32⟩
  | 113 => ⟨S128x48, .f32⟩
  | 114 => ⟨S_, .f32⟩
  | 115 => ⟨S128x48, .f32⟩
  | 116 => ⟨S128x128, .f32⟩
  | 117 => ⟨S_, .f32⟩
  | 118 => ⟨S128x8, .f32⟩
  | 119 => ⟨S_, .f32⟩
  | 120 => ⟨S128x48, .f32⟩
  | 121 => ⟨S_, .f32⟩
  | 122 => ⟨S128x8, .f32⟩
  | 123 => ⟨S_, .f32⟩
  | 124 => ⟨S128x48, .f32⟩
  | 125 => ⟨S128x128, .f32⟩
  | 126 => ⟨S128x8, .f32⟩
  | 127 => ⟨S_, .f32⟩
  | _ => ⟨S128x1x1024, .f32⟩

abbrev hbmTy0_1 (i : Nat) : BufTy := match i % 128 with
  | 0 => ⟨S128x8, .f32⟩
  | 1 => ⟨S_, .f32⟩
  | 2 => ⟨S128x48, .f32⟩
  | 3 => ⟨S128x8, .f32⟩
  | 4 => ⟨S_, .f32⟩
  | 5 => ⟨S128x8, .f32⟩
  | 6 => ⟨S_, .f32⟩
  | 7 => ⟨S128x48, .f32⟩
  | 8 => ⟨S128x128, .f32⟩
  | 9 => ⟨S128x128, .f32⟩
  | 10 => ⟨S_, .f32⟩
  | 11 => ⟨S128x32, .f32⟩
  | 12 => ⟨S_, .f32⟩
  | 13 => ⟨S128x32, .f32⟩
  | 14 => ⟨S128x128, .f32⟩
  | 15 => ⟨S128x32, .f32⟩
  | 16 => ⟨S_, .f32⟩
  | 17 => ⟨S128x32, .f32⟩
  | 18 => ⟨S128x32, .f32⟩
  | 19 => ⟨S_, .f32⟩
  | 20 => ⟨S128x32, .f32⟩
  | 21 => ⟨S128x128, .f32⟩
  | 22 => ⟨S_, .f32⟩
  | 23 => ⟨S128x48, .f32⟩
  | 24 => ⟨S128x128, .f32⟩
  | 25 => ⟨S_, .f32⟩
  | 26 => ⟨S128x8, .f32⟩
  | 27 => ⟨S_, .f32⟩
  | 28 => ⟨S128x48, .f32⟩
  | 29 => ⟨S_, .f32⟩
  | 30 => ⟨S128x64, .f32⟩
  | 31 => ⟨S128x128, .f32⟩
  | 32 => ⟨S128x8, .f32⟩
  | 33 => ⟨S_, .f32⟩
  | 34 => ⟨S128x8, .f32⟩
  | 35 => ⟨S_, .f32⟩
  | 36 => ⟨S128x48, .f32⟩
  | 37 => ⟨S_, .f32⟩
  | 38 => ⟨S128x64, .f32⟩
  | 39 => ⟨S128x128, .f32⟩
  | 40 => ⟨S_, .f32⟩
  | 41 => ⟨S128x64, .f32⟩
  | 42 => ⟨S_, .f32⟩
  | 43 => ⟨S128x32, .f32⟩
  | 44 => ⟨S128x128, .f32⟩
  | 45 => ⟨S_, .f32⟩
  | 46 => ⟨S128x64, .f32⟩
  | 47 => ⟨S128x32, .f32⟩
  | 48 => ⟨S_, .f32⟩
  | 49 => ⟨S128x32, .f32⟩
  | 50 => ⟨S128x128, .f32⟩
  | 51 => ⟨S128x1792, .f32⟩
  | 52 => ⟨S128x1024, .f32⟩
  | 53 => ⟨S128x1024, .bf16⟩
  | 54 => ⟨S128x512, .f32⟩
  | 55 => ⟨S128x512, .f32⟩
  | 56 => ⟨S128x512, .bf16⟩
  | 57 => ⟨S128x64, .f32⟩
  | 58 => ⟨S128x64, .f32⟩
  | 59 => ⟨S128x128, .f32⟩
  | 60 => ⟨S128x1024, .bf16⟩
  | 61 => ⟨S128x512, .bf16⟩
  | 62 => ⟨S128x256, .f32⟩
  | 63 => ⟨S128x1024, .bf16⟩
  | 64 => ⟨S128x2048, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S128x1792, .f32⟩
  | .local _ .vmem, ⟨2, _⟩ => ⟨S1x1024, .f32⟩
  | .local _ .vmem, ⟨3, _⟩ => ⟨S1024x5376, .bf16⟩
  | .local _ .vmem, ⟨4, _⟩ => ⟨S1x128, .f32⟩
  | .local _ .vmem, ⟨5, _⟩ => ⟨S1x128, .f32⟩
  | .local _ .vmem, ⟨6, _⟩ => ⟨S1x256, .f32⟩
  | .local _ .vmem, ⟨7, _⟩ => ⟨S256x1536, .bf16⟩
  | .local _ .vmem, ⟨8, _⟩ => ⟨S1x256, .f32⟩
  | .local _ .vmem, ⟨9, _⟩ => ⟨S256x1024, .bf16⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x1024, .bf16⟩
  | .local _ .vmem, ⟨15, _⟩ => ⟨S128x512, .f32⟩
  | .local _ .vmem, ⟨16, _⟩ => ⟨S128x512, .f32⟩
  | .local _ .vmem, ⟨17, _⟩ => ⟨S128x512, .bf16⟩
  | .local _ .vmem, ⟨18, _⟩ => ⟨S128x64, .f32⟩
  | .local _ .vmem, ⟨19, _⟩ => ⟨S128x64, .f32⟩
  | .local _ .vmem, ⟨20, _⟩ => ⟨S128x128, .f32⟩
  | .local _ .vmem, ⟨21, _⟩ => ⟨S128x1024, .bf16⟩
  | .local _ .vmem, ⟨22, _⟩ => ⟨S128x512, .bf16⟩
  | .local _ .vmem, ⟨23, _⟩ => ⟨S128x256, .f32⟩
  | .local _ .vmem, ⟨24, _⟩ => ⟨S128x1024, .bf16⟩
  | .local _ .vmem, ⟨25, _⟩ => ⟨S128x2048, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_1 : Ref sig .tc := ⟨.hbm, 55, rfl⟩
abbrev main_v39 : Ref sig .tc := ⟨.hbm, 56, rfl⟩
abbrev main_v40 : Ref sig .tc := ⟨.hbm, 57, rfl⟩
abbrev main_cst_2 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_cst_4 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_5 : Ref sig .tc := ⟨.hbm, 85, rfl⟩
abbrev main_v65 : Ref sig .tc := ⟨.hbm, 86, rfl⟩
abbrev main_v66 : Ref sig .tc := ⟨.hbm, 87, rfl⟩
abbrev main_cst_6 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_7 : Ref sig .tc := ⟨.hbm, 98, rfl⟩
abbrev main_v76 : Ref sig .tc := ⟨.hbm, 99, rfl⟩
abbrev main_v77 : Ref sig .tc := ⟨.hbm, 100, rfl⟩
abbrev main_cst_8 : Ref sig .tc := ⟨.hbm, 101, rfl⟩
abbrev main_v78 : Ref sig .tc := ⟨.hbm, 102, rfl⟩
abbrev main_cst_9 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_10 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_v84 : Ref sig .tc := ⟨.hbm, 111, rfl⟩
abbrev main_cst_12 : Ref sig .tc := ⟨.hbm, 112, rfl⟩
abbrev main_v85 : Ref sig .tc := ⟨.hbm, 113, rfl⟩
abbrev main_cst_13 : Ref sig .tc := ⟨.hbm, 114, rfl⟩
abbrev main_v86 : Ref sig .tc := ⟨.hbm, 115, rfl⟩
abbrev main_v87 : Ref sig .tc := ⟨.hbm, 116, rfl⟩
abbrev main_cst_14 : Ref sig .tc := ⟨.hbm, 117, rfl⟩
abbrev main_v88 : Ref sig .tc := ⟨.hbm, 118, rfl⟩
abbrev main_cst_15 : Ref sig .tc := ⟨.hbm, 119, rfl⟩
abbrev main_v89 : Ref sig .tc := ⟨.hbm, 120, rfl⟩
abbrev main_cst_16 : Ref sig .tc := ⟨.hbm, 121, rfl⟩
abbrev main_v90 : Ref sig .tc := ⟨.hbm, 122, rfl⟩
abbrev main_cst_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_v96 : Ref sig .tc := ⟨.hbm, 131, rfl⟩
abbrev main_cst_20 : Ref sig .tc := ⟨.hbm, 132, rfl⟩
abbrev main_v97 : Ref sig .tc := ⟨.hbm, 133, rfl⟩
abbrev main_cst_21 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_22 : Ref sig .tc := ⟨.hbm, 138, rfl⟩
abbrev main_v101 : Ref sig .tc := ⟨.hbm, 139, rfl⟩
abbrev main_cst_23 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_24 : Ref sig .tc := ⟨.hbm, 144, rfl⟩
abbrev main_v105 : Ref sig .tc := ⟨.hbm, 145, rfl⟩
abbrev main_v106 : Ref sig .tc := ⟨.hbm, 146, rfl⟩
abbrev main_cst_25 : Ref sig .tc := ⟨.hbm, 147, rfl⟩
abbrev main_v107 : Ref sig .tc := ⟨.hbm, 148, rfl⟩
abbrev main_v108 : Ref sig .tc := ⟨.hbm, 149, rfl⟩
abbrev main_cst_26 : Ref sig .tc := ⟨.hbm, 150, rfl⟩
abbrev main_v109 : Ref sig .tc := ⟨.hbm, 151, rfl⟩
abbrev main_v110 : Ref sig .tc := ⟨.hbm, 152, rfl⟩
abbrev main_cst_27 : Ref sig .tc := ⟨.hbm, 153, rfl⟩
abbrev main_v111 : Ref sig .tc := ⟨.hbm, 154, rfl⟩
abbrev main_cst_28 : Ref sig .tc := ⟨.hbm, 155, rfl⟩
abbrev main_v112 : Ref sig .tc := ⟨.hbm, 156, rfl⟩
abbrev main_cst_29 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_30 : Ref sig .tc := ⟨.hbm, 161, rfl⟩
abbrev main_v116 : Ref sig .tc := ⟨.hbm, 162, rfl⟩
abbrev main_cst_31 : Ref sig .tc := ⟨.hbm, 163, rfl⟩
abbrev main_v117 : Ref sig .tc := ⟨.hbm, 164, rfl⟩
abbrev main_cst_32 : Ref sig .tc := ⟨.hbm, 165, rfl⟩
abbrev main_v118 : Ref sig .tc := ⟨.hbm, 166, rfl⟩
abbrev main_v119 : Ref sig .tc := ⟨.hbm, 167, rfl⟩
abbrev main_cst_33 : Ref sig .tc := ⟨.hbm, 168, rfl⟩
abbrev main_v120 : Ref sig .tc := ⟨.hbm, 169, rfl⟩
abbrev main_cst_34 : Ref sig .tc := ⟨.hbm, 170, rfl⟩
abbrev main_v121 : Ref sig .tc := ⟨.hbm, 171, rfl⟩
abbrev main_v122 : Ref sig .tc := ⟨.hbm, 172, rfl⟩
abbrev main_cst_35 : Ref sig .tc := ⟨.hbm, 173, rfl⟩
abbrev main_v123 : Ref sig .tc := ⟨.hbm, 174, rfl⟩
abbrev main_v124 : Ref sig .tc := ⟨.hbm, 175, rfl⟩
abbrev main_cst_36 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129_0 : Ref sig .tc := ⟨.hbm, 181, rfl⟩
abbrev main_v129_1 : Ref sig .tc := ⟨.hbm, 182, rfl⟩
abbrev main_v129_2 : Ref sig .tc := ⟨.hbm, 183, rfl⟩
abbrev main_v129_3 : Ref sig .tc := ⟨.hbm, 184, rfl⟩
abbrev main_v129_4 : Ref sig .tc := ⟨.hbm, 185, rfl⟩
abbrev main_v129_5 : Ref sig .tc := ⟨.hbm, 186, rfl⟩
abbrev main_v129_6 : Ref sig .tc := ⟨.hbm, 187, rfl⟩
abbrev main_v129_7 : Ref sig .tc := ⟨.hbm, 188, rfl⟩
abbrev main_v129_8 : Ref sig .tc := ⟨.hbm, 189, rfl⟩
abbrev main_v129_9 : Ref sig .tc := ⟨.hbm, 190, rfl⟩
abbrev main_v129_10 : Ref sig .tc := ⟨.hbm, 191, rfl⟩
abbrev main_v129_11 : Ref sig .tc := ⟨.hbm, 192, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5376 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S128x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S128x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S128x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]

abbrev stage0_24 : Fin 1 → Memref sig .tc .vmem S128x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]

abbrev stage0_25 : Fin 1 → Memref sig .tc .vmem S128x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![true]
-- ==== ProjectSampleReferenceIdeal.lean ====
abbrev S128x1x1024 : Shape := ⟨3, ![128, 1, 1024]⟩
abbrev S1024 : Shape := ⟨1, ![1024]⟩
abbrev S1024x5256 : Shape := ⟨2, ![1024, 5256]⟩
abbrev S128 : Shape := ⟨1, ![128]⟩
abbrev S256 : Shape := ⟨1, ![256]⟩
abbrev S256x8x192 : Shape := ⟨3, ![256, 8, 192]⟩
abbrev S256x8x128 : Shape := ⟨3, ![256, 8, 128]⟩
abbrev S64 : Shape := ⟨1, ![64]⟩
abbrev S1 : Shape := ⟨1, ![1]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x5256 : Shape := ⟨3, ![128, 1, 5256]⟩
abbrev S128x1x512 : Shape := ⟨3, ![128, 1, 512]⟩
abbrev S128x1x64 : Shape := ⟨3, ![128, 1, 64]⟩
abbrev S128x1x8 : Shape := ⟨3, ![128, 1, 8]⟩
abbrev S128x1x256 : Shape := ⟨3, ![128, 1, 256]⟩
abbrev S128x1x2048 : Shape := ⟨3, ![128, 1, 2048]⟩
abbrev S128x1x8x128 : Shape := ⟨4, ![128, 1, 8, 128]⟩
abbrev S128x1x8x1 : Shape := ⟨4, ![128, 1, 8, 1]⟩
abbrev S1x1x1x128 : Shape := ⟨4, ![1, 1, 1, 128]⟩
abbrev S16 : Shape := ⟨1, ![16]⟩
abbrev S1x1 : Shape := ⟨2, ![1, 1]⟩
abbrev S1x16 : Shape := ⟨2, ![1, 16]⟩
abbrev S1x1x16 : Shape := ⟨3, ![1, 1, 16]⟩
abbrev S128x1x8x16 : Shape := ⟨4, ![128, 1, 8, 16]⟩
abbrev S128x1x8x96 : Shape := ⟨4, ![128, 1, 8, 96]⟩
abbrev S1x1x1x16 : Shape := ⟨4, ![1, 1, 1, 16]⟩
abbrev S128x1x4x128 : Shape := ⟨4, ![128, 1, 4, 128]⟩
abbrev S128x1x4 : Shape := ⟨3, ![128, 1, 4]⟩
abbrev S128x1x4x1 : Shape := ⟨4, ![128, 1, 4, 1]⟩
abbrev S128x1x4x16 : Shape := ⟨4, ![128, 1, 4, 16]⟩
abbrev S128x1x4x96 : Shape := ⟨4, ![128, 1, 4, 96]⟩
abbrev S128x1x8x64 : Shape := ⟨4, ![128, 1, 8, 64]⟩
abbrev S8 : Shape := ⟨1, ![8]⟩
abbrev S1x8 : Shape := ⟨2, ![1, 8]⟩
abbrev S1x1x8 : Shape := ⟨3, ![1, 1, 8]⟩
abbrev S128x1x8x8 : Shape := ⟨4, ![128, 1, 8, 8]⟩
abbrev S128x1x8x48 : Shape := ⟨4, ![128, 1, 8, 48]⟩
abbrev S1x1x1x8 : Shape := ⟨4, ![1, 1, 1, 8]⟩
abbrev S128x1x1x64 : Shape := ⟨4, ![128, 1, 1, 64]⟩
abbrev S128x1x1x8 : Shape := ⟨4, ![128, 1, 1, 8]⟩
abbrev S128x1x1x48 : Shape := ⟨4, ![128, 1, 1, 48]⟩
abbrev S1x1x256 : Shape := ⟨3, ![1, 1, 256]⟩
abbrev S128x1x8x192 : Shape := ⟨4, ![128, 1, 8, 192]⟩
abbrev S1x1x1x64 : Shape := ⟨4, ![1, 1, 1, 64]⟩
abbrev S32 : Shape := ⟨1, ![32]⟩
abbrev S1x32 : Shape := ⟨2, ![1, 32]⟩
abbrev S1x1x32 : Shape := ⟨3, ![1, 1, 32]⟩
abbrev S128x1x8x32 : Shape := ⟨4, ![128, 1, 8, 32]⟩
abbrev S128x1x8x0 : Shape := ⟨4, ![128, 1, 8, 0]⟩
abbrev S1x1x1x32 : Shape := ⟨4, ![1, 1, 1, 32]⟩
abbrev S1x1x64 : Shape := ⟨3, ![1, 1, 64]⟩
abbrev S128x1x1x32 : Shape := ⟨4, ![128, 1, 1, 32]⟩
abbrev S128x1x1x0 : Shape := ⟨4, ![128, 1, 1, 0]⟩
abbrev S128x512 : Shape := ⟨2, ![128, 512]⟩
abbrev S128x64 : Shape := ⟨2, ![128, 64]⟩
abbrev S128x256 : Shape := ⟨2, ![128, 256]⟩
abbrev S128x1024 : Shape := ⟨2, ![128, 1024]⟩
abbrev S128x2048 : Shape := ⟨2, ![128, 2048]⟩

abbrev nBuf : Space → Nat
  | .hbm => 417
  | .vmem => 0
  | .smem => 0
  | _ => 0

abbrev hbmTy0_0 (i : Nat) : BufTy := match i % 128 with
  | 0 => ⟨S128x1x1024, .f32⟩
  | 1 => ⟨S1024, .f32⟩
  | 2 => ⟨S1024x5256, .f32⟩
  | 3 => ⟨S128, .f32⟩
  | 4 => ⟨S128, .f32⟩
  | 5 => ⟨S256, .f32⟩
  | 6 => ⟨S256x8x192, .f32⟩
  | 7 => ⟨S256, .f32⟩
  | 8 => ⟨S256x8x128, .f32⟩
  | 9 => ⟨S128, .f32⟩
  | 10 => ⟨S128, .f32⟩
  | 11 => ⟨S64, .f32⟩
  | 12 => ⟨S64, .f32⟩
  | 13 => ⟨S1, .i32⟩
  | 14 => ⟨S_, .i32⟩
  | 15 => ⟨S1, .i32⟩
  | 16 => ⟨S1, .i32⟩
  | 17 => ⟨S128x1x1024, .f32⟩
  | 18 => ⟨S_, .f32⟩
  | 19 => ⟨S128x1, .f32⟩
  | 20 => ⟨S128x1x1, .f32⟩
  | 21 => ⟨S_, .f32⟩
  | 22 => ⟨S128x1x1, .f32⟩
  | 23 => ⟨S128x1x1, .f32⟩
  | 24 => ⟨S_, .f32⟩
  | 25 => ⟨S128x1x1, .f32⟩
  | 26 => ⟨S128x1x1, .f32⟩
  | 27 => ⟨S128x1x1, .f32⟩
  | 28 => ⟨S128x1x1024, .f32⟩
  | 29 => ⟨S128x1x1024, .f32⟩
  | 30 => ⟨S1x1x1024, .f32⟩
  | 31 => ⟨S128x1x1024, .f32⟩
  | 32 => ⟨S128x1x1024, .f32⟩
  | 33 => ⟨S128x1x5256, .f32⟩
  | 34 => ⟨S128x1x1024, .f32⟩
  | 35 => ⟨S128x1x512, .f32⟩
  | 36 => ⟨S128x1x512, .f32⟩
  | 37 => ⟨S128x1x512, .f32⟩
  | 38 => ⟨S128x1x64, .f32⟩
  | 39 => ⟨S128x1x8, .f32⟩
  | 40 => ⟨S128x1x256, .f32⟩
  | 41 => ⟨S128x1x256, .f32⟩
  | 42 => ⟨S128x1x64, .f32⟩
  | 43 => ⟨S128x1x2048, .f32⟩
  | 44 => ⟨S128x1x8x128, .f32⟩
  | 45 => ⟨S128x1x8x128, .f32⟩
  | 46 => ⟨S_, .f32⟩
  | 47 => ⟨S128x1x8, .f32⟩
  | 48 => ⟨S128x1x8x1, .f32⟩
  | 49 => ⟨S_, .f32⟩
  | 50 => ⟨S128x1x8x1, .f32⟩
  | 51 => ⟨S128x1x8x1, .f32⟩
  | 52 => ⟨S_, .f32⟩
  | 53 => ⟨S128x1x8x1, .f32⟩
  | 54 => ⟨S128x1x8x1, .f32⟩
  | 55 => ⟨S128x1x8x1, .f32⟩
  | 56 => ⟨S128x1x8x128, .f32⟩
  | 57 => ⟨S128x1x8x128, .f32⟩
  | 58 => ⟨S1x1x1x128, .f32⟩
  | 59 => ⟨S128x1x8x128, .f32⟩
  | 60 => ⟨S128x1x8x128, .f32⟩
  | 61 => ⟨S16, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S1, .f32⟩
  | 70 => ⟨S1x1, .f32⟩
  | 71 => ⟨S1x16, .f32⟩
  | 72 => ⟨S1x16, .f32⟩
  | 73 => ⟨S1x16, .f32⟩
  | 74 => ⟨S1x16, .f32⟩
  | 75 => ⟨S1x1x16, .f32⟩
  | 76 => ⟨S1x16, .f32⟩
  | 77 => ⟨S1x1x16, .f32⟩
  | 78 => ⟨S128x1x8x16, .f32⟩
  | 79 => ⟨S128x1x8x16, .f32⟩
  | 80 => ⟨S128x1x8x96, .f32⟩
  | 81 => ⟨S1x1x1x16, .f32⟩
  | 82 => ⟨S128x1x8x16, .f32⟩
  | 83 => ⟨S128x1x8x16, .f32⟩
  | 84 => ⟨S1x1x1x16, .f32⟩
  | 85 => ⟨S128x1x8x16, .f32⟩
  | 86 => ⟨S128x1x8x16, .f32⟩
  | 87 => ⟨S128x1x8x16, .f32⟩
  | 88 => ⟨S1x1x1x16, .f32⟩
  | 89 => ⟨S128x1x8x16, .f32⟩
  | 90 => ⟨S128x1x8x16, .f32⟩
  | 91 => ⟨S1x1x1x16, .f32⟩
  | 92 => ⟨S128x1x8x16, .f32⟩
  | 93 => ⟨S128x1x8x16, .f32⟩
  | 94 => ⟨S128x1x8x16, .f32⟩
  | 95 => ⟨S128x1x8x128, .f32⟩
  | 96 => ⟨S128x1x4x128, .f32⟩
  | 97 => ⟨S128x1x4x128, .f32⟩
  | 98 => ⟨S_, .f32⟩
  | 99 => ⟨S128x1x4, .f32⟩
  | 100 => ⟨S128x1x4x1, .f32⟩
  | 101 => ⟨S_, .f32⟩
  | 102 => ⟨S128x1x4x1, .f32⟩
  | 103 => ⟨S128x1x4x1, .f32⟩
  | 104 => ⟨S_, .f32⟩
  | 105 => ⟨S128x1x4x1, .f32⟩
  | 106 => ⟨S128x1x4x1, .f32⟩
  | 107 => ⟨S128x1x4x1, .f32⟩
  | 108 => ⟨S128x1x4x128, .f32⟩
  | 109 => ⟨S128x1x4x128, .f32⟩
  | 110 => ⟨S1x1x1x128, .f32⟩
  | 111 => ⟨S128x1x4x128, .f32⟩
  | 112 => ⟨S128x1x4x128, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S1, .f32⟩
  | 122 => ⟨S1x1, .f32⟩
  | 123 => ⟨S1x16, .f32⟩
  | 124 => ⟨S1x16, .f32⟩
  | 125 => ⟨S1x16, .f32⟩
  | 126 => ⟨S1x16, .f32⟩
  | 127 => ⟨S1x1x16, .f32⟩
  | _ => ⟨S128x1x1024, .f32⟩

abbrev hbmTy0_1 (i : Nat) : BufTy := match i % 128 with
  | 0 => ⟨S1x16, .f32⟩
  | 1 => ⟨S1x1x16, .f32⟩
  | 2 => ⟨S128x1x4x16, .f32⟩
  | 3 => ⟨S128x1x4x16, .f32⟩
  | 4 => ⟨S128x1x4x96, .f32⟩
  | 5 => ⟨S1x1x1x16, .f32⟩
  | 6 => ⟨S128x1x4x16, .f32⟩
  | 7 => ⟨S128x1x4x16, .f32⟩
  | 8 => ⟨S1x1x1x16, .f32⟩
  | 9 => ⟨S128x1x4x16, .f32⟩
  | 10 => ⟨S128x1x4x16, .f32⟩
  | 11 => ⟨S128x1x4x16, .f32⟩
  | 12 => ⟨S1x1x1x16, .f32⟩
  | 13 => ⟨S128x1x4x16, .f32⟩
  | 14 => ⟨S128x1x4x16, .f32⟩
  | 15 => ⟨S1x1x1x16, .f32⟩
  | 16 => ⟨S128x1x4x16, .f32⟩
  | 17 => ⟨S128x1x4x16, .f32⟩
  | 18 => ⟨S128x1x4x16, .f32⟩
  | 19 => ⟨S128x1x4x128, .f32⟩
  | 20 => ⟨S128x1x8x64, .f32⟩
  | 21 => ⟨S8, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S1, .f32⟩
  | 30 => ⟨S1x1, .f32⟩
  | 31 => ⟨S1x8, .f32⟩
  | 32 => ⟨S1x8, .f32⟩
  | 33 => ⟨S1x8, .f32⟩
  | 34 => ⟨S1x8, .f32⟩
  | 35 => ⟨S1x1x8, .f32⟩
  | 36 => ⟨S1x8, .f32⟩
  | 37 => ⟨S1x1x8, .f32⟩
  | 38 => ⟨S128x1x8x8, .f32⟩
  | 39 => ⟨S128x1x8x8, .f32⟩
  | 40 => ⟨S128x1x8x48, .f32⟩
  | 41 => ⟨S1x1x1x8, .f32⟩
  | 42 => ⟨S128x1x8x8, .f32⟩
  | 43 => ⟨S128x1x8x8, .f32⟩
  | 44 => ⟨S1x1x1x8, .f32⟩
  | 45 => ⟨S128x1x8x8, .f32⟩
  | 46 => ⟨S128x1x8x8, .f32⟩
  | 47 => ⟨S128x1x8x8, .f32⟩
  | 48 => ⟨S1x1x1x8, .f32⟩
  | 49 => ⟨S128x1x8x8, .f32⟩
  | 50 => ⟨S128x1x8x8, .f32⟩
  | 51 => ⟨S1x1x1x8, .f32⟩
  | 52 => ⟨S128x1x8x8, .f32⟩
  | 53 => ⟨S128x1x8x8, .f32⟩
  | 54 => ⟨S128x1x8x8, .f32⟩
  | 55 => ⟨S128x1x8x64, .f32⟩
  | 56 => ⟨S128x1x1x64, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S1, .f32⟩
  | 66 => ⟨S1x1, .f32⟩
  | 67 => ⟨S1x8, .f32⟩
  | 68 => ⟨S1x8, .f32⟩
  | 69 => ⟨S1x8, .f32⟩
  | 70 => ⟨S1x8, .f32⟩
  | 71 => ⟨S1x1x8, .f32⟩
  | 72 => ⟨S1x8, .f32⟩
  | 73 => ⟨S1x1x8, .f32⟩
  | 74 => ⟨S128x1x1x8, .f32⟩
  | 75 => ⟨S128x1x1x8, .f32⟩
  | 76 => ⟨S128x1x1x48, .f32⟩
  | 77 => ⟨S1x1x1x8, .f32⟩
  | 78 => ⟨S128x1x1x8, .f32⟩
  | 79 => ⟨S128x1x1x8, .f32⟩
  | 80 => ⟨S1x1x1x8, .f32⟩
  | 81 => ⟨S128x1x1x8, .f32⟩
  | 82 => ⟨S128x1x1x8, .f32⟩
  | 83 => ⟨S128x1x1x8, .f32⟩
  | 84 => ⟨S1x1x1x8, .f32⟩
  | 85 => ⟨S128x1x1x8, .f32⟩
  | 86 => ⟨S128x1x1x8, .f32⟩
  | 87 => ⟨S1x1x1x8, .f32⟩
  | 88 => ⟨S128x1x1x8, .f32⟩
  | 89 => ⟨S128x1x1x8, .f32⟩
  | 90 => ⟨S128x1x1x8, .f32⟩
  | 91 => ⟨S128x1x1x64, .f32⟩
  | 92 => ⟨S128x1x64, .f32⟩
  | 93 => ⟨S128x1x256, .f32⟩
  | 94 => ⟨S_, .f32⟩
  | 95 => ⟨S128x1, .f32⟩
  | 96 => ⟨S128x1x1, .f32⟩
  | 97 => ⟨S_, .f32⟩
  | 98 => ⟨S128x1x1, .f32⟩
  | 99 => ⟨S128x1x1, .f32⟩
  | 100 => ⟨S_, .f32⟩
  | 101 => ⟨S128x1x1, .f32⟩
  | 102 => ⟨S128x1x1, .f32⟩
  | 103 => ⟨S128x1x1, .f32⟩
  | 104 => ⟨S128x1x256, .f32⟩
  | 105 => ⟨S128x1x256, .f32⟩
  | 106 => ⟨S1x1x256, .f32⟩
  | 107 => ⟨S128x1x256, .f32⟩
  | 108 => ⟨S128x1x256, .f32⟩
  | 109 => ⟨S128x1x8x192, .f32⟩
  | 110 => ⟨S128x1x8x128, .f32⟩
  | 111 => ⟨S128x1x8x128, .f32⟩
  | 112 => ⟨S_, .f32⟩
  | 113 => ⟨S128x1x8, .f32⟩
  | 114 => ⟨S128x1x8x1, .f32⟩
  | 115 => ⟨S_, .f32⟩
  | 116 => ⟨S128x1x8x1, .f32⟩
  | 117 => ⟨S128x1x8x1, .f32⟩
  | 118 => ⟨S_, .f32⟩
  | 119 => ⟨S128x1x8x1, .f32⟩
  | 120 => ⟨S128x1x8x1, .f32⟩
  | 121 => ⟨S128x1x8x1, .f32⟩
  | 122 => ⟨S128x1x8x128, .f32⟩
  | 123 => ⟨S128x1x8x128, .f32⟩
  | 124 => ⟨S1x1x1x128, .f32⟩
  | 125 => ⟨S128x1x8x128, .f32⟩
  | 126 => ⟨S128x1x8x128, .f32⟩
  | 127 => ⟨S128x1x8x64, .f32⟩
  | _ => ⟨S128x1x1024, .f32⟩

abbrev hbmTy0_2 (i : Nat) : BufTy := match i % 128 with
  | 0 => ⟨S128x1x8x64, .f32⟩
  | 1 => ⟨S_, .f32⟩
  | 2 => ⟨S128x1x8, .f32⟩
  | 3 => ⟨S128x1x8x1, .f32⟩
  | 4 => ⟨S_, .f32⟩
  | 5 => ⟨S128x1x8x1, .f32⟩
  | 6 => ⟨S128x1x8x1, .f32⟩
  | 7 => ⟨S_, .f32⟩
  | 8 => ⟨S128x1x8x1, .f32⟩
  | 9 => ⟨S128x1x8x1, .f32⟩
  | 10 => ⟨S128x1x8x1, .f32⟩
  | 11 => ⟨S128x1x8x64, .f32⟩
  | 12 => ⟨S128x1x8x64, .f32⟩
  | 13 => ⟨S1x1x1x64, .f32⟩
  | 14 => ⟨S128x1x8x64, .f32⟩
  | 15 => ⟨S128x1x8x64, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S1, .f32⟩
  | 25 => ⟨S1x1, .f32⟩
  | 26 => ⟨S1x32, .f32⟩
  | 27 => ⟨S1x32, .f32⟩
  | 28 => ⟨S1x32, .f32⟩
  | 29 => ⟨S1x32, .f32⟩
  | 30 => ⟨S1x1x32, .f32⟩
  | 31 => ⟨S1x32, .f32⟩
  | 32 => ⟨S1x1x32, .f32⟩
  | 33 => ⟨S128x1x8x32, .f32⟩
  | 34 => ⟨S128x1x8x32, .f32⟩
  | 35 => ⟨S128x1x8x0, .f32⟩
  | 36 => ⟨S1x1x1x32, .f32⟩
  | 37 => ⟨S128x1x8x32, .f32⟩
  | 38 => ⟨S128x1x8x32, .f32⟩
  | 39 => ⟨S1x1x1x32, .f32⟩
  | 40 => ⟨S128x1x8x32, .f32⟩
  | 41 => ⟨S128x1x8x32, .f32⟩
  | 42 => ⟨S128x1x8x32, .f32⟩
  | 43 => ⟨S1x1x1x32, .f32⟩
  | 44 => ⟨S128x1x8x32, .f32⟩
  | 45 => ⟨S128x1x8x32, .f32⟩
  | 46 => ⟨S1x1x1x32, .f32⟩
  | 47 => ⟨S128x1x8x32, .f32⟩
  | 48 => ⟨S128x1x8x32, .f32⟩
  | 49 => ⟨S128x1x8x32, .f32⟩
  | 50 => ⟨S128x1x8x64, .f32⟩
  | 51 => ⟨S128x1x256, .f32⟩
  | 52 => ⟨S_, .f32⟩
  | 53 => ⟨S128x1, .f32⟩
  | 54 => ⟨S128x1x1, .f32⟩
  | 55 => ⟨S_, .f32⟩
  | 56 => ⟨S128x1x1, .f32⟩
  | 57 => ⟨S128x1x1, .f32⟩
  | 58 => ⟨S_, .f32⟩
  | 59 => ⟨S128x1x1, .f32⟩
  | 60 => ⟨S128x1x1, .f32⟩
  | 61 => ⟨S128x1x1, .f32⟩
  | 62 => ⟨S128x1x256, .f32⟩
  | 63 => ⟨S128x1x256, .f32⟩
  | 64 => ⟨S1x1x256, .f32⟩
  | 65 => ⟨S128x1x256, .f32⟩
  | 66 => ⟨S128x1x256, .f32⟩
  | 67 => ⟨S128x1x64, .f32⟩
  | 68 => ⟨S_, .f32⟩
  | 69 => ⟨S128x1, .f32⟩
  | 70 => ⟨S128x1x1, .f32⟩
  | 71 => ⟨S_, .f32⟩
  | 72 => ⟨S128x1x1, .f32⟩
  | 73 => ⟨S128x1x1, .f32⟩
  | 74 => ⟨S_, .f32⟩
  | 75 => ⟨S128x1x1, .f32⟩
  | 76 => ⟨S128x1x1, .f32⟩
  | 77 => ⟨S128x1x1, .f32⟩
  | 78 => ⟨S128x1x64, .f32⟩
  | 79 => ⟨S128x1x64, .f32⟩
  | 80 => ⟨S1x1x64, .f32⟩
  | 81 => ⟨S128x1x64, .f32⟩
  | 82 => ⟨S128x1x64, .f32⟩
  | 83 => ⟨S128x1x1x64, .f32⟩
  | 84 => ⟨S32, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S1, .f32⟩
  | 93 => ⟨S1x1, .f32⟩
  | 94 => ⟨S1x32, .f32⟩
  | 95 => ⟨S1x32, .f32⟩
  | 96 => ⟨S1x32, .f32⟩
  | 97 => ⟨S1x32, .f32⟩
  | 98 => ⟨S1x1x32, .f32⟩
  | 99 => ⟨S1x32, .f32⟩
  | 100 => ⟨S1x1x32, .f32⟩
  | 101 => ⟨S128x1x1x32, .f32⟩
  | 102 => ⟨S128x1x1x32, .f32⟩
  | 103 => ⟨S128x1x1x0, .f32⟩
  | 104 => ⟨S1x1x1x32, .f32⟩
  | 105 => ⟨S128x1x1x32, .f32⟩
  | 106 => ⟨S128x1x1x32, .f32⟩
  | 107 => ⟨S1x1x1x32, .f32⟩
  | 108 => ⟨S128x1x1x32, .f32⟩
  | 109 => ⟨S128x1x1x32, .f32⟩
  | 110 => ⟨S128x1x1x32, .f32⟩
  | 111 => ⟨S1x1x1x32, .f32⟩
  | 112 => ⟨S128x1x1x32, .f32⟩
  | 113 => ⟨S128x1x1x32, .f32⟩
  | 114 => ⟨S1x1x1x32, .f32⟩
  | 115 => ⟨S128x1x1x32, .f32⟩
  | 116 => ⟨S128x1x1x32, .f32⟩
  | 117 => ⟨S128x1x1x32, .f32⟩
  | 118 => ⟨S128x1x1x64, .f32⟩
  | 119 => ⟨S128x1x64, .f32⟩
  | 120 => ⟨S128x1x8x128, .f32⟩
  | 121 => ⟨S128x1x8x128, .f32⟩
  | 122 => ⟨S_, .f32⟩
  | 123 => ⟨S128x1x8, .f32⟩
  | 124 => ⟨S128x1x8x1, .f32⟩
  | 125 => ⟨S_, .f32⟩
  | 126 => ⟨S128x1x8x1, .f32⟩
  | 127 => ⟨S128x1x8x1, .f32⟩
  | _ => ⟨S128x1x1024, .f32⟩

abbrev hbmTy0_3 (i : Nat) : BufTy := match i % 128 with
  | 0 => ⟨S_, .f32⟩
  | 1 => ⟨S128x1x8x1, .f32⟩
  | 2 => ⟨S128x1x8x1, .f32⟩
  | 3 => ⟨S128x1x8x1, .f32⟩
  | 4 => ⟨S128x1x8x128, .f32⟩
  | 5 => ⟨S128x1x8x128, .f32⟩
  | 6 => ⟨S1x1x1x128, .f32⟩
  | 7 => ⟨S128x1x8x128, .f32⟩
  | 8 => ⟨S128x1x8x128, .f32⟩
  | 9 => ⟨S128x1x2048, .f32⟩
  | 10 => ⟨S128x1x2048, .f32⟩
  | 11 => ⟨S_, .f32⟩
  | 12 => ⟨S128x1x2048, .f32⟩
  | 13 => ⟨S128x1x2048, .f32⟩
  | 14 => ⟨S_, .f32⟩
  | 15 => ⟨S128x1x2048, .f32⟩
  | 16 => ⟨S128x1x2048, .f32⟩
  | 17 => ⟨S128x512, .f32⟩
  | 18 => ⟨S128x512, .f32⟩
  | 19 => ⟨S128x64, .f32⟩
  | 20 => ⟨S128x256, .f32⟩
  | 21 => ⟨S128x64, .f32⟩
  | 22 => ⟨S128x1024, .f32⟩
  | 23 => ⟨S128x1024, .bf16⟩
  | 24 => ⟨S128x512, .f32⟩
  | 25 => ⟨S128x512, .bf16⟩
  | 26 => ⟨S128x1024, .f32⟩
  | 27 => ⟨S128x1024, .bf16⟩
  | 28 => ⟨S128x512, .f32⟩
  | 29 => ⟨S128x512, .bf16⟩
  | 30 => ⟨S128x1024, .f32⟩
  | 31 => ⟨S128x1024, .bf16⟩
  | 32 => ⟨S128x2048, .f32⟩
  | _ => ⟨S128x1x1024, .f32⟩

abbrev hbmTy (i : Nat) : BufTy := match i / 128 with
  | 0 => hbmTy0_0 i
  | 1 => hbmTy0_1 i
  | 2 => hbmTy0_2 i
  | 3 => hbmTy0_3 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_7 : Ref sig .tc := ⟨.hbm, 98, rfl⟩
abbrev main_v76 : Ref sig .tc := ⟨.hbm, 99, rfl⟩
abbrev main_v77 : Ref sig .tc := ⟨.hbm, 100, rfl⟩
abbrev main_cst_8 : Ref sig .tc := ⟨.hbm, 101, rfl⟩
abbrev main_v78 : Ref sig .tc := ⟨.hbm, 102, rfl⟩
abbrev main_v79 : Ref sig .tc := ⟨.hbm, 103, rfl⟩
abbrev main_cst_9 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_10 : Ref sig .tc := ⟨.hbm, 115, rfl⟩
abbrev main_v90 : Ref sig .tc := ⟨.hbm, 116, rfl⟩
abbrev main_v91 : Ref sig .tc := ⟨.hbm, 117, rfl⟩
abbrev main_cst_11 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_12 : Ref sig .tc := ⟨.hbm, 151, rfl⟩
abbrev main_v124 : Ref sig .tc := ⟨.hbm, 152, rfl⟩
abbrev main_v125 : Ref sig .tc := ⟨.hbm, 153, rfl⟩
abbrev main_cst_13 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_cst_14 : Ref sig .tc := ⟨.hbm, 187, rfl⟩
abbrev main_v158 : Ref sig .tc := ⟨.hbm, 188, rfl⟩
abbrev main_v159 : Ref sig .tc := ⟨.hbm, 189, rfl⟩
abbrev main_cst_15 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_cst_16 : Ref sig .tc := ⟨.hbm, 222, rfl⟩
abbrev main_v191 : Ref sig .tc := ⟨.hbm, 223, rfl⟩
abbrev main_v192 : Ref sig .tc := ⟨.hbm, 224, rfl⟩
abbrev main_cst_17 : Ref sig .tc := ⟨.hbm, 225, rfl⟩
abbrev main_v193 : Ref sig .tc := ⟨.hbm, 226, rfl⟩
abbrev main_v194 : Ref sig .tc := ⟨.hbm, 227, rfl⟩
abbrev main_cst_18 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_cst_19 : Ref sig .tc := ⟨.hbm, 240, rfl⟩
abbrev main_v206 : Ref sig .tc := ⟨.hbm, 241, rfl⟩
abbrev main_v207 : Ref sig .tc := ⟨.hbm, 242, rfl⟩
abbrev main_cst_20 : Ref sig .tc := ⟨.hbm, 243, rfl⟩
abbrev main_v208 : Ref sig .tc := ⟨.hbm, 244, rfl⟩
abbrev main_v209 : Ref sig .tc := ⟨.hbm, 245, rfl⟩
abbrev main_cst_21 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_cst_22 : Ref sig .tc := ⟨.hbm, 257, rfl⟩
abbrev main_v220 : Ref sig .tc := ⟨.hbm, 258, rfl⟩
abbrev main_v221 : Ref sig .tc := ⟨.hbm, 259, rfl⟩
abbrev main_cst_23 : Ref sig .tc := ⟨.hbm, 260, rfl⟩
abbrev main_v222 : Ref sig .tc := ⟨.hbm, 261, rfl⟩
abbrev main_v223 : Ref sig .tc := ⟨.hbm, 262, rfl⟩
abbrev main_cst_24 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_cst_25 : Ref sig .tc := ⟨.hbm, 274, rfl⟩
abbrev main_v234 : Ref sig .tc := ⟨.hbm, 275, rfl⟩
abbrev main_v235 : Ref sig .tc := ⟨.hbm, 276, rfl⟩
abbrev main_cst_26 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_cst_27 : Ref sig .tc := ⟨.hbm, 308, rfl⟩
abbrev main_v266 : Ref sig .tc := ⟨.hbm, 309, rfl⟩
abbrev main_v267 : Ref sig .tc := ⟨.hbm, 310, rfl⟩
abbrev main_cst_28 : Ref sig .tc := ⟨.hbm, 311, rfl⟩
abbrev main_v268 : Ref sig .tc := ⟨.hbm, 312, rfl⟩
abbrev main_v269 : Ref sig .tc := ⟨.hbm, 313, rfl⟩
abbrev main_cst_29 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_cst_30 : Ref sig .tc := ⟨.hbm, 324, rfl⟩
abbrev main_v279 : Ref sig .tc := ⟨.hbm, 325, rfl⟩
abbrev main_v280 : Ref sig .tc := ⟨.hbm, 326, rfl⟩
abbrev main_cst_31 : Ref sig .tc := ⟨.hbm, 327, rfl⟩
abbrev main_v281 : Ref sig .tc := ⟨.hbm, 328, rfl⟩
abbrev main_v282 : Ref sig .tc := ⟨.hbm, 329, rfl⟩
abbrev main_cst_32 : Ref sig .tc := ⟨.hbm, 330, rfl⟩
abbrev main_v283 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_v291 : Ref sig .tc := ⟨.hbm, 339, rfl⟩
abbrev main_v292 : Ref sig .tc := ⟨.hbm, 340, rfl⟩
abbrev main_v293 : Ref sig .tc := ⟨.hbm, 341, rfl⟩
abbrev main_cst_33 : Ref sig .tc := ⟨.hbm, 342, rfl⟩
abbrev main_v294 : Ref sig .tc := ⟨.hbm, 343, rfl⟩
abbrev main_v295 : Ref sig .tc := ⟨.hbm, 344, rfl⟩
abbrev main_cst_34 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_v305 : Ref sig .tc := ⟨.hbm, 355, rfl⟩
abbrev main_v306 : Ref sig .tc := ⟨.hbm, 356, rfl⟩
abbrev main_v307 : Ref sig .tc := ⟨.hbm, 357, rfl⟩
abbrev main_v308 : Ref sig .tc := ⟨.hbm, 358, rfl⟩
abbrev main_v309 : Ref sig .tc := ⟨.hbm, 359, rfl⟩
abbrev main_v310 : Ref sig .tc := ⟨.hbm, 360, rfl⟩
abbrev main_v311 : Ref sig .tc := ⟨.hbm, 361, rfl⟩
abbrev main_v312 : Ref sig .tc := ⟨.hbm, 362, rfl⟩
abbrev main_v313 : Ref sig .tc := ⟨.hbm, 363, rfl⟩
abbrev main_v314 : Ref sig .tc := ⟨.hbm, 364, rfl⟩
abbrev main_v315 : Ref sig .tc := ⟨.hbm, 365, rfl⟩
abbrev main_v316 : Ref sig .tc := ⟨.hbm, 366, rfl⟩
abbrev main_v317 : Ref sig .tc := ⟨.hbm, 367, rfl⟩
abbrev main_v318 : Ref sig .tc := ⟨.hbm, 368, rfl⟩
abbrev main_v319 : Ref sig .tc := ⟨.hbm, 369, rfl⟩
abbrev main_v320 : Ref sig .tc := ⟨.hbm, 370, rfl⟩
abbrev main_v321 : Ref sig .tc := ⟨.hbm, 371, rfl⟩
abbrev main_v322 : Ref sig .tc := ⟨.hbm, 372, rfl⟩
abbrev main_v323 : Ref sig .tc := ⟨.hbm, 373, rfl⟩
abbrev main_v324 : Ref sig .tc := ⟨.hbm, 374, rfl⟩
abbrev main_v325 : Ref sig .tc := ⟨.hbm, 375, rfl⟩
abbrev main_v326 : Ref sig .tc := ⟨.hbm, 376, rfl⟩
abbrev main_v327 : Ref sig .tc := ⟨.hbm, 377, rfl⟩
abbrev main_cst_35 : Ref sig .tc := ⟨.hbm, 378, rfl⟩
abbrev main_v328 : Ref sig .tc := ⟨.hbm, 379, rfl⟩
abbrev main_v329 : Ref sig .tc := ⟨.hbm, 380, rfl⟩
abbrev main_cst_36 : Ref sig .tc := ⟨.hbm, 381, rfl⟩
abbrev main_v330 : Ref sig .tc := ⟨.hbm, 382, rfl⟩
abbrev main_v331 : Ref sig .tc := ⟨.hbm, 383, rfl⟩
abbrev main_cst_37 : Ref sig .tc := ⟨.hbm, 384, rfl⟩
abbrev main_v332 : Ref sig .tc := ⟨.hbm, 385, rfl⟩
abbrev main_v333 : Ref sig .tc := ⟨.hbm, 386, rfl⟩
abbrev main_v334 : Ref sig .tc := ⟨.hbm, 387, rfl⟩
abbrev main_v335 : Ref sig .tc := ⟨.hbm, 388, rfl⟩
abbrev main_v336 : Ref sig .tc := ⟨.hbm, 389, rfl⟩
abbrev main_v337 : Ref sig .tc := ⟨.hbm, 390, rfl⟩
abbrev main_v338 : Ref sig .tc := ⟨.hbm, 391, rfl⟩
abbrev main_v339 : Ref sig .tc := ⟨.hbm, 392, rfl⟩
abbrev main_v340 : Ref sig .tc := ⟨.hbm, 393, rfl⟩
abbrev main_v341 : Ref sig .tc := ⟨.hbm, 394, rfl⟩
abbrev main_cst_38 : Ref sig .tc := ⟨.hbm, 395, rfl⟩
abbrev main_v342 : Ref sig .tc := ⟨.hbm, 396, rfl⟩
abbrev main_v343 : Ref sig .tc := ⟨.hbm, 397, rfl⟩
abbrev main_cst_39 : Ref sig .tc := ⟨.hbm, 398, rfl⟩
abbrev main_v344 : Ref sig .tc := ⟨.hbm, 399, rfl⟩
abbrev main_v345 : Ref sig .tc := ⟨.hbm, 400, rfl⟩
abbrev main_v346 : Ref sig .tc := ⟨.hbm, 401, rfl⟩
abbrev main_v347 : Ref sig .tc := ⟨.hbm, 402, rfl⟩
abbrev main_v348 : Ref sig .tc := ⟨.hbm, 403, rfl⟩
abbrev main_v349 : Ref sig .tc := ⟨.hbm, 404, rfl⟩
abbrev main_v350 : Ref sig .tc := ⟨.hbm, 405, rfl⟩
abbrev main_v351 : Ref sig .tc := ⟨.hbm, 406, rfl⟩
abbrev main_v352 : Ref sig .tc := ⟨.hbm, 407, rfl⟩
abbrev main_v353 : Ref sig .tc := ⟨.hbm, 408, rfl⟩
abbrev main_v354 : Ref sig .tc := ⟨.hbm, 409, rfl⟩
abbrev main_v355 : Ref sig .tc := ⟨.hbm, 410, rfl⟩
abbrev main_v356 : Ref sig .tc := ⟨.hbm, 411, rfl⟩
abbrev main_v357 : Ref sig .tc := ⟨.hbm, 412, rfl⟩
abbrev main_v358 : Ref sig .tc := ⟨.hbm, 413, rfl⟩
abbrev main_v359 : Ref sig .tc := ⟨.hbm, 414, rfl⟩
abbrev main_v360 : Ref sig .tc := ⟨.hbm, 415, rfl⟩
abbrev main_v361 : Ref sig .tc := ⟨.hbm, 416, rfl⟩

abbrev nD : Nat := 1
abbrev τ : Topo := Topo.v7x

variable {F : FTy → Type} [FloatOps F]
-- ==== Proof.Softmax.lean ====
/-
  A softmax-weighted mean on the extended reals: dividing the weighted sum by the sum of the weights is the
  same as summing the quotients, wherever some score is a real number and no score is `⊤` (a masked score is
  `⊥`). The values weighted may be anything, infinities included.
-/
module

public import Idealize.ShloMosaic.PureOps.Ideal

@[expose] public section

noncomputable section

namespace Cert.Softmax

open Idealize.ShloMosaic

variable {n : ℕ}

/-- The largest score (`⊥` where there is none). -/
def top (z : Fin n → EReal) : EReal := Finset.univ.fold max ⊥ z

/-- A key's weight: the exponential of its score less the largest. -/
def weight (z : Fin n → EReal) (l : Fin n) : EReal := Ideal.exp (z l - top z)

/-- The sum of the weights. -/
def total (z : Fin n → EReal) : EReal := ∑ l, weight z l

/-- The weighted mean, divided once. -/
def mean (z c : Fin n → EReal) : EReal := Ideal.div (∑ l, weight z l * c l) (total z)

theorem top_ne_top (z : Fin n → EReal) (h : ∀ l, z l ≠ ⊤) : top z ≠ ⊤ :=
  ne_of_lt ((Finset.fold_max_lt _).2 ⟨bot_lt_top, fun l _ => lt_top_iff_ne_top.2 (h l)⟩)

theorem top_ne_bot (z : Fin n → EReal) (l : Fin n) (h : z l ≠ ⊥) : top z ≠ ⊥ :=
  ne_of_gt ((bot_lt_iff_ne_bot.2 h).trans_le ((Finset.le_fold_max _).2 (Or.inr ⟨l, Finset.mem_univ _, le_rfl⟩)))

/-- A weight is a nonnegative real, positive where the score is one. -/
theorem weight_coe (z : Fin n → EReal) (h : ∀ l, z l ≠ ⊤) (l₀ : Fin n) (h₀ : z l₀ ≠ ⊥) (l : Fin n) :
    ∃ r : ℝ, weight z l = (r : EReal) ∧ 0 ≤ r ∧ (z l ≠ ⊥ → 0 < r) := by
  obtain ⟨M, hM⟩ : ∃ M : ℝ, top z = (M : EReal) :=
    ⟨_, (EReal.coe_toReal (top_ne_top z h) (top_ne_bot z l₀ h₀)).symm⟩
  unfold weight
  rw [hM]
  by_cases hl : z l = ⊥
  · exact ⟨0, by rw [hl, EReal.bot_sub]; rfl, le_rfl, fun hc => absurd hl hc⟩
  · obtain ⟨x, hx⟩ : ∃ x : ℝ, z l = (x : EReal) := ⟨_, (EReal.coe_toReal (h l) hl).symm⟩
    refine ⟨Real.exp (x - M), ?_, (Real.exp_pos _).le, fun _ => Real.exp_pos _⟩
    rw [hx, ← EReal.coe_sub, Ideal.exp_coe]

/-- Multiplication by a nonnegative real passes through a finite sum of extended reals. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- So the sum of the weights is a positive real. -/
theorem total_coe (z : Fin n → EReal) (h : ∀ l, z l ≠ ⊤) (l₀ : Fin n) (h₀ : z l₀ ≠ ⊥) :
    ∃ r : ℝ, total z = (r : EReal) ∧ 0 < r := by
  choose w hw hn hp using weight_coe z h l₀ h₀
  refine ⟨∑ l, w l, ?_, ?_⟩
  · unfold total
    rw [Finset.sum_congr rfl fun l _ => hw l]
    induction (Finset.univ : Finset (Fin n)) using Finset.induction_on with
    | empty => simp
    | insert a s ha ih => rw [Finset.sum_insert ha, Finset.sum_insert ha, ih, EReal.coe_add]
  · exact Finset.sum_pos' (fun l _ => hn l) ⟨l₀, Finset.mem_univ _, hp l₀ h₀⟩

/-- The mean divided once is the sum of the values, each times its own quotient. -/
theorem mean_eq (z c : Fin n → EReal) (h : ∀ l, z l ≠ ⊤) (l₀ : Fin n) (h₀ : z l₀ ≠ ⊥) :
    mean z c = ∑ l, c l * Ideal.div (weight z l) (total z) := by
  obtain ⟨r, hr, hp⟩ := total_coe z h l₀ h₀
  unfold mean
  rw [hr, Ideal.div_coe hp.ne', sum_mul_coe _ _ _ (by positivity)]
  refine Finset.sum_congr rfl fun l _ => ?_
  rw [Ideal.div_coe hp.ne', mul_comm (weight z l), mul_assoc]

end Cert.Softmax

end
-- ==== Proof.Attn.lean ====
/-
  The latent attention as one function of its six arrays, read at a row of a prompt and a column of a head:
  what both programs are shown to hold.
-/
module

public import Idealize.ShloMosaic.Lib.Pointwise
public import proofs.«01_k».proof.Proof.Softmax

@[expose] public section

noncomputable section

namespace Cert.Attn

open Idealize.ShloMosaic

/-- An array of extended reals with `a` rows and `b` columns. -/
abbrev Mat (a b : ℕ) : Type := (⟨2, ![a, b]⟩ : Shape).Idx → EReal

/-- The scale both programs multiply a score by. -/
abbrev scale : EReal := Ideal.ofBits .f32 0x3D93CD3A#32

/-- Row `l` of the sequence that row `n` lies in. -/
def seqRow (n : Fin 32768) (l : Fin 2048) : Fin 32768 := ⟨2048 * (n.val / 2048) + l.val, by omega⟩

/-- Column `d` of head `h`, `w` columns to a head. -/
def col (w : ℕ) {W : ℕ} (hW : 8 * w = W) (h : Fin 8) (d : Fin w) : Fin W :=
  ⟨w * h.val + d.val, by
    have := h.isLt; have := d.isLt
    calc w * h.val + d.val < w * h.val + w := by omega
      _ = w * (h.val + 1) := by ring
      _ ≤ w * 8 := Nat.mul_le_mul_left _ (by omega)
      _ = W := by omega⟩

/-- The score before the mask. -/
def raw (qn : Mat 32768 1024) (qpe : Mat 32768 512) (kn : Mat 32768 1024) (kpe : Mat 32768 64) (n : Fin 32768)
    (h : Fin 8) (l : Fin 2048) : EReal :=
  ((∑ d : Fin 128, qn (ix2 n (col 128 rfl h d)) * kn (ix2 (seqRow n l) (col 128 rfl h d)))
    + ∑ d : Fin 64, qpe (ix2 n (col 64 rfl h d)) * kpe (ix2 (seqRow n l) d)) * scale

/-- Row `n`'s score of key `l` in head `h`: `⊥` for a later key. -/
def score (qn : Mat 32768 1024) (qpe : Mat 32768 512) (kn : Mat 32768 1024) (kpe : Mat 32768 64) (n : Fin 32768)
    (h : Fin 8) (l : Fin 2048) : EReal :=
  if l.val ≤ n.val % 2048 then raw qn qpe kn kpe n h l else ⊥

/-- The attention's result at row `n`, column `d` of head `h`. -/
def out (qn : Mat 32768 1024) (qpe : Mat 32768 512) (kn : Mat 32768 1024) (kpe : Mat 32768 64) (cb : Mat 32768 256)
    (w : (⟨3, ![256, 8, 128]⟩ : Shape).Idx → EReal) (n : Fin 32768) (h : Fin 8) (d : Fin 128) : EReal :=
  ∑ r : Fin 256, Softmax.mean (score qn qpe kn kpe n h) (fun l => cb (ix2 (seqRow n l) r)) * w (ix3 r h d)

/-- The whole result array. -/
def outArr (qn : Mat 32768 1024) (qpe : Mat 32768 512) (kn : Mat 32768 1024) (kpe : Mat 32768 64) (cb : Mat 32768 256)
    (w : (⟨3, ![256, 8, 128]⟩ : Shape).Idx → EReal) : Mat 32768 1024 := fun i =>
  out qn qpe kn kpe cb w (i 0) ⟨(i 1).val / 128, by have : (i 1).val < 1024 := (i 1).isLt; omega⟩
    ⟨(i 1).val % 128, by omega⟩

/-- A product of two reals is a real. -/
theorem mul_coe {x y : EReal} (hx : ∃ r : ℝ, x = r) (hy : ∃ r : ℝ, y = r) : ∃ r : ℝ, x * y = (r : EReal) := by
  obtain ⟨a, rfl⟩ := hx; obtain ⟨b, rfl⟩ := hy; exact ⟨a * b, (EReal.coe_mul a b).symm⟩

/-- So is a sum of two, -/
theorem add_coe {x y : EReal} (hx : ∃ r : ℝ, x = r) (hy : ∃ r : ℝ, y = r) : ∃ r : ℝ, x + y = (r : EReal) := by
  obtain ⟨a, rfl⟩ := hx; obtain ⟨b, rfl⟩ := hy; exact ⟨a + b, (EReal.coe_add a b).symm⟩

/-- and a finite sum. -/
theorem sum_coe {ι : Type*} (s : Finset ι) (f : ι → EReal) (h : ∀ i, ∃ r : ℝ, f i = r) :
    ∃ r : ℝ, ∑ i ∈ s, f i = (r : EReal) := by
  classical
  induction s using Finset.induction_on with
  | empty => exact ⟨0, by simp⟩
  | insert a s ha ih => rw [Finset.sum_insert ha]; exact add_coe (h a) ih

/-- The scale is a real. -/
theorem scale_coe : ∃ r : ℝ, scale = (r : EReal) := by
  refine ⟨_, by simp [scale, Ideal.ofBits, Ideal.ieee]; rfl⟩

/-- Of real queries and keys every score is a real before the mask. -/
theorem raw_coe {qn : Mat 32768 1024} {qpe : Mat 32768 512} {kn : Mat 32768 1024} {kpe : Mat 32768 64}
    (h₁ : ∀ i, ∃ r : ℝ, qn i = r) (h₂ : ∀ i, ∃ r : ℝ, qpe i = r) (h₃ : ∀ i, ∃ r : ℝ, kn i = r)
    (h₄ : ∀ i, ∃ r : ℝ, kpe i = r) (n : Fin 32768) (h : Fin 8) (l : Fin 2048) :
    ∃ r : ℝ, raw qn qpe kn kpe n h l = (r : EReal) :=
  mul_coe (add_coe (sum_coe _ _ fun _ => mul_coe (h₁ _) (h₃ _)) (sum_coe _ _ fun _ => mul_coe (h₂ _) (h₄ _))) scale_coe

/-- So the mean over a row's keys is the sum of the values, each times its own quotient: the row's own key is
    among those it sees. -/
theorem mean_score {qn : Mat 32768 1024} {qpe : Mat 32768 512} {kn : Mat 32768 1024} {kpe : Mat 32768 64}
    (h₁ : ∀ i, ∃ r : ℝ, qn i = r) (h₂ : ∀ i, ∃ r : ℝ, qpe i = r) (h₃ : ∀ i, ∃ r : ℝ, kn i = r)
    (h₄ : ∀ i, ∃ r : ℝ, kpe i = r) (n : Fin 32768) (h : Fin 8) (c : Fin 2048 → EReal) :
    Softmax.mean (score qn qpe kn kpe n h) c
      = ∑ l, c l * Ideal.div (Softmax.weight (score qn qpe kn kpe n h) l) (Softmax.total (score qn qpe kn kpe n h)) := by
  refine Softmax.mean_eq _ c (fun l => ?_) ⟨n.val % 2048, Nat.mod_lt _ (by decide)⟩ ?_
  · unfold score
    obtain ⟨r, hr⟩ := raw_coe h₁ h₂ h₃ h₄ n h l
    split
    · rw [hr]; exact EReal.coe_ne_top r
    · exact bot_ne_top
  · unfold score
    obtain ⟨r, hr⟩ := raw_coe h₁ h₂ h₃ h₄ n h ⟨n.val % 2048, Nat.mod_lt _ (by decide)⟩
    rw [if_pos le_rfl, hr]; exact EReal.coe_ne_bot r

end Cert.Attn

end
-- ==== Proof.Heads.lean ====
/-
  One point of the attention kernel's grid: what its eight stores leave in the result's block, as one function of
  the six blocks it loads.
-/
module

public import proofs.«01_k».proof.Proof.Gen.KernelIdeal.Value
public import Idealize.ShloMosaic.Lib.Pipeline.ValueKit
public import proofs.«01_k».proof.Proof.Attn

@[expose] public section

noncomputable section

namespace Cert.KernelIdeal.Heads

open Cert.KernelIdeal Cert.KernelIdeal.Gen Idealize.ShloMosaic

/-- A load of `B` whole columns from column `o` on, read at an index. -/
theorem ld_cols {Val : EltTy → Type} {e : EltTy} {R C B o : ℕ} (X : (⟨2, ![R, C]⟩ : Shape).Idx → Val e)
    (inb : ∀ a, (![0, o] : Fin 2 → ℕ) a + (![R, B] : Fin 2 → ℕ) a ≤ (⟨2, ![R, C]⟩ : Shape).size a)
    (t : Fin R) (d : Fin B) (k : Fin C) (hk : k.val = o + d.val) :
    View.ld (Val := Val) (e' := e) X (Rect.unit (s := ⟨2, ![R, C]⟩) ![0, o] ![R, B] inb) (ix2 t d) = X (ix2 t k) :=
  View.ld_unit_apply_of X _ _ inb _ (ix2 t k) fun a => by
    match a with
    | ⟨0, _⟩ => show t.val = 0 + t.val; omega
    | ⟨1, _⟩ => exact hk

/-- The mask: key `l` is no later than row `t` of the point's block. -/
theorem mask_apply (i : grid0.Coords) (t : Fin 128) (l : Fin 2048) :
    k0_pay2 i (ix2 t l) = BitVec.ofBool (decide (l.val ≤ 128 * (i 1).val + t.val)) := by
  have hi : (i 1).val < 16 := (i 1).isLt
  unfold k0_pay2
  pointwise
  show BitVec.ofBool (BitVec.sle _ _) = _
  congr 1
  have e : (BitVec.ofNat 32 (i 1).val * 128#32 + BitVec.ofNat 32 t.val) = BitVec.ofNat 32 (128 * (i 1).val + t.val) := by
    apply BitVec.eq_of_toNat_eq
    simp only [BitVec.toNat_add, BitVec.toNat_mul, BitVec.toNat_ofNat]
    omega
  show BitVec.sle (BitVec.ofNat 32 l.val) (BitVec.ofNat 32 (i 1).val * 128#32 + BitVec.ofNat 32 t.val) = _
  rw [e]
  have h1 : (BitVec.ofNat 32 l.val).toInt = l.val := by
    rw [BitVec.toInt_eq_toNat_of_lt (by simp only [BitVec.toNat_ofNat]; omega), BitVec.toNat_ofNat]; omega
  have h2 : (BitVec.ofNat 32 (128 * (i 1).val + t.val)).toInt = (128 * (i 1).val + t.val : ℕ) := by
    rw [BitVec.toInt_eq_toNat_of_lt (by simp only [BitVec.toNat_ofNat]; omega), BitVec.toNat_ofNat]; omega
  rw [BitVec.sle_eq_decide, h1, h2]
  exact decide_eq_decide.2 (by omega)

/-- A head's scores over a block, before the mask: the product over its own 128 lanes plus the product over the 128
    lanes of its pair of heads. -/
def blockRaw (x0 : Attn.Mat 128 1024) (x1 : Attn.Mat 128 512) (x2 : Attn.Mat 2048 1024) (x3 : Attn.Mat 2048 256)
    (h : Fin 8) (t : Fin 128) (l : Fin 2048) : EReal :=
  ((∑ d : Fin 128, x0 (ix2 t (Attn.col 128 rfl h d)) * x2 (ix2 l (Attn.col 128 rfl h d)))
    + ∑ d : Fin 128, x1 (ix2 t ⟨128 * (h.val / 2) + d.val, by omega⟩) * x3 (ix2 l ⟨128 * (h.val % 2) + d.val, by omega⟩))
    * Attn.scale

/-- What the point leaves at row `t`, column `d` of head `h` of the result's block. -/
def blockOut (i : grid0.Coords) (x0 : Attn.Mat 128 1024) (x1 : Attn.Mat 128 512) (x2 : Attn.Mat 2048 1024)
    (x3 x4 : Attn.Mat 2048 256) (x5 : Attn.Mat 256 1024) (h : Fin 8) (t d : Fin 128) : EReal :=
  ∑ r : Fin 256, Softmax.mean
      (fun l => if l.val ≤ 128 * (i 1).val + t.val then blockRaw x0 x1 x2 x3 h t l else ⊥) (fun l => x4 (ix2 l r))
    * x5 (ix2 r (Attn.col 128 rfl h d))

theorem ofBits_negInf : Ideal.ofBits .f32 0xFF800000#32 = ⊥ := by simp [Ideal.ofBits, Ideal.ieee]

/-- One head's payload, whatever blocks it is given. -/
theorem head_apply (mask : IVec S128x2048 1) (pe : FVec Ideal S128x128 .bf16) (kpe : FVec Ideal S2048x128 .bf16)
    (q : FVec Ideal S128x128 .bf16) (k : FVec Ideal S2048x128 .bf16) (c : FVec Ideal S2048x256 .bf16)
    (w : FVec Ideal S256x128 .bf16) (t j : Fin 128) :
    k0_pay4 (F := Ideal) mask pe kpe q k c w (ix2 t j)
      = ∑ r : Fin 256, Softmax.mean (fun l => Scalar.select (mask (ix2 t l))
            (((∑ d : Fin 128, q (ix2 t d) * k (ix2 l d)) + ∑ d : Fin 128, pe (ix2 t d) * kpe (ix2 l d)) * Attn.scale) ⊥)
          (fun l => c (ix2 l r)) * w (ix2 r j) := by
  unfold k0_pay4
  pointwise
  rw [ofBits_negInf]
  rfl

/-- … and so of head `h`, given its blocks. -/
theorem head_eq (i : grid0.Coords) (x0 : Attn.Mat 128 1024) (x1 : Attn.Mat 128 512) (x2 : Attn.Mat 2048 1024)
    (x3 x4 : Attn.Mat 2048 256) (x5 : Attn.Mat 256 1024) (h : Fin 8)
    (pe : FVec Ideal S128x128 .bf16) (kpe : FVec Ideal S2048x128 .bf16)
    (q : FVec Ideal S128x128 .bf16) (k : FVec Ideal S2048x128 .bf16) (c : FVec Ideal S2048x256 .bf16)
    (w : FVec Ideal S256x128 .bf16)
    (hpe : ∀ t d, pe (ix2 t d) = x1 (ix2 t ⟨128 * (h.val / 2) + d.val, by omega⟩))
    (hkpe : ∀ l d, kpe (ix2 l d) = x3 (ix2 l ⟨128 * (h.val % 2) + d.val, by omega⟩))
    (hq : ∀ t d, q (ix2 t d) = x0 (ix2 t (Attn.col 128 rfl h d)))
    (hk : ∀ l d, k (ix2 l d) = x2 (ix2 l (Attn.col 128 rfl h d)))
    (hc : ∀ l r, c (ix2 l r) = x4 (ix2 l r))
    (hw : ∀ r j, w (ix2 r j) = x5 (ix2 r (Attn.col 128 rfl h j))) (t j : Fin 128) :
    k0_pay4 (F := Ideal) (k0_pay2 i) pe kpe q k c w (ix2 t j) = blockOut i x0 x1 x2 x3 x4 x5 h t j := by
  rw [head_apply]
  unfold blockOut
  have hs : (fun l : Fin 2048 => Scalar.select (k0_pay2 i (ix2 t l))
      (((∑ d : Fin 128, q (ix2 t d) * k (ix2 l d)) + ∑ d : Fin 128, pe (ix2 t d) * kpe (ix2 l d)) * Attn.scale) (⊥ : EReal))
      = fun l => if l.val ≤ 128 * (i 1).val + t.val then blockRaw x0 x1 x2 x3 h t l else ⊥ := by
    funext l
    unfold blockRaw
    rw [mask_apply]
    simp only [hpe, hkpe, hq, hk]
    by_cases hl : l.val ≤ 128 * (i 1).val + t.val
    · rw [if_pos hl, decide_eq_true hl]; rfl
    · rw [if_neg hl, decide_eq_false hl]; rfl
  rw [hs]
  simp only [hc, hw]

/-- The point's block of the result. -/
def blockArr (i : grid0.Coords) (x0 : Attn.Mat 128 1024) (x1 : Attn.Mat 128 512) (x2 : Attn.Mat 2048 1024)
    (x3 x4 : Attn.Mat 2048 256) (x5 : Attn.Mat 256 1024) : Attn.Mat 128 1024 := fun y =>
  blockOut i x0 x1 x2 x3 x4 x5 ⟨(y 1).val / 128, by have : (y 1).val < 1024 := (y 1).isLt; omega⟩ (y 0)
    ⟨(y 1).val % 128, by omega⟩

/-- Column `128 h + d` of it is column `d` of head `h`. -/
theorem blockArr_head (i : grid0.Coords) (x0 : Attn.Mat 128 1024) (x1 : Attn.Mat 128 512) (x2 : Attn.Mat 2048 1024)
    (x3 x4 : Attn.Mat 2048 256) (x5 : Attn.Mat 256 1024) (h : Fin 8) (y : (⟨2, ![128, 1024]⟩ : Shape).Idx) (t d : Fin 128)
    (h0 : (y 0).val = t.val) (h1 : (y 1).val = 128 * h.val + d.val) :
    blockOut i x0 x1 x2 x3 x4 x5 h t d = blockArr i x0 x1 x2 x3 x4 x5 y := by
  unfold blockArr
  congr 1
  · apply Fin.ext; show h.val = (y 1).val / 128; omega
  · exact Fin.ext h0.symm
  · apply Fin.ext; show d.val = (y 1).val % 128; omega

/-- The eight stores of a point leave that block: each is its own head's (`key`), and together they cover it. -/
theorem out_apply (i : grid0.Coords) (x0 : Vec Ideal S128x1024 .bf16) (x1 : Vec Ideal S128x512 .bf16) (x2 : Vec Ideal S2048x1024 .bf16)
    (x3 x4 : Vec Ideal S2048x256 .bf16) (x5 : Vec Ideal S256x1024 .bf16) (y : S128x1024.Idx) :
    out0_6 i x0 x1 x2 x3 x4 x5 y = blockArr i x0 x1 x2 x3 x4 x5 y := by
  have key (h : Fin 8) (o : ℕ) (ho : o = 128 * h.val) (ope : ℕ) (hope : ope = 128 * (h.val / 2)) (ok : ℕ)
      (hok : ok = 128 * (h.val % 2)) (ipe iq ik iw ic ikp)
      (x : S128x128.Idx) (z : S128x1024.Idx)
      (hz0 : (z 0).val = 0 + 1 * (x 0).val) (hz1 : (z 1).val = o + 1 * (x 1).val) :
      k0_pay4 (F := Ideal) (k0_pay2 i) (View.ld x1 (Rect.unit (s := S128x512) ![0, ope] ![128, 128] ipe))
        (View.ld x3 (Rect.unit (s := S2048x256) ![0, ok] ![2048, 128] ikp))
        (View.ld x0 (Rect.unit (s := S128x1024) ![0, o] ![128, 128] iq))
        (View.ld x2 (Rect.unit (s := S2048x1024) ![0, o] ![2048, 128] ik))
        (View.ld x4 (Rect.unit (s := S2048x256) ![0, 0] ![2048, 256] ic))
        (View.ld x5 (Rect.unit (s := S256x1024) ![0, o] ![256, 128] iw)) x
      = blockArr i x0 x1 x2 x3 x4 x5 z := by
    rw [eq_ix2 x]
    refine (head_eq i x0 x1 x2 x3 x4 x5 h _ _ _ _ _ _ ?_ ?_ ?_ ?_ ?_ ?_ (x 0) (x 1)).trans
      (blockArr_head i x0 x1 x2 x3 x4 x5 h z (x 0) (x 1) (by omega) (by omega))
    · exact fun t d => ld_cols x1 _ t d _ (by simp [hope])
    · exact fun t d => ld_cols x3 _ t d _ (by simp [hok])
    · exact fun t d => ld_cols x0 _ t d _ (by simp [Attn.col, ho])
    · exact fun t d => ld_cols x2 _ t d _ (by simp [Attn.col, ho])
    · exact fun t d => ld_cols x4 _ t d _ (by simp)
    · exact fun t d => ld_cols x5 _ t d _ (by simp [Attn.col, ho])
  unfold_out out0_6
  refine View.canon_apply_of_pieces (Val := Elt Ideal) (e := .f32) (blockArr i x0 x1 x2 x3 x4 x5) _ ?_ y (cover0_6 _ _ _ _ _ _ _ _ y)
  simp only [List.forall_mem_cons, List.not_mem_nil, false_imp_iff, implies_true, and_true]
  refine ⟨?_, ?_, ?_, ?_, ?_, ?_, ?_, ?_⟩
  · exact fun x => key 7 896 rfl 384 rfl 128 rfl _ _ _ _ _ _ x _ rfl rfl
  · exact fun x => key 6 768 rfl 384 rfl 0 rfl _ _ _ _ _ _ x _ rfl rfl
  · exact fun x => key 5 640 rfl 256 rfl 128 rfl _ _ _ _ _ _ x _ rfl rfl
  · exact fun x => key 4 512 rfl 256 rfl 0 rfl _ _ _ _ _ _ x _ rfl rfl
  · exact fun x => key 3 384 rfl 128 rfl 128 rfl _ _ _ _ _ _ x _ rfl rfl
  · exact fun x => key 2 256 rfl 128 rfl 0 rfl _ _ _ _ _ _ x _ rfl rfl
  · exact fun x => key 1 128 rfl 0 rfl 128 rfl _ _ _ _ _ _ x _ rfl rfl
  · exact fun x => key 0 0 rfl 0 rfl 0 rfl _ _ _ _ _ _ x _ rfl rfl

end Cert.KernelIdeal.Heads

end
-- ==== Proof.AttnBlocks.lean ====
/-
  The attention kernel's blocks read off its arguments: where each lies, and the weights' layout.
-/
module

public import proofs.«01_k».proof.Proof.Heads

@[expose] public section

set_option maxRecDepth 16384

noncomputable section

namespace Cert.KernelIdeal.AttnBlocks

open Cert.KernelIdeal Cert.KernelIdeal.Gen Cert.KernelIdeal.Heads Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window's block lies at a point, and the point's second coordinate. -/
theorem idx : ∀ t : Fin cfg0.N, win0_0.index t = ![t.val, 0] ∧ win0_1.index t = ![t.val, 0] ∧ win0_2.index t = ![t.val / 16, 0]
    ∧ win0_3.index t = ![t.val / 16, 0] ∧ win0_4.index t = ![t.val / 16, 0] ∧ win0_5.index t = ![0, 0]
    ∧ win0_6.index t = ![t.val, 0] ∧ (grid0.coords t 1).val = t.val % 16 :=
  (by decide +kernel : ∀ t : Fin grid0.N, win0_0.index t = ![t.val, 0] ∧ win0_1.index t = ![t.val, 0] ∧ win0_2.index t = ![t.val / 16, 0]
    ∧ win0_3.index t = ![t.val / 16, 0] ∧ win0_4.index t = ![t.val / 16, 0] ∧ win0_5.index t = ![0, 0]
    ∧ win0_6.index t = ![t.val, 0] ∧ (grid0.coords t 1).val = t.val % 16)

theorem lt256 (t : Fin cfg0.N) : t.val < 256 := lt_of_lt_of_eq t.isLt N_0

/-- Row `a` of point `t`'s block of queries is row `128 t + a` of the array, -/
theorem blk0 (c : Dev nD) (t : Fin cfg0.N) (a : Fin 128) (b : Fin 1024) (n : Fin 32768) (hn : n.val = 128 * t.val + a.val) :
    (iblk m c 0 t : Attn.Mat 128 1024) (ix2 a b) = m ((c : Thread nD τ).loc main_arg0) (ix2 n b) := by
  blk_ext [iblk, V, (idx t).1]

theorem blk1 (c : Dev nD) (t : Fin cfg0.N) (a : Fin 128) (b : Fin 512) (n : Fin 32768) (hn : n.val = 128 * t.val + a.val) :
    (iblk m c 1 t : Attn.Mat 128 512) (ix2 a b) = m ((c : Thread nD τ).loc main_arg1) (ix2 n b) := by
  blk_ext [iblk, V, (idx t).2.1]

/-- and key `l` of its block of keys is key `l` of that row's sequence; likewise the cached latents. -/
theorem blk2 (c : Dev nD) (t : Fin cfg0.N) (l : Fin 2048) (b : Fin 1024) (k : Fin 32768) (hk : k.val = 2048 * (t.val / 16) + l.val) :
    (iblk m c 2 t : Attn.Mat 2048 1024) (ix2 l b) = m ((c : Thread nD τ).loc main_arg2) (ix2 k b) := by
  blk_ext [iblk, V, (idx t).2.2.1]

theorem blk4 (c : Dev nD) (t : Fin cfg0.N) (l : Fin 2048) (b : Fin 256) (k : Fin 32768) (hk : k.val = 2048 * (t.val / 16) + l.val) :
    (iblk m c 4 t : Attn.Mat 2048 256) (ix2 l b) = m ((c : Thread nD τ).loc main_arg4) (ix2 k b) := by
  blk_ext [iblk, V, (idx t).2.2.2.2.1]

/-- The weights are one block, a head's 128 columns after another. -/
theorem blk5 (c : Dev nD) (t : Fin cfg0.N) (r : Fin 256) (h : Fin 8) (d : Fin 128) :
    (iblk m c 5 t : Attn.Mat 256 1024) (ix2 r (Attn.col 128 rfl h d)) = m ((c : Thread nD τ).loc main_arg5) (ix3 r h d) := by
  blk_simp [iblk, (idx t).2.2.2.2.2.1]
  entry_read
  pointwise
  blk_ext [(idx t).2.2.2.2.2.1, Attn.col]

end Cert.KernelIdeal.AttnBlocks

end
-- ==== Proof.AttnPad.lean ====
/-
  The attention kernel's padded positional keys read off its argument.
-/
module

public import proofs.«01_k».proof.Proof.Heads

@[expose] public section

set_option maxRecDepth 16384

noncomputable section

namespace Cert.KernelIdeal.AttnPad

open Cert.KernelIdeal Cert.KernelIdeal.Gen Cert.KernelIdeal.Heads Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The positional keys as the region finds them: the keys, two runs of zeros, the keys. -/
theorem V_v1 (c : Dev nD) : (V m c main_v1 : S32768x256.Idx → EReal)
    = concatenate S32768x256 1 [⟨S32768x64, (m ((c : Thread nD τ).loc main_arg3) : S32768x64.Idx → EReal)⟩,
        ⟨S32768x64, fun _ => (0 : EReal)⟩, ⟨S32768x64, fun _ => (0 : EReal)⟩,
        ⟨S32768x64, (m ((c : Thread nD τ).loc main_arg3) : S32768x64.Idx → EReal)⟩]
        concatenates_S32768x64_S32768x64_S32768x64_S32768x64_S32768x256_d1 := by
  have hz : (broadcastInDim S32768x64 ![] bcast_S_S32768x64 (constant (F := Ideal) S_ .bf16 0x0000#16) : S32768x64.Idx → EReal)
      = fun _ => 0 := by
    funext j; pointwise
  rw [← hz]
  unfold V
  after_results_simp
  rfl

/-- Four pieces of 64 columns, the middle two zero, read at a column. -/
theorem ladder (b : ℕ) (hb : b < 256) (y : Fin 64 → EReal) :
    (if h : b < 64 then y ⟨b, h⟩ else if h : b - 64 < 64 then (0 : EReal) else if h : b - 64 - 64 < 64 then 0
      else y ⟨b - 64 - 64 - 64, by omega⟩) = if b < 64 ∨ 192 ≤ b then y ⟨b % 64, by omega⟩ else 0 := by
  by_cases h₁ : b < 64
  · rw [dif_pos h₁, if_pos (Or.inl h₁)]
    exact congrArg y (Fin.ext (by show b = b % 64; omega))
  rw [dif_neg h₁]
  by_cases h₂ : b < 192
  · rw [if_neg (by omega)]
    split
    · rfl
    · rw [dif_pos (by omega)]
  · rw [dif_neg (by omega), dif_neg (by omega), if_pos (Or.inr (by omega))]
    exact congrArg y (Fin.ext (by show b - 64 - 64 - 64 = b % 64; omega))

/-- Column `b` of key `k` of the padded keys. -/
theorem padded (c : Dev nD) (k : Fin 32768) (b : Fin 256) :
    (V m c main_v1 : Attn.Mat 32768 256) (ix2 k b)
      = if b.val < 64 ∨ 192 ≤ b.val then (m ((c : Thread nD τ).loc main_arg3) : Attn.Mat 32768 64) (ix2 k ⟨b.val % 64, by omega⟩) else (0 : EReal) := by
  rw [V_v1]
  generalize (m ((c : Thread nD τ).loc main_arg3) : S32768x64.Idx → EReal) = x
  pointwise
  exact ladder b.val b.isLt fun j => x (ix2 k j)

/-- A product against the padded keys of an even head's lanes (first half the key, second zeros) or an odd one's (the
    other way about) is the product against the key itself, over that head's 64 lanes. -/
theorem sum_pad (q : Fin 128 → EReal) (f : Fin 128 → EReal) (x : Fin 64 → EReal) (p : ℕ) (hp : p < 2)
    (hf : ∀ d : Fin 128, f d = if 128 * p + d.val < 64 ∨ 192 ≤ 128 * p + d.val then x ⟨(128 * p + d.val) % 64, by omega⟩ else 0) :
    ∑ d, q d * f d = ∑ d : Fin 64, q ⟨64 * p + d.val, by omega⟩ * x d := by
  rw [Fin.sum_univ_two_halves 64 64 rfl fun d => q d * f d]
  obtain rfl | rfl : p = 0 ∨ p = 1 := by omega
  · rw [Finset.sum_eq_zero (s := Finset.univ) (f := fun d : Fin 64 => q ⟨64 + d.val, by omega⟩ * f ⟨64 + d.val, by omega⟩) fun d _ => by
      rw [hf, if_neg (by simp only; omega), mul_zero], add_zero]
    refine Finset.sum_congr rfl fun d _ => ?_
    rw [hf, if_pos (Or.inl (by simp only; omega))]
    exact congrArg₂ (· * ·) (congrArg q (Fin.ext (by simp))) (congrArg x (Fin.ext (by simp only; omega)))
  · rw [Finset.sum_eq_zero (s := Finset.univ) (f := fun d : Fin 64 => q ⟨d.val, by omega⟩ * f ⟨d.val, by omega⟩) fun d _ => by
      rw [hf, if_neg (by simp only; omega), mul_zero], zero_add]
    refine Finset.sum_congr rfl fun d _ => ?_
    rw [hf, if_pos (Or.inr (by simp only; omega))]
    exact congrArg₂ (· * ·) (congrArg q (Fin.ext (by simp))) (congrArg x (Fin.ext (by simp only; omega)))

end Cert.KernelIdeal.AttnPad

end
-- ==== Proof.AttnKernel.lean ====
/-
  The attention kernel's result array is the latent attention of its arguments.
-/
module

public import proofs.«01_k».proof.Proof.AttnBlocks
public import proofs.«01_k».proof.Proof.AttnPad

@[expose] public section

set_option maxRecDepth 16384

noncomputable section

namespace Cert.KernelIdeal.AttnKernel

open Cert.KernelIdeal Cert.KernelIdeal.Gen Cert.KernelIdeal.Heads Idealize.ShloMosaic Idealize.ShloMosaic.TcCoe Idealize.SL.Sem
open Cert.KernelIdeal.AttnBlocks
open Idealize.ShloMosaic.Pipeline (Dat)

variable (m : (ℓ : Loc nD τ sig) → Buf (Elt Ideal) ℓ) (ρ : Dev nD → PrngReg)

/-- Key `l` of point `t`'s block of padded positional keys. -/
theorem blk3 (c : Dev nD) (t : Fin cfg0.N) (l : Fin 2048) (b : Fin 256) (k : Fin 32768) (hk : k.val = 2048 * (t.val / 16) + l.val) :
    (iblk m c 3 t : Attn.Mat 2048 256) (ix2 l b) = (V m c main_v1 : Attn.Mat 32768 256) (ix2 k b) := by
  blk_ext [iblk, (idx t).2.2.2.1]

/-- The positional part of a score: one head's 64 lanes. -/
theorem pe_sum (x₁ : Attn.Mat 128 512) (x₃ : Attn.Mat 2048 256) (q : Attn.Mat 32768 512) (kp : Attn.Mat 32768 64)
    (a : Fin 128) (h : Fin 8) (l : Fin 2048) (n k : Fin 32768) (h₁ : ∀ b, x₁ (ix2 a b) = q (ix2 n b))
    (h₃ : ∀ b : Fin 256, x₃ (ix2 l b) = if b.val < 64 ∨ 192 ≤ b.val then kp (ix2 k ⟨b.val % 64, by omega⟩) else 0) :
    ∑ d : Fin 128, x₁ (ix2 a ⟨128 * (h.val / 2) + d.val, by omega⟩) * x₃ (ix2 l ⟨128 * (h.val % 2) + d.val, by omega⟩)
      = ∑ d : Fin 64, q (ix2 n (Attn.col 64 rfl h d)) * kp (ix2 k d) := by
  refine (AttnPad.sum_pad (fun d => x₁ (ix2 a ⟨128 * (h.val / 2) + d.val, by omega⟩)) _
    (fun d => kp (ix2 k d)) (h.val % 2) (by omega) fun d => h₃ _).trans ?_
  refine Finset.sum_congr rfl fun d _ => congrArg (· * _) ((h₁ _).trans (congrArg q (congrArg (ix2 n) (Fin.ext ?_))))
  show 128 * (h.val / 2) + (64 * (h.val % 2) + d.val) = 64 * h.val + d.val
  omega

/-- A score before the mask, -/
theorem raw_eq (c : Dev nD) (t : Fin cfg0.N) (a : Fin 128) (h : Fin 8) (l : Fin 2048) (n : Fin 32768)
    (hn : n.val = 128 * t.val + a.val) :
    blockRaw (iblk m c 0 t) (iblk m c 1 t) (iblk m c 2 t) (iblk m c 3 t) h a l
      = Attn.raw (m ((c : Thread nD τ).loc main_arg0)) (m ((c : Thread nD τ).loc main_arg1)) (m ((c : Thread nD τ).loc main_arg2))
          (m ((c : Thread nD τ).loc main_arg3)) n h l := by
  have hk : (Attn.seqRow n l).val = 2048 * (t.val / 16) + l.val := by
    show 2048 * (n.val / 2048) + l.val = _
    omega
  unfold blockRaw Attn.raw
  refine congrArg (· * _) (congrArg₂ (· + ·) (Finset.sum_congr rfl fun d _ => congrArg₂ (· * ·) ?_ ?_)
    (pe_sum _ _ _ _ a h l n _ (fun b => blk1 m c t a b n hn) fun b => (blk3 m c t l b _ hk).trans (AttnPad.padded m c _ b)))
  · exact blk0 m c t a _ n hn
  · exact blk2 m c t l _ _ hk

/-- and what the point leaves at a row and a head's column. -/
theorem out_eq (c : Dev nD) (t : Fin cfg0.N) (a : Fin 128) (h : Fin 8) (d : Fin 128) (n : Fin 32768)
    (hn : n.val = 128 * t.val + a.val) :
    blockOut (grid0.coords t) (iblk m c 0 t) (iblk m c 1 t) (iblk m c 2 t) (iblk m c 3 t) (iblk m c 4 t) (iblk m c 5 t) h a d
      = Attn.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) n h d := by
  unfold blockOut Attn.out
  refine Finset.sum_congr rfl fun r _ => congrArg₂ (· * ·) (congrArg₂ Softmax.mean ?_ ?_) (blk5 m c t r h d)
  · funext l
    have hq : l.val ≤ 128 * ((grid0.coords t) 1).val + a.val ↔ l.val ≤ n.val % 2048 := by
      rw [(idx t).2.2.2.2.2.2.2]; omega
    unfold Attn.score
    rw [raw_eq m c t a h l n hn]
    exact if_congr hq rfl rfl
  · funext l
    exact blk4 m c t l r _ (by show 2048 * (n.val / 2048) + l.val = _; omega)

/-- The whole array the kernel leaves. -/
def G (c : Dev nD) : Attn.Mat 32768 1024 :=
  Attn.outArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))

theorem arr6 (c : Dev nD) : (dats m 0 c).arrAt 6 cfg0.N = (G m c : Attn.Mat 32768 1024) := by
  refine (dats m 0 c).arrAt_eq_of_covers 6 (G m c) (by decide +kernel) fun t hf y => ?_
  blk_simp [(idx t).2.2.2.2.2.2.1]
  rw [after0_6]
  refine (out_apply _ _ _ _ _ _ _ y).trans ?_
  have h₀ : (((win0_6.blk t).view.emb y) 0).val = 128 * t.val + (y 0).val := by
    blk_simp [(idx t).2.2.2.2.2.2.1]
    omega
  have h₁ : (((win0_6.blk t).view.emb y) 1).val = (y 1).val := by
    blk_simp [(idx t).2.2.2.2.2.2.1]
  unfold blockArr
  refine (out_eq m c t _ _ _ (((win0_6.blk t).view.emb y) 0) h₀).trans ?_
  unfold G Attn.outArr
  congr 1
  · exact Fin.ext (congrArg (· / 128) h₁.symm)
  · exact Fin.ext (congrArg (· % 128) h₁.symm)

end Cert.KernelIdeal.AttnKernel

end
-- ==== Proof.AttnRef.lean ====
/-
  The reference's attention is the same function of its arguments, where the queries and keys are real numbers.
-/
module

public import proofs.«01_k».proof.Proof.Gen.ReferenceIdeal.Run
public import proofs.«01_k».proof.Proof.Gen.ReferenceIdeal.Read
public import proofs.«01_k».proof.Proof.Attn

@[expose] public section

set_option maxRecDepth 16384

noncomputable section

namespace Cert.AttnRef

open Idealize.ShloMosaic Cert.ReferenceIdeal Cert.ReferenceIdeal.Gen Cert.ReferenceIdeal.Read

variable (x0 : Attn.Mat 32768 1024) (x1 : Attn.Mat 32768 512) (x2 : Attn.Mat 32768 1024) (x3 : Attn.Mat 32768 64)
  (x4 : Attn.Mat 32768 256) (x5 : (⟨3, ![256, 8, 128]⟩ : Shape).Idx → EReal)

/-- Row `t` of sequence `b`. -/
def row (b : Fin 16) (t : Fin 2048) : Fin 32768 := ⟨b.val * 2048 + t.val, by omega⟩

/-- The causal mask: a comparison of positions. -/
theorem sle_pos (t l : Fin 2048) :
    IntOp.cmpi .sle (BitVec.ofNat 32 l.val) (BitVec.ofNat 32 t.val) = BitVec.ofBool (decide (l.val ≤ t.val)) := by
  show BitVec.ofBool (BitVec.sle _ _) = _
  congr 1
  have h : ∀ x : Fin 2048, (BitVec.ofNat 32 x.val).toInt = x.val := fun x => by
    rw [BitVec.toInt_eq_toNat_of_lt (by simp only [BitVec.toNat_ofNat]; omega), BitVec.toNat_ofNat]; omega
  rw [BitVec.sle_eq_decide, h, h]
  exact decide_eq_decide.2 (by omega)

/-- The masked scores. -/
theorem score_eq (b : Fin 16) (h : Fin 8) (t l : Fin 2048) :
    (val_main_v23 (F := Ideal) x0 x1 x2 x3 (ix4 b h t l) : EReal) = Attn.score x0 x1 x2 x3 (row b t) h l := by
  unfold val_main_v23 val_main_v16 val_main_v14 val_main_v13 val_main_v12 val_main_v11 val_main_v7 val_main_v6 val_main_v5
    val_main_v4 val_main_v3 val_main_v2 val_main_v1 val_main_v0 val_main_v15 val_main_cst val_main_call0_v1 val_main_call0_v2
    val_main_call0_v0 val_main_cst_0 val_main_v22 val_main_v21 val_main_v20 val_main_v19 val_main_v18 val_main_v17 val_main_v10
  pointwise
  rw [sle_pos]
  have hr : (row b t).val % 2048 = t.val := by show (b.val * 2048 + t.val) % 2048 = _; omega
  have hq : (row b t).val / 2048 = b.val := by show (b.val * 2048 + t.val) / 2048 = _; omega
  have hs : (⟨b.val * 2048 + l.val, by omega⟩ : Fin 32768) = Attn.seqRow (row b t) l :=
    Fin.ext (by show b.val * 2048 + l.val = 2048 * ((row b t).val / 2048) + l.val; omega)
  unfold Attn.score Attn.raw
  rw [hr, ← hs]
  by_cases hl : l.val ≤ t.val
  · rw [if_pos hl, decide_eq_true hl]
    refine (if_pos rfl).trans (congrArg (· * _) (congrArg₂ (· + ·) (Finset.sum_congr rfl fun d _ => congrArg₂ (· * ·) ?_ ?_)
      (Finset.sum_congr rfl fun d _ => (mul_comm _ _).trans (congrArg₂ (· * ·) ?_ rfl))))
    · exact congrArg x0 (congrArg (ix2 _) (Fin.ext (by show h.val * 128 + d.val = 128 * h.val + d.val; omega)))
    · exact congrArg x2 (congrArg (ix2 _) (Fin.ext (by show h.val * 128 + d.val = 128 * h.val + d.val; omega)))
    · exact congrArg x1 (congrArg (ix2 _) (Fin.ext (by show h.val * 64 + d.val = 64 * h.val + d.val; omega)))
  · rw [if_neg hl, decide_eq_false hl]
    exact (if_neg (by decide)).trans (by simp [constant, Ideal.ofBits, Ideal.ieee])

/-- A row's largest score. -/
theorem reduce_max (s : FVec Ideal S16x8x2048x2048 .f32) (b : Fin 16) (h : Fin 8) (t : Fin 2048) :
    (Host.reduce (FloatOps.maximumf (F := Ideal) (φ := .f32)) s (constant S_ .f32 0xFF800000#32)
        reducesTo_S16x8x2048x2048_S16x8x2048_d3 h_S_) (ix3 b h t)
      = Softmax.top fun l => s (ix4 b h t l) := by
  unfold Softmax.top
  rw [show (⊥ : EReal) = Ideal.ofBits .f32 0xFF800000#32 by simp [Ideal.ofBits, Ideal.ieee]]
  pointwise

theorem max_eq (b : Fin 16) (h : Fin 8) (t : Fin 2048) :
    val_main_v24 (F := Ideal) x0 x1 x2 x3 (ix3 b h t) = Softmax.top (Attn.score x0 x1 x2 x3 (row b t) h) := by
  have hs := score_eq x0 x1 x2 x3 b h t
  unfold val_main_v24 val_main_cst_1
  generalize val_main_v23 (F := Ideal) x0 x1 x2 x3 = s at hs ⊢
  rw [reduce_max]
  exact congrArg Softmax.top (funext hs)

theorem bound_eq (b : Fin 16) (h : Fin 8) (t : Fin 2048) :
    (val_main_v26 (F := Ideal) x0 x1 x2 x3 (ix3 b h t) : EReal) = Softmax.top (Attn.score x0 x1 x2 x3 (row b t) h) := by
  have hm := max_eq x0 x1 x2 x3 b h t
  generalize Softmax.top (Attn.score x0 x1 x2 x3 (row b t) h) = M at hm ⊢
  rw [val_main_v26_apply, hm, val_main_v25_apply]
  unfold val_main_cst_2
  refine (congrArg (max · M) (?_ : Ideal.ofBits .f32 0xFF800000#32 = ⊥)).trans (max_eq_right bot_le)
  simp [Ideal.ofBits, Ideal.ieee]

/-- A row's weights, -/
theorem exp_apply (b : Fin 16) (h : Fin 8) (t l : Fin 2048) :
    (val_main_v30 (F := Ideal) x0 x1 x2 x3 (ix4 b h t l) : EReal)
      = Ideal.exp (val_main_v23 (F := Ideal) x0 x1 x2 x3 (ix4 b h t l) - val_main_v26 (F := Ideal) x0 x1 x2 x3 (ix3 b h t)) := by
  rw [val_main_v30_apply, val_main_v29_apply, val_main_v28_apply, val_main_v27_apply,
    show idx_main_v27 (idx_main_v28 (ix4 b h t l)) = ix3 b h t from funext fun a => by fin_cases a <;> rfl]
  generalize val_main_v26 (F := Ideal) x0 x1 x2 x3 = u
  generalize val_main_v23 (F := Ideal) x0 x1 x2 x3 = s
  rfl

theorem exp_eq (b : Fin 16) (h : Fin 8) (t l : Fin 2048) :
    (val_main_v30 (F := Ideal) x0 x1 x2 x3 (ix4 b h t l) : EReal) = Softmax.weight (Attn.score x0 x1 x2 x3 (row b t) h) l := by
  unfold Softmax.weight
  rw [exp_apply, score_eq, bound_eq]

/-- their sum, -/
theorem sum_eq (b : Fin 16) (h : Fin 8) (t : Fin 2048) :
    (val_main_v31 (F := Ideal) x0 x1 x2 x3 (ix3 b h t) : EReal) = Softmax.total (Attn.score x0 x1 x2 x3 (row b t) h) := by
  refine (val_main_v31_apply x0 x1 x2 x3 _).trans ?_
  have hz : (val_main_cst_3 (F := Ideal) (Shape.Idx.first h_S_) : EReal) = 0 := by
    unfold val_main_cst_3
    exact Ideal.ofBits_zero_f32
  rw [hz, zero_add]
  unfold Softmax.total
  refine Finset.sum_congr rfl fun l _ => ?_
  rw [show idx_main_v31 (ix3 b h t) l = ix4 b h t l from funext fun a => by fin_cases a <;> rfl]
  exact exp_eq x0 x1 x2 x3 b h t l

/-- and the weights divided by it. -/
theorem weight_eq (b : Fin 16) (h : Fin 8) (t l : Fin 2048) :
    (val_main_v34 (F := Ideal) x0 x1 x2 x3 (ix4 b h t l) : EReal)
      = Ideal.div (Softmax.weight (Attn.score x0 x1 x2 x3 (row b t) h) l) (Softmax.total (Attn.score x0 x1 x2 x3 (row b t) h)) := by
  have he := exp_eq x0 x1 x2 x3 b h t l
  have hs := sum_eq x0 x1 x2 x3 b h t
  unfold val_main_v34 val_main_v33 val_main_v32
  generalize val_main_v31 (F := Ideal) x0 x1 x2 x3 = u at hs ⊢
  generalize val_main_v30 (F := Ideal) x0 x1 x2 x3 = s at he ⊢
  pointwise
  rw [he, hs]

/-- The result, at a row and a column. -/
theorem out_eq (h₀ : ∀ i, ∃ r : ℝ, x0 i = r) (h₁ : ∀ i, ∃ r : ℝ, x1 i = r) (h₂ : ∀ i, ∃ r : ℝ, x2 i = r)
    (h₃ : ∀ i, ∃ r : ℝ, x3 i = r) :
    (val_main_v39 (F := Ideal) x0 x1 x2 x3 x4 x5 : Attn.Mat 32768 1024) = Attn.outArr x0 x1 x2 x3 x4 x5 := by
  funext i
  rw [Idealize.ShloMosaic.eq_ix2 i]
  obtain ⟨n, hn⟩ : ∃ n : Fin 32768, n = i 0 := ⟨_, rfl⟩
  obtain ⟨j, hj⟩ : ∃ j : Fin 1024, j = i 1 := ⟨_, rfl⟩
  rw [← hn, ← hj]
  have hw := weight_eq x0 x1 x2 x3
  unfold val_main_v39 val_main_v38 val_main_v37 val_main_v36 val_main_v35 val_main_v9 val_main_v8
  generalize val_main_v34 (F := Ideal) x0 x1 x2 x3 = s at hw ⊢
  pointwise
  simp only [hw]
  show _ = Attn.out x0 x1 x2 x3 x4 x5 n ⟨j.val / 128, _⟩ ⟨j.val % 128, _⟩
  unfold Attn.out
  refine Finset.sum_congr rfl fun r _ => ?_
  refine (mul_comm _ _).trans (congrArg (· * _) ?_)
  refine Eq.trans ?_ (Attn.mean_score h₀ h₁ h₂ h₃ n _ _).symm
  have hn : row ⟨n.val / 2048, by omega⟩ ⟨n.val % 2048, by omega⟩ = n :=
    Fin.ext (by show n.val / 2048 * 2048 + n.val % 2048 = n.val; omega)
  rw [hn]
  refine Finset.sum_congr rfl fun l _ => congrArg (· * _) (congrArg x4 (congrArg (ix2 · r) (Fin.ext ?_)))
  show n.val / 2048 * 2048 + l.val = 2048 * (n.val / 2048) + l.val
  omega

end Cert.AttnRef

end
-- ==== Proof.AttnPre.lean ====
/-
  What the attention's precondition says of an array: every element is a real number.
-/
module

public import proofs.«01_k».proof.Pre_finite
public import proofs.«01_k».proof.Proof.Attn

@[expose] public section

set_option maxRecDepth 16384

noncomputable section

namespace Cert.AttnPre

open Idealize.ShloMosaic

theorem facts : Cert.Pre_finite.Facts := ⟨by decide, by decide, by decide, by decide⟩

/-- A magnitude below infinity is a real number's. -/
theorem real_of_lt (x : EReal)
    (h : BitVec.ofBool (decide (FloatOps.absf (F := Ideal) (φ := .f32) x < Ideal.ofBits FTy.f32 2139095040#32)) = 1#1) :
    ∃ r : ℝ, x = r := by
  have ht : Ideal.ofBits FTy.f32 2139095040#32 = ⊤ := by simp [Ideal.ofBits, Ideal.ieee]
  rw [ht] at h
  by_cases hx : FloatOps.absf (F := Ideal) (φ := .f32) x < (⊤ : EReal)
  · induction x using EReal.rec with
    | bot => exact absurd hx (by simp [FloatOps.absf])
    | top => exact absurd hx (by simp [FloatOps.absf])
    | coe r => exact ⟨r, rfl⟩
  · simp [hx] at h

attribute [local instance] facts

variable (a0 : Attn.Mat 32768 1024) (a1 : Attn.Mat 32768 512) (a2 : Attn.Mat 32768 1024) (a3 : Attn.Mat 32768 64)
  (a4 : Attn.Mat 32768 256) (a5 : (⟨3, ![256, 8, 128]⟩ : Shape).Idx → EReal)

theorem real0 (h : (Cert.Pre_finite.fn (F := Ideal) a0 a1 a2 a3 a4 a5).1 = fun _ => 1#1) (i) : ∃ r : ℝ, a0 i = r := by
  refine real_of_lt _ ?_
  have := congrFun h i
  revert this
  unfold Cert.Pre_finite.fn
  pointwise
  exact id

theorem real1 (h : (Cert.Pre_finite.fn (F := Ideal) a0 a1 a2 a3 a4 a5).2.1 = fun _ => 1#1) (i) : ∃ r : ℝ, a1 i = r := by
  refine real_of_lt _ ?_
  have := congrFun h i
  revert this
  unfold Cert.Pre_finite.fn
  pointwise
  exact id

theorem real2 (h : (Cert.Pre_finite.fn (F := Ideal) a0 a1 a2 a3 a4 a5).2.2.1 = fun _ => 1#1) (i) : ∃ r : ℝ, a2 i = r := by
  refine real_of_lt _ ?_
  have := congrFun h i
  revert this
  unfold Cert.Pre_finite.fn
  pointwise
  exact id

theorem real3 (h : (Cert.Pre_finite.fn (F := Ideal) a0 a1 a2 a3 a4 a5).2.2.2 = fun _ => 1#1) (i) : ∃ r : ℝ, a3 i = r := by
  refine real_of_lt _ ?_
  have := congrFun h i
  revert this
  unfold Cert.Pre_finite.fn
  pointwise
  exact id

end Cert.AttnPre

end
-- ==== Proof.Mlp.lean ====
/-
  The merge of the two attentions and the gated projection, then the squared-relu layer, as functions of one row of the
  arguments: what both programs are shown to hold.
-/
module

public import Idealize.ShloMosaic.Lib.Pointwise
public import Idealize.ShloMosaic.Lib.Pipeline.ValueKit

@[expose] public section

noncomputable section

namespace Cert.Mlp

open Idealize.ShloMosaic

/-- An array of extended reals with `a` rows and `b` columns. -/
abbrev Mat (a b : ℕ) : Type := (⟨2, ![a, b]⟩ : Shape).Idx → EReal

/-- Row `n` of an array. -/
abbrev row {a b : ℕ} (x : Mat a b) (n : Fin a) : Fin b → EReal := fun j => x (ix2 n j)

/-- The mean of 1024 squares divides by this literal, and adds this one. -/
abbrev width : EReal := Ideal.ofBits .f32 0x44800000#32
abbrev eps : EReal := Ideal.ofBits .f32 0x358637BD#32

/-- The residual plus the output projection of the gated sum of the two attentions. -/
def merged (x a b : Fin 1024 → EReal) (g : Fin 2048 → EReal) (wo : Mat 1024 1024) (j : Fin 1024) : EReal :=
  x j + ∑ k : Fin 1024, (g ⟨k.val, by omega⟩ * a k + g ⟨1024 + k.val, by omega⟩ * b k) * wo (ix2 k j)

/-- The row divided by the root of its mean square, times the norm's weights. -/
def normed (y : Fin 1024 → EReal) (γ : Fin 1024 → EReal) (j : Fin 1024) : EReal :=
  y j * Ideal.rsqrt (Ideal.div (∑ k, y k * y k) width + eps) * γ j

/-- One hidden unit: the square of the positive part. -/
def hidden (y : Fin 1024 → EReal) (w : Fin 1024 → EReal) : EReal :=
  max (∑ k, y k * w k) 0 * max (∑ k, y k * w k) 0

/-- The layer's result. -/
def out (x a b : Fin 1024 → EReal) (g : Fin 2048 → EReal) (wo : Mat 1024 1024) (γ : Fin 1024 → EReal) (wup : Mat 1024 4096)
    (wdown : Mat 4096 1024) (j : Fin 1024) : EReal :=
  merged x a b g wo j + ∑ f : Fin 4096, hidden (normed (merged x a b g wo) γ) (fun k => wup (ix2 k f)) * wdown (ix2 f j)

/-- The same for every row. -/
def outArr {N : ℕ} (x a b : Mat N 1024) (g : Mat N 2048) (wo : Mat 1024 1024) (γ : Fin 1024 → EReal) (wup : Mat 1024 4096)
    (wdown : Mat 4096 1024) : Mat N 1024 :=
  fun i => out (row x (i 0)) (row a (i 0)) (row b (i 0)) (row g (i 0)) wo γ wup wdown (i 1)

/-- A sum over 4096 is the sum of its four quarters, in order. -/
theorem sum_quarters (f : Fin 4096 → EReal) :
    ∑ k, f k = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  have h₁ := Fin.sum_univ_add (M := EReal) (a := 1024 + 1024 + 1024) (b := 1024) f
  have h₂ := Fin.sum_univ_add (M := EReal) (a := 1024 + 1024) (b := 1024) fun k => f (Fin.castAdd 1024 k)
  have h₃ := Fin.sum_univ_add (M := EReal) (a := 1024) (b := 1024) fun k => f (Fin.castAdd 1024 (Fin.castAdd 1024 k))
  exact h₁.trans (congrArg (· + _) (h₂.trans (congrArg (· + _) h₃)))

/-- A load of a rectangle, read at a row and a column. -/
theorem ld_at {Val : EltTy → Type} {e : EltTy} {R C A B o p : ℕ} (X : (⟨2, ![R, C]⟩ : Shape).Idx → Val e)
    (inb : ∀ a, (![o, p] : Fin 2 → ℕ) a + (![A, B] : Fin 2 → ℕ) a ≤ (⟨2, ![R, C]⟩ : Shape).size a)
    (t : Fin A) (d : Fin B) (n : Fin R) (k : Fin C) (hn : n.val = o + t.val) (hk : k.val = p + d.val) :
    View.ld (Val := Val) (e' := e) X (Rect.unit (s := ⟨2, ![R, C]⟩) ![o, p] ![A, B] inb) (ix2 t d) = X (ix2 n k) :=
  View.ld_unit_apply_of X _ _ inb _ (ix2 n k) fun a => by
    match a with
    | ⟨0, _⟩ => exact hn
    | ⟨1, _⟩ => exact hk

end Cert.Mlp

end
-- ==== Proof.MergeKernel.lean ====
/-
  The merge kernel's result array is the same function of its arguments.
-/
module

public import proofs.«01_k».proof.Proof.Gen.MergeIdeal.Value
public import Idealize.ShloMosaic.Lib.Pipeline.ValueKit
public import proofs.«01_k».proof.Proof.Mlp

@[expose] public section

set_option maxRecDepth 16384

noncomputable section

namespace Cert.MergeIdeal.MergeKernel

open Cert.MergeIdeal Cert.MergeIdeal.Gen Cert.Mlp Idealize.ShloMosaic Idealize.ShloMosaic.TcCoe Idealize.SL.Sem
open Idealize.ShloMosaic.Pipeline (Dat)

/-- The body's values on a block, read at a row: the merged row, its norm, the first quarter of the hidden units, -/
theorem merged_apply (ga a gb b x : Vec Ideal S256x1024 .f32) (wo : Vec Ideal S1024x1024 .bf16) (g : Mat 256 2048)
    (ha : ∀ t k, ga (ix2 t k) = g (ix2 t ⟨k.val, by omega⟩)) (hb : ∀ t k, gb (ix2 t k) = g (ix2 t ⟨1024 + k.val, by omega⟩))
    (t : Fin 256) (j : Fin 1024) :
    (k0_pay1 (F := Ideal) ga a gb b x wo (ix2 t j) : EReal) = merged (row (x : Mat 256 1024) t) (row (a : Mat 256 1024) t) (row (b : Mat 256 1024) t) (row g t) wo j := by
  unfold k0_pay1 merged
  pointwise
  simp only [ha, hb]

theorem normed_apply (ga a gb b x : Vec Ideal S256x1024 .f32) (wo : Vec Ideal S1024x1024 .bf16) (γ : Vec Ideal S1x1024 .f32)
    (t : Fin 256) (j : Fin 1024) :
    (k0_pay2 (F := Ideal) ga a gb b x wo γ (ix2 t j) : EReal)
      = normed (row (k0_pay1 (F := Ideal) ga a gb b x wo : Mat 256 1024) t) (row (γ : Mat 1 1024) 0) j := by
  unfold k0_pay2
  generalize k0_pay1 (F := Ideal) ga a gb b x wo = y
  pointwise
  rfl

theorem hidden_apply (ga a gb b x : Vec Ideal S256x1024 .f32) (wo : Vec Ideal S1024x1024 .bf16) (γ : Vec Ideal S1x1024 .f32)
    (w : Vec Ideal S1024x1024 .bf16) (t : Fin 256) (j : Fin 1024) :
    (k0_pay3 (F := Ideal) ga a gb b x wo γ w (ix2 t j) : EReal)
      = hidden (row (k0_pay2 (F := Ideal) ga a gb b x wo γ : Mat 256 1024) t) (fun k => (w : Mat 1024 1024) (ix2 k j)) := by
  unfold k0_pay3
  generalize k0_pay2 (F := Ideal) ga a gb b x wo γ = y
  pointwise
  rfl

/-- and the four quarters' products added one after another. -/
theorem quarters_apply (x1 : Mat 256 1024) (y u : Mat 256 1024) (d0 w1 d1 w2 d2 w3 d3 : Mat 1024 1024) (t : Fin 256) (j : Fin 1024) :
    (k0_pay4 (F := Ideal) x1 y u d0 w1 d1 w2 d2 w3 d3 (ix2 t j) : EReal)
      = x1 (ix2 t j) + (∑ f, u (ix2 t f) * d0 (ix2 f j)) + (∑ f, hidden (row y t) (fun k => w1 (ix2 k f)) * d1 (ix2 f j))
        + (∑ f, hidden (row y t) (fun k => w2 (ix2 k f)) * d2 (ix2 f j))
        + ∑ f, hidden (row y t) (fun k => w3 (ix2 k f)) * d3 (ix2 f j) := by
  unfold k0_pay4
  pointwise
  rfl

/-- The point's block of the result. -/
def blockArr (x0 x1 x2 : Mat 256 1024) (x3 : Mat 256 2048) (x4 : Mat 1024 1024) (x5 : Mat 1 1024) (x6 : Mat 1024 4096)
    (x7 : Mat 4096 1024) : Mat 256 1024 := fun y =>
  out (row x0 (y 0)) (row x1 (y 0)) (row x2 (y 0)) (row x3 (y 0)) x4 (row x5 0) x6 x7 (y 1)

/-- What a point stores, from its loads. -/
theorem point_apply (x0 x1 x2 : Mat 256 1024) (x3 : Mat 256 2048) (x4 : Mat 1024 1024) (x5 : Mat 1 1024) (x6 : Mat 1024 4096)
    (x7 : Mat 4096 1024) (ga gb : Mat 256 1024) (w0 d0 w1 d1 w2 d2 w3 d3 : Mat 1024 1024)
    (ha : ∀ t k, ga (ix2 t k) = x3 (ix2 t ⟨k.val, by omega⟩)) (hb : ∀ t k, gb (ix2 t k) = x3 (ix2 t ⟨1024 + k.val, by omega⟩))
    (hw0 : ∀ k f, w0 (ix2 k f) = x6 (ix2 k ⟨f.val, by omega⟩)) (hd0 : ∀ f j, d0 (ix2 f j) = x7 (ix2 ⟨f.val, by omega⟩ j))
    (hw1 : ∀ k f, w1 (ix2 k f) = x6 (ix2 k ⟨1024 + f.val, by omega⟩)) (hd1 : ∀ f j, d1 (ix2 f j) = x7 (ix2 ⟨1024 + f.val, by omega⟩ j))
    (hw2 : ∀ k f, w2 (ix2 k f) = x6 (ix2 k ⟨2048 + f.val, by omega⟩)) (hd2 : ∀ f j, d2 (ix2 f j) = x7 (ix2 ⟨2048 + f.val, by omega⟩ j))
    (hw3 : ∀ k f, w3 (ix2 k f) = x6 (ix2 k ⟨3072 + f.val, by omega⟩)) (hd3 : ∀ f j, d3 (ix2 f j) = x7 (ix2 ⟨3072 + f.val, by omega⟩ j))
    (t : Fin 256) (j : Fin 1024) :
    (k0_pay4 (F := Ideal) (k0_pay1 ga x1 gb x2 x0 x4) (k0_pay2 ga x1 gb x2 x0 x4 x5) (k0_pay3 ga x1 gb x2 x0 x4 x5 w0)
      d0 w1 d1 w2 d2 w3 d3 (ix2 t j) : EReal) = blockArr x0 x1 x2 x3 x4 x5 x6 x7 (ix2 t j) := by
  have h₁ : row (k0_pay1 (F := Ideal) ga x1 gb x2 x0 x4 : Mat 256 1024) t
      = merged (row x0 t) (row x1 t) (row x2 t) (row x3 t) x4 := funext fun k => merged_apply ga x1 gb x2 x0 x4 x3 ha hb t k
  have h₂ : row (k0_pay2 (F := Ideal) ga x1 gb x2 x0 x4 x5 : Mat 256 1024) t
      = normed (merged (row x0 t) (row x1 t) (row x2 t) (row x3 t) x4) (row x5 0) :=
    funext fun k => (normed_apply ga x1 gb x2 x0 x4 x5 t k).trans (by rw [h₁])
  have h₃ (f : Fin 1024) : (k0_pay3 (F := Ideal) ga x1 gb x2 x0 x4 x5 w0 (ix2 t f) : EReal)
      = hidden (normed (merged (row x0 t) (row x1 t) (row x2 t) (row x3 t) x4) (row x5 0)) (fun k => w0 (ix2 k f)) :=
    (hidden_apply ga x1 gb x2 x0 x4 x5 w0 t f).trans (by rw [h₂])
  refine (quarters_apply _ _ _ d0 w1 d1 w2 d2 w3 d3 t j).trans ?_
  unfold blockArr out
  rw [sum_quarters, ← add_assoc, ← add_assoc, ← add_assoc]
  simp only [h₂, h₃, hw0, hd0, hw1, hd1, hw2, hd2, hw3, hd3]
  rw [merged_apply ga x1 gb x2 x0 x4 x3 ha hb t j]
  rfl

/-- The one store of a point leaves that block. -/
theorem out_apply (x0 x1 x2 : Vec Ideal S256x1024 .f32) (x3 : Vec Ideal S256x2048 .f32) (x4 : Vec Ideal S1024x1024 .bf16)
    (x5 : Vec Ideal S1x1024 .f32) (x6 : Vec Ideal S1024x4096 .bf16) (x7 : Vec Ideal S4096x1024 .bf16) (y : S256x1024.Idx) :
    out0_8 x0 x1 x2 x3 x4 x5 x6 x7 y = blockArr x0 x1 x2 x3 x4 x5 x6 x7 y := by
  have whole {e : EltTy} {a b : ℕ} (X : (⟨2, ![a, b]⟩ : Shape).Idx → Elt Ideal e)
      (inb : ∀ k, (![0, 0] : Fin 2 → ℕ) k + (![a, b] : Fin 2 → ℕ) k ≤ (⟨2, ![a, b]⟩ : Shape).size k) :
      View.ld (Val := Elt Ideal) (e' := e) X (Rect.unit (s := ⟨2, ![a, b]⟩) ![0, 0] ![a, b] inb) = X := by
    funext i
    rw [eq_ix2 i]
    exact ld_at X inb _ _ _ _ (by omega) (by omega)
  have e0 : View.ld x0 r0_1 = x0 := whole x0 _
  have e1 : View.ld x1 r0_1 = x1 := whole x1 _
  have e2 : View.ld x2 r0_1 = x2 := whole x2 _
  have e4 : View.ld x4 r0_3 = x4 := whole x4 _
  have e5 : View.ld x5 r0_4 = x5 := whole x5 _
  unfold out0_8
  rw [e0, e1, e2, e4, e5]
  refine View.canon_apply_of_pieces (Val := Elt Ideal) (e := .f32) (blockArr x0 x1 x2 x3 x4 x5 x6 x7) _ ?_ y (cover0_8 _ y)
  simp only [List.forall_mem_cons, List.not_mem_nil, false_imp_iff, implies_true, and_true]
  intro z
  have hz : (r0_1.emb z : S256x1024.Idx) = z := funext fun a => by
    match a with
    | ⟨0, _⟩ => exact Fin.ext (by show 0 + 1 * (z 0).val = (z 0).val; omega)
    | ⟨1, _⟩ => exact Fin.ext (by show 0 + 1 * (z 1).val = (z 1).val; omega)
  rw [hz]
  obtain ⟨t, j, rfl⟩ : ∃ (t : Fin 256) (j : Fin 1024), z = ix2 t j := ⟨z 0, z 1, eq_ix2 z⟩
  exact point_apply x0 x1 x2 x3 x4 x5 x6 x7 _ _ _ _ _ _ _ _ _ _
    (fun t k => ld_at x3 _ t k _ _ (by simp) (by simp)) (fun t k => ld_at x3 _ t k _ _ (by simp) (by simp))
    (fun t k => ld_at x6 _ t k _ _ (by simp) (by simp)) (fun t k => ld_at x7 _ t k _ _ (by simp) (by simp))
    (fun t k => ld_at x6 _ t k _ _ (by simp) (by simp)) (fun t k => ld_at x7 _ t k _ _ (by simp) (by simp))
    (fun t k => ld_at x6 _ t k _ _ (by simp) (by simp)) (fun t k => ld_at x7 _ t k _ _ (by simp) (by simp))
    (fun t k => ld_at x6 _ t k _ _ (by simp) (by simp)) (fun t k => ld_at x7 _ t k _ _ (by simp) (by simp)) t j

variable (m : (ℓ : Loc nD τ sig) → Buf (Elt Ideal) ℓ) (ρ : Dev nD → PrngReg)

/-- Where each window's block lies at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0])

/-- Row `a` of point `t`'s block is row `256 t + a` of the array, -/
theorem blk0 (c : Dev nD) (t : Fin cfg0.N) (a : Fin 256) (n : Fin 32768) (hn : n.val = 256 * t.val + a.val) :
    row (iblk m c 0 t : Mat 256 1024) a = row (m ((c : Thread nD τ).loc main_arg0) : Mat 32768 1024) n := by
  funext b
  show (iblk m c 0 t : Mat 256 1024) (ix2 a b) = (m ((c : Thread nD τ).loc main_arg0) : Mat 32768 1024) (ix2 n b)
  blk_ext [iblk, V, (idx t).1]

theorem blk1 (c : Dev nD) (t : Fin cfg0.N) (a : Fin 256) (n : Fin 32768) (hn : n.val = 256 * t.val + a.val) :
    row (iblk m c 1 t : Mat 256 1024) a = row (m ((c : Thread nD τ).loc main_arg1) : Mat 32768 1024) n := by
  funext b
  show (iblk m c 1 t : Mat 256 1024) (ix2 a b) = (m ((c : Thread nD τ).loc main_arg1) : Mat 32768 1024) (ix2 n b)
  blk_ext [iblk, V, (idx t).2.1]

theorem blk2 (c : Dev nD) (t : Fin cfg0.N) (a : Fin 256) (n : Fin 32768) (hn : n.val = 256 * t.val + a.val) :
    row (iblk m c 2 t : Mat 256 1024) a = row (m ((c : Thread nD τ).loc main_arg2) : Mat 32768 1024) n := by
  funext b
  show (iblk m c 2 t : Mat 256 1024) (ix2 a b) = (m ((c : Thread nD τ).loc main_arg2) : Mat 32768 1024) (ix2 n b)
  blk_ext [iblk, V, (idx t).2.2.1]

theorem blk3 (c : Dev nD) (t : Fin cfg0.N) (a : Fin 256) (n : Fin 32768) (hn : n.val = 256 * t.val + a.val) :
    row (iblk m c 3 t : Mat 256 2048) a = row (m ((c : Thread nD τ).loc main_arg3) : Mat 32768 2048) n := by
  funext b
  show (iblk m c 3 t : Mat 256 2048) (ix2 a b) = (m ((c : Thread nD τ).loc main_arg3) : Mat 32768 2048) (ix2 n b)
  blk_ext [iblk, V, (idx t).2.2.2.1]

/-- and the weights are one block each. -/
theorem blk4 (c : Dev nD) (t : Fin cfg0.N) : (iblk m c 4 t : Mat 1024 1024) = m ((c : Thread nD τ).loc main_arg4) := by
  funext i
  rw [eq_ix2 i]
  blk_simp [iblk, (idx t).2.2.2.2.1]
  entry_read
  blk_ext [(idx t).2.2.2.2.1]

theorem blk5 (c : Dev nD) (t : Fin cfg0.N) (b : Fin 1024) :
    (iblk m c 5 t : Mat 1 1024) (ix2 0 b) = m ((c : Thread nD τ).loc main_arg5) (ix1 b) := by
  blk_simp [iblk, (idx t).2.2.2.2.2.1]
  entry_read
  pointwise
  blk_ext [(idx t).2.2.2.2.2.1]

theorem blk6 (c : Dev nD) (t : Fin cfg0.N) : (iblk m c 6 t : Mat 1024 4096) = m ((c : Thread nD τ).loc main_arg6) := by
  funext i
  rw [eq_ix2 i]
  blk_simp [iblk, (idx t).2.2.2.2.2.2.1]
  entry_read
  blk_ext [(idx t).2.2.2.2.2.2.1]

theorem blk7 (c : Dev nD) (t : Fin cfg0.N) : (iblk m c 7 t : Mat 4096 1024) = m ((c : Thread nD τ).loc main_arg7) := by
  funext i
  rw [eq_ix2 i]
  blk_simp [iblk, (idx t).2.2.2.2.2.2.2.1]
  entry_read
  blk_ext [(idx t).2.2.2.2.2.2.2.1]

/-- The whole array the kernel leaves. -/
def G (c : Dev nD) : Mat 32768 1024 :=
  outArr (m ((c : Thread nD τ).loc main_arg0)) (m ((c : Thread nD τ).loc main_arg1)) (m ((c : Thread nD τ).loc main_arg2))
    (m ((c : Thread nD τ).loc main_arg3)) (m ((c : Thread nD τ).loc main_arg4))
    (fun k => (m ((c : Thread nD τ).loc main_arg5) : (⟨1, ![1024]⟩ : Shape).Idx → EReal) (ix1 k))
    (m ((c : Thread nD τ).loc main_arg6)) (m ((c : Thread nD τ).loc main_arg7))

theorem arr8 (c : Dev nD) : (dats m 0 c).arrAt 8 cfg0.N = (G m c : Mat 32768 1024) := by
  refine (dats m 0 c).arrAt_eq_of_covers 8 (G m c) (by decide +kernel) fun t hf y => ?_
  blk_simp [(idx t).2.2.2.2.2.2.2.2]
  rw [after0_8]
  refine (out_apply _ _ _ _ _ _ _ _ y).trans ?_
  have h₀ : (((win0_8.blk t).view.emb y) 0).val = 256 * t.val + (y 0).val := by
    blk_simp [(idx t).2.2.2.2.2.2.2.2]
    omega
  have h₁ : ((win0_8.blk t).view.emb y) 1 = y 1 := Fin.ext (by
    blk_simp [(idx t).2.2.2.2.2.2.2.2])
  unfold blockArr G outArr
  rw [blk4 m c t, blk6 m c t, blk7 m c t, blk0 m c t _ _ h₀, blk1 m c t _ _ h₀, blk2 m c t _ _ h₀, blk3 m c t _ _ h₀, h₁,
    show row (iblk m c 5 t : Mat 1 1024) 0 = _ from funext fun b => blk5 m c t b]

end Cert.MergeIdeal.MergeKernel

end
-- ==== Proof.MergeRef.lean ====
/-
  The reference's merge and layer are those functions of its arguments.
-/
module

public import proofs.«01_k».proof.Proof.Gen.MergeReferenceIdeal.Run
public import proofs.«01_k».proof.Proof.Gen.MergeReferenceIdeal.Read
public import proofs.«01_k».proof.Proof.Mlp

@[expose] public section

set_option maxRecDepth 16384

noncomputable section

namespace Cert.MergeRef

open Idealize.ShloMosaic Cert.MergeReferenceIdeal Cert.MergeReferenceIdeal.Gen Cert.MergeReferenceIdeal.Read Cert.Mlp

variable (x0 x1 x2 : Mat 32768 1024) (x3 : Mat 32768 2048) (x4 : Mat 1024 1024) (x5 : (⟨1, ![1024]⟩ : Shape).Idx → EReal)
  (x6 : Mat 1024 4096) (x7 : Mat 4096 1024)

theorem merged_eq (n : Fin 32768) (j : Fin 1024) :
    (val_main_v6 (F := Ideal) x0 x1 x2 x3 x4 (ix2 n j) : EReal) = merged (row x0 n) (row x1 n) (row x2 n) (row x3 n) x4 j := by
  unfold val_main_v6 val_main_v5 val_main_v4 val_main_v3 val_main_v2 val_main_v1 val_main_v0
  pointwise
  rfl

theorem normed_eq (n : Fin 32768) (j : Fin 1024) :
    (val_main_v19 (F := Ideal) x0 x1 x2 x3 x4 x5 (ix2 n j) : EReal)
      = normed (merged (row x0 n) (row x1 n) (row x2 n) (row x3 n) x4) (fun k => x5 (ix1 k)) j := by
  rw [show merged (row x0 n) (row x1 n) (row x2 n) (row x3 n) x4
    = fun k => (val_main_v6 (F := Ideal) x0 x1 x2 x3 x4 (ix2 n k) : EReal) from
      funext fun k => (merged_eq x0 x1 x2 x3 x4 n k).symm]
  unfold val_main_v19 val_main_v18 val_main_v17 val_main_v16 val_main_v15 val_main_v14 val_main_v13 val_main_v12 val_main_cst_1
    val_main_v11 val_main_v10 val_main_cst_0 val_main_v9 val_main_v8 val_main_cst val_main_v7
  generalize val_main_v6 (F := Ideal) x0 x1 x2 x3 x4 = y
  pointwise
  rfl

theorem hidden_eq (n : Fin 32768) (f : Fin 4096) :
    (val_main_v22 (F := Ideal) x0 x1 x2 x3 x4 x5 x6 (ix2 n f) : EReal)
      = hidden (normed (merged (row x0 n) (row x1 n) (row x2 n) (row x3 n) x4) (fun k => x5 (ix1 k))) (fun k => x6 (ix2 k f)) := by
  rw [show normed (merged (row x0 n) (row x1 n) (row x2 n) (row x3 n) x4) (fun k => x5 (ix1 k))
    = fun k => (val_main_v19 (F := Ideal) x0 x1 x2 x3 x4 x5 (ix2 n k) : EReal) from
      funext fun k => (normed_eq x0 x1 x2 x3 x4 x5 n k).symm]
  unfold val_main_v22 val_main_v21 val_main_call0_v0 val_main_call0_cst val_main_v20
  generalize val_main_v19 (F := Ideal) x0 x1 x2 x3 x4 x5 = y
  pointwise
  rfl

theorem out_eq : (val_main_v24 (F := Ideal) x0 x1 x2 x3 x4 x5 x6 x7 : Mat 32768 1024)
    = outArr x0 x1 x2 x3 x4 (fun k => x5 (ix1 k)) x6 x7 := by
  funext i
  rw [eq_ix2 i]
  have h₁ := merged_eq x0 x1 x2 x3 x4 (i 0) (i 1)
  have h₂ := hidden_eq x0 x1 x2 x3 x4 x5 x6 (i 0)
  refine Eq.trans ?_ (congrArg₂ (· + ·) h₁ (Finset.sum_congr rfl fun f _ => congrArg (· * x7 (ix2 f (i 1))) (h₂ f)))
  unfold val_main_v24 val_main_v23
  generalize val_main_v22 (F := Ideal) x0 x1 x2 x3 x4 x5 x6 = y
  generalize val_main_v6 (F := Ideal) x0 x1 x2 x3 x4 = z
  pointwise

end Cert.MergeRef

end
-- ==== Proof.MergeSampleKernel.lean ====
/-
  The sample group's merge kernel: its result array is the same function of its arguments.
-/
module

public import proofs.«01_k».proof.Proof.Gen.MergeSampleIdeal.Value
public import Idealize.ShloMosaic.Lib.Pipeline.ValueKit
public import proofs.«01_k».proof.Proof.Mlp

@[expose] public section

set_option maxRecDepth 16384

noncomputable section

namespace Cert.MergeSampleIdeal.MergeSampleKernel

open Cert.MergeSampleIdeal Cert.MergeSampleIdeal.Gen Cert.Mlp Idealize.ShloMosaic Idealize.ShloMosaic.TcCoe Idealize.SL.Sem
open Idealize.ShloMosaic.Pipeline (Dat)

/-- The body's values on a block, read at a row: the merged row, its norm, the first quarter of the hidden units, -/
theorem merged_apply (ga a gb b x : Vec Ideal S128x1024 .f32) (wo : Vec Ideal S1024x1024 .bf16) (g : Mat 128 2048)
    (ha : ∀ t k, ga (ix2 t k) = g (ix2 t ⟨k.val, by omega⟩)) (hb : ∀ t k, gb (ix2 t k) = g (ix2 t ⟨1024 + k.val, by omega⟩))
    (t : Fin 128) (j : Fin 1024) :
    (k0_pay1 (F := Ideal) ga a gb b x wo (ix2 t j) : EReal) = merged (row (x : Mat 128 1024) t) (row (a : Mat 128 1024) t) (row (b : Mat 128 1024) t) (row g t) wo j := by
  unfold k0_pay1 merged
  pointwise
  simp only [ha, hb]

theorem normed_apply (ga a gb b x : Vec Ideal S128x1024 .f32) (wo : Vec Ideal S1024x1024 .bf16) (γ : Vec Ideal S1x1024 .f32)
    (t : Fin 128) (j : Fin 1024) :
    (k0_pay2 (F := Ideal) ga a gb b x wo γ (ix2 t j) : EReal)
      = normed (row (k0_pay1 (F := Ideal) ga a gb b x wo : Mat 128 1024) t) (row (γ : Mat 1 1024) 0) j := by
  unfold k0_pay2
  generalize k0_pay1 (F := Ideal) ga a gb b x wo = y
  pointwise
  rfl

theorem hidden_apply (ga a gb b x : Vec Ideal S128x1024 .f32) (wo : Vec Ideal S1024x1024 .bf16) (γ : Vec Ideal S1x1024 .f32)
    (w : Vec Ideal S1024x1024 .bf16) (t : Fin 128) (j : Fin 1024) :
    (k0_pay3 (F := Ideal) ga a gb b x wo γ w (ix2 t j) : EReal)
      = hidden (row (k0_pay2 (F := Ideal) ga a gb b x wo γ : Mat 128 1024) t) (fun k => (w : Mat 1024 1024) (ix2 k j)) := by
  unfold k0_pay3
  generalize k0_pay2 (F := Ideal) ga a gb b x wo γ = y
  pointwise
  rfl

/-- and the four quarters' products added one after another. -/
theorem quarters_apply (x1 : Mat 128 1024) (y u : Mat 128 1024) (d0 w1 d1 w2 d2 w3 d3 : Mat 1024 1024) (t : Fin 128) (j : Fin 1024) :
    (k0_pay4 (F := Ideal) x1 y u d0 w1 d1 w2 d2 w3 d3 (ix2 t j) : EReal)
      = x1 (ix2 t j) + (∑ f, u (ix2 t f) * d0 (ix2 f j)) + (∑ f, hidden (row y t) (fun k => w1 (ix2 k f)) * d1 (ix2 f j))
        + (∑ f, hidden (row y t) (fun k => w2 (ix2 k f)) * d2 (ix2 f j))
        + ∑ f, hidden (row y t) (fun k => w3 (ix2 k f)) * d3 (ix2 f j) := by
  unfold k0_pay4
  pointwise
  rfl

/-- The point's block of the result. -/
def blockArr (x0 x1 x2 : Mat 128 1024) (x3 : Mat 128 2048) (x4 : Mat 1024 1024) (x5 : Mat 1 1024) (x6 : Mat 1024 4096)
    (x7 : Mat 4096 1024) : Mat 128 1024 := fun y =>
  out (row x0 (y 0)) (row x1 (y 0)) (row x2 (y 0)) (row x3 (y 0)) x4 (row x5 0) x6 x7 (y 1)

/-- What a point stores, from its loads. -/
theorem point_apply (x0 x1 x2 : Mat 128 1024) (x3 : Mat 128 2048) (x4 : Mat 1024 1024) (x5 : Mat 1 1024) (x6 : Mat 1024 4096)
    (x7 : Mat 4096 1024) (ga gb : Mat 128 1024) (w0 d0 w1 d1 w2 d2 w3 d3 : Mat 1024 1024)
    (ha : ∀ t k, ga (ix2 t k) = x3 (ix2 t ⟨k.val, by omega⟩)) (hb : ∀ t k, gb (ix2 t k) = x3 (ix2 t ⟨1024 + k.val, by omega⟩))
    (hw0 : ∀ k f, w0 (ix2 k f) = x6 (ix2 k ⟨f.val, by omega⟩)) (hd0 : ∀ f j, d0 (ix2 f j) = x7 (ix2 ⟨f.val, by omega⟩ j))
    (hw1 : ∀ k f, w1 (ix2 k f) = x6 (ix2 k ⟨1024 + f.val, by omega⟩)) (hd1 : ∀ f j, d1 (ix2 f j) = x7 (ix2 ⟨1024 + f.val, by omega⟩ j))
    (hw2 : ∀ k f, w2 (ix2 k f) = x6 (ix2 k ⟨2048 + f.val, by omega⟩)) (hd2 : ∀ f j, d2 (ix2 f j) = x7 (ix2 ⟨2048 + f.val, by omega⟩ j))
    (hw3 : ∀ k f, w3 (ix2 k f) = x6 (ix2 k ⟨3072 + f.val, by omega⟩)) (hd3 : ∀ f j, d3 (ix2 f j) = x7 (ix2 ⟨3072 + f.val, by omega⟩ j))
    (t : Fin 128) (j : Fin 1024) :
    (k0_pay4 (F := Ideal) (k0_pay1 ga x1 gb x2 x0 x4) (k0_pay2 ga x1 gb x2 x0 x4 x5) (k0_pay3 ga x1 gb x2 x0 x4 x5 w0)
      d0 w1 d1 w2 d2 w3 d3 (ix2 t j) : EReal) = blockArr x0 x1 x2 x3 x4 x5 x6 x7 (ix2 t j) := by
  have h₁ : row (k0_pay1 (F := Ideal) ga x1 gb x2 x0 x4 : Mat 128 1024) t
      = merged (row x0 t) (row x1 t) (row x2 t) (row x3 t) x4 := funext fun k => merged_apply ga x1 gb x2 x0 x4 x3 ha hb t k
  have h₂ : row (k0_pay2 (F := Ideal) ga x1 gb x2 x0 x4 x5 : Mat 128 1024) t
      = normed (merged (row x0 t) (row x1 t) (row x2 t) (row x3 t) x4) (row x5 0) :=
    funext fun k => (normed_apply ga x1 gb x2 x0 x4 x5 t k).trans (by rw [h₁])
  have h₃ (f : Fin 1024) : (k0_pay3 (F := Ideal) ga x1 gb x2 x0 x4 x5 w0 (ix2 t f) : EReal)
      = hidden (normed (merged (row x0 t) (row x1 t) (row x2 t) (row x3 t) x4) (row x5 0)) (fun k => w0 (ix2 k f)) :=
    (hidden_apply ga x1 gb x2 x0 x4 x5 w0 t f).trans (by rw [h₂])
  refine (quarters_apply _ _ _ d0 w1 d1 w2 d2 w3 d3 t j).trans ?_
  unfold blockArr out
  rw [sum_quarters, ← add_assoc, ← add_assoc, ← add_assoc]
  simp only [h₂, h₃, hw0, hd0, hw1, hd1, hw2, hd2, hw3, hd3]
  rw [merged_apply ga x1 gb x2 x0 x4 x3 ha hb t j]
  rfl

/-- The one store of a point leaves that block. -/
theorem out_apply (x0 x1 x2 : Vec Ideal S128x1024 .f32) (x3 : Vec Ideal S128x2048 .f32) (x4 : Vec Ideal S1024x1024 .bf16)
    (x5 : Vec Ideal S1x1024 .f32) (x6 : Vec Ideal S1024x4096 .bf16) (x7 : Vec Ideal S4096x1024 .bf16) (y : S128x1024.Idx) :
    out0_8 x0 x1 x2 x3 x4 x5 x6 x7 y = blockArr x0 x1 x2 x3 x4 x5 x6 x7 y := by
  have whole {e : EltTy} {a b : ℕ} (X : (⟨2, ![a, b]⟩ : Shape).Idx → Elt Ideal e)
      (inb : ∀ k, (![0, 0] : Fin 2 → ℕ) k + (![a, b] : Fin 2 → ℕ) k ≤ (⟨2, ![a, b]⟩ : Shape).size k) :
      View.ld (Val := Elt Ideal) (e' := e) X (Rect.unit (s := ⟨2, ![a, b]⟩) ![0, 0] ![a, b] inb) = X := by
    funext i
    rw [eq_ix2 i]
    exact ld_at X inb _ _ _ _ (by omega) (by omega)
  have e0 : View.ld x0 r0_1 = x0 := whole x0 _
  have e1 : View.ld x1 r0_1 = x1 := whole x1 _
  have e2 : View.ld x2 r0_1 = x2 := whole x2 _
  have e4 : View.ld x4 r0_3 = x4 := whole x4 _
  have e5 : View.ld x5 r0_4 = x5 := whole x5 _
  unfold out0_8
  rw [e0, e1, e2, e4, e5]
  refine View.canon_apply_of_pieces (Val := Elt Ideal) (e := .f32) (blockArr x0 x1 x2 x3 x4 x5 x6 x7) _ ?_ y (cover0_8 _ y)
  simp only [List.forall_mem_cons, List.not_mem_nil, false_imp_iff, implies_true, and_true]
  intro z
  have hz : (r0_1.emb z : S128x1024.Idx) = z := funext fun a => by
    match a with
    | ⟨0, _⟩ => exact Fin.ext (by show 0 + 1 * (z 0).val = (z 0).val; omega)
    | ⟨1, _⟩ => exact Fin.ext (by show 0 + 1 * (z 1).val = (z 1).val; omega)
  rw [hz]
  obtain ⟨t, j, rfl⟩ : ∃ (t : Fin 128) (j : Fin 1024), z = ix2 t j := ⟨z 0, z 1, eq_ix2 z⟩
  exact point_apply x0 x1 x2 x3 x4 x5 x6 x7 _ _ _ _ _ _ _ _ _ _
    (fun t k => ld_at x3 _ t k _ _ (by simp) (by simp)) (fun t k => ld_at x3 _ t k _ _ (by simp) (by simp))
    (fun t k => ld_at x6 _ t k _ _ (by simp) (by simp)) (fun t k => ld_at x7 _ t k _ _ (by simp) (by simp))
    (fun t k => ld_at x6 _ t k _ _ (by simp) (by simp)) (fun t k => ld_at x7 _ t k _ _ (by simp) (by simp))
    (fun t k => ld_at x6 _ t k _ _ (by simp) (by simp)) (fun t k => ld_at x7 _ t k _ _ (by simp) (by simp))
    (fun t k => ld_at x6 _ t k _ _ (by simp) (by simp)) (fun t k => ld_at x7 _ t k _ _ (by simp) (by simp)) t j

variable (m : (ℓ : Loc nD τ sig) → Buf (Elt Ideal) ℓ) (ρ : Dev nD → PrngReg)

/-- Where each window's block lies at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0])

/-- Row `a` of point `t`'s block is row `128 t + a` of the array, -/
theorem blk0 (c : Dev nD) (t : Fin cfg0.N) (a : Fin 128) (n : Fin 128) (hn : n.val = 128 * t.val + a.val) :
    row (iblk m c 0 t : Mat 128 1024) a = row (m ((c : Thread nD τ).loc main_arg0) : Mat 128 1024) n := by
  funext b
  show (iblk m c 0 t : Mat 128 1024) (ix2 a b) = (m ((c : Thread nD τ).loc main_arg0) : Mat 128 1024) (ix2 n b)
  blk_ext [iblk, V, (idx t).1]

theorem blk1 (c : Dev nD) (t : Fin cfg0.N) (a : Fin 128) (n : Fin 128) (hn : n.val = 128 * t.val + a.val) :
    row (iblk m c 1 t : Mat 128 1024) a = row (m ((c : Thread nD τ).loc main_arg1) : Mat 128 1024) n := by
  funext b
  show (iblk m c 1 t : Mat 128 1024) (ix2 a b) = (m ((c : Thread nD τ).loc main_arg1) : Mat 128 1024) (ix2 n b)
  blk_ext [iblk, V, (idx t).2.1]

theorem blk2 (c : Dev nD) (t : Fin cfg0.N) (a : Fin 128) (n : Fin 128) (hn : n.val = 128 * t.val + a.val) :
    row (iblk m c 2 t : Mat 128 1024) a = row (m ((c : Thread nD τ).loc main_arg2) : Mat 128 1024) n := by
  funext b
  show (iblk m c 2 t : Mat 128 1024) (ix2 a b) = (m ((c : Thread nD τ).loc main_arg2) : Mat 128 1024) (ix2 n b)
  blk_ext [iblk, V, (idx t).2.2.1]

theorem blk3 (c : Dev nD) (t : Fin cfg0.N) (a : Fin 128) (n : Fin 128) (hn : n.val = 128 * t.val + a.val) :
    row (iblk m c 3 t : Mat 128 2048) a = row (m ((c : Thread nD τ).loc main_arg3) : Mat 128 2048) n := by
  funext b
  show (iblk m c 3 t : Mat 128 2048) (ix2 a b) = (m ((c : Thread nD τ).loc main_arg3) : Mat 128 2048) (ix2 n b)
  blk_ext [iblk, V, (idx t).2.2.2.1]

/-- and the weights are one block each. -/
theorem blk4 (c : Dev nD) (t : Fin cfg0.N) : (iblk m c 4 t : Mat 1024 1024) = m ((c : Thread nD τ).loc main_arg4) := by
  funext i
  rw [eq_ix2 i]
  blk_simp [iblk, (idx t).2.2.2.2.1]
  entry_read
  blk_ext [(idx t).2.2.2.2.1]

theorem blk5 (c : Dev nD) (t : Fin cfg0.N) (b : Fin 1024) :
    (iblk m c 5 t : Mat 1 1024) (ix2 0 b) = m ((c : Thread nD τ).loc main_arg5) (ix1 b) := by
  blk_simp [iblk, (idx t).2.2.2.2.2.1]
  entry_read
  pointwise
  blk_ext [(idx t).2.2.2.2.2.1]

theorem blk6 (c : Dev nD) (t : Fin cfg0.N) : (iblk m c 6 t : Mat 1024 4096) = m ((c : Thread nD τ).loc main_arg6) := by
  funext i
  rw [eq_ix2 i]
  blk_simp [iblk, (idx t).2.2.2.2.2.2.1]
  entry_read
  blk_ext [(idx t).2.2.2.2.2.2.1]

theorem blk7 (c : Dev nD) (t : Fin cfg0.N) : (iblk m c 7 t : Mat 4096 1024) = m ((c : Thread nD τ).loc main_arg7) := by
  funext i
  rw [eq_ix2 i]
  blk_simp [iblk, (idx t).2.2.2.2.2.2.2.1]
  entry_read
  blk_ext [(idx t).2.2.2.2.2.2.2.1]

/-- The whole array the kernel leaves. -/
def G (c : Dev nD) : Mat 128 1024 :=
  outArr (m ((c : Thread nD τ).loc main_arg0)) (m ((c : Thread nD τ).loc main_arg1)) (m ((c : Thread nD τ).loc main_arg2))
    (m ((c : Thread nD τ).loc main_arg3)) (m ((c : Thread nD τ).loc main_arg4))
    (fun k => (m ((c : Thread nD τ).loc main_arg5) : (⟨1, ![1024]⟩ : Shape).Idx → EReal) (ix1 k))
    (m ((c : Thread nD τ).loc main_arg6)) (m ((c : Thread nD τ).loc main_arg7))

theorem arr8 (c : Dev nD) : (dats m 0 c).arrAt 8 cfg0.N = (G m c : Mat 128 1024) := by
  refine (dats m 0 c).arrAt_eq_of_covers 8 (G m c) (by decide +kernel) fun t hf y => ?_
  blk_simp [(idx t).2.2.2.2.2.2.2.2]
  rw [after0_8]
  refine (out_apply _ _ _ _ _ _ _ _ y).trans ?_
  have h₀ : (((win0_8.blk t).view.emb y) 0).val = 128 * t.val + (y 0).val := by
    blk_simp [(idx t).2.2.2.2.2.2.2.2]
    omega
  have h₁ : ((win0_8.blk t).view.emb y) 1 = y 1 := Fin.ext (by
    blk_simp [(idx t).2.2.2.2.2.2.2.2])
  unfold blockArr G outArr
  rw [blk4 m c t, blk6 m c t, blk7 m c t, blk0 m c t _ _ h₀, blk1 m c t _ _ h₀, blk2 m c t _ _ h₀, blk3 m c t _ _ h₀, h₁,
    show row (iblk m c 5 t : Mat 1 1024) 0 = _ from funext fun b => blk5 m c t b]

end Cert.MergeSampleIdeal.MergeSampleKernel

end
-- ==== Proof.MergeSampleRef.lean ====
/-
  The reference's merge and layer for the sample group are those functions of its arguments.
-/
module

public import proofs.«01_k».proof.Proof.Gen.MergeSampleReferenceIdeal.Run
public import proofs.«01_k».proof.Proof.Gen.MergeSampleReferenceIdeal.Read
public import proofs.«01_k».proof.Proof.Mlp

@[expose] public section

set_option maxRecDepth 16384

noncomputable section

namespace Cert.MergeSampleRef

open Idealize.ShloMosaic Cert.MergeSampleReferenceIdeal Cert.MergeSampleReferenceIdeal.Gen Cert.MergeSampleReferenceIdeal.Read Cert.Mlp

variable (x0 x1 x2 : Mat 128 1024) (x3 : Mat 128 2048) (x4 : Mat 1024 1024) (x5 : (⟨1, ![1024]⟩ : Shape).Idx → EReal)
  (x6 : Mat 1024 4096) (x7 : Mat 4096 1024)

theorem merged_eq (n : Fin 128) (j : Fin 1024) :
    (val_main_v6 (F := Ideal) x0 x1 x2 x3 x4 (ix2 n j) : EReal) = merged (row x0 n) (row x1 n) (row x2 n) (row x3 n) x4 j := by
  unfold val_main_v6 val_main_v5 val_main_v4 val_main_v3 val_main_v2 val_main_v1 val_main_v0
  pointwise
  rfl

theorem normed_eq (n : Fin 128) (j : Fin 1024) :
    (val_main_v19 (F := Ideal) x0 x1 x2 x3 x4 x5 (ix2 n j) : EReal)
      = normed (merged (row x0 n) (row x1 n) (row x2 n) (row x3 n) x4) (fun k => x5 (ix1 k)) j := by
  rw [show merged (row x0 n) (row x1 n) (row x2 n) (row x3 n) x4
    = fun k => (val_main_v6 (F := Ideal) x0 x1 x2 x3 x4 (ix2 n k) : EReal) from
      funext fun k => (merged_eq x0 x1 x2 x3 x4 n k).symm]
  unfold val_main_v19 val_main_v18 val_main_v17 val_main_v16 val_main_v15 val_main_v14 val_main_v13 val_main_v12 val_main_cst_1
    val_main_v11 val_main_v10 val_main_cst_0 val_main_v9 val_main_v8 val_main_cst val_main_v7
  generalize val_main_v6 (F := Ideal) x0 x1 x2 x3 x4 = y
  pointwise
  rfl

theorem hidden_eq (n : Fin 128) (f : Fin 4096) :
    (val_main_v22 (F := Ideal) x0 x1 x2 x3 x4 x5 x6 (ix2 n f) : EReal)
      = hidden (normed (merged (row x0 n) (row x1 n) (row x2 n) (row x3 n) x4) (fun k => x5 (ix1 k))) (fun k => x6 (ix2 k f)) := by
  rw [show normed (merged (row x0 n) (row x1 n) (row x2 n) (row x3 n) x4) (fun k => x5 (ix1 k))
    = fun k => (val_main_v19 (F := Ideal) x0 x1 x2 x3 x4 x5 (ix2 n k) : EReal) from
      funext fun k => (normed_eq x0 x1 x2 x3 x4 x5 n k).symm]
  unfold val_main_v22 val_main_v21 val_main_call0_v0 val_main_call0_cst val_main_v20
  generalize val_main_v19 (F := Ideal) x0 x1 x2 x3 x4 x5 = y
  pointwise
  rfl

theorem out_eq : (val_main_v24 (F := Ideal) x0 x1 x2 x3 x4 x5 x6 x7 : Mat 128 1024)
    = outArr x0 x1 x2 x3 x4 (fun k => x5 (ix1 k)) x6 x7 := by
  funext i
  rw [eq_ix2 i]
  have h₁ := merged_eq x0 x1 x2 x3 x4 (i 0) (i 1)
  have h₂ := hidden_eq x0 x1 x2 x3 x4 x5 x6 (i 0)
  refine Eq.trans ?_ (congrArg₂ (· + ·) h₁ (Finset.sum_congr rfl fun f _ => congrArg (· * x7 (ix2 f (i 1))) (h₂ f)))
  unfold val_main_v24 val_main_v23
  generalize val_main_v22 (F := Ideal) x0 x1 x2 x3 x4 x5 x6 = y
  generalize val_main_v6 (F := Ideal) x0 x1 x2 x3 x4 = z
  pointwise

end Cert.MergeSampleRef

end
-- ==== Proof.Proj.lean ====
/-
  The input projection, its norms and its rotations, as functions of one row of the arguments: what both programs are
  shown to hold. The second half relates a rotation written with lane tables to the rotation itself.
-/
module

public import Idealize.ShloMosaic.Lib.Pointwise
public import Idealize.ShloMosaic.Lib.Pipeline.ValueKit

@[expose] public section

noncomputable section

namespace Cert.Proj

open Idealize.ShloMosaic

/-- An array of extended reals with `a` rows and `b` columns, and one with three axes. -/
abbrev Mat (a b : ℕ) : Type := (⟨2, ![a, b]⟩ : Shape).Idx → EReal
abbrev Cube (a b c : ℕ) : Type := (⟨3, ![a, b, c]⟩ : Shape).Idx → EReal

/-- The lengths by which the means divide, and what is added to each mean. -/
abbrev w1024 : EReal := Ideal.ofBits .f32 0x44800000#32
abbrev w256 : EReal := Ideal.ofBits .f32 0x43800000#32
abbrev w128 : EReal := Ideal.ofBits .f32 0x43000000#32
abbrev w64 : EReal := Ideal.ofBits .f32 0x42800000#32
abbrev eps : EReal := Ideal.ofBits .f32 0x358637BD#32

/-- A row over the root of its mean square, times the weights of the norm. -/
def norm {d : ℕ} (w : EReal) (y γ : Fin d → EReal) (j : Fin d) : EReal :=
  y j * Ideal.rsqrt (Ideal.div (∑ i, y i * y i) w + eps) * γ j

/-- The angle of pair `j` at position `p`, where `b` is the literal of two over the rotated length. -/
def angle (b : BitVec 32) (p j : ℕ) : EReal :=
  FloatOps.sitofp (F := Ideal) FTy.f32 (BitVec.ofNat 32 p) *
    Ideal.pow (Ideal.ofBits FTy.f32 0x48F42400#32)
      (-FloatOps.sitofp (F := Ideal) FTy.f32 (BitVec.ofNat 32 j) * Ideal.ofBits FTy.f32 b)

/-- The three rotated lengths 32, 16 and 64. -/
abbrev b32 : BitVec 32 := 0x3D800000#32
abbrev b16 : BitVec 32 := 0x3E000000#32
abbrev b64 : BitVec 32 := 0x3D000000#32

abbrev cosine (b : BitVec 32) (p j : ℕ) : EReal := Ideal.cos (angle b p j)
abbrev sine (b : BitVec 32) (p j : ℕ) : EReal := Ideal.sin (angle b p j)

/-- The rotation of the pairs `(j, j + half)`; the lanes after them stay. -/
def rope {d : ℕ} (half : ℕ) (hd : 2 * half ≤ d) (c s : ℕ → EReal) (y : Fin d → EReal) (j : Fin d) : EReal :=
  if h : j.val < half then y j * c j.val - y ⟨j.val + half, by omega⟩ * s j.val
  else if j.val < 2 * half then y j * c (j.val - half) + y ⟨j.val - half, by omega⟩ * s (j.val - half)
  else y j

/-- The projected row: the norm of the input row times the weights. -/
def proj (x g : Fin 1024 → EReal) (w : Mat 1024 5256) (e : Fin 5256) : EReal :=
  ∑ k : Fin 1024, norm w1024 x g k * w (ix2 k e)

section row

variable (z : Fin 5256 → EReal) (p : ℕ)

/-- The queries, keys and values of the first attention. -/
def query (γ : Fin 128 → EReal) (j : Fin 1024) : EReal :=
  rope 16 (by decide) (cosine b32 p) (sine b32 p)
    (norm w128 (fun d : Fin 128 => z ⟨128 * (j.val / 128) + d.val, by omega⟩) γ) ⟨j.val % 128, by omega⟩
def key (γ : Fin 128 → EReal) (j : Fin 512) : EReal :=
  rope 16 (by decide) (cosine b32 p) (sine b32 p)
    (norm w128 (fun d : Fin 128 => z ⟨1024 + (128 * (j.val / 128) + d.val), by omega⟩) γ) ⟨j.val % 128, by omega⟩
def value (j : Fin 512) : EReal := z ⟨1536 + j.val, by omega⟩

/-- The queries and the key of the index. -/
def indexQuery (j : Fin 512) : EReal :=
  rope 8 (by decide) (cosine b16 p) (sine b16 p)
    (fun d : Fin 64 => z ⟨2048 + (64 * (j.val / 64) + d.val), by omega⟩) ⟨j.val % 64, by omega⟩
def indexKey (j : Fin 64) : EReal :=
  rope 8 (by decide) (cosine b16 p) (sine b16 p) (fun d : Fin 64 => z ⟨2560 + d.val, by omega⟩) j

/-- The rotated key shared by the heads of the second attention. -/
def rotKey (γ : Fin 64 → EReal) (j : Fin 64) : EReal :=
  rope 32 (by decide) (cosine b64 p) (sine b64 p) (norm w64 (fun d : Fin 64 => z ⟨3144 + d.val, by omega⟩) γ) j

/-- The two latent rows. -/
def latentQuery (γ : Fin 256 → EReal) : Fin 256 → EReal :=
  norm w256 (fun d : Fin 256 => z ⟨2632 + d.val, by omega⟩) γ
def latentKey (γ : Fin 256 → EReal) : Fin 256 → EReal :=
  norm w256 (fun d : Fin 256 => z ⟨2888 + d.val, by omega⟩) γ

/-- The gates. -/
def gate (j : Fin 2048) : EReal :=
  Ideal.div (Ideal.ofBits .f32 0x3F800000#32)
    (Ideal.ofBits .f32 0x3F800000#32 + Ideal.exp (-z ⟨3208 + j.val, by omega⟩))

end row

/-- The queries of the second attention from the latent row: the part without position, and the rotated part. -/
def plainQuery (a : Fin 256 → EReal) (w : Cube 256 8 192) (γ : Fin 128 → EReal) (j : Fin 1024) : EReal :=
  norm w128 (fun d : Fin 128 => ∑ r : Fin 256, a r * w (ix3 r ⟨j.val / 128, by omega⟩ ⟨d.val, by omega⟩)) γ
    ⟨j.val % 128, by omega⟩
def rotQuery (a : Fin 256 → EReal) (p : ℕ) (w : Cube 256 8 192) (γ : Fin 64 → EReal) (j : Fin 512) : EReal :=
  rope 32 (by decide) (cosine b64 p) (sine b64 p)
    (norm w64 (fun d : Fin 64 => ∑ r : Fin 256, a r * w (ix3 r ⟨j.val / 64, by omega⟩ ⟨128 + d.val, by omega⟩)) γ)
    ⟨j.val % 64, by omega⟩

/-- The keys of the second attention without position. -/
def plainKey (a : Fin 256 → EReal) (w : Cube 256 8 128) (γ : Fin 128 → EReal) (j : Fin 1024) : EReal :=
  norm w128 (fun d : Fin 128 => ∑ r : Fin 256, a r * w (ix3 r ⟨j.val / 128, by omega⟩ d)) γ ⟨j.val % 128, by omega⟩

/-! ### Rotations written with lane tables -/

/-- A row rotated with three lane tables: itself, the row moved up by `half` and the row moved down by it. -/
def lanes (half : ℕ) (y t₀ t₁ t₂ : Fin 128 → EReal) (l : Fin 128) : EReal :=
  y l * t₀ l + y ⟨(l.val + 128 - half % 128) % 128, by omega⟩ * t₁ l
    + y ⟨(l.val + 128 - (128 - half) % 128) % 128, by omega⟩ * t₂ l

/-- The three lane tables of segments of `W` lanes. -/
def tabCos (W half : ℕ) (c : ℕ → EReal) (l : Fin 128) : EReal :=
  if l.val % W < half then c (l.val % W) else if l.val % W < 2 * half then c (l.val % W - half) else 1
def tabUp (W half : ℕ) (s : ℕ → EReal) (l : Fin 128) : EReal :=
  if l.val % W < half then 0 else if l.val % W < 2 * half then s (l.val % W - half) else 0
def tabDown (W half : ℕ) (s : ℕ → EReal) (l : Fin 128) : EReal :=
  if l.val % W < half then -s (l.val % W) else 0

theorem lanes_whole (half : ℕ) (h0 : 0 < half) (hd : 2 * half ≤ 128) (c s : ℕ → EReal) (y : Fin 128 → EReal) (l : Fin 128) :
    lanes half y (tabCos 128 half c) (tabUp 128 half s) (tabDown 128 half s) l = rope half hd c s y l := by
  have hl : l.val % 128 = l.val := Nat.mod_eq_of_lt l.isLt
  unfold lanes tabCos tabUp tabDown rope
  rw [hl]
  split_ifs with h₁ h₂
  · have e : (⟨(l.val + 128 - (128 - half) % 128) % 128, by omega⟩ : Fin 128) = ⟨l.val + half, by omega⟩ :=
      Fin.ext (by dsimp only; omega)
    rw [mul_zero, add_zero, mul_neg, sub_eq_add_neg, e]
  · have e : (⟨(l.val + 128 - half % 128) % 128, by omega⟩ : Fin 128) = ⟨l.val - half, by omega⟩ :=
      Fin.ext (by dsimp only; omega)
    rw [mul_zero, add_zero, e]
  · rw [mul_zero, mul_zero, add_zero, add_zero, mul_one]

theorem lanes_half (half : ℕ) (h0 : 0 < half) (hd : 2 * half ≤ 64) (c s : ℕ → EReal) (y : Fin 128 → EReal) (l : Fin 128) :
    lanes half y (tabCos 64 half c) (tabUp 64 half s) (tabDown 64 half s) l
      = rope half hd c s (fun d : Fin 64 => y ⟨64 * (l.val / 64) + d.val, by omega⟩) ⟨l.val % 64, by omega⟩ := by
  unfold lanes tabCos tabUp tabDown rope
  have e : (⟨64 * (l.val / 64) + l.val % 64, by omega⟩ : Fin 128) = l := Fin.ext (by dsimp only; omega)
  dsimp only
  rw [e]
  split_ifs with h₁ h₂
  · have e : (⟨(l.val + 128 - (128 - half) % 128) % 128, by omega⟩ : Fin 128)
        = ⟨64 * (l.val / 64) + (l.val % 64 + half), by omega⟩ := Fin.ext (by dsimp only; omega)
    rw [mul_zero, add_zero, mul_neg, sub_eq_add_neg, e]
  · have e : (⟨(l.val + 128 - half % 128) % 128, by omega⟩ : Fin 128)
        = ⟨64 * (l.val / 64) + (l.val % 64 - half), by omega⟩ := Fin.ext (by dsimp only; omega)
    rw [mul_zero, add_zero, e]
  · rw [mul_zero, mul_zero, add_zero, add_zero, mul_one]

/-! ### Means over one half of the lanes -/

/-- A sum over the lower, or the upper, half of 128 lanes. -/
theorem sum_low (q : Fin 128 → EReal) :
    (∑ l : Fin 128, if l.val < 64 then q l else 0) = ∑ d : Fin 64, q ⟨d.val, by omega⟩ := by
  have h := Fin.sum_univ_add (M := EReal) (a := 64) (b := 64) fun l : Fin 128 => if l.val < 64 then q l else 0
  refine h.trans ?_
  rw [Finset.sum_congr rfl fun d _ => if_pos (show (Fin.castAdd 64 d).val < 64 from d.isLt),
    Finset.sum_congr rfl fun d _ => if_neg (show ¬ (Fin.natAdd 64 d).val < 64 by simp), Finset.sum_const_zero, add_zero]
  rfl

theorem sum_high (q : Fin 128 → EReal) :
    (∑ l : Fin 128, if l.val < 64 then 0 else q l) = ∑ d : Fin 64, q ⟨64 + d.val, by omega⟩ := by
  have h := Fin.sum_univ_add (M := EReal) (a := 64) (b := 64) fun l : Fin 128 => if l.val < 64 then 0 else q l
  refine h.trans ?_
  rw [Finset.sum_congr rfl fun d _ => if_pos (show (Fin.castAdd 64 d).val < 64 from d.isLt),
    Finset.sum_congr rfl fun d _ => if_neg (show ¬ (Fin.natAdd 64 d).val < 64 by simp), Finset.sum_const_zero, zero_add]
  rfl

/-- Multiplying by the literal of one over 64 is dividing by the literal of 64. -/
theorem mul_inv64 (x : EReal) : x * Ideal.ofBits .f32 0x3C800000#32 = Ideal.div x w64 := by
  have h₁ : Ideal.ofBits .f32 0x42800000#32 = ((64 : ℝ) : EReal) := by
    simp [Ideal.ofBits, Ideal.ieee, -EReal.coe_mul]; norm_num
  have h₂ : Ideal.ofBits .f32 0x3C800000#32 = ((1 / 64 : ℝ) : EReal) := by
    simp [Ideal.ofBits, Ideal.ieee, -EReal.coe_mul]; norm_num
  show x * _ = Ideal.div x (Ideal.ofBits .f32 0x42800000#32)
  rw [h₁, h₂, Ideal.div_coe (by norm_num : (64 : ℝ) ≠ 0)]

end Cert.Proj

end
-- ==== Proof.ProjectBlock.lean ====
/-
  The steps of the projection kernel on one block of 256 rows: the norm of 128 lanes, the norm of each half of the lanes
  and the rotation with three lane tables, each read at one entry.
-/
module

public import proofs.«01_k».proof.Proof.Gen.ProjectIdeal.Frame
public import proofs.«01_k».proof.Proof.Proj
public import Idealize.ShloMosaic.Lib.Pointwise
public import Idealize.ShloMosaic.Lib.KernelVsHost

@[expose] public section

set_option maxRecDepth 16384

noncomputable section

namespace Cert.ProjectIdeal.ProjectBlock

open Cert Cert.ProjectIdeal Cert.ProjectIdeal.Gen Idealize.ShloMosaic Idealize.ShloMosaic.TcCoe Idealize.SL.Sem

/-- The norm of the 128 lanes of every row. -/
def normV (y : FVec Ideal S256x128 .f32) (g : Vec Ideal S1x128 .f32) : FVec Ideal S256x128 .f32 :=
  mulf (mulf y (broadcastTo S256x128 (rsqrt (addf (divf (shapeCast S256x1
      (multiReduction .add [1] S256 (mulf y y) 0x00000000#32 reduces_S256x128_S256 (.inl rfl) rfl) shapeCasts_S256_S256x1)
      (broadcast S256x1 (Scalar.ofBits .f32 0x43000000#32))) (broadcast S256x1 (Scalar.ofBits .f32 0x358637BD#32))))
      broadcasts_S256x1_S256x128))
    (broadcastTo S256x128 (shapeCast S1x128 g shapeCasts_S1x128_S1x128) broadcasts_S1x128_S256x128)

theorem normV_apply (y : FVec Ideal S256x128 .f32) (g : Vec Ideal S1x128 .f32) (a : Fin 256) (l : Fin 128) :
    normV y g (ix2 a l) = Proj.norm Proj.w128 (fun d => y (ix2 a d)) (fun d => g (ix2 0 d)) l := by
  unfold normV
  pointwise
  rfl

/-- The rotation with three lane tables. -/
def lanesV (up down : BitVec 32) (y : FVec Ideal S256x128 .f32) (t₀ t₁ t₂ : Vec Ideal S256x128 .f32) :
    FVec Ideal S256x128 .f32 :=
  addf (addf (mulf y (shapeCast S256x128 t₀ shapeCasts_S256x128_S256x128))
      (mulf (dynamicRotate 1 up none y rotates_S256x128_d1) (shapeCast S256x128 t₁ shapeCasts_S256x128_S256x128)))
    (mulf (dynamicRotate 1 down none y rotates_S256x128_d1) (shapeCast S256x128 t₂ shapeCasts_S256x128_S256x128))

theorem lanesV16_apply (y : FVec Ideal S256x128 .f32) (t₀ t₁ t₂ : Vec Ideal S256x128 .f32) (a : Fin 256) (l : Fin 128) :
    lanesV 16#32 112#32 y t₀ t₁ t₂ (ix2 a l)
      = Proj.lanes 16 (fun d => y (ix2 a d)) (fun d => t₀ (ix2 a d)) (fun d => t₁ (ix2 a d)) (fun d => t₂ (ix2 a d)) l := by
  unfold lanesV
  pointwise
  rfl

theorem lanesV8_apply (y : FVec Ideal S256x128 .f32) (t₀ t₁ t₂ : Vec Ideal S256x128 .f32) (a : Fin 256) (l : Fin 128) :
    lanesV 8#32 120#32 y t₀ t₁ t₂ (ix2 a l)
      = Proj.lanes 8 (fun d => y (ix2 a d)) (fun d => t₀ (ix2 a d)) (fun d => t₁ (ix2 a d)) (fun d => t₂ (ix2 a d)) l := by
  unfold lanesV
  pointwise
  rfl

theorem lanesV32_apply (y : FVec Ideal S256x128 .f32) (t₀ t₁ t₂ : Vec Ideal S256x128 .f32) (a : Fin 256) (l : Fin 128) :
    lanesV 32#32 96#32 y t₀ t₁ t₂ (ix2 a l)
      = Proj.lanes 32 (fun d => y (ix2 a d)) (fun d => t₀ (ix2 a d)) (fun d => t₁ (ix2 a d)) (fun d => t₂ (ix2 a d)) l := by
  unfold lanesV
  pointwise
  rfl

/-- The sum over the lower half of the lanes, and over the upper half. -/
def lowV (y : FVec Ideal S256x128 .f32) : FVec Ideal S256x1 .f32 :=
  shapeCast S256x1 (multiReduction .add [1] S256 (select (broadcastTo S256x128 (shapeCast S1x128 k0_pay3
    shapeCasts_S1x128_S1x128) broadcasts_S1x128_S256x128) (mulf y y) (broadcast S256x128 (Scalar.ofBits .f32 0x00000000#32)))
    0x00000000#32 reduces_S256x128_S256 (.inl rfl) rfl) shapeCasts_S256_S256x1
def highV (y : FVec Ideal S256x128 .f32) : FVec Ideal S256x1 .f32 :=
  shapeCast S256x1 (multiReduction .add [1] S256 (select (broadcastTo S256x128 (shapeCast S1x128 k0_pay3
    shapeCasts_S1x128_S1x128) broadcasts_S1x128_S256x128) (broadcast S256x128 (Scalar.ofBits .f32 0x00000000#32)) (mulf y y))
    0x00000000#32 reduces_S256x128_S256 (.inl rfl) rfl) shapeCasts_S256_S256x1

theorem mask_apply (l : Fin 128) : k0_pay3 (ix2 0 l) = if l.val < 64 then 1#1 else 0#1 := by
  revert l
  decide +kernel

theorem lowV_apply (y : FVec Ideal S256x128 .f32) (a : Fin 256) :
    lowV y (ix2 a 0) = ∑ d : Fin 64, y (ix2 a ⟨d.val, by omega⟩) * y (ix2 a ⟨d.val, by omega⟩) := by
  have h : lowV y (ix2 a 0)
      = ∑ l : Fin 128, Scalar.select (k0_pay3 (ix2 0 l)) (y (ix2 a l) * y (ix2 a l) : EReal) 0 := by
    unfold lowV
    generalize k0_pay3 = k
    pointwise
  refine h.trans (Eq.trans (Finset.sum_congr rfl fun l _ => ?_) (Proj.sum_low fun l => y (ix2 a l) * y (ix2 a l)))
  rw [mask_apply]
  split_ifs <;> rfl

theorem highV_apply (y : FVec Ideal S256x128 .f32) (a : Fin 256) :
    highV y (ix2 a 0) = ∑ d : Fin 64, y (ix2 a ⟨64 + d.val, by omega⟩) * y (ix2 a ⟨64 + d.val, by omega⟩) := by
  have h : highV y (ix2 a 0)
      = ∑ l : Fin 128, Scalar.select (k0_pay3 (ix2 0 l)) (0 : EReal) (y (ix2 a l) * y (ix2 a l)) := by
    unfold highV
    generalize k0_pay3 = k
    pointwise
  refine h.trans (Eq.trans (Finset.sum_congr rfl fun l _ => ?_) (Proj.sum_high fun l => y (ix2 a l) * y (ix2 a l)))
  rw [mask_apply]
  split_ifs <;> rfl

/-- The norm of each half of the lanes. -/
def segV (y : FVec Ideal S256x128 .f32) (g : Vec Ideal S1x128 .f32) : FVec Ideal S256x128 .f32 :=
  mulf (mulf y (rsqrt (addf (mulf (select (broadcastTo S256x128 (shapeCast S1x128 k0_pay3 shapeCasts_S1x128_S1x128)
      broadcasts_S1x128_S256x128)
      (broadcastTo S256x128 (shapeCast S256x1 (lowV y) shapeCasts_S256x1_S256x1) broadcasts_S256x1_S256x128)
      (broadcastTo S256x128 (shapeCast S256x1 (highV y) shapeCasts_S256x1_S256x1) broadcasts_S256x1_S256x128))
      (broadcast S256x128 (Scalar.ofBits .f32 0x3C800000#32))) (broadcast S256x128 (Scalar.ofBits .f32 0x358637BD#32)))))
    (broadcastTo S256x128 (shapeCast S1x128 g shapeCasts_S1x128_S1x128) broadcasts_S1x128_S256x128)

theorem segV_apply (y : FVec Ideal S256x128 .f32) (g : Vec Ideal S1x128 .f32) (a : Fin 256) (l : Fin 128) :
    segV y g (ix2 a l) = Proj.norm Proj.w64 (fun d : Fin 64 => y (ix2 a ⟨64 * (l.val / 64) + d.val, by omega⟩))
      (fun d => g (ix2 0 ⟨64 * (l.val / 64) + d.val, by omega⟩)) ⟨l.val % 64, by omega⟩ := by
  have e : (⟨64 * (l.val / 64) + l.val % 64, by omega⟩ : Fin 128) = l := Fin.ext (by dsimp only; omega)
  have h : segV y g (ix2 a l) = y (ix2 a l) * Ideal.rsqrt (Scalar.select (k0_pay3 (ix2 0 l)) (lowV y (ix2 a 0) : EReal)
      (highV y (ix2 a 0)) * Ideal.ofBits .f32 0x3C800000#32 + Proj.eps) * g (ix2 0 l) := by
    unfold segV
    generalize k0_pay3 = k
    generalize lowV y = u
    generalize highV y = v
    pointwise
  rw [h, mask_apply, lowV_apply, highV_apply, Proj.mul_inv64]
  unfold Proj.norm
  dsimp only
  rw [e]
  by_cases hl : l.val < 64
  · have h0 : l.val / 64 = 0 := by omega
    simp only [h0, Nat.mul_zero, Nat.zero_add, if_pos hl]
    rfl
  · have h0 : l.val / 64 = 1 := by omega
    simp only [h0, Nat.mul_one, if_neg hl]
    rfl

/-- The index key in the lower lanes beside the normed key in the upper lanes. -/
def pairV (y : FVec Ideal S256x128 .f32) (g : Vec Ideal S1x128 .f32) : FVec Ideal S256x128 .f32 :=
  select (broadcastTo S256x128 (shapeCast S1x128 k0_pay3 shapeCasts_S1x128_S1x128) broadcasts_S1x128_S256x128) y
    (mulf (mulf y (broadcastTo S256x128 (rsqrt (addf (mulf (highV y) (broadcast S256x1 (Scalar.ofBits .f32 0x3C800000#32)))
      (broadcast S256x1 (Scalar.ofBits .f32 0x358637BD#32)))) broadcasts_S256x1_S256x128))
      (broadcastTo S256x128 (shapeCast S1x128 g shapeCasts_S1x128_S1x128) broadcasts_S1x128_S256x128))

theorem pairV_apply (y : FVec Ideal S256x128 .f32) (g : Vec Ideal S1x128 .f32) (a : Fin 256) (l : Fin 128) :
    pairV y g (ix2 a l) = if l.val < 64 then (y (ix2 a l) : EReal) else
      Proj.norm Proj.w64 (fun d : Fin 64 => y (ix2 a ⟨64 + d.val, by omega⟩))
      (fun d => g (ix2 0 ⟨64 + d.val, by omega⟩)) ⟨l.val % 64, by omega⟩ := by
  have h : pairV y g (ix2 a l) = Scalar.select (k0_pay3 (ix2 0 l)) (y (ix2 a l) : EReal)
      (y (ix2 a l) * Ideal.rsqrt (highV y (ix2 a 0) * Ideal.ofBits .f32 0x3C800000#32 + Proj.eps) * g (ix2 0 l)) := by
    unfold pairV
    generalize k0_pay3 = k
    generalize highV y = v
    pointwise
  rw [h, mask_apply, highV_apply, Proj.mul_inv64]
  split_ifs with hl
  · rfl
  · have e : (⟨64 + l.val % 64, by omega⟩ : Fin 128) = l := Fin.ext (by dsimp only; omega)
    unfold Proj.norm
    dsimp only
    rw [e]
    rfl

/-- The rotation of both halves at once with five lane tables. -/
def bothV (y : FVec Ideal S256x128 .f32) (t₀ t₁ t₂ t₃ t₄ : Vec Ideal S256x128 .f32) : FVec Ideal S256x128 .f32 :=
  addf (addf (lanesV 8#32 120#32 y t₀ t₁ t₂)
      (mulf (dynamicRotate 1 32#32 none y rotates_S256x128_d1) (shapeCast S256x128 t₃ shapeCasts_S256x128_S256x128)))
    (mulf (dynamicRotate 1 96#32 none y rotates_S256x128_d1) (shapeCast S256x128 t₄ shapeCasts_S256x128_S256x128))

theorem bothV_apply (y : FVec Ideal S256x128 .f32) (t₀ t₁ t₂ t₃ t₄ : Vec Ideal S256x128 .f32) (a : Fin 256) (l : Fin 128) :
    bothV y t₀ t₁ t₂ t₃ t₄ (ix2 a l)
      = Proj.lanes 8 (fun d => y (ix2 a d)) (fun d => t₀ (ix2 a d)) (fun d => t₁ (ix2 a d)) (fun d => t₂ (ix2 a d)) l
        + y (ix2 a ⟨(l.val + 128 - 32) % 128, by omega⟩) * t₃ (ix2 a l)
        + y (ix2 a ⟨(l.val + 128 - 96) % 128, by omega⟩) * t₄ (ix2 a l) := by
  rw [← lanesV8_apply]
  unfold bothV
  generalize lanesV 8#32 120#32 y t₀ t₁ t₂ = u
  pointwise

end Cert.ProjectIdeal.ProjectBlock

end
-- ==== Proof.ProjectHost.lean ====
/-
  What the projection's call finds: the host's lane tables and its weights in the kernel's order.
-/
module

public import proofs.«01_k».proof.Proof.Gen.ProjectIdeal.Frame
public import Idealize.ShloMosaic.Lib.Pipeline.ValueKit
public import Idealize.ShloMosaic.Lib.StableHlo.RunRead

@[expose] public section

set_option maxRecDepth 16384

noncomputable section

namespace Cert.ProjectIdeal.ProjectHost

open Cert.ProjectIdeal Cert.ProjectIdeal.Gen Idealize.ShloMosaic Idealize.ShloMosaic.TcCoe Idealize.SL.Sem

/-- Cosines of the first rotation. -/
def cosA : Vec Ideal S2048x16 .f32 :=
  (Host.cos (mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant (F := Ideal) S_ .f32 0x48F42400#32)) (mulf (Host.negf (F := Ideal) (φ := .f32) (sitofp (F := Ideal) .f32 (iotaInDim S16 32 0)) : Vec Ideal S16 .f32) (broadcastInDim S16 ![] bcast_S_S16 (constant (F := Ideal) S_ .f32 0x3D800000#32))))))))

/-- Its sines. -/
def sinA : Vec Ideal S2048x16 .f32 :=
  (Host.sin (mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant (F := Ideal) S_ .f32 0x48F42400#32)) (mulf (Host.negf (F := Ideal) (φ := .f32) (sitofp (F := Ideal) .f32 (iotaInDim S16 32 0)) : Vec Ideal S16 .f32) (broadcastInDim S16 ![] bcast_S_S16 (constant (F := Ideal) S_ .f32 0x3D800000#32))))))))

/-- Cosines of the index rotation. -/
def cosI : Vec Ideal S2048x8 .f32 :=
  (Host.cos (mulf (broadcastInDim S2048x8 ![0, 1] bcast_S2048x1_S2048x8_0_1 (broadcastInDim S2048x1 ![0] bcast_S2048_S2048x1_0 (sitofp .f32 (iotaInDim S2048 32 0)))) (broadcastInDim S2048x8 ![0, 1] bcast_S1x8_S2048x8_0_1 (broadcastInDim S1x8 ![1] bcast_S8_S1x8_1 (Host.powf (broadcastInDim S8 ![] bcast_S_S8 (constant (F := Ideal) S_ .f32 0x48F42400#32)) (mulf (Host.negf (F := Ideal) (φ := .f32) (sitofp (F := Ideal) .f32 (iotaInDim S8 32 0)) : Vec Ideal S8 .f32) (broadcastInDim S8 ![] bcast_S_S8 (constant (F := Ideal) S_ .f32 0x3E000000#32))))))))

/-- Its sines. -/
def sinI : Vec Ideal S2048x8 .f32 :=
  (Host.sin (mulf (broadcastInDim S2048x8 ![0, 1] bcast_S2048x1_S2048x8_0_1 (broadcastInDim S2048x1 ![0] bcast_S2048_S2048x1_0 (sitofp .f32 (iotaInDim S2048 32 0)))) (broadcastInDim S2048x8 ![0, 1] bcast_S1x8_S2048x8_0_1 (broadcastInDim S1x8 ![1] bcast_S8_S1x8_1 (Host.powf (broadcastInDim S8 ![] bcast_S_S8 (constant (F := Ideal) S_ .f32 0x48F42400#32)) (mulf (Host.negf (F := Ideal) (φ := .f32) (sitofp (F := Ideal) .f32 (iotaInDim S8 32 0)) : Vec Ideal S8 .f32) (broadcastInDim S8 ![] bcast_S_S8 (constant (F := Ideal) S_ .f32 0x3E000000#32))))))))

/-- Cosines of the latent rotation. -/
def cosM : Vec Ideal S2048x32 .f32 :=
  (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant (F := Ideal) S_ .f32 0x48F42400#32)) (mulf (Host.negf (F := Ideal) (φ := .f32) (sitofp (F := Ideal) .f32 (iotaInDim S32 32 0)) : Vec Ideal S32 .f32) (broadcastInDim S32 ![] bcast_S_S32 (constant (F := Ideal) S_ .f32 0x3D000000#32))))))))

/-- Its sines. -/
def sinM : Vec Ideal S2048x32 .f32 :=
  (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant (F := Ideal) S_ .f32 0x48F42400#32)) (mulf (Host.negf (F := Ideal) (φ := .f32) (sitofp (F := Ideal) .f32 (iotaInDim S32 32 0)) : Vec Ideal S32 .f32) (broadcastInDim S32 ![] bcast_S_S32 (constant (F := Ideal) S_ .f32 0x3D000000#32))))))))

/-- Lane table 0. -/
def tab0 : Vec Ideal S2048x128 .f32 :=
  (concatenate S2048x128 1 [⟨S2048x16, cosA⟩, ⟨S2048x16, cosA⟩, ⟨S2048x96, (broadcastInDim S2048x96 ![] bcast_S_S2048x96 (constant (F := Ideal) S_ .f32 0x3F800000#32))⟩] concatenates_S2048x16_S2048x16_S2048x96_S2048x128_d1)

/-- Lane table 1. -/
def tab1 : Vec Ideal S2048x128 .f32 :=
  (concatenate S2048x128 1 [⟨S2048x16, (broadcastInDim S2048x16 ![] bcast_S_S2048x16 (constant (F := Ideal) S_ .f32 0x00000000#32))⟩, ⟨S2048x16, sinA⟩, ⟨S2048x96, (broadcastInDim S2048x96 ![] bcast_S_S2048x96 (constant (F := Ideal) S_ .f32 0x00000000#32))⟩] concatenates_S2048x16_S2048x16_S2048x96_S2048x128_d1)

/-- Lane table 2. -/
def tab2 : Vec Ideal S2048x128 .f32 :=
  (concatenate S2048x128 1 [⟨S2048x16, (Host.negf (F := Ideal) (φ := .f32) sinA : Vec Ideal S2048x16 .f32)⟩, ⟨S2048x16, (broadcastInDim S2048x16 ![] bcast_S_S2048x16 (constant (F := Ideal) S_ .f32 0x00000000#32))⟩, ⟨S2048x96, (broadcastInDim S2048x96 ![] bcast_S_S2048x96 (constant (F := Ideal) S_ .f32 0x00000000#32))⟩] concatenates_S2048x16_S2048x16_S2048x96_S2048x128_d1)

/-- Lane table 3. -/
def tab3 : Vec Ideal S2048x128 .f32 :=
  (concatenate S2048x128 1 [⟨S2048x8, cosI⟩, ⟨S2048x8, cosI⟩, ⟨S2048x48, (broadcastInDim S2048x48 ![] bcast_S_S2048x48 (constant (F := Ideal) S_ .f32 0x3F800000#32))⟩, ⟨S2048x8, cosI⟩, ⟨S2048x8, cosI⟩, ⟨S2048x48, (broadcastInDim S2048x48 ![] bcast_S_S2048x48 (constant (F := Ideal) S_ .f32 0x3F800000#32))⟩] concatenates_S2048x8_S2048x8_S2048x48_S2048x8_S2048x8_S2048x48_S2048x128_d1)

/-- Lane table 4. -/
def tab4 : Vec Ideal S2048x128 .f32 :=
  (concatenate S2048x128 1 [⟨S2048x8, (broadcastInDim S2048x8 ![] bcast_S_S2048x8 (constant (F := Ideal) S_ .f32 0x00000000#32))⟩, ⟨S2048x8, sinI⟩, ⟨S2048x48, (broadcastInDim S2048x48 ![] bcast_S_S2048x48 (constant (F := Ideal) S_ .f32 0x00000000#32))⟩, ⟨S2048x8, (broadcastInDim S2048x8 ![] bcast_S_S2048x8 (constant (F := Ideal) S_ .f32 0x00000000#32))⟩, ⟨S2048x8, sinI⟩, ⟨S2048x48, (broadcastInDim S2048x48 ![] bcast_S_S2048x48 (constant (F := Ideal) S_ .f32 0x00000000#32))⟩] concatenates_S2048x8_S2048x8_S2048x48_S2048x8_S2048x8_S2048x48_S2048x128_d1)

/-- Lane table 5. -/
def tab5 : Vec Ideal S2048x128 .f32 :=
  (concatenate S2048x128 1 [⟨S2048x8, (Host.negf (F := Ideal) (φ := .f32) sinI : Vec Ideal S2048x8 .f32)⟩, ⟨S2048x8, (broadcastInDim S2048x8 ![] bcast_S_S2048x8 (constant (F := Ideal) S_ .f32 0x00000000#32))⟩, ⟨S2048x48, (broadcastInDim S2048x48 ![] bcast_S_S2048x48 (constant (F := Ideal) S_ .f32 0x00000000#32))⟩, ⟨S2048x8, (Host.negf (F := Ideal) (φ := .f32) sinI : Vec Ideal S2048x8 .f32)⟩, ⟨S2048x8, (broadcastInDim S2048x8 ![] bcast_S_S2048x8 (constant (F := Ideal) S_ .f32 0x00000000#32))⟩, ⟨S2048x48, (broadcastInDim S2048x48 ![] bcast_S_S2048x48 (constant (F := Ideal) S_ .f32 0x00000000#32))⟩] concatenates_S2048x8_S2048x8_S2048x48_S2048x8_S2048x8_S2048x48_S2048x128_d1)

/-- Lane table 6. -/
def tab6 : Vec Ideal S2048x128 .f32 :=
  (concatenate S2048x128 1 [⟨S2048x32, cosM⟩, ⟨S2048x32, cosM⟩, ⟨S2048x32, cosM⟩, ⟨S2048x32, cosM⟩] concatenates_S2048x32_S2048x32_S2048x32_S2048x32_S2048x128_d1)

/-- Lane table 7. -/
def tab7 : Vec Ideal S2048x128 .f32 :=
  (concatenate S2048x128 1 [⟨S2048x32, (broadcastInDim S2048x32 ![] bcast_S_S2048x32 (constant (F := Ideal) S_ .f32 0x00000000#32))⟩, ⟨S2048x32, sinM⟩, ⟨S2048x32, (broadcastInDim S2048x32 ![] bcast_S_S2048x32 (constant (F := Ideal) S_ .f32 0x00000000#32))⟩, ⟨S2048x32, sinM⟩] concatenates_S2048x32_S2048x32_S2048x32_S2048x32_S2048x128_d1)

/-- Lane table 8. -/
def tab8 : Vec Ideal S2048x128 .f32 :=
  (concatenate S2048x128 1 [⟨S2048x32, (Host.negf (F := Ideal) (φ := .f32) sinM : Vec Ideal S2048x32 .f32)⟩, ⟨S2048x32, (broadcastInDim S2048x32 ![] bcast_S_S2048x32 (constant (F := Ideal) S_ .f32 0x00000000#32))⟩, ⟨S2048x32, (Host.negf (F := Ideal) (φ := .f32) sinM : Vec Ideal S2048x32 .f32)⟩, ⟨S2048x32, (broadcastInDim S2048x32 ![] bcast_S_S2048x32 (constant (F := Ideal) S_ .f32 0x00000000#32))⟩] concatenates_S2048x32_S2048x32_S2048x32_S2048x32_S2048x128_d1)

/-- Lane table 9. -/
def tab9 : Vec Ideal S2048x128 .f32 :=
  (concatenate S2048x128 1 [⟨S2048x8, cosI⟩, ⟨S2048x8, cosI⟩, ⟨S2048x48, (broadcastInDim S2048x48 ![] bcast_S_S2048x48 (constant (F := Ideal) S_ .f32 0x3F800000#32))⟩, ⟨S2048x32, cosM⟩, ⟨S2048x32, cosM⟩] concatenates_S2048x8_S2048x8_S2048x48_S2048x32_S2048x32_S2048x128_d1)

/-- Lane table 10. -/
def tab10 : Vec Ideal S2048x128 .f32 :=
  (concatenate S2048x128 1 [⟨S2048x8, (broadcastInDim S2048x8 ![] bcast_S_S2048x8 (constant (F := Ideal) S_ .f32 0x00000000#32))⟩, ⟨S2048x8, sinI⟩, ⟨S2048x48, (broadcastInDim S2048x48 ![] bcast_S_S2048x48 (constant (F := Ideal) S_ .f32 0x00000000#32))⟩, ⟨S2048x64, (broadcastInDim S2048x64 ![] bcast_S_S2048x64 (constant (F := Ideal) S_ .f32 0x00000000#32))⟩] concatenates_S2048x8_S2048x8_S2048x48_S2048x64_S2048x128_d1)

/-- Lane table 11. -/
def tab11 : Vec Ideal S2048x128 .f32 :=
  (concatenate S2048x128 1 [⟨S2048x8, (Host.negf (F := Ideal) (φ := .f32) sinI : Vec Ideal S2048x8 .f32)⟩, ⟨S2048x8, (broadcastInDim S2048x8 ![] bcast_S_S2048x8 (constant (F := Ideal) S_ .f32 0x00000000#32))⟩, ⟨S2048x48, (broadcastInDim S2048x48 ![] bcast_S_S2048x48 (constant (F := Ideal) S_ .f32 0x00000000#32))⟩, ⟨S2048x64, (broadcastInDim S2048x64 ![] bcast_S_S2048x64 (constant (F := Ideal) S_ .f32 0x00000000#32))⟩] concatenates_S2048x8_S2048x8_S2048x48_S2048x64_S2048x128_d1)

/-- Lane table 12. -/
def tab12 : Vec Ideal S2048x128 .f32 :=
  (concatenate S2048x128 1 [⟨S2048x64, (broadcastInDim S2048x64 ![] bcast_S_S2048x64 (constant (F := Ideal) S_ .f32 0x00000000#32))⟩, ⟨S2048x32, (broadcastInDim S2048x32 ![] bcast_S_S2048x32 (constant (F := Ideal) S_ .f32 0x00000000#32))⟩, ⟨S2048x32, sinM⟩] concatenates_S2048x64_S2048x32_S2048x32_S2048x128_d1)

/-- Lane table 13. -/
def tab13 : Vec Ideal S2048x128 .f32 :=
  (concatenate S2048x128 1 [⟨S2048x64, (broadcastInDim S2048x64 ![] bcast_S_S2048x64 (constant (F := Ideal) S_ .f32 0x00000000#32))⟩, ⟨S2048x32, (Host.negf (F := Ideal) (φ := .f32) sinM : Vec Ideal S2048x32 .f32)⟩, ⟨S2048x32, (broadcastInDim S2048x32 ![] bcast_S_S2048x32 (constant (F := Ideal) S_ .f32 0x00000000#32))⟩] concatenates_S2048x64_S2048x32_S2048x32_S2048x128_d1)

/-- The fourteen tables side by side. -/
def tabs : Vec Ideal S2048x1792 .f32 :=
  (concatenate S2048x1792 1 [⟨S2048x128, tab0⟩, ⟨S2048x128, tab1⟩, ⟨S2048x128, tab2⟩, ⟨S2048x128, tab3⟩, ⟨S2048x128, tab4⟩, ⟨S2048x128, tab5⟩, ⟨S2048x128, tab6⟩, ⟨S2048x128, tab7⟩, ⟨S2048x128, tab8⟩, ⟨S2048x128, tab9⟩, ⟨S2048x128, tab10⟩, ⟨S2048x128, tab11⟩, ⟨S2048x128, tab12⟩, ⟨S2048x128, tab13⟩] concatenates_S2048x128_S2048x128_S2048x128_S2048x128_S2048x128_S2048x128_S2048x128_S2048x128_S2048x128_S2048x128_S2048x128_S2048x128_S2048x128_S2048x128_S2048x1792_d1)

/-- The input projection with its columns in the kernel order. -/
def weights (arg2 : Vec Ideal S1024x5256 .f32) : Vec Ideal S1024x5376 .bf16 :=
  (truncf (F := Ideal) .bf16 (concatenate S1024x5376 1 [⟨S1024x1024, (extractStridedSlice S1024x1024 ![0, 0] arg2 slices_S1024x5256_S1024x1024_0_0)⟩, ⟨S1024x512, (extractStridedSlice S1024x512 ![0, 1024] arg2 slices_S1024x5256_S1024x512_0_1024)⟩, ⟨S1024x512, (extractStridedSlice S1024x512 ![0, 1536] arg2 slices_S1024x5256_S1024x512_0_1536)⟩, ⟨S1024x512, (extractStridedSlice S1024x512 ![0, 2048] arg2 slices_S1024x5256_S1024x512_0_2048)⟩, ⟨S1024x64, (extractStridedSlice S1024x64 ![0, 2560] arg2 slices_S1024x5256_S1024x64_0_2560)⟩, ⟨S1024x64, (extractStridedSlice S1024x64 ![0, 3144] arg2 slices_S1024x5256_S1024x64_0_3144)⟩, ⟨S1024x8, (extractStridedSlice S1024x8 ![0, 2624] arg2 slices_S1024x5256_S1024x8_0_2624)⟩, ⟨S1024x120, (broadcastInDim S1024x120 ![] bcast_S_S1024x120 (constant (F := Ideal) S_ .f32 0x00000000#32))⟩, ⟨S1024x256, (extractStridedSlice S1024x256 ![0, 2632] arg2 slices_S1024x5256_S1024x256_0_2632)⟩, ⟨S1024x256, (extractStridedSlice S1024x256 ![0, 2888] arg2 slices_S1024x5256_S1024x256_0_2888)⟩, ⟨S1024x2048, (extractStridedSlice S1024x2048 ![0, 3208] arg2 slices_S1024x5256_S1024x2048_0_3208)⟩] concatenates_S1024x1024_S1024x512_S1024x512_S1024x512_S1024x64_S1024x64_S1024x8_S1024x120_S1024x256_S1024x256_S1024x2048_S1024x5376_d1) bitsLt_bf16_f32)

/-- The query up-projection, the position-free parts of all heads before the rotated parts. -/
def queryUp (arg6 : Vec Ideal S256x8x192 .f32) : Vec Ideal S256x1536 .bf16 :=
  (truncf (F := Ideal) .bf16 (concatenate S256x1536 1 [⟨S256x1024, (shapeCast S256x1024 (extractStridedSlice S256x8x128 ![0, 0, 0] arg6 slices_S256x8x192_S256x8x128_0_0_0) shapeCasts_S256x8x128_S256x1024)⟩, ⟨S256x512, (shapeCast S256x512 (extractStridedSlice S256x8x64 ![0, 0, 128] arg6 slices_S256x8x192_S256x8x64_0_0_128) shapeCasts_S256x8x64_S256x512)⟩] concatenates_S256x1024_S256x512_S256x1536_d1) bitsLt_bf16_f32)

/-- The key up-projection. -/
def keyUp (arg8 : Vec Ideal S256x8x128 .f32) : Vec Ideal S256x1024 .bf16 :=
  (truncf (F := Ideal) .bf16 (shapeCast S256x1024 arg8 shapeCasts_S256x8x128_S256x1024) bitsLt_bf16_f32)

/-- A gain of 64 lanes twice. -/
def gainPair (arg11 : Vec Ideal S64 .f32) : Vec Ideal S1x128 .f32 :=
  (shapeCast S1x128 (shapeCast S128 (broadcastInDim S2x64 ![0, 1] bcast_S1x64_S2x64_0_1 (shapeCast S1x64 arg11 shapeCasts_S64_S1x64)) shapeCasts_S2x64_S128) shapeCasts_S128_S1x128)

/-- Ones, then the gain of the rotated key. -/
def gainHigh (arg12 : Vec Ideal S64 .f32) : Vec Ideal S1x128 .f32 :=
  (shapeCast S1x128 (concatenate S128 0 [⟨S64, (broadcastInDim S64 ![] bcast_S_S64 (constant (F := Ideal) S_ .f32 0x3F800000#32))⟩, ⟨S64, arg12⟩] concatenates_S64_S64_S128_d0) shapeCasts_S128_S1x128)

theorem tab0_of {a0 : Vec Ideal S2048x16 .f32} {a1 : Vec Ideal S2048x16 .f32} {a2 : Vec Ideal S2048x96 .f32} (h0 : a0 = cosA) (h1 : a1 = cosA) (h2 : a2 = (broadcastInDim S2048x96 ![] bcast_S_S2048x96 (constant (F := Ideal) S_ .f32 0x3F800000#32))) :
    concatenate S2048x128 1 [⟨S2048x16, a0⟩, ⟨S2048x16, a1⟩, ⟨S2048x96, a2⟩] concatenates_S2048x16_S2048x16_S2048x96_S2048x128_d1 = tab0 := by
  subst h0 h1 h2
  rfl

theorem tab1_of {a0 : Vec Ideal S2048x16 .f32} {a1 : Vec Ideal S2048x16 .f32} {a2 : Vec Ideal S2048x96 .f32} (h0 : a0 = (broadcastInDim S2048x16 ![] bcast_S_S2048x16 (constant (F := Ideal) S_ .f32 0x00000000#32))) (h1 : a1 = sinA) (h2 : a2 = (broadcastInDim S2048x96 ![] bcast_S_S2048x96 (constant (F := Ideal) S_ .f32 0x00000000#32))) :
    concatenate S2048x128 1 [⟨S2048x16, a0⟩, ⟨S2048x16, a1⟩, ⟨S2048x96, a2⟩] concatenates_S2048x16_S2048x16_S2048x96_S2048x128_d1 = tab1 := by
  subst h0 h1 h2
  rfl

theorem tab2_of {a0 : Vec Ideal S2048x16 .f32} {a1 : Vec Ideal S2048x16 .f32} {a2 : Vec Ideal S2048x96 .f32} (h0 : a0 = (Host.negf (F := Ideal) (φ := .f32) sinA : Vec Ideal S2048x16 .f32)) (h1 : a1 = (broadcastInDim S2048x16 ![] bcast_S_S2048x16 (constant (F := Ideal) S_ .f32 0x00000000#32))) (h2 : a2 = (broadcastInDim S2048x96 ![] bcast_S_S2048x96 (constant (F := Ideal) S_ .f32 0x00000000#32))) :
    concatenate S2048x128 1 [⟨S2048x16, a0⟩, ⟨S2048x16, a1⟩, ⟨S2048x96, a2⟩] concatenates_S2048x16_S2048x16_S2048x96_S2048x128_d1 = tab2 := by
  subst h0 h1 h2
  rfl

theorem tab3_of {a0 : Vec Ideal S2048x8 .f32} {a1 : Vec Ideal S2048x8 .f32} {a2 : Vec Ideal S2048x48 .f32} {a3 : Vec Ideal S2048x8 .f32} {a4 : Vec Ideal S2048x8 .f32} {a5 : Vec Ideal S2048x48 .f32} (h0 : a0 = cosI) (h1 : a1 = cosI) (h2 : a2 = (broadcastInDim S2048x48 ![] bcast_S_S2048x48 (constant (F := Ideal) S_ .f32 0x3F800000#32))) (h3 : a3 = cosI) (h4 : a4 = cosI) (h5 : a5 = (broadcastInDim S2048x48 ![] bcast_S_S2048x48 (constant (F := Ideal) S_ .f32 0x3F800000#32))) :
    concatenate S2048x128 1 [⟨S2048x8, a0⟩, ⟨S2048x8, a1⟩, ⟨S2048x48, a2⟩, ⟨S2048x8, a3⟩, ⟨S2048x8, a4⟩, ⟨S2048x48, a5⟩] concatenates_S2048x8_S2048x8_S2048x48_S2048x8_S2048x8_S2048x48_S2048x128_d1 = tab3 := by
  subst h0 h1 h2 h3 h4 h5
  rfl

theorem tab4_of {a0 : Vec Ideal S2048x8 .f32} {a1 : Vec Ideal S2048x8 .f32} {a2 : Vec Ideal S2048x48 .f32} {a3 : Vec Ideal S2048x8 .f32} {a4 : Vec Ideal S2048x8 .f32} {a5 : Vec Ideal S2048x48 .f32} (h0 : a0 = (broadcastInDim S2048x8 ![] bcast_S_S2048x8 (constant (F := Ideal) S_ .f32 0x00000000#32))) (h1 : a1 = sinI) (h2 : a2 = (broadcastInDim S2048x48 ![] bcast_S_S2048x48 (constant (F := Ideal) S_ .f32 0x00000000#32))) (h3 : a3 = (broadcastInDim S2048x8 ![] bcast_S_S2048x8 (constant (F := Ideal) S_ .f32 0x00000000#32))) (h4 : a4 = sinI) (h5 : a5 = (broadcastInDim S2048x48 ![] bcast_S_S2048x48 (constant (F := Ideal) S_ .f32 0x00000000#32))) :
    concatenate S2048x128 1 [⟨S2048x8, a0⟩, ⟨S2048x8, a1⟩, ⟨S2048x48, a2⟩, ⟨S2048x8, a3⟩, ⟨S2048x8, a4⟩, ⟨S2048x48, a5⟩] concatenates_S2048x8_S2048x8_S2048x48_S2048x8_S2048x8_S2048x48_S2048x128_d1 = tab4 := by
  subst h0 h1 h2 h3 h4 h5
  rfl

theorem tab5_of {a0 : Vec Ideal S2048x8 .f32} {a1 : Vec Ideal S2048x8 .f32} {a2 : Vec Ideal S2048x48 .f32} {a3 : Vec Ideal S2048x8 .f32} {a4 : Vec Ideal S2048x8 .f32} {a5 : Vec Ideal S2048x48 .f32} (h0 : a0 = (Host.negf (F := Ideal) (φ := .f32) sinI : Vec Ideal S2048x8 .f32)) (h1 : a1 = (broadcastInDim S2048x8 ![] bcast_S_S2048x8 (constant (F := Ideal) S_ .f32 0x00000000#32))) (h2 : a2 = (broadcastInDim S2048x48 ![] bcast_S_S2048x48 (constant (F := Ideal) S_ .f32 0x00000000#32))) (h3 : a3 = (Host.negf (F := Ideal) (φ := .f32) sinI : Vec Ideal S2048x8 .f32)) (h4 : a4 = (broadcastInDim S2048x8 ![] bcast_S_S2048x8 (constant (F := Ideal) S_ .f32 0x00000000#32))) (h5 : a5 = (broadcastInDim S2048x48 ![] bcast_S_S2048x48 (constant (F := Ideal) S_ .f32 0x00000000#32))) :
    concatenate S2048x128 1 [⟨S2048x8, a0⟩, ⟨S2048x8, a1⟩, ⟨S2048x48, a2⟩, ⟨S2048x8, a3⟩, ⟨S2048x8, a4⟩, ⟨S2048x48, a5⟩] concatenates_S2048x8_S2048x8_S2048x48_S2048x8_S2048x8_S2048x48_S2048x128_d1 = tab5 := by
  subst h0 h1 h2 h3 h4 h5
  rfl

theorem tab6_of {a0 : Vec Ideal S2048x32 .f32} {a1 : Vec Ideal S2048x32 .f32} {a2 : Vec Ideal S2048x32 .f32} {a3 : Vec Ideal S2048x32 .f32} (h0 : a0 = cosM) (h1 : a1 = cosM) (h2 : a2 = cosM) (h3 : a3 = cosM) :
    concatenate S2048x128 1 [⟨S2048x32, a0⟩, ⟨S2048x32, a1⟩, ⟨S2048x32, a2⟩, ⟨S2048x32, a3⟩] concatenates_S2048x32_S2048x32_S2048x32_S2048x32_S2048x128_d1 = tab6 := by
  subst h0 h1 h2 h3
  rfl

theorem tab7_of {a0 : Vec Ideal S2048x32 .f32} {a1 : Vec Ideal S2048x32 .f32} {a2 : Vec Ideal S2048x32 .f32} {a3 : Vec Ideal S2048x32 .f32} (h0 : a0 = (broadcastInDim S2048x32 ![] bcast_S_S2048x32 (constant (F := Ideal) S_ .f32 0x00000000#32))) (h1 : a1 = sinM) (h2 : a2 = (broadcastInDim S2048x32 ![] bcast_S_S2048x32 (constant (F := Ideal) S_ .f32 0x00000000#32))) (h3 : a3 = sinM) :
    concatenate S2048x128 1 [⟨S2048x32, a0⟩, ⟨S2048x32, a1⟩, ⟨S2048x32, a2⟩, ⟨S2048x32, a3⟩] concatenates_S2048x32_S2048x32_S2048x32_S2048x32_S2048x128_d1 = tab7 := by
  subst h0 h1 h2 h3
  rfl

theorem tab8_of {a0 : Vec Ideal S2048x32 .f32} {a1 : Vec Ideal S2048x32 .f32} {a2 : Vec Ideal S2048x32 .f32} {a3 : Vec Ideal S2048x32 .f32} (h0 : a0 = (Host.negf (F := Ideal) (φ := .f32) sinM : Vec Ideal S2048x32 .f32)) (h1 : a1 = (broadcastInDim S2048x32 ![] bcast_S_S2048x32 (constant (F := Ideal) S_ .f32 0x00000000#32))) (h2 : a2 = (Host.negf (F := Ideal) (φ := .f32) sinM : Vec Ideal S2048x32 .f32)) (h3 : a3 = (broadcastInDim S2048x32 ![] bcast_S_S2048x32 (constant (F := Ideal) S_ .f32 0x00000000#32))) :
    concatenate S2048x128 1 [⟨S2048x32, a0⟩, ⟨S2048x32, a1⟩, ⟨S2048x32, a2⟩, ⟨S2048x32, a3⟩] concatenates_S2048x32_S2048x32_S2048x32_S2048x32_S2048x128_d1 = tab8 := by
  subst h0 h1 h2 h3
  rfl

theorem tab9_of {a0 : Vec Ideal S2048x8 .f32} {a1 : Vec Ideal S2048x8 .f32} {a2 : Vec Ideal S2048x48 .f32} {a3 : Vec Ideal S2048x32 .f32} {a4 : Vec Ideal S2048x32 .f32} (h0 : a0 = cosI) (h1 : a1 = cosI) (h2 : a2 = (broadcastInDim S2048x48 ![] bcast_S_S2048x48 (constant (F := Ideal) S_ .f32 0x3F800000#32))) (h3 : a3 = cosM) (h4 : a4 = cosM) :
    concatenate S2048x128 1 [⟨S2048x8, a0⟩, ⟨S2048x8, a1⟩, ⟨S2048x48, a2⟩, ⟨S2048x32, a3⟩, ⟨S2048x32, a4⟩] concatenates_S2048x8_S2048x8_S2048x48_S2048x32_S2048x32_S2048x128_d1 = tab9 := by
  subst h0 h1 h2 h3 h4
  rfl

theorem tab10_of {a0 : Vec Ideal S2048x8 .f32} {a1 : Vec Ideal S2048x8 .f32} {a2 : Vec Ideal S2048x48 .f32} {a3 : Vec Ideal S2048x64 .f32} (h0 : a0 = (broadcastInDim S2048x8 ![] bcast_S_S2048x8 (constant (F := Ideal) S_ .f32 0x00000000#32))) (h1 : a1 = sinI) (h2 : a2 = (broadcastInDim S2048x48 ![] bcast_S_S2048x48 (constant (F := Ideal) S_ .f32 0x00000000#32))) (h3 : a3 = (broadcastInDim S2048x64 ![] bcast_S_S2048x64 (constant (F := Ideal) S_ .f32 0x00000000#32))) :
    concatenate S2048x128 1 [⟨S2048x8, a0⟩, ⟨S2048x8, a1⟩, ⟨S2048x48, a2⟩, ⟨S2048x64, a3⟩] concatenates_S2048x8_S2048x8_S2048x48_S2048x64_S2048x128_d1 = tab10 := by
  subst h0 h1 h2 h3
  rfl

theorem tab11_of {a0 : Vec Ideal S2048x8 .f32} {a1 : Vec Ideal S2048x8 .f32} {a2 : Vec Ideal S2048x48 .f32} {a3 : Vec Ideal S2048x64 .f32} (h0 : a0 = (Host.negf (F := Ideal) (φ := .f32) sinI : Vec Ideal S2048x8 .f32)) (h1 : a1 = (broadcastInDim S2048x8 ![] bcast_S_S2048x8 (constant (F := Ideal) S_ .f32 0x00000000#32))) (h2 : a2 = (broadcastInDim S2048x48 ![] bcast_S_S2048x48 (constant (F := Ideal) S_ .f32 0x00000000#32))) (h3 : a3 = (broadcastInDim S2048x64 ![] bcast_S_S2048x64 (constant (F := Ideal) S_ .f32 0x00000000#32))) :
    concatenate S2048x128 1 [⟨S2048x8, a0⟩, ⟨S2048x8, a1⟩, ⟨S2048x48, a2⟩, ⟨S2048x64, a3⟩] concatenates_S2048x8_S2048x8_S2048x48_S2048x64_S2048x128_d1 = tab11 := by
  subst h0 h1 h2 h3
  rfl

theorem tab12_of {a0 : Vec Ideal S2048x64 .f32} {a1 : Vec Ideal S2048x32 .f32} {a2 : Vec Ideal S2048x32 .f32} (h0 : a0 = (broadcastInDim S2048x64 ![] bcast_S_S2048x64 (constant (F := Ideal) S_ .f32 0x00000000#32))) (h1 : a1 = (broadcastInDim S2048x32 ![] bcast_S_S2048x32 (constant (F := Ideal) S_ .f32 0x00000000#32))) (h2 : a2 = sinM) :
    concatenate S2048x128 1 [⟨S2048x64, a0⟩, ⟨S2048x32, a1⟩, ⟨S2048x32, a2⟩] concatenates_S2048x64_S2048x32_S2048x32_S2048x128_d1 = tab12 := by
  subst h0 h1 h2
  rfl

theorem tab13_of {a0 : Vec Ideal S2048x64 .f32} {a1 : Vec Ideal S2048x32 .f32} {a2 : Vec Ideal S2048x32 .f32} (h0 : a0 = (broadcastInDim S2048x64 ![] bcast_S_S2048x64 (constant (F := Ideal) S_ .f32 0x00000000#32))) (h1 : a1 = (Host.negf (F := Ideal) (φ := .f32) sinM : Vec Ideal S2048x32 .f32)) (h2 : a2 = (broadcastInDim S2048x32 ![] bcast_S_S2048x32 (constant (F := Ideal) S_ .f32 0x00000000#32))) :
    concatenate S2048x128 1 [⟨S2048x64, a0⟩, ⟨S2048x32, a1⟩, ⟨S2048x32, a2⟩] concatenates_S2048x64_S2048x32_S2048x32_S2048x128_d1 = tab13 := by
  subst h0 h1 h2
  rfl

theorem tabs_of {a0 : Vec Ideal S2048x128 .f32} {a1 : Vec Ideal S2048x128 .f32} {a2 : Vec Ideal S2048x128 .f32} {a3 : Vec Ideal S2048x128 .f32} {a4 : Vec Ideal S2048x128 .f32} {a5 : Vec Ideal S2048x128 .f32} {a6 : Vec Ideal S2048x128 .f32} {a7 : Vec Ideal S2048x128 .f32} {a8 : Vec Ideal S2048x128 .f32} {a9 : Vec Ideal S2048x128 .f32} {a10 : Vec Ideal S2048x128 .f32} {a11 : Vec Ideal S2048x128 .f32} {a12 : Vec Ideal S2048x128 .f32} {a13 : Vec Ideal S2048x128 .f32} (h0 : a0 = tab0) (h1 : a1 = tab1) (h2 : a2 = tab2) (h3 : a3 = tab3) (h4 : a4 = tab4) (h5 : a5 = tab5) (h6 : a6 = tab6) (h7 : a7 = tab7) (h8 : a8 = tab8) (h9 : a9 = tab9) (h10 : a10 = tab10) (h11 : a11 = tab11) (h12 : a12 = tab12) (h13 : a13 = tab13) :
    concatenate S2048x1792 1 [⟨S2048x128, a0⟩, ⟨S2048x128, a1⟩, ⟨S2048x128, a2⟩, ⟨S2048x128, a3⟩, ⟨S2048x128, a4⟩, ⟨S2048x128, a5⟩, ⟨S2048x128, a6⟩, ⟨S2048x128, a7⟩, ⟨S2048x128, a8⟩, ⟨S2048x128, a9⟩, ⟨S2048x128, a10⟩, ⟨S2048x128, a11⟩, ⟨S2048x128, a12⟩, ⟨S2048x128, a13⟩] concatenates_S2048x128_S2048x128_S2048x128_S2048x128_S2048x128_S2048x128_S2048x128_S2048x128_S2048x128_S2048x128_S2048x128_S2048x128_S2048x128_S2048x128_S2048x1792_d1 = tabs := by
  subst h0 h1 h2 h3 h4 h5 h6 h7 h8 h9 h10 h11 h12 h13
  rfl

variable (m : (ℓ : Loc nD τ sig) → Buf (Elt Ideal) ℓ)

theorem read_tab0 (c : Dev nD) :
    StableHlo.upto hostOps0 (fun b => m (c, b)) 165 (Proc.tc.devRef main_v77) = tab0 := by
  after_reads_simp
  exact tab0_of (by
    show StableHlo.upto hostOps0 _ _ (Proc.tc.devRef main_v48) = _
    after_reads_simp <;> rfl) (by
    show StableHlo.upto hostOps0 _ _ (Proc.tc.devRef main_v48) = _
    after_reads_simp <;> rfl) (by
    show StableHlo.upto hostOps0 _ _ (Proc.tc.devRef main_v76) = _
    after_reads_simp <;> rfl)

theorem read_tab1 (c : Dev nD) :
    StableHlo.upto hostOps0 (fun b => m (c, b)) 165 (Proc.tc.devRef main_v80) = tab1 := by
  after_reads_simp
  exact tab1_of (by
    show StableHlo.upto hostOps0 _ _ (Proc.tc.devRef main_v78) = _
    after_reads_simp <;> rfl) (by
    show StableHlo.upto hostOps0 _ _ (Proc.tc.devRef main_v49) = _
    after_reads_simp <;> rfl) (by
    show StableHlo.upto hostOps0 _ _ (Proc.tc.devRef main_v79) = _
    after_reads_simp <;> rfl)

theorem read_tab2 (c : Dev nD) :
    StableHlo.upto hostOps0 (fun b => m (c, b)) 165 (Proc.tc.devRef main_v84) = tab2 := by
  after_reads_simp
  exact tab2_of (by
    show StableHlo.upto hostOps0 _ _ (Proc.tc.devRef main_v81) = _
    after_reads_simp <;> rfl) (by
    show StableHlo.upto hostOps0 _ _ (Proc.tc.devRef main_v82) = _
    after_reads_simp <;> rfl) (by
    show StableHlo.upto hostOps0 _ _ (Proc.tc.devRef main_v83) = _
    after_reads_simp <;> rfl)

theorem read_tab3 (c : Dev nD) :
    StableHlo.upto hostOps0 (fun b => m (c, b)) 165 (Proc.tc.devRef main_v87) = tab3 := by
  after_reads_simp
  exact tab3_of (by
    show StableHlo.upto hostOps0 _ _ (Proc.tc.devRef main_v61) = _
    after_reads_simp <;> rfl) (by
    show StableHlo.upto hostOps0 _ _ (Proc.tc.devRef main_v61) = _
    after_reads_simp <;> rfl) (by
    show StableHlo.upto hostOps0 _ _ (Proc.tc.devRef main_v85) = _
    after_reads_simp <;> rfl) (by
    show StableHlo.upto hostOps0 _ _ (Proc.tc.devRef main_v61) = _
    after_reads_simp <;> rfl) (by
    show StableHlo.upto hostOps0 _ _ (Proc.tc.devRef main_v61) = _
    after_reads_simp <;> rfl) (by
    show StableHlo.upto hostOps0 _ _ (Proc.tc.devRef main_v86) = _
    after_reads_simp <;> rfl)

theorem read_tab4 (c : Dev nD) :
    StableHlo.upto hostOps0 (fun b => m (c, b)) 165 (Proc.tc.devRef main_v92) = tab4 := by
  after_reads_simp
  exact tab4_of (by
    show StableHlo.upto hostOps0 _ _ (Proc.tc.devRef main_v88) = _
    after_reads_simp <;> rfl) (by
    show StableHlo.upto hostOps0 _ _ (Proc.tc.devRef main_v62) = _
    after_reads_simp <;> rfl) (by
    show StableHlo.upto hostOps0 _ _ (Proc.tc.devRef main_v89) = _
    after_reads_simp <;> rfl) (by
    show StableHlo.upto hostOps0 _ _ (Proc.tc.devRef main_v90) = _
    after_reads_simp <;> rfl) (by
    show StableHlo.upto hostOps0 _ _ (Proc.tc.devRef main_v62) = _
    after_reads_simp <;> rfl) (by
    show StableHlo.upto hostOps0 _ _ (Proc.tc.devRef main_v91) = _
    after_reads_simp <;> rfl)

theorem read_tab5 (c : Dev nD) :
    StableHlo.upto hostOps0 (fun b => m (c, b)) 165 (Proc.tc.devRef main_v99) = tab5 := by
  after_reads_simp
  exact tab5_of (by
    show StableHlo.upto hostOps0 _ _ (Proc.tc.devRef main_v93) = _
    after_reads_simp <;> rfl) (by
    show StableHlo.upto hostOps0 _ _ (Proc.tc.devRef main_v94) = _
    after_reads_simp <;> rfl) (by
    show StableHlo.upto hostOps0 _ _ (Proc.tc.devRef main_v95) = _
    after_reads_simp <;> rfl) (by
    show StableHlo.upto hostOps0 _ _ (Proc.tc.devRef main_v96) = _
    after_reads_simp <;> rfl) (by
    show StableHlo.upto hostOps0 _ _ (Proc.tc.devRef main_v97) = _
    after_reads_simp <;> rfl) (by
    show StableHlo.upto hostOps0 _ _ (Proc.tc.devRef main_v98) = _
    after_reads_simp <;> rfl)

theorem read_tab6 (c : Dev nD) :
    StableHlo.upto hostOps0 (fun b => m (c, b)) 165 (Proc.tc.devRef main_v100) = tab6 := by
  after_reads_simp
  exact tab6_of (by
    show StableHlo.upto hostOps0 _ _ (Proc.tc.devRef main_v74) = _
    after_reads_simp <;> rfl) (by
    show StableHlo.upto hostOps0 _ _ (Proc.tc.devRef main_v74) = _
    after_reads_simp <;> rfl) (by
    show StableHlo.upto hostOps0 _ _ (Proc.tc.devRef main_v74) = _
    after_reads_simp <;> rfl) (by
    show StableHlo.upto hostOps0 _ _ (Proc.tc.devRef main_v74) = _
    after_reads_simp <;> rfl)

theorem read_tab7 (c : Dev nD) :
    StableHlo.upto hostOps0 (fun b => m (c, b)) 165 (Proc.tc.devRef main_v103) = tab7 := by
  after_reads_simp
  exact tab7_of (by
    show StableHlo.upto hostOps0 _ _ (Proc.tc.devRef main_v101) = _
    after_reads_simp <;> rfl) (by
    show StableHlo.upto hostOps0 _ _ (Proc.tc.devRef main_v75) = _
    after_reads_simp <;> rfl) (by
    show StableHlo.upto hostOps0 _ _ (Proc.tc.devRef main_v102) = _
    after_reads_simp <;> rfl) (by
    show StableHlo.upto hostOps0 _ _ (Proc.tc.devRef main_v75) = _
    after_reads_simp <;> rfl)

theorem read_tab8 (c : Dev nD) :
    StableHlo.upto hostOps0 (fun b => m (c, b)) 165 (Proc.tc.devRef main_v108) = tab8 := by
  after_reads_simp
  exact tab8_of (by
    show StableHlo.upto hostOps0 _ _ (Proc.tc.devRef main_v104) = _
    after_reads_simp <;> rfl) (by
    show StableHlo.upto hostOps0 _ _ (Proc.tc.devRef main_v105) = _
    after_reads_simp <;> rfl) (by
    show StableHlo.upto hostOps0 _ _ (Proc.tc.devRef main_v106) = _
    after_reads_simp <;> rfl) (by
    show StableHlo.upto hostOps0 _ _ (Proc.tc.devRef main_v107) = _
    after_reads_simp <;> rfl)

theorem read_tab9 (c : Dev nD) :
    StableHlo.upto hostOps0 (fun b => m (c, b)) 165 (Proc.tc.devRef main_v110) = tab9 := by
  after_reads_simp
  exact tab9_of (by
    show StableHlo.upto hostOps0 _ _ (Proc.tc.devRef main_v61) = _
    after_reads_simp <;> rfl) (by
    show StableHlo.upto hostOps0 _ _ (Proc.tc.devRef main_v61) = _
    after_reads_simp <;> rfl) (by
    show StableHlo.upto hostOps0 _ _ (Proc.tc.devRef main_v109) = _
    after_reads_simp <;> rfl) (by
    show StableHlo.upto hostOps0 _ _ (Proc.tc.devRef main_v74) = _
    after_reads_simp <;> rfl) (by
    show StableHlo.upto hostOps0 _ _ (Proc.tc.devRef main_v74) = _
    after_reads_simp <;> rfl)

theorem read_tab10 (c : Dev nD) :
    StableHlo.upto hostOps0 (fun b => m (c, b)) 165 (Proc.tc.devRef main_v114) = tab10 := by
  after_reads_simp
  exact tab10_of (by
    show StableHlo.upto hostOps0 _ _ (Proc.tc.devRef main_v111) = _
    after_reads_simp <;> rfl) (by
    show StableHlo.upto hostOps0 _ _ (Proc.tc.devRef main_v62) = _
    after_reads_simp <;> rfl) (by
    show StableHlo.upto hostOps0 _ _ (Proc.tc.devRef main_v112) = _
    after_reads_simp <;> rfl) (by
    show StableHlo.upto hostOps0 _ _ (Proc.tc.devRef main_v113) = _
    after_reads_simp <;> rfl)

theorem read_tab11 (c : Dev nD) :
    StableHlo.upto hostOps0 (fun b => m (c, b)) 165 (Proc.tc.devRef main_v119) = tab11 := by
  after_reads_simp
  exact tab11_of (by
    show StableHlo.upto hostOps0 _ _ (Proc.tc.devRef main_v115) = _
    after_reads_simp <;> rfl) (by
    show StableHlo.upto hostOps0 _ _ (Proc.tc.devRef main_v116) = _
    after_reads_simp <;> rfl) (by
    show StableHlo.upto hostOps0 _ _ (Proc.tc.devRef main_v117) = _
    after_reads_simp <;> rfl) (by
    show StableHlo.upto hostOps0 _ _ (Proc.tc.devRef main_v118) = _
    after_reads_simp <;> rfl)

theorem read_tab12 (c : Dev nD) :
    StableHlo.upto hostOps0 (fun b => m (c, b)) 165 (Proc.tc.devRef main_v122) = tab12 := by
  after_reads_simp
  exact tab12_of (by
    show StableHlo.upto hostOps0 _ _ (Proc.tc.devRef main_v120) = _
    after_reads_simp <;> rfl) (by
    show StableHlo.upto hostOps0 _ _ (Proc.tc.devRef main_v121) = _
    after_reads_simp <;> rfl) (by
    show StableHlo.upto hostOps0 _ _ (Proc.tc.devRef main_v75) = _
    after_reads_simp <;> rfl)

theorem read_tab13 (c : Dev nD) :
    StableHlo.upto hostOps0 (fun b => m (c, b)) 165 (Proc.tc.devRef main_v126) = tab13 := by
  after_reads_simp
  exact tab13_of (by
    show StableHlo.upto hostOps0 _ _ (Proc.tc.devRef main_v123) = _
    after_reads_simp <;> rfl) (by
    show StableHlo.upto hostOps0 _ _ (Proc.tc.devRef main_v124) = _
    after_reads_simp <;> rfl) (by
    show StableHlo.upto hostOps0 _ _ (Proc.tc.devRef main_v125) = _
    after_reads_simp <;> rfl)

theorem V_v127 (c : Dev nD) : V m c main_v127 = tabs := by
  unfold V
  after_reads_simp
  exact tabs_of (read_tab0 m c) (read_tab1 m c) (read_tab2 m c) (read_tab3 m c) (read_tab4 m c) (read_tab5 m c) (read_tab6 m c) (read_tab7 m c) (read_tab8 m c) (read_tab9 m c) (read_tab10 m c) (read_tab11 m c) (read_tab12 m c) (read_tab13 m c)

theorem V_v12 (c : Dev nD) : V m c main_v12 = weights (m ((c : Thread nD τ).loc main_arg2)) := by
  unfold V
  after_reads_simp
  rfl

theorem V_v18 (c : Dev nD) : V m c main_v18 = queryUp (m ((c : Thread nD τ).loc main_arg6)) := by
  unfold V
  after_reads_simp
  rfl

theorem V_v25 (c : Dev nD) : V m c main_v25 = keyUp (m ((c : Thread nD τ).loc main_arg8)) := by
  unfold V
  after_reads_simp
  rfl

theorem V_v31 (c : Dev nD) : V m c main_v31 = gainPair (m ((c : Thread nD τ).loc main_arg11)) := by
  unfold V
  after_reads_simp
  rfl

theorem V_v34 (c : Dev nD) : V m c main_v34 = gainHigh (m ((c : Thread nD τ).loc main_arg12)) := by
  unfold V
  after_reads_simp
  rfl

end Cert.ProjectIdeal.ProjectHost

end
-- ==== Proof.ProjectTables.lean ====
/-
  The entries of the lane tables and of the weights in the order of the kernel.
-/
module

public import proofs.«01_k».proof.Proof.ProjectHost
public import proofs.«01_k».proof.Proof.Proj
public import Idealize.ShloMosaic.Lib.Pointwise

@[expose] public section

set_option maxRecDepth 16384

noncomputable section

namespace Cert.ProjectIdeal.ProjectHost

open Cert Cert.ProjectIdeal Cert.ProjectIdeal.Gen Idealize.ShloMosaic Idealize.ShloMosaic.TcCoe Idealize.SL.Sem

theorem cosA_apply (p : Fin 2048) (j : Fin 16) : cosA (ix2 p j) = Proj.cosine Proj.b32 p.val j.val := by
  unfold cosA
  pointwise
  rfl

theorem sinA_apply (p : Fin 2048) (j : Fin 16) : sinA (ix2 p j) = Proj.sine Proj.b32 p.val j.val := by
  unfold sinA
  pointwise
  rfl

theorem cosI_apply (p : Fin 2048) (j : Fin 8) : cosI (ix2 p j) = Proj.cosine Proj.b16 p.val j.val := by
  unfold cosI
  pointwise
  rfl

theorem sinI_apply (p : Fin 2048) (j : Fin 8) : sinI (ix2 p j) = Proj.sine Proj.b16 p.val j.val := by
  unfold sinI
  pointwise
  rfl

theorem cosM_apply (p : Fin 2048) (j : Fin 32) : cosM (ix2 p j) = Proj.cosine Proj.b64 p.val j.val := by
  unfold cosM
  pointwise
  rfl

theorem sinM_apply (p : Fin 2048) (j : Fin 32) : sinM (ix2 p j) = Proj.sine Proj.b64 p.val j.val := by
  unfold sinM
  pointwise
  rfl

theorem tab0_apply (p : Fin 2048) (l : Fin 128) : tab0 (ix2 p l) = Proj.tabCos 128 16 (Proj.cosine Proj.b32 p.val) l := by
  unfold tab0
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab1_apply (p : Fin 2048) (l : Fin 128) : tab1 (ix2 p l) = Proj.tabUp 128 16 (Proj.sine Proj.b32 p.val) l := by
  unfold tab1
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab2_apply (p : Fin 2048) (l : Fin 128) : tab2 (ix2 p l) = Proj.tabDown 128 16 (Proj.sine Proj.b32 p.val) l := by
  unfold tab2
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab3_apply (p : Fin 2048) (l : Fin 128) : tab3 (ix2 p l) = Proj.tabCos 64 8 (Proj.cosine Proj.b16 p.val) l := by
  unfold tab3
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab4_apply (p : Fin 2048) (l : Fin 128) : tab4 (ix2 p l) = Proj.tabUp 64 8 (Proj.sine Proj.b16 p.val) l := by
  unfold tab4
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab5_apply (p : Fin 2048) (l : Fin 128) : tab5 (ix2 p l) = Proj.tabDown 64 8 (Proj.sine Proj.b16 p.val) l := by
  unfold tab5
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab6_apply (p : Fin 2048) (l : Fin 128) : tab6 (ix2 p l) = Proj.tabCos 64 32 (Proj.cosine Proj.b64 p.val) l := by
  unfold tab6
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab7_apply (p : Fin 2048) (l : Fin 128) : tab7 (ix2 p l) = Proj.tabUp 64 32 (Proj.sine Proj.b64 p.val) l := by
  unfold tab7
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab8_apply (p : Fin 2048) (l : Fin 128) : tab8 (ix2 p l) = Proj.tabDown 64 32 (Proj.sine Proj.b64 p.val) l := by
  unfold tab8
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab9_apply (p : Fin 2048) (l : Fin 128) :
    tab9 (ix2 p l) = if l.val < 64 then Proj.tabCos 64 8 (Proj.cosine Proj.b16 p.val) l else Proj.tabCos 64 32 (Proj.cosine Proj.b64 p.val) l := by
  unfold tab9
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab10_apply (p : Fin 2048) (l : Fin 128) :
    tab10 (ix2 p l) = if l.val < 64 then Proj.tabUp 64 8 (Proj.sine Proj.b16 p.val) l else 0 := by
  unfold tab10
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab11_apply (p : Fin 2048) (l : Fin 128) :
    tab11 (ix2 p l) = if l.val < 64 then Proj.tabDown 64 8 (Proj.sine Proj.b16 p.val) l else 0 := by
  unfold tab11
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab12_apply (p : Fin 2048) (l : Fin 128) :
    tab12 (ix2 p l) = if l.val < 64 then 0 else Proj.tabUp 64 32 (Proj.sine Proj.b64 p.val) l := by
  unfold tab12
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab13_apply (p : Fin 2048) (l : Fin 128) :
    tab13 (ix2 p l) = if l.val < 64 then 0 else Proj.tabDown 64 32 (Proj.sine Proj.b64 p.val) l := by
  unfold tab13
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tabs_at0 (p : Fin 2048) (l : Fin 128) : tabs (ix2 p ⟨0 + l.val, by omega⟩) = tab0 (ix2 p l) := by
  unfold tabs
  exact concatenate_apply_piece (t := S2048x1792) 1 _ _ (ix2 p ⟨0 + l.val, by omega⟩) 0 (by show 0 < 14; decide) S2048x128 tab0 rfl rfl 0 (by rfl) (ix2 p l)
    (fun b hb => by fin_cases b; · rfl
                    · exact absurd rfl hb) rfl

theorem tabs_at1 (p : Fin 2048) (l : Fin 128) : tabs (ix2 p ⟨128 + l.val, by omega⟩) = tab1 (ix2 p l) := by
  unfold tabs
  exact concatenate_apply_piece (t := S2048x1792) 1 _ _ (ix2 p ⟨128 + l.val, by omega⟩) 1 (by show 1 < 14; decide) S2048x128 tab1 rfl rfl 128 (by rfl) (ix2 p l)
    (fun b hb => by fin_cases b; · rfl
                    · exact absurd rfl hb) rfl

theorem tabs_at2 (p : Fin 2048) (l : Fin 128) : tabs (ix2 p ⟨256 + l.val, by omega⟩) = tab2 (ix2 p l) := by
  unfold tabs
  exact concatenate_apply_piece (t := S2048x1792) 1 _ _ (ix2 p ⟨256 + l.val, by omega⟩) 2 (by show 2 < 14; decide) S2048x128 tab2 rfl rfl 256 (by rfl) (ix2 p l)
    (fun b hb => by fin_cases b; · rfl
                    · exact absurd rfl hb) rfl

theorem tabs_at3 (p : Fin 2048) (l : Fin 128) : tabs (ix2 p ⟨384 + l.val, by omega⟩) = tab3 (ix2 p l) := by
  unfold tabs
  exact concatenate_apply_piece (t := S2048x1792) 1 _ _ (ix2 p ⟨384 + l.val, by omega⟩) 3 (by show 3 < 14; decide) S2048x128 tab3 rfl rfl 384 (by rfl) (ix2 p l)
    (fun b hb => by fin_cases b; · rfl
                    · exact absurd rfl hb) rfl

theorem tabs_at4 (p : Fin 2048) (l : Fin 128) : tabs (ix2 p ⟨512 + l.val, by omega⟩) = tab4 (ix2 p l) := by
  unfold tabs
  exact concatenate_apply_piece (t := S2048x1792) 1 _ _ (ix2 p ⟨512 + l.val, by omega⟩) 4 (by show 4 < 14; decide) S2048x128 tab4 rfl rfl 512 (by rfl) (ix2 p l)
    (fun b hb => by fin_cases b; · rfl
                    · exact absurd rfl hb) rfl

theorem tabs_at5 (p : Fin 2048) (l : Fin 128) : tabs (ix2 p ⟨640 + l.val, by omega⟩) = tab5 (ix2 p l) := by
  unfold tabs
  exact concatenate_apply_piece (t := S2048x1792) 1 _ _ (ix2 p ⟨640 + l.val, by omega⟩) 5 (by show 5 < 14; decide) S2048x128 tab5 rfl rfl 640 (by rfl) (ix2 p l)
    (fun b hb => by fin_cases b; · rfl
                    · exact absurd rfl hb) rfl

theorem tabs_at6 (p : Fin 2048) (l : Fin 128) : tabs (ix2 p ⟨768 + l.val, by omega⟩) = tab6 (ix2 p l) := by
  unfold tabs
  exact concatenate_apply_piece (t := S2048x1792) 1 _ _ (ix2 p ⟨768 + l.val, by omega⟩) 6 (by show 6 < 14; decide) S2048x128 tab6 rfl rfl 768 (by rfl) (ix2 p l)
    (fun b hb => by fin_cases b; · rfl
                    · exact absurd rfl hb) rfl

theorem tabs_at7 (p : Fin 2048) (l : Fin 128) : tabs (ix2 p ⟨896 + l.val, by omega⟩) = tab7 (ix2 p l) := by
  unfold tabs
  exact concatenate_apply_piece (t := S2048x1792) 1 _ _ (ix2 p ⟨896 + l.val, by omega⟩) 7 (by show 7 < 14; decide) S2048x128 tab7 rfl rfl 896 (by rfl) (ix2 p l)
    (fun b hb => by fin_cases b; · rfl
                    · exact absurd rfl hb) rfl

theorem tabs_at8 (p : Fin 2048) (l : Fin 128) : tabs (ix2 p ⟨1024 + l.val, by omega⟩) = tab8 (ix2 p l) := by
  unfold tabs
  exact concatenate_apply_piece (t := S2048x1792) 1 _ _ (ix2 p ⟨1024 + l.val, by omega⟩) 8 (by show 8 < 14; decide) S2048x128 tab8 rfl rfl 1024 (by rfl) (ix2 p l)
    (fun b hb => by fin_cases b; · rfl
                    · exact absurd rfl hb) rfl

theorem tabs_at9 (p : Fin 2048) (l : Fin 128) : tabs (ix2 p ⟨1152 + l.val, by omega⟩) = tab9 (ix2 p l) := by
  unfold tabs
  exact concatenate_apply_piece (t := S2048x1792) 1 _ _ (ix2 p ⟨1152 + l.val, by omega⟩) 9 (by show 9 < 14; decide) S2048x128 tab9 rfl rfl 1152 (by rfl) (ix2 p l)
    (fun b hb => by fin_cases b; · rfl
                    · exact absurd rfl hb) rfl

theorem tabs_at10 (p : Fin 2048) (l : Fin 128) : tabs (ix2 p ⟨1280 + l.val, by omega⟩) = tab10 (ix2 p l) := by
  unfold tabs
  exact concatenate_apply_piece (t := S2048x1792) 1 _ _ (ix2 p ⟨1280 + l.val, by omega⟩) 10 (by show 10 < 14; decide) S2048x128 tab10 rfl rfl 1280 (by rfl) (ix2 p l)
    (fun b hb => by fin_cases b; · rfl
                    · exact absurd rfl hb) rfl

theorem tabs_at11 (p : Fin 2048) (l : Fin 128) : tabs (ix2 p ⟨1408 + l.val, by omega⟩) = tab11 (ix2 p l) := by
  unfold tabs
  exact concatenate_apply_piece (t := S2048x1792) 1 _ _ (ix2 p ⟨1408 + l.val, by omega⟩) 11 (by show 11 < 14; decide) S2048x128 tab11 rfl rfl 1408 (by rfl) (ix2 p l)
    (fun b hb => by fin_cases b; · rfl
                    · exact absurd rfl hb) rfl

theorem tabs_at12 (p : Fin 2048) (l : Fin 128) : tabs (ix2 p ⟨1536 + l.val, by omega⟩) = tab12 (ix2 p l) := by
  unfold tabs
  exact concatenate_apply_piece (t := S2048x1792) 1 _ _ (ix2 p ⟨1536 + l.val, by omega⟩) 12 (by show 12 < 14; decide) S2048x128 tab12 rfl rfl 1536 (by rfl) (ix2 p l)
    (fun b hb => by fin_cases b; · rfl
                    · exact absurd rfl hb) rfl

theorem tabs_at13 (p : Fin 2048) (l : Fin 128) : tabs (ix2 p ⟨1664 + l.val, by omega⟩) = tab13 (ix2 p l) := by
  unfold tabs
  exact concatenate_apply_piece (t := S2048x1792) 1 _ _ (ix2 p ⟨1664 + l.val, by omega⟩) 13 (by show 13 < 14; decide) S2048x128 tab13 rfl rfl 1664 (by rfl) (ix2 p l)
    (fun b hb => by fin_cases b; · rfl
                    · exact absurd rfl hb) rfl

theorem weights_q (w : Vec Ideal S1024x5256 .f32) (k : Fin 1024) (d : Fin 1024) :
    weights w (ix2 k ⟨0 + d.val, by omega⟩) = w (ix2 k ⟨0 + d.val, by omega⟩) := by
  unfold weights
  pointwise
  repeat (first | rw [dif_neg (by omega)] | rw [dif_pos (by omega)])
  try (congr 3; omega)

theorem weights_k (w : Vec Ideal S1024x5256 .f32) (k : Fin 1024) (d : Fin 512) :
    weights w (ix2 k ⟨1024 + d.val, by omega⟩) = w (ix2 k ⟨1024 + d.val, by omega⟩) := by
  unfold weights
  pointwise
  repeat (first | rw [dif_neg (by omega)] | rw [dif_pos (by omega)])
  try (congr 3; omega)

theorem weights_v (w : Vec Ideal S1024x5256 .f32) (k : Fin 1024) (d : Fin 512) :
    weights w (ix2 k ⟨1536 + d.val, by omega⟩) = w (ix2 k ⟨1536 + d.val, by omega⟩) := by
  unfold weights
  pointwise
  repeat (first | rw [dif_neg (by omega)] | rw [dif_pos (by omega)])
  try (congr 3; omega)

theorem weights_qi (w : Vec Ideal S1024x5256 .f32) (k : Fin 1024) (d : Fin 512) :
    weights w (ix2 k ⟨2048 + d.val, by omega⟩) = w (ix2 k ⟨2048 + d.val, by omega⟩) := by
  unfold weights
  pointwise
  repeat (first | rw [dif_neg (by omega)] | rw [dif_pos (by omega)])
  try (congr 3; omega)

theorem weights_ki (w : Vec Ideal S1024x5256 .f32) (k : Fin 1024) (d : Fin 64) :
    weights w (ix2 k ⟨2560 + d.val, by omega⟩) = w (ix2 k ⟨2560 + d.val, by omega⟩) := by
  unfold weights
  pointwise
  repeat (first | rw [dif_neg (by omega)] | rw [dif_pos (by omega)])
  try (congr 3; omega)

theorem weights_pe (w : Vec Ideal S1024x5256 .f32) (k : Fin 1024) (d : Fin 64) :
    weights w (ix2 k ⟨2624 + d.val, by omega⟩) = w (ix2 k ⟨3144 + d.val, by omega⟩) := by
  unfold weights
  pointwise
  repeat (first | rw [dif_neg (by omega)] | rw [dif_pos (by omega)])
  try (congr 3; omega)

theorem weights_qa (w : Vec Ideal S1024x5256 .f32) (k : Fin 1024) (d : Fin 256) :
    weights w (ix2 k ⟨2816 + d.val, by omega⟩) = w (ix2 k ⟨2632 + d.val, by omega⟩) := by
  unfold weights
  pointwise
  repeat (first | rw [dif_neg (by omega)] | rw [dif_pos (by omega)])
  try (congr 3; omega)

theorem weights_kva (w : Vec Ideal S1024x5256 .f32) (k : Fin 1024) (d : Fin 256) :
    weights w (ix2 k ⟨3072 + d.val, by omega⟩) = w (ix2 k ⟨2888 + d.val, by omega⟩) := by
  unfold weights
  pointwise
  repeat (first | rw [dif_neg (by omega)] | rw [dif_pos (by omega)])
  try (congr 3; omega)

theorem weights_g (w : Vec Ideal S1024x5256 .f32) (k : Fin 1024) (d : Fin 2048) :
    weights w (ix2 k ⟨3328 + d.val, by omega⟩) = w (ix2 k ⟨3208 + d.val, by omega⟩) := by
  unfold weights
  pointwise
  repeat (first | rw [dif_neg (by omega)] | rw [dif_pos (by omega)])
  try (congr 3; omega)

theorem queryUp_plain (w : Vec Ideal S256x8x192 .f32) (r : Fin 256) (j : Fin 1024) :
    queryUp w (ix2 r ⟨j.val, by omega⟩) = w (ix3 r ⟨j.val / 128, by omega⟩ ⟨j.val % 128, by omega⟩) := by
  unfold queryUp
  pointwise

theorem queryUp_rot (w : Vec Ideal S256x8x192 .f32) (r : Fin 256) (j : Fin 512) :
    queryUp w (ix2 r ⟨1024 + j.val, by omega⟩) = w (ix3 r ⟨j.val / 64, by omega⟩ ⟨128 + j.val % 64, by omega⟩) := by
  unfold queryUp
  pointwise

theorem keyUp_apply (w : Vec Ideal S256x8x128 .f32) (r : Fin 256) (j : Fin 1024) :
    keyUp w (ix2 r j) = w (ix3 r ⟨j.val / 128, by omega⟩ ⟨j.val % 128, by omega⟩) := by
  unfold keyUp
  pointwise

theorem gainPair_apply (w : Vec Ideal S64 .f32) (l : Fin 128) : gainPair w (ix2 0 l) = w (ix1 ⟨l.val % 64, by omega⟩) := by
  unfold gainPair
  pointwise

theorem gainHigh_apply (w : Vec Ideal S64 .f32) (d : Fin 64) : gainHigh w (ix2 0 ⟨64 + d.val, by omega⟩) = w (ix1 d) := by
  unfold gainHigh
  pointwise

end Cert.ProjectIdeal.ProjectHost

end
-- ==== Proof.ProjectPieces.lean ====
/-
  The blocks that the projection kernel leaves, entry by entry, from the blocks it finds.
-/
module

public import proofs.«01_k».proof.Proof.ProjectBlock
public import proofs.«01_k».proof.Proof.ProjectTables

@[expose] public section

set_option maxRecDepth 16384

noncomputable section

namespace Cert.ProjectIdeal.ProjectPieces

open Cert Cert.ProjectIdeal Cert.ProjectIdeal.Gen Idealize.ShloMosaic Idealize.ShloMosaic.TcCoe Idealize.SL.Sem ProjectHost
  ProjectBlock

/-- A load of a rectangle, and its place in the array, at one entry. -/
theorem ld_at {Val : EltTy → Type} {e : EltTy} {R C A B o p : ℕ} (X : (⟨2, ![R, C]⟩ : Shape).Idx → Val e)
    (inb : ∀ a, (![o, p] : Fin 2 → ℕ) a + (![A, B] : Fin 2 → ℕ) a ≤ (⟨2, ![R, C]⟩ : Shape).size a)
    (t : Fin A) (d : Fin B) (n : Fin R) (k : Fin C) (hn : n.val = o + t.val) (hk : k.val = p + d.val) :
    View.ld (Val := Val) (e' := e) X (Rect.unit (s := ⟨2, ![R, C]⟩) ![o, p] ![A, B] inb) (ix2 t d) = X (ix2 n k) :=
  View.ld_unit_apply_of X _ _ inb _ (ix2 n k) fun a => by
    match a with
    | ⟨0, _⟩ => exact hn
    | ⟨1, _⟩ => exact hk

theorem emb_at {R C A B o p : ℕ}
    (inb : ∀ a, (![o, p] : Fin 2 → ℕ) a + (![A, B] : Fin 2 → ℕ) a ≤ (⟨2, ![R, C]⟩ : Shape).size a)
    (t : Fin A) (d : Fin B) (n : Fin R) (k : Fin C) (hn : n.val = o + t.val) (hk : k.val = p + d.val) :
    ((Rect.unit (s := ⟨2, ![R, C]⟩) ![o, p] ![A, B] inb).emb (ix2 t d) : (⟨2, ![R, C]⟩ : Shape).Idx) = ix2 n k :=
  funext fun a => by
    match a with
    | ⟨0, _⟩ => exact Fin.ext (by show o + 1 * t.val = n.val; omega)
    | ⟨1, _⟩ => exact Fin.ext (by show p + 1 * d.val = k.val; omega)

/-- The blocks of a point: 256 rows of the input, their rows of the tables, and the weights. -/
structure Block (x0 : Vec Ideal S256x1024 .f32) (x1 : Vec Ideal S256x1792 .f32) (x2 : Vec Ideal S1x1024 .f32)
    (x3 : Vec Ideal S1024x5376 .bf16) (x4 x5 : Vec Ideal S1x128 .f32) (x6 : Vec Ideal S1x256 .f32)
    (x7 : Vec Ideal S256x1536 .bf16) (x8 : Vec Ideal S1x256 .f32) (x9 : Vec Ideal S256x1024 .bf16)
    (x10 x11 x12 x13 : Vec Ideal S1x128 .f32)
    (X : Fin 256 → Fin 1024 → EReal) (p : Fin 256 → Fin 2048) (a1 : Vec Ideal S1024 .f32) (a2 : Vec Ideal S1024x5256 .f32)
    (a3 a4 : Vec Ideal S128 .f32) (a5 : Vec Ideal S256 .f32) (a6 : Vec Ideal S256x8x192 .f32) (a7 : Vec Ideal S256 .f32)
    (a8 : Vec Ideal S256x8x128 .f32) (a9 a10 : Vec Ideal S128 .f32) (a11 a12 : Vec Ideal S64 .f32) : Prop where
  rows : ∀ a k, x0 (ix2 a k) = X a k
  tables : ∀ a c, x1 (ix2 a c) = tabs (ix2 (p a) c)
  gain1 : ∀ k, x2 (ix2 0 k) = a1 (ix1 k)
  weight : x3 = weights a2
  gainQ : ∀ l, x4 (ix2 0 l) = a3 (ix1 l)
  gainK : ∀ l, x5 (ix2 0 l) = a4 (ix1 l)
  gainQa : ∀ l, x6 (ix2 0 l) = a5 (ix1 l)
  upQ : x7 = queryUp a6
  gainKva : ∀ l, x8 (ix2 0 l) = a7 (ix1 l)
  upK : x9 = keyUp a8
  gainQn : ∀ l, x10 (ix2 0 l) = a9 (ix1 l)
  gainKn : ∀ l, x11 (ix2 0 l) = a10 (ix1 l)
  gainQr : x12 = gainPair a11
  gainKr : x13 = gainHigh a12

/-- The entries of a slice of 128 columns. -/
theorem slice_at {W off : ℕ} (Z : (⟨2, ![256, W]⟩ : Shape).Idx → EReal) (h : (⟨2, ![256, W]⟩ : Shape).Slices ![0, off] S256x128)
    (a : Fin 256) (d : Fin 128) (k : Fin W) (hk : k.val = off + d.val) :
    extractStridedSlice S256x128 ![0, off] Z h (ix2 a d) = Z (ix2 a k) :=
  congrArg Z (funext fun b => by
    match b with
    | ⟨0, _⟩ => exact Fin.ext (by show 0 + a.val = a.val; omega)
    | ⟨1, _⟩ => exact Fin.ext (by show off + d.val = k.val; omega))

section steps

variable (y : FVec Ideal S256x128 .f32) (g : Vec Ideal S1x128 .f32) (t₀ t₁ t₂ : Vec Ideal S256x128 .f32)
  (p : Fin 256 → Fin 2048) (a : Fin 256) (l : Fin 128)

/-- A normed and rotated head of 128 lanes. -/
theorem headPiece (h₀ : ∀ l, t₀ (ix2 a l) = tab0 (ix2 (p a) l)) (h₁ : ∀ l, t₁ (ix2 a l) = tab1 (ix2 (p a) l))
    (h₂ : ∀ l, t₂ (ix2 a l) = tab2 (ix2 (p a) l)) :
    lanesV 16#32 112#32 (normV y g) t₀ t₁ t₂ (ix2 a l)
      = Proj.rope 16 (by decide) (Proj.cosine Proj.b32 (p a).val) (Proj.sine Proj.b32 (p a).val)
          (Proj.norm Proj.w128 (fun d => y (ix2 a d)) (fun d => g (ix2 0 d))) l := by
  rw [lanesV16_apply, ← Proj.lanes_whole 16 (by decide)]
  simp only [h₀, h₁, h₂, tab0_apply, tab1_apply, tab2_apply, normV_apply]

/-- Two rotated heads of 64 lanes. -/
theorem indexPiece (h₀ : ∀ l, t₀ (ix2 a l) = tab3 (ix2 (p a) l)) (h₁ : ∀ l, t₁ (ix2 a l) = tab4 (ix2 (p a) l))
    (h₂ : ∀ l, t₂ (ix2 a l) = tab5 (ix2 (p a) l)) :
    lanesV 8#32 120#32 y t₀ t₁ t₂ (ix2 a l)
      = Proj.rope 8 (by decide) (Proj.cosine Proj.b16 (p a).val) (Proj.sine Proj.b16 (p a).val)
          (fun d : Fin 64 => y (ix2 a ⟨64 * (l.val / 64) + d.val, by omega⟩)) ⟨l.val % 64, by omega⟩ := by
  rw [lanesV8_apply, ← Proj.lanes_half 8 (by decide) (by decide) _ _ (fun d => y (ix2 a d))]
  simp only [h₀, h₁, h₂, tab3_apply, tab4_apply, tab5_apply]

/-- Two normed and rotated heads of 64 lanes. -/
theorem rotPiece (h₀ : ∀ l, t₀ (ix2 a l) = tab6 (ix2 (p a) l)) (h₁ : ∀ l, t₁ (ix2 a l) = tab7 (ix2 (p a) l))
    (h₂ : ∀ l, t₂ (ix2 a l) = tab8 (ix2 (p a) l)) (γ : Fin 64 → EReal)
    (hγ : ∀ l : Fin 128, g (ix2 0 l) = γ ⟨l.val % 64, by omega⟩) :
    lanesV 32#32 96#32 (segV y g) t₀ t₁ t₂ (ix2 a l)
      = Proj.rope 32 (by decide) (Proj.cosine Proj.b64 (p a).val) (Proj.sine Proj.b64 (p a).val)
          (Proj.norm Proj.w64 (fun d : Fin 64 => y (ix2 a ⟨64 * (l.val / 64) + d.val, by omega⟩)) γ)
          ⟨l.val % 64, by omega⟩ := by
  have e : (fun d : Fin 64 => segV y g (ix2 a ⟨64 * (l.val / 64) + d.val, by omega⟩))
      = Proj.norm Proj.w64 (fun d : Fin 64 => y (ix2 a ⟨64 * (l.val / 64) + d.val, by omega⟩)) γ := by
    funext d
    rw [segV_apply]
    have e₁ : (64 * (l.val / 64) + d.val) / 64 = l.val / 64 := by omega
    have e₂ : (64 * (l.val / 64) + d.val) % 64 = d.val := by omega
    have e₃ (d : Fin 64) : (64 * (l.val / 64) + d.val) % 64 = d.val := by omega
    simp only [e₁, e₂, e₃, hγ]
  rw [lanesV32_apply, ← e, ← Proj.lanes_half 32 (by decide) (by decide) _ _ (fun d => segV y g (ix2 a d))]
  simp only [h₀, h₁, h₂, tab6_apply, tab7_apply, tab8_apply]

end steps

section spec

variable (z : Fin 5256 → EReal) (p : ℕ) (c : ℕ)

/-- The results of the heads at lane `d` of group `c` of 128 lanes. -/
theorem query_at (γ : Fin 128 → EReal) (hc : c < 8) (d : Fin 128) : Proj.query z p γ ⟨128 * c + d.val, by omega⟩
    = Proj.rope 16 (by decide) (Proj.cosine Proj.b32 p) (Proj.sine Proj.b32 p)
      (Proj.norm Proj.w128 (fun d : Fin 128 => z ⟨128 * c + d.val, by omega⟩) γ) d := by
  have e₁ : (128 * c + d.val) / 128 = c := by omega
  have e₂ : (128 * c + d.val) % 128 = d.val := by omega
  simp only [Proj.query, e₁, e₂]

theorem key_at (γ : Fin 128 → EReal) (hc : c < 4) (d : Fin 128) : Proj.key z p γ ⟨128 * c + d.val, by omega⟩
    = Proj.rope 16 (by decide) (Proj.cosine Proj.b32 p) (Proj.sine Proj.b32 p)
      (Proj.norm Proj.w128 (fun d : Fin 128 => z ⟨1024 + (128 * c + d.val), by omega⟩) γ) d := by
  have e₁ : (128 * c + d.val) / 128 = c := by omega
  have e₂ : (128 * c + d.val) % 128 = d.val := by omega
  simp only [Proj.key, e₁, e₂]

theorem indexQuery_at (hc : c < 4) (d : Fin 128) : Proj.indexQuery z p ⟨128 * c + d.val, by omega⟩
    = Proj.rope 8 (by decide) (Proj.cosine Proj.b16 p) (Proj.sine Proj.b16 p)
      (fun e : Fin 64 => z ⟨2048 + (128 * c + (64 * (d.val / 64) + e.val)), by omega⟩) ⟨d.val % 64, by omega⟩ := by
  have e₁ : (128 * c + d.val) % 64 = d.val % 64 := by omega
  have e₂ (e : Fin 64) : 64 * ((128 * c + d.val) / 64) + e.val = 128 * c + (64 * (d.val / 64) + e.val) := by omega
  simp only [Proj.indexQuery, e₁, e₂]

theorem plainQuery_at (q : Fin 256 → EReal) (w : Proj.Cube 256 8 192) (γ : Fin 128 → EReal) (hc : c < 8) (d : Fin 128) :
    Proj.plainQuery q w γ ⟨128 * c + d.val, by omega⟩
      = Proj.norm Proj.w128 (fun d : Fin 128 => ∑ r : Fin 256, q r * w (ix3 r ⟨c, hc⟩ ⟨d.val, by omega⟩)) γ d := by
  have e₁ : (128 * c + d.val) / 128 = c := by omega
  have e₂ : (128 * c + d.val) % 128 = d.val := by omega
  simp only [Proj.plainQuery, e₁, e₂]

theorem plainKey_at (q : Fin 256 → EReal) (w : Proj.Cube 256 8 128) (γ : Fin 128 → EReal) (hc : c < 8) (d : Fin 128) :
    Proj.plainKey q w γ ⟨128 * c + d.val, by omega⟩
      = Proj.norm Proj.w128 (fun d : Fin 128 => ∑ r : Fin 256, q r * w (ix3 r ⟨c, hc⟩ d)) γ d := by
  have e₁ : (128 * c + d.val) / 128 = c := by omega
  have e₂ : (128 * c + d.val) % 128 = d.val := by omega
  simp only [Proj.plainKey, e₁, e₂]

theorem rotQuery_at (q : Fin 256 → EReal) (w : Proj.Cube 256 8 192) (γ : Fin 64 → EReal) (hc : c < 4) (d : Fin 128) :
    Proj.rotQuery q p w γ ⟨128 * c + d.val, by omega⟩
      = Proj.rope 32 (by decide) (Proj.cosine Proj.b64 p) (Proj.sine Proj.b64 p)
        (Proj.norm Proj.w64 (fun e : Fin 64 => ∑ r : Fin 256, q r * w (ix3 r ⟨2 * c + d.val / 64, by omega⟩ ⟨128 + e.val, by omega⟩)) γ)
        ⟨d.val % 64, by omega⟩ := by
  have e₁ : (128 * c + d.val) % 64 = d.val % 64 := by omega
  have e₂ : (128 * c + d.val) / 64 = 2 * c + d.val / 64 := by omega
  simp only [Proj.rotQuery, e₁, e₂]

end spec

/-! ### The products -/

theorem normed_apply (x0 : Vec Ideal S256x1024 .f32) (x2 : Vec Ideal S1x1024 .f32) (a : Fin 256) (k : Fin 1024) :
    k0_pay2 x0 x2 (ix2 a k) = Proj.norm Proj.w1024 (fun k => x0 (ix2 a k)) (fun k => x2 (ix2 0 k)) k := by
  unfold k0_pay2
  pointwise
  rfl

theorem pay4_apply (x0 : Vec Ideal S256x1024 .f32) (x2 : Vec Ideal S1x1024 .f32) (w : Vec Ideal S1024x1024 .bf16)
    (a : Fin 256) (c : Fin 1024) :
    k0_pay4 x0 x2 w (ix2 a c) = (∑ k : Fin 1024, k0_pay2 x0 x2 (ix2 a k) * w (ix2 k c) : EReal) := by
  unfold k0_pay4
  generalize k0_pay2 x0 x2 = h
  pointwise

theorem pay29_apply (h : FVec Ideal S256x1024 .bf16) (w : Vec Ideal S1024x512 .bf16) (a : Fin 256) (c : Fin 512) :
    k0_pay29 h w (ix2 a c) = (∑ k : Fin 1024, h (ix2 a k) * w (ix2 k c) : EReal) := by
  unfold k0_pay29
  pointwise

theorem pay40_apply (h : FVec Ideal S256x1024 .bf16) (w : Vec Ideal S1024x512 .bf16) (a : Fin 256) (c : Fin 512) :
    k0_pay40 h w (ix2 a c) = (∑ k : Fin 1024, h (ix2 a k) * w (ix2 k c) : EReal) := by
  unfold k0_pay40
  pointwise

theorem pay41_apply (h : FVec Ideal S256x1024 .bf16) (w : Vec Ideal S1024x512 .bf16) (a : Fin 256) (c : Fin 512) :
    k0_pay41 h w (ix2 a c) = (∑ k : Fin 1024, h (ix2 a k) * w (ix2 k c) : EReal) := by
  unfold k0_pay41
  pointwise

theorem pay47_apply (h : FVec Ideal S256x1024 .bf16) (w : Vec Ideal S1024x128 .bf16) (a : Fin 256) (c : Fin 128) :
    k0_pay47 h w (ix2 a c) = (∑ k : Fin 1024, h (ix2 a k) * w (ix2 k c) : EReal) := by
  unfold k0_pay47
  pointwise

theorem pay91_apply (h : FVec Ideal S256x1024 .bf16) (w : Vec Ideal S1024x256 .bf16) (a : Fin 256) (c : Fin 256) :
    k0_pay91 h w (ix2 a c) = (∑ k : Fin 1024, h (ix2 a k) * w (ix2 k c) : EReal) := by
  unfold k0_pay91
  pointwise

theorem pay1_apply (h : FVec Ideal S256x1024 .bf16) (w : Vec Ideal S1024x2048 .bf16) (a : Fin 256) (c : Fin 2048) :
    k0_pay1 h w (ix2 a c) = Ideal.div (Ideal.ofBits .f32 0x3F800000#32)
      (Ideal.ofBits .f32 0x3F800000#32 + Ideal.exp (-(∑ k : Fin 1024, h (ix2 a k) * w (ix2 k c) : EReal))) := by
  unfold k0_pay1
  pointwise
  simp only [zero_sub]

theorem pay58_apply (h : FVec Ideal S256x256 .bf16) (w : Vec Ideal S256x1536 .bf16) (a : Fin 256) (c : Fin 1536) :
    k0_pay58 h (k0_pay57 w) (constant S256x1536 .f32 0x00000000#32) (ix2 a c)
      = (∑ k : Fin 256, h (ix2 a k) * w (ix2 k c) : EReal) := by
  unfold k0_pay58 k0_pay57
  pointwise

theorem pay96_apply (z : FVec Ideal S256x256 .f32) (g : FVec Ideal S1x256 .f32) (u v : FVec Ideal S256x1 .f32)
    (w : Vec Ideal S256x1024 .bf16) (a : Fin 256) (c : Fin 1024) :
    k0_pay96 z g u v w (ix2 a c) = (∑ k : Fin 256, k0_pay95 z g u v (ix2 a k) * w (ix2 k c) : EReal) := by
  unfold k0_pay96
  generalize k0_pay95 z g u v = h
  pointwise

/-- The norm of a product of 256 columns. -/
theorem norm256_apply (z : FVec Ideal S256x256 .f32) (g : Vec Ideal S1x256 .f32) (a l : Fin 256) :
    mulf (mulf z (broadcastTo S256x256 (rsqrt (addf (divf (shapeCast S256x1
      (multiReduction .add [1] S256 (mulf z z) 0x00000000#32 reduces_S256x256_S256 (.inl rfl) rfl) shapeCasts_S256_S256x1)
      (broadcast S256x1 (Scalar.ofBits .f32 0x43800000#32))) (broadcast S256x1 (Scalar.ofBits .f32 0x358637BD#32))))
      broadcasts_S256x1_S256x256))
    (broadcastTo S256x256 (shapeCast S1x256 g shapeCasts_S1x256_S1x256) broadcasts_S1x256_S256x256) (ix2 a l)
      = Proj.norm Proj.w256 (fun d => z (ix2 a d)) (fun d => g (ix2 0 d)) l := by
  pointwise
  rfl

end Cert.ProjectIdeal.ProjectPieces

end
-- ==== Proof.ProjectOut.lean ====
/-
  The arrays that the projection kernel leaves at a point, entry by entry: each store is a band of columns of a result.
-/
module

public import proofs.«01_k».proof.Proof.ProjectPieces
public import Idealize.ShloMosaic.Lib.Pipeline.ValueKit

@[expose] public section

set_option maxRecDepth 16384

noncomputable section

namespace Cert.ProjectIdeal.ProjectPieces

open Cert Cert.ProjectIdeal Cert.ProjectIdeal.Gen Idealize.ShloMosaic Idealize.ShloMosaic.TcCoe Idealize.SL.Sem ProjectHost
  ProjectBlock

/-- A store of a band of columns holds the band of a result. -/
theorem piece_at {W B o : ℕ} (f : Fin 256 → Fin W → EReal)
    (inb : ∀ a, (![0, o] : Fin 2 → ℕ) a + (![256, B] : Fin 2 → ℕ) a ≤ (⟨2, ![256, W]⟩ : Shape).size a)
    (P : (⟨2, ![256, B]⟩ : Shape).Idx → EReal) (hW : o + B ≤ W)
    (h : ∀ a (d : Fin B), P (ix2 a d) = f a ⟨o + d.val, by omega⟩) (w : (⟨2, ![256, B]⟩ : Shape).Idx) :
    P w = (fun i : (⟨2, ![256, W]⟩ : Shape).Idx => f (i 0) (i 1))
      ((Rect.unit (s := ⟨2, ![256, W]⟩) ![0, o] ![256, B] inb).emb w) := by
  obtain ⟨a, d, rfl⟩ : ∃ a d, w = ix2 a d := ⟨w 0, w 1, eq_ix2 w⟩
  exact (h a d).trans (congrArg (fun i : (⟨2, ![256, W]⟩ : Shape).Idx => f (i 0) (i 1))
    (emb_at inb a d a ⟨o + d.val, by omega⟩ (by omega) rfl).symm)

/-- The row of the first product. -/
def zrow (X : Fin 256 → Fin 1024 → EReal) (a1 : Vec Ideal S1024 .f32) (a2 : Vec Ideal S1024x5256 .f32) (a : Fin 256) :
    Fin 5256 → EReal := Proj.proj (X a) (fun k => a1 (ix1 k)) a2

/-- The entries of a slice of 64 columns. -/
theorem slice64_at {off : ℕ} (Z : S256x128.Idx → EReal) (h : S256x128.Slices ![0, off] S256x64)
    (a : Fin 256) (d : Fin 64) (k : Fin 128) (hk : k.val = off + d.val) :
    extractStridedSlice S256x64 ![0, off] Z h (ix2 a d) = Z (ix2 a k) :=
  congrArg Z (funext fun b => by
    match b with
    | ⟨0, _⟩ => exact Fin.ext (by show 0 + a.val = a.val; omega)
    | ⟨1, _⟩ => exact Fin.ext (by show off + d.val = k.val; omega))

section block

variable {x0 : Vec Ideal S256x1024 .f32} {x1 : Vec Ideal S256x1792 .f32} {x2 : Vec Ideal S1x1024 .f32}
    {x3 : Vec Ideal S1024x5376 .bf16} {x4 x5 : Vec Ideal S1x128 .f32} {x6 : Vec Ideal S1x256 .f32}
    {x7 : Vec Ideal S256x1536 .bf16} {x8 : Vec Ideal S1x256 .f32} {x9 : Vec Ideal S256x1024 .bf16}
    {x10 x11 x12 x13 : Vec Ideal S1x128 .f32}
    {X : Fin 256 → Fin 1024 → EReal} {p : Fin 256 → Fin 2048} {a1 : Vec Ideal S1024 .f32} {a2 : Vec Ideal S1024x5256 .f32}
    {a3 a4 : Vec Ideal S128 .f32} {a5 : Vec Ideal S256 .f32} {a6 : Vec Ideal S256x8x192 .f32} {a7 : Vec Ideal S256 .f32}
    {a8 : Vec Ideal S256x8x128 .f32} {a9 a10 : Vec Ideal S128 .f32} {a11 a12 : Vec Ideal S64 .f32}
    (B : Block x0 x1 x2 x3 x4 x5 x6 x7 x8 x9 x10 x11 x12 x13 X p a1 a2 a3 a4 a5 a6 a7 a8 a9 a10 a11 a12)
include B

/-! ### Loads -/

theorem hidden (a : Fin 256) (k : Fin 1024) :
    k0_pay111 x0 x1 x2 x3 x4 x5 x6 x7 x8 x9 x10 x11 x12 x13 (ix2 a k) = Proj.norm Proj.w1024 (X a) (fun k => a1 (ix1 k)) k := by
  show k0_pay2 (View.ld x0 r0_0) (View.ld x2 r0_1) (ix2 a k) = _
  rw [normed_apply]
  have e0 (k : Fin 1024) : View.ld x0 r0_0 (ix2 a k) = X a k := (ld_at (o := 0) (p := 0) x0 _ a k a k (by omega) (by omega)).trans (B.rows a k)
  have e2 (k : Fin 1024) : View.ld x2 r0_1 (ix2 0 k) = a1 (ix1 k) := (ld_at (o := 0) (p := 0) x2 _ 0 k 0 k rfl (by omega)).trans (B.gain1 k)
  simp only [e0, e2]

theorem table0 (a : Fin 256) (l : Fin 128) : View.ld x1 r0_4 (ix2 a l) = tab0 (ix2 (p a) l) :=
  (ld_at x1 _ a l a ⟨0 + l.val, by omega⟩ (by omega) rfl).trans ((B.tables a _).trans (tabs_at0 (p a) l))
theorem table1 (a : Fin 256) (l : Fin 128) : View.ld x1 r0_5 (ix2 a l) = tab1 (ix2 (p a) l) :=
  (ld_at x1 _ a l a ⟨128 + l.val, by omega⟩ (by omega) rfl).trans ((B.tables a _).trans (tabs_at1 (p a) l))
theorem table2 (a : Fin 256) (l : Fin 128) : View.ld x1 r0_6 (ix2 a l) = tab2 (ix2 (p a) l) :=
  (ld_at x1 _ a l a ⟨256 + l.val, by omega⟩ (by omega) rfl).trans ((B.tables a _).trans (tabs_at2 (p a) l))
theorem table3 (a : Fin 256) (l : Fin 128) : View.ld x1 r0_23 (ix2 a l) = tab3 (ix2 (p a) l) :=
  (ld_at x1 _ a l a ⟨384 + l.val, by omega⟩ (by omega) rfl).trans ((B.tables a _).trans (tabs_at3 (p a) l))
theorem table4 (a : Fin 256) (l : Fin 128) : View.ld x1 r0_24 (ix2 a l) = tab4 (ix2 (p a) l) :=
  (ld_at x1 _ a l a ⟨512 + l.val, by omega⟩ (by omega) rfl).trans ((B.tables a _).trans (tabs_at4 (p a) l))
theorem table5 (a : Fin 256) (l : Fin 128) : View.ld x1 r0_25 (ix2 a l) = tab5 (ix2 (p a) l) :=
  (ld_at x1 _ a l a ⟨640 + l.val, by omega⟩ (by omega) rfl).trans ((B.tables a _).trans (tabs_at5 (p a) l))
theorem table6 (a : Fin 256) (l : Fin 128) : View.ld x1 r0_38 (ix2 a l) = tab6 (ix2 (p a) l) :=
  (ld_at x1 _ a l a ⟨768 + l.val, by omega⟩ (by omega) rfl).trans ((B.tables a _).trans (tabs_at6 (p a) l))
theorem table7 (a : Fin 256) (l : Fin 128) : View.ld x1 r0_39 (ix2 a l) = tab7 (ix2 (p a) l) :=
  (ld_at x1 _ a l a ⟨896 + l.val, by omega⟩ (by omega) rfl).trans ((B.tables a _).trans (tabs_at7 (p a) l))
theorem table8 (a : Fin 256) (l : Fin 128) : View.ld x1 r0_40 (ix2 a l) = tab8 (ix2 (p a) l) :=
  (ld_at x1 _ a l a ⟨1024 + l.val, by omega⟩ (by omega) rfl).trans ((B.tables a _).trans (tabs_at8 (p a) l))
theorem table9 (a : Fin 256) (l : Fin 128) : View.ld x1 r0_27 (ix2 a l) = tab9 (ix2 (p a) l) :=
  (ld_at x1 _ a l a ⟨1152 + l.val, by omega⟩ (by omega) rfl).trans ((B.tables a _).trans (tabs_at9 (p a) l))
theorem table10 (a : Fin 256) (l : Fin 128) : View.ld x1 r0_28 (ix2 a l) = tab10 (ix2 (p a) l) :=
  (ld_at x1 _ a l a ⟨1280 + l.val, by omega⟩ (by omega) rfl).trans ((B.tables a _).trans (tabs_at10 (p a) l))
theorem table11 (a : Fin 256) (l : Fin 128) : View.ld x1 r0_29 (ix2 a l) = tab11 (ix2 (p a) l) :=
  (ld_at x1 _ a l a ⟨1408 + l.val, by omega⟩ (by omega) rfl).trans ((B.tables a _).trans (tabs_at11 (p a) l))
theorem table12 (a : Fin 256) (l : Fin 128) : View.ld x1 r0_30 (ix2 a l) = tab12 (ix2 (p a) l) :=
  (ld_at x1 _ a l a ⟨1536 + l.val, by omega⟩ (by omega) rfl).trans ((B.tables a _).trans (tabs_at12 (p a) l))
theorem table13 (a : Fin 256) (l : Fin 128) : View.ld x1 r0_31 (ix2 a l) = tab13 (ix2 (p a) l) :=
  (ld_at x1 _ a l a ⟨1664 + l.val, by omega⟩ (by omega) rfl).trans ((B.tables a _).trans (tabs_at13 (p a) l))

theorem cols_q (k : Fin 1024) (c : Fin 1024) : View.ld x3 r0_2 (ix2 k c) = a2 (ix2 k ⟨0 + c.val, by omega⟩) :=
  (ld_at x3 _ k c k ⟨0 + c.val, by omega⟩ (by omega) rfl).trans (by rw [B.weight]; exact weights_q a2 k c)
theorem cols_k (k : Fin 1024) (c : Fin 512) : View.ld x3 r0_15 (ix2 k c) = a2 (ix2 k ⟨1024 + c.val, by omega⟩) :=
  (ld_at x3 _ k c k ⟨1024 + c.val, by omega⟩ (by omega) rfl).trans (by rw [B.weight]; exact weights_k a2 k c)
theorem cols_v (k : Fin 1024) (c : Fin 512) : View.ld x3 r0_20 (ix2 k c) = a2 (ix2 k ⟨1536 + c.val, by omega⟩) :=
  (ld_at x3 _ k c k ⟨1536 + c.val, by omega⟩ (by omega) rfl).trans (by rw [B.weight]; exact weights_v a2 k c)
theorem cols_qi (k : Fin 1024) (c : Fin 512) : View.ld x3 r0_22 (ix2 k c) = a2 (ix2 k ⟨2048 + c.val, by omega⟩) :=
  (ld_at x3 _ k c k ⟨2048 + c.val, by omega⟩ (by omega) rfl).trans (by rw [B.weight]; exact weights_qi a2 k c)
theorem cols_qa (k : Fin 1024) (c : Fin 256) : View.ld x3 r0_35 (ix2 k c) = a2 (ix2 k ⟨2632 + c.val, by omega⟩) :=
  (ld_at x3 _ k c k ⟨2816 + c.val, by omega⟩ (by omega) rfl).trans (by rw [B.weight]; exact weights_qa a2 k c)
theorem cols_kva (k : Fin 1024) (c : Fin 256) : View.ld x3 r0_41 (ix2 k c) = a2 (ix2 k ⟨2888 + c.val, by omega⟩) :=
  (ld_at x3 _ k c k ⟨3072 + c.val, by omega⟩ (by omega) rfl).trans (by rw [B.weight]; exact weights_kva a2 k c)
theorem cols_g (k : Fin 1024) (c : Fin 2048) : View.ld x3 r0_43 (ix2 k c) = a2 (ix2 k ⟨3208 + c.val, by omega⟩) :=
  (ld_at x3 _ k c k ⟨3328 + c.val, by omega⟩ (by omega) rfl).trans (by rw [B.weight]; exact weights_g a2 k c)
theorem cols_ki (k : Fin 1024) (c : Fin 64) :
    View.ld x3 r0_26 (ix2 k ⟨c.val, by omega⟩) = a2 (ix2 k ⟨2560 + c.val, by omega⟩) :=
  (ld_at (o := 0) (B := 128) x3 _ k ⟨c.val, by omega⟩ k ⟨2560 + c.val, by omega⟩ (by omega) rfl).trans (by rw [B.weight]; exact weights_ki a2 k c)
theorem cols_pe (k : Fin 1024) (c : Fin 64) :
    View.ld x3 r0_26 (ix2 k ⟨64 + c.val, by omega⟩) = a2 (ix2 k ⟨3144 + c.val, by omega⟩) :=
  (ld_at (o := 0) (B := 128) x3 _ k ⟨64 + c.val, by omega⟩ k ⟨2624 + c.val, by omega⟩ (by omega) (by dsimp only; omega)).trans
    (by rw [B.weight]; exact weights_pe a2 k c)

theorem ld_gainQ (l : Fin 128) : View.ld x4 r0_3 (ix2 0 l) = a3 (ix1 l) :=
  (ld_at x4 _ 0 l 0 l rfl (by omega)).trans (B.gainQ l)
theorem ld_gainK (l : Fin 128) : View.ld x5 r0_3 (ix2 0 l) = a4 (ix1 l) :=
  (ld_at x5 _ 0 l 0 l rfl (by omega)).trans (B.gainK l)
theorem ld_gainQa (l : Fin 256) : View.ld x6 r0_36 (ix2 0 l) = a5 (ix1 l) :=
  (ld_at x6 _ 0 l 0 l rfl (by omega)).trans (B.gainQa l)
theorem ld_gainKva (l : Fin 256) : View.ld x8 r0_36 (ix2 0 l) = a7 (ix1 l) :=
  (ld_at x8 _ 0 l 0 l rfl (by omega)).trans (B.gainKva l)
theorem ld_gainQn (l : Fin 128) : View.ld x10 r0_3 (ix2 0 l) = a9 (ix1 l) :=
  (ld_at x10 _ 0 l 0 l rfl (by omega)).trans (B.gainQn l)
theorem ld_gainKn (l : Fin 128) : View.ld x11 r0_3 (ix2 0 l) = a10 (ix1 l) :=
  (ld_at x11 _ 0 l 0 l rfl (by omega)).trans (B.gainKn l)
theorem ld_gainQr (l : Fin 128) : View.ld x12 r0_3 (ix2 0 l) = a11 (ix1 ⟨l.val % 64, by omega⟩) :=
  (ld_at x12 _ 0 l 0 l rfl (by omega)).trans (by rw [B.gainQr]; exact gainPair_apply a11 l)
theorem ld_gainKr (d : Fin 64) : View.ld x13 r0_3 (ix2 0 ⟨64 + d.val, by omega⟩) = a12 (ix1 d) :=
  (ld_at x13 _ 0 ⟨64 + d.val, by omega⟩ 0 ⟨64 + d.val, by omega⟩ rfl (by omega)).trans
    (by rw [B.gainKr]; exact gainHigh_apply a12 d)

/-! ### The products -/

/-- A product of the normed rows is a band of the first product. -/
theorem row_eq {W : ℕ} (w : (⟨2, ![1024, W]⟩ : Shape).Idx → EReal) (a : Fin 256) (c : Fin W) (e : Fin 5256)
    (h : ∀ k : Fin 1024, w (ix2 k c) = a2 (ix2 k e)) :
    (∑ k : Fin 1024, (k0_pay111 x0 x1 x2 x3 x4 x5 x6 x7 x8 x9 x10 x11 x12 x13 (ix2 a k) : EReal) * w (ix2 k c)) = zrow X a1 a2 a e :=
  Finset.sum_congr rfl fun k _ => congrArg₂ (fun u v : EReal => u * v) (hidden B a k) (h k)

theorem zQ (a : Fin 256) (c : Fin 1024) : k0_pay113 x0 x1 x2 x3 x4 x5 x6 x7 x8 x9 x10 x11 x12 x13 (ix2 a c) = zrow X a1 a2 a ⟨c.val, by omega⟩ :=
  (pay4_apply _ _ _ a c).trans (row_eq B _ a c _ fun k =>
    (cols_q B k c).trans (congrArg (fun e => a2 (ix2 k e)) (Fin.ext (Nat.zero_add _))))
theorem zK (a : Fin 256) (c : Fin 512) : k0_pay114 x0 x1 x2 x3 x4 x5 x6 x7 x8 x9 x10 x11 x12 x13 (ix2 a c) = zrow X a1 a2 a ⟨1024 + c.val, by omega⟩ :=
  (pay29_apply _ _ a c).trans (row_eq B _ a c _ fun k => cols_k B k c)
theorem zV (a : Fin 256) (c : Fin 512) :
    k0_pay40 (k0_pay111 x0 x1 x2 x3 x4 x5 x6 x7 x8 x9 x10 x11 x12 x13) (View.ld x3 r0_20) (ix2 a c) = zrow X a1 a2 a ⟨1536 + c.val, by omega⟩ :=
  (pay40_apply _ _ a c).trans (row_eq B _ a c _ fun k => cols_v B k c)
theorem zQi (a : Fin 256) (c : Fin 512) :
    k0_pay41 (k0_pay111 x0 x1 x2 x3 x4 x5 x6 x7 x8 x9 x10 x11 x12 x13) (View.ld x3 r0_22) (ix2 a c) = zrow X a1 a2 a ⟨2048 + c.val, by omega⟩ :=
  (pay41_apply _ _ a c).trans (row_eq B _ a c _ fun k => cols_qi B k c)
theorem zKi (a : Fin 256) (c : Fin 64) :
    k0_pay115 x0 x1 x2 x3 x4 x5 x6 x7 x8 x9 x10 x11 x12 x13 (ix2 a ⟨c.val, by omega⟩) = zrow X a1 a2 a ⟨2560 + c.val, by omega⟩ :=
  (pay47_apply _ _ a ⟨c.val, by omega⟩).trans (row_eq B _ a _ _ fun k => cols_ki B k c)
theorem zPe (a : Fin 256) (c : Fin 64) :
    k0_pay115 x0 x1 x2 x3 x4 x5 x6 x7 x8 x9 x10 x11 x12 x13 (ix2 a ⟨64 + c.val, by omega⟩) = zrow X a1 a2 a ⟨3144 + c.val, by omega⟩ :=
  (pay47_apply _ _ a ⟨64 + c.val, by omega⟩).trans (row_eq B _ a _ _ fun k => cols_pe B k c)
theorem zQa (a r : Fin 256) :
    k0_pay91 (k0_pay111 x0 x1 x2 x3 x4 x5 x6 x7 x8 x9 x10 x11 x12 x13) (View.ld x3 r0_35) (ix2 a r) = zrow X a1 a2 a ⟨2632 + r.val, by omega⟩ :=
  (pay91_apply _ _ a r).trans (row_eq B _ a r _ fun k => cols_qa B k r)
theorem zKva (a r : Fin 256) : k0_pay123 x0 x1 x2 x3 x4 x5 x6 x7 x8 x9 x10 x11 x12 x13 (ix2 a r) = zrow X a1 a2 a ⟨2888 + r.val, by omega⟩ :=
  (pay91_apply _ _ a r).trans (row_eq B _ a r _ fun k => cols_kva B k r)

theorem latQ (a r : Fin 256) : k0_pay120 x0 x1 x2 x3 x4 x5 x6 x7 x8 x9 x10 x11 x12 x13 (ix2 a r) = Proj.latentQuery (zrow X a1 a2 a) (fun l => a5 (ix1 l)) r := by
  refine (norm256_apply (k0_pay91 (k0_pay111 x0 x1 x2 x3 x4 x5 x6 x7 x8 x9 x10 x11 x12 x13) (View.ld x3 r0_35)) (View.ld x6 r0_36) a r).trans ?_
  unfold Proj.latentQuery
  simp only [zQa B, ld_gainQa B]
theorem latK (a r : Fin 256) : k0_pay95 (k0_pay123 x0 x1 x2 x3 x4 x5 x6 x7 x8 x9 x10 x11 x12 x13) (k0_pay124 x0 x1 x2 x3 x4 x5 x6 x7 x8 x9 x10 x11 x12 x13) (k0_pay125 x0 x1 x2 x3 x4 x5 x6 x7 x8 x9 x10 x11 x12 x13) (k0_pay126 x0 x1 x2 x3 x4 x5 x6 x7 x8 x9 x10 x11 x12 x13) (ix2 a r)
    = Proj.latentKey (zrow X a1 a2 a) (fun l => a7 (ix1 l)) r := by
  refine (norm256_apply (k0_pay123 x0 x1 x2 x3 x4 x5 x6 x7 x8 x9 x10 x11 x12 x13) (View.ld x8 r0_36) a r).trans ?_
  unfold Proj.latentKey
  simp only [zKva B, ld_gainKva B]

theorem upQ_apply (a : Fin 256) (c : Fin 1536) : k0_pay122 x0 x1 x2 x3 x4 x5 x6 x7 x8 x9 x10 x11 x12 x13 (ix2 a c)
    = (∑ r : Fin 256, Proj.latentQuery (zrow X a1 a2 a) (fun l => a5 (ix1 l)) r * (queryUp a6 (ix2 r c) : EReal) : EReal) := by
  refine (pay58_apply (k0_pay120 x0 x1 x2 x3 x4 x5 x6 x7 x8 x9 x10 x11 x12 x13) (View.ld x7 r0_37) a c).trans (Finset.sum_congr rfl fun r _ => ?_)
  exact congrArg₂ (fun u v : EReal => u * v) (latQ B a r)
    ((ld_at x7 _ r c r c (by omega) (by omega)).trans (by rw [B.upQ]))
theorem upK_apply (a : Fin 256) (c : Fin 1024) : k0_pay127 x0 x1 x2 x3 x4 x5 x6 x7 x8 x9 x10 x11 x12 x13 (ix2 a c)
    = (∑ r : Fin 256, Proj.latentKey (zrow X a1 a2 a) (fun l => a7 (ix1 l)) r * (keyUp a8 (ix2 r c) : EReal) : EReal) := by
  refine (pay96_apply (k0_pay123 x0 x1 x2 x3 x4 x5 x6 x7 x8 x9 x10 x11 x12 x13) (k0_pay124 x0 x1 x2 x3 x4 x5 x6 x7 x8 x9 x10 x11 x12 x13) (k0_pay125 x0 x1 x2 x3 x4 x5 x6 x7 x8 x9 x10 x11 x12 x13) (k0_pay126 x0 x1 x2 x3 x4 x5 x6 x7 x8 x9 x10 x11 x12 x13) (View.ld x9 r0_0) a c).trans
    (Finset.sum_congr rfl fun r _ => ?_)
  exact congrArg₂ (fun u v : EReal => u * v) (latK B a r)
    ((ld_at x9 _ r c r c (by omega) (by omega)).trans (by rw [B.upK]))

/-! ### One band -/

theorem query_band (c : ℕ) (hc : c < 8) (h : S256x1024.Slices ![0, 128 * c] S256x128) (a : Fin 256) (d : Fin 128) :
    lanesV 16#32 112#32 (normV (extractStridedSlice S256x128 ![0, 128 * c] (k0_pay113 x0 x1 x2 x3 x4 x5 x6 x7 x8 x9 x10 x11 x12 x13) h) (View.ld x4 r0_3))
      (View.ld x1 r0_4) (View.ld x1 r0_5) (View.ld x1 r0_6) (ix2 a d)
      = Proj.query (zrow X a1 a2 a) (p a).val (fun l => a3 (ix1 l)) ⟨128 * c + d.val, by omega⟩ := by
  rw [query_at _ _ c _ hc d, headPiece _ _ _ _ _ p a d (table0 B a) (table1 B a) (table2 B a)]
  have e (d : Fin 128) : extractStridedSlice S256x128 ![0, 128 * c] (k0_pay113 x0 x1 x2 x3 x4 x5 x6 x7 x8 x9 x10 x11 x12 x13) h (ix2 a d)
      = zrow X a1 a2 a ⟨128 * c + d.val, by omega⟩ :=
    (slice_at _ h a d ⟨128 * c + d.val, by omega⟩ rfl).trans (zQ B a _)
  simp only [e, ld_gainQ B]

theorem key_band (c : ℕ) (hc : c < 4) (h : S256x512.Slices ![0, 128 * c] S256x128) (a : Fin 256) (d : Fin 128) :
    lanesV 16#32 112#32 (normV (extractStridedSlice S256x128 ![0, 128 * c] (k0_pay114 x0 x1 x2 x3 x4 x5 x6 x7 x8 x9 x10 x11 x12 x13) h) (View.ld x5 r0_3))
      (View.ld x1 r0_4) (View.ld x1 r0_5) (View.ld x1 r0_6) (ix2 a d)
      = Proj.key (zrow X a1 a2 a) (p a).val (fun l => a4 (ix1 l)) ⟨128 * c + d.val, by omega⟩ := by
  rw [key_at _ _ c _ hc d, headPiece _ _ _ _ _ p a d (table0 B a) (table1 B a) (table2 B a)]
  have e (d : Fin 128) : extractStridedSlice S256x128 ![0, 128 * c] (k0_pay114 x0 x1 x2 x3 x4 x5 x6 x7 x8 x9 x10 x11 x12 x13) h (ix2 a d)
      = zrow X a1 a2 a ⟨1024 + (128 * c + d.val), by omega⟩ :=
    (slice_at _ h a d ⟨128 * c + d.val, by omega⟩ rfl).trans (zK B a _)
  simp only [e, ld_gainK B]

theorem index_band (c : ℕ) (hc : c < 4) (h : S256x512.Slices ![0, 128 * c] S256x128) (a : Fin 256) (d : Fin 128) :
    lanesV 8#32 120#32 (extractStridedSlice S256x128 ![0, 128 * c] (k0_pay41 (k0_pay111 x0 x1 x2 x3 x4 x5 x6 x7 x8 x9 x10 x11 x12 x13) (View.ld x3 r0_22)) h)
      (View.ld x1 r0_23) (View.ld x1 r0_24) (View.ld x1 r0_25) (ix2 a d)
      = Proj.indexQuery (zrow X a1 a2 a) (p a).val ⟨128 * c + d.val, by omega⟩ := by
  rw [indexQuery_at _ _ c hc d, indexPiece _ _ _ _ p a d (table3 B a) (table4 B a) (table5 B a)]
  have e (d : Fin 128) : extractStridedSlice S256x128 ![0, 128 * c] (k0_pay41 (k0_pay111 x0 x1 x2 x3 x4 x5 x6 x7 x8 x9 x10 x11 x12 x13) (View.ld x3 r0_22)) h (ix2 a d)
      = zrow X a1 a2 a ⟨2048 + (128 * c + d.val), by omega⟩ :=
    (slice_at _ h a d ⟨128 * c + d.val, by omega⟩ rfl).trans (zQi B a _)
  simp only [e]

theorem plainQuery_band (c : ℕ) (hc : c < 8) (h : S256x1536.Slices ![0, 128 * c] S256x128) (a : Fin 256) (d : Fin 128) :
    normV (extractStridedSlice S256x128 ![0, 128 * c] (k0_pay122 x0 x1 x2 x3 x4 x5 x6 x7 x8 x9 x10 x11 x12 x13) h) (View.ld x10 r0_3) (ix2 a d)
      = Proj.plainQuery (Proj.latentQuery (zrow X a1 a2 a) (fun l => a5 (ix1 l))) a6 (fun l => a9 (ix1 l))
        ⟨128 * c + d.val, by omega⟩ := by
  rw [plainQuery_at c _ _ _ hc d, normV_apply]
  have e (d : Fin 128) : extractStridedSlice S256x128 ![0, 128 * c] (k0_pay122 x0 x1 x2 x3 x4 x5 x6 x7 x8 x9 x10 x11 x12 x13) h (ix2 a d)
      = (∑ r : Fin 256, Proj.latentQuery (zrow X a1 a2 a) (fun l => a5 (ix1 l)) r
        * (a6 (ix3 r ⟨c, hc⟩ ⟨d.val, by omega⟩) : EReal) : EReal) := by
    refine (slice_at _ h a d ⟨128 * c + d.val, by omega⟩ rfl).trans ((upQ_apply B a _).trans ?_)
    refine Finset.sum_congr rfl fun r _ => congrArg₂ (fun u v : EReal => u * v) rfl ?_
    refine (queryUp_plain a6 r ⟨128 * c + d.val, by omega⟩).trans (congrArg₂ (fun u v => a6 (ix3 r u v)) ?_ ?_)
    · exact Fin.ext (by dsimp only; omega)
    · exact Fin.ext (by dsimp only; omega)
  simp only [e, ld_gainQn B]

theorem plainKey_band (c : ℕ) (hc : c < 8) (h : S256x1024.Slices ![0, 128 * c] S256x128) (a : Fin 256) (d : Fin 128) :
    normV (extractStridedSlice S256x128 ![0, 128 * c] (k0_pay127 x0 x1 x2 x3 x4 x5 x6 x7 x8 x9 x10 x11 x12 x13) h) (View.ld x11 r0_3) (ix2 a d)
      = Proj.plainKey (Proj.latentKey (zrow X a1 a2 a) (fun l => a7 (ix1 l))) a8 (fun l => a10 (ix1 l))
        ⟨128 * c + d.val, by omega⟩ := by
  rw [plainKey_at c _ _ _ hc d, normV_apply]
  have e (d : Fin 128) : extractStridedSlice S256x128 ![0, 128 * c] (k0_pay127 x0 x1 x2 x3 x4 x5 x6 x7 x8 x9 x10 x11 x12 x13) h (ix2 a d)
      = (∑ r : Fin 256, Proj.latentKey (zrow X a1 a2 a) (fun l => a7 (ix1 l)) r
        * (a8 (ix3 r ⟨c, hc⟩ d) : EReal) : EReal) := by
    refine (slice_at _ h a d ⟨128 * c + d.val, by omega⟩ rfl).trans ((upK_apply B a _).trans ?_)
    refine Finset.sum_congr rfl fun r _ => congrArg₂ (fun u v : EReal => u * v) rfl ?_
    refine (keyUp_apply a8 r ⟨128 * c + d.val, by omega⟩).trans (congrArg₂ (fun u v => a8 (ix3 r u v)) ?_ ?_)
    · exact Fin.ext (by dsimp only; omega)
    · exact Fin.ext (by dsimp only; omega)
  simp only [e, ld_gainKn B]

theorem rotQuery_band (c : ℕ) (hc : c < 4) (h : S256x1536.Slices ![0, 1024 + 128 * c] S256x128) (a : Fin 256) (d : Fin 128) :
    lanesV 32#32 96#32 (segV (extractStridedSlice S256x128 ![0, 1024 + 128 * c] (k0_pay122 x0 x1 x2 x3 x4 x5 x6 x7 x8 x9 x10 x11 x12 x13) h) (View.ld x12 r0_3))
      (View.ld x1 r0_38) (View.ld x1 r0_39) (View.ld x1 r0_40) (ix2 a d)
      = Proj.rotQuery (Proj.latentQuery (zrow X a1 a2 a) (fun l => a5 (ix1 l))) (p a).val a6 (fun l => a11 (ix1 l))
        ⟨128 * c + d.val, by omega⟩ := by
  rw [rotQuery_at _ c _ _ _ hc d, rotPiece _ _ _ _ _ p a d (table6 B a) (table7 B a) (table8 B a)
    (fun l => a11 (ix1 l)) (ld_gainQr B)]
  have e (t : Fin 64) : extractStridedSlice S256x128 ![0, 1024 + 128 * c] (k0_pay122 x0 x1 x2 x3 x4 x5 x6 x7 x8 x9 x10 x11 x12 x13) h
        (ix2 a ⟨64 * (d.val / 64) + t.val, by omega⟩)
      = (∑ r : Fin 256, Proj.latentQuery (zrow X a1 a2 a) (fun l => a5 (ix1 l)) r
        * (a6 (ix3 r ⟨2 * c + d.val / 64, by omega⟩ ⟨128 + t.val, by omega⟩) : EReal) : EReal) := by
    refine (slice_at _ h a _ ⟨1024 + (128 * c + (64 * (d.val / 64) + t.val)), by omega⟩ (by dsimp only; omega)).trans
      ((upQ_apply B a _).trans ?_)
    refine Finset.sum_congr rfl fun r _ => congrArg₂ (fun u v : EReal => u * v) rfl ?_
    refine (queryUp_rot a6 r ⟨128 * c + (64 * (d.val / 64) + t.val), by omega⟩).trans (congrArg₂ (fun u v => a6 (ix3 r u v)) ?_ ?_)
    · exact Fin.ext (by dsimp only; omega)
    · exact Fin.ext (by dsimp only; omega)
  simp only [e]

/-! ### The index key and the rotated key, which share 128 lanes -/

theorem pair_low (a : Fin 256) (d : Fin 64) : pairV (k0_pay115 x0 x1 x2 x3 x4 x5 x6 x7 x8 x9 x10 x11 x12 x13) (View.ld x13 r0_3) (ix2 a ⟨d.val, by omega⟩)
    = zrow X a1 a2 a ⟨2560 + d.val, by omega⟩ := by
  rw [pairV_apply, if_pos d.isLt]
  exact zKi B a d
theorem pair_high (a : Fin 256) (d : Fin 64) : pairV (k0_pay115 x0 x1 x2 x3 x4 x5 x6 x7 x8 x9 x10 x11 x12 x13) (View.ld x13 r0_3) (ix2 a ⟨64 + d.val, by omega⟩)
    = Proj.norm Proj.w64 (fun d : Fin 64 => zrow X a1 a2 a ⟨3144 + d.val, by omega⟩) (fun d => a12 (ix1 d)) d := by
  rw [pairV_apply, if_neg (by dsimp only; omega)]
  have e : (64 + d.val) % 64 = d.val := by omega
  simp only [zPe B, ld_gainKr B, e]

theorem both_low (a : Fin 256) (d : Fin 64) :
    bothV (pairV (k0_pay115 x0 x1 x2 x3 x4 x5 x6 x7 x8 x9 x10 x11 x12 x13) (View.ld x13 r0_3)) (View.ld x1 r0_27) (View.ld x1 r0_28) (View.ld x1 r0_29) (View.ld x1 r0_30)
      (View.ld x1 r0_31) (ix2 a ⟨d.val, by omega⟩) = Proj.indexKey (zrow X a1 a2 a) (p a).val d := by
  rw [bothV_apply]
  generalize hP : pairV (k0_pay115 x0 x1 x2 x3 x4 x5 x6 x7 x8 x9 x10 x11 x12 x13) (View.ld x13 r0_3) = P
  have hl : (⟨d.val, by omega⟩ : Fin 128).val < 64 := d.isLt
  have e₁ : Proj.lanes 8 (fun d => P (ix2 a d)) (fun d => View.ld x1 r0_27 (ix2 a d)) (fun d => View.ld x1 r0_28 (ix2 a d))
        (fun d => View.ld x1 r0_29 (ix2 a d)) ⟨d.val, by omega⟩
      = Proj.lanes 8 (fun d => P (ix2 a d)) (Proj.tabCos 64 8 (Proj.cosine Proj.b16 (p a).val))
        (Proj.tabUp 64 8 (Proj.sine Proj.b16 (p a).val)) (Proj.tabDown 64 8 (Proj.sine Proj.b16 (p a).val)) ⟨d.val, by omega⟩ := by
    simp only [Proj.lanes, table9 B, table10 B, table11 B, tab9_apply, tab10_apply, tab11_apply, if_pos hl]
  rw [e₁, table12 B, table13 B, tab12_apply, tab13_apply, if_pos hl, if_pos hl, Proj.lanes_half 8 (by decide) (by decide)]
  have e₂ (t : Fin 64) : P (ix2 a ⟨64 * (d.val / 64) + t.val, by omega⟩) = zrow X a1 a2 a ⟨2560 + t.val, by omega⟩ := by
    rw [← pair_low B a t, hP]
    exact congrArg (fun l => P (ix2 a l)) (Fin.ext (by dsimp only; omega))
  have e₃ : d.val % 64 = d.val := Nat.mod_eq_of_lt d.isLt
  simp only [e₂, e₃, mul_zero, add_zero]
  rfl

theorem both_high (a : Fin 256) (d : Fin 64) :
    bothV (pairV (k0_pay115 x0 x1 x2 x3 x4 x5 x6 x7 x8 x9 x10 x11 x12 x13) (View.ld x13 r0_3)) (View.ld x1 r0_27) (View.ld x1 r0_28) (View.ld x1 r0_29) (View.ld x1 r0_30)
      (View.ld x1 r0_31) (ix2 a ⟨64 + d.val, by omega⟩)
      = Proj.rotKey (zrow X a1 a2 a) (p a).val (fun d => a12 (ix1 d)) d := by
  rw [bothV_apply]
  generalize hP : pairV (k0_pay115 x0 x1 x2 x3 x4 x5 x6 x7 x8 x9 x10 x11 x12 x13) (View.ld x13 r0_3) = P
  have hl : ¬ (⟨64 + d.val, by omega⟩ : Fin 128).val < 64 := by dsimp only; omega
  have e₂ (t : Fin 64) : P (ix2 a ⟨64 * ((64 + d.val) / 64) + t.val, by omega⟩)
      = Proj.norm Proj.w64 (fun d : Fin 64 => zrow X a1 a2 a ⟨3144 + d.val, by omega⟩) (fun d => a12 (ix1 d)) t := by
    rw [← pair_high B a t, hP]
    exact congrArg (fun l => P (ix2 a l)) (Fin.ext (by dsimp only; omega))
  have e₃ : (64 + d.val) % 64 = d.val := by omega
  have e₁ := Proj.lanes_half 32 (by decide) (by decide) (Proj.cosine Proj.b64 (p a).val) (Proj.sine Proj.b64 (p a).val)
    (fun d => P (ix2 a d)) ⟨64 + d.val, by omega⟩
  simp only [e₂, e₃] at e₁
  refine Eq.trans ?_ e₁
  simp only [Proj.lanes, table9 B, table10 B, table11 B, table12 B, table13 B, tab9_apply, tab10_apply, tab11_apply,
    tab12_apply, tab13_apply, if_neg hl, mul_zero, add_zero]

theorem low_band (a : Fin 256) (d : Fin 64) : k0_pay53 (k0_pay117 x0 x1 x2 x3 x4 x5 x6 x7 x8 x9 x10 x11 x12 x13) (k0_pay118 x0 x1 x2 x3 x4 x5 x6 x7 x8 x9 x10 x11 x12 x13) (View.ld x1 r0_31) (ix2 a d)
    = Proj.indexKey (zrow X a1 a2 a) (p a).val d := by
  exact (slice64_at (off := 0) (bothV (pairV (k0_pay115 x0 x1 x2 x3 x4 x5 x6 x7 x8 x9 x10 x11 x12 x13) (View.ld x13 r0_3)) (View.ld x1 r0_27) (View.ld x1 r0_28)
    (View.ld x1 r0_29) (View.ld x1 r0_30) (View.ld x1 r0_31)) slices_S256x128_o0_0_S256x64 a d ⟨d.val, by omega⟩ (by dsimp only; omega)).trans
    (both_low B a d)
theorem high_band (a : Fin 256) (d : Fin 64) : k0_pay54 (k0_pay117 x0 x1 x2 x3 x4 x5 x6 x7 x8 x9 x10 x11 x12 x13) (k0_pay118 x0 x1 x2 x3 x4 x5 x6 x7 x8 x9 x10 x11 x12 x13) (View.ld x1 r0_31) (ix2 a d)
    = Proj.rotKey (zrow X a1 a2 a) (p a).val (fun d => a12 (ix1 d)) d := by
  exact (slice64_at (off := 64) (bothV (pairV (k0_pay115 x0 x1 x2 x3 x4 x5 x6 x7 x8 x9 x10 x11 x12 x13) (View.ld x13 r0_3)) (View.ld x1 r0_27) (View.ld x1 r0_28)
    (View.ld x1 r0_29) (View.ld x1 r0_30) (View.ld x1 r0_31)) slices_S256x128_o0_64_S256x64 a d ⟨64 + d.val, by omega⟩ rfl).trans
    (both_high B a d)
theorem gate_band (a : Fin 256) (d : Fin 2048) : k0_pay1 (k0_pay111 x0 x1 x2 x3 x4 x5 x6 x7 x8 x9 x10 x11 x12 x13) (View.ld x3 r0_43) (ix2 a d)
    = Proj.gate (zrow X a1 a2 a) d := by
  rw [pay1_apply, row_eq B (View.ld x3 r0_43) a d ⟨3208 + d.val, by omega⟩ fun k => cols_g B k d]
  rfl

/-! ### The results -/

theorem out14 (a : Fin 256) (j : Fin 1024) : out0_14 x0 x1 x2 x3 x4 x5 x6 x7 x8 x9 x10 x11 x12 x13 (ix2 a j) = Proj.query (zrow X a1 a2 a) (p a).val (fun l => a3 (ix1 l)) j := by
  unfold out0_14
  refine View.canon_apply_of_pieces (Val := Elt Ideal) (e := .bf16) (fun i : S256x1024.Idx =>
    (Proj.query (zrow X a1 a2 (i 0)) (p (i 0)).val (fun l => a3 (ix1 l)) (i 1) : EReal)) _ ?_ (ix2 a j) (cover0_14 _ _ _ _ _ _ _ _ _)
  simp only [List.forall_mem_cons, List.not_mem_nil, false_imp_iff, implies_true, and_true]
  refine ⟨fun w => ?_, fun w => ?_, fun w => ?_, fun w => ?_, fun w => ?_, fun w => ?_, fun w => ?_, fun w => ?_⟩
  · exact piece_at (o := 896) (fun a => Proj.query (zrow X a1 a2 a) (p a).val (fun l => a3 (ix1 l))) _ _ (by decide) (query_band B 7 (by decide) slices_S256x1024_o0_896_S256x128) w
  · exact piece_at (o := 768) (fun a => Proj.query (zrow X a1 a2 a) (p a).val (fun l => a3 (ix1 l))) _ _ (by decide) (query_band B 6 (by decide) slices_S256x1024_o0_768_S256x128) w
  · exact piece_at (o := 640) (fun a => Proj.query (zrow X a1 a2 a) (p a).val (fun l => a3 (ix1 l))) _ _ (by decide) (query_band B 5 (by decide) slices_S256x1024_o0_640_S256x128) w
  · exact piece_at (o := 512) (fun a => Proj.query (zrow X a1 a2 a) (p a).val (fun l => a3 (ix1 l))) _ _ (by decide) (query_band B 4 (by decide) slices_S256x1024_o0_512_S256x128) w
  · exact piece_at (o := 384) (fun a => Proj.query (zrow X a1 a2 a) (p a).val (fun l => a3 (ix1 l))) _ _ (by decide) (query_band B 3 (by decide) slices_S256x1024_o0_384_S256x128) w
  · exact piece_at (o := 256) (fun a => Proj.query (zrow X a1 a2 a) (p a).val (fun l => a3 (ix1 l))) _ _ (by decide) (query_band B 2 (by decide) slices_S256x1024_o0_256_S256x128) w
  · exact piece_at (o := 128) (fun a => Proj.query (zrow X a1 a2 a) (p a).val (fun l => a3 (ix1 l))) _ _ (by decide) (query_band B 1 (by decide) slices_S256x1024_o0_128_S256x128) w
  · exact piece_at (o := 0) (fun a => Proj.query (zrow X a1 a2 a) (p a).val (fun l => a3 (ix1 l))) _ _ (by decide) (query_band B 0 (by decide) slices_S256x1024_o0_0_S256x128) w

theorem out15 (a : Fin 256) (j : Fin 512) : out0_15 x0 x1 x2 x3 x4 x5 x6 x7 x8 x9 x10 x11 x12 x13 (ix2 a j) = Proj.key (zrow X a1 a2 a) (p a).val (fun l => a4 (ix1 l)) j := by
  unfold out0_15
  refine View.canon_apply_of_pieces (Val := Elt Ideal) (e := .f32) (fun i : S256x512.Idx =>
    (Proj.key (zrow X a1 a2 (i 0)) (p (i 0)).val (fun l => a4 (ix1 l)) (i 1) : EReal)) _ ?_ (ix2 a j) (cover0_15 _ _ _ _ _)
  simp only [List.forall_mem_cons, List.not_mem_nil, false_imp_iff, implies_true, and_true]
  refine ⟨fun w => ?_, fun w => ?_, fun w => ?_, fun w => ?_⟩
  · exact piece_at (o := 384) (fun a => Proj.key (zrow X a1 a2 a) (p a).val (fun l => a4 (ix1 l))) _ _ (by decide) (key_band B 3 (by decide) slices_S256x512_o0_384_S256x128) w
  · exact piece_at (o := 256) (fun a => Proj.key (zrow X a1 a2 a) (p a).val (fun l => a4 (ix1 l))) _ _ (by decide) (key_band B 2 (by decide) slices_S256x512_o0_256_S256x128) w
  · exact piece_at (o := 128) (fun a => Proj.key (zrow X a1 a2 a) (p a).val (fun l => a4 (ix1 l))) _ _ (by decide) (key_band B 1 (by decide) slices_S256x512_o0_128_S256x128) w
  · exact piece_at (o := 0) (fun a => Proj.key (zrow X a1 a2 a) (p a).val (fun l => a4 (ix1 l))) _ _ (by decide) (key_band B 0 (by decide) slices_S256x512_o0_0_S256x128) w

theorem out16 (a : Fin 256) (j : Fin 512) : out0_16 x0 x1 x2 x3 x4 x5 x6 x7 x8 x9 x10 x11 x12 x13 (ix2 a j) = Proj.value (zrow X a1 a2 a) j := by
  unfold out0_16
  refine View.canon_apply_of_pieces (Val := Elt Ideal) (e := .f32) (fun i : S256x512.Idx =>
    (Proj.value (zrow X a1 a2 (i 0)) (i 1) : EReal)) _ ?_ (ix2 a j) (cover0_16 _ _)
  simp only [List.forall_mem_cons, List.not_mem_nil, false_imp_iff, implies_true, and_true]
  intro w
  exact piece_at (o := 0) (fun a => Proj.value (zrow X a1 a2 a)) _ _ (by decide) (fun a d => (zV B a d).trans (congrArg (Proj.value (zrow X a1 a2 a)) (Fin.ext (Nat.zero_add _).symm))) w

theorem out17 (a : Fin 256) (j : Fin 512) : out0_17 x0 x1 x2 x3 x4 x5 x6 x7 x8 x9 x10 x11 x12 x13 (ix2 a j) = Proj.indexQuery (zrow X a1 a2 a) (p a).val j := by
  unfold out0_17
  refine View.canon_apply_of_pieces (Val := Elt Ideal) (e := .bf16) (fun i : S256x512.Idx =>
    (Proj.indexQuery (zrow X a1 a2 (i 0)) (p (i 0)).val (i 1) : EReal)) _ ?_ (ix2 a j) (cover0_17 _ _ _ _ _)
  simp only [List.forall_mem_cons, List.not_mem_nil, false_imp_iff, implies_true, and_true]
  refine ⟨fun w => ?_, fun w => ?_, fun w => ?_, fun w => ?_⟩
  · exact piece_at (o := 384) (fun a => Proj.indexQuery (zrow X a1 a2 a) (p a).val) _ _ (by decide) (index_band B 3 (by decide) slices_S256x512_o0_384_S256x128) w
  · exact piece_at (o := 256) (fun a => Proj.indexQuery (zrow X a1 a2 a) (p a).val) _ _ (by decide) (index_band B 2 (by decide) slices_S256x512_o0_256_S256x128) w
  · exact piece_at (o := 128) (fun a => Proj.indexQuery (zrow X a1 a2 a) (p a).val) _ _ (by decide) (index_band B 1 (by decide) slices_S256x512_o0_128_S256x128) w
  · exact piece_at (o := 0) (fun a => Proj.indexQuery (zrow X a1 a2 a) (p a).val) _ _ (by decide) (index_band B 0 (by decide) slices_S256x512_o0_0_S256x128) w

theorem out18 (a : Fin 256) (j : Fin 64) : out0_18 x0 x1 x2 x3 x4 x5 x6 x7 x8 x9 x10 x11 x12 x13 (ix2 a j) = Proj.indexKey (zrow X a1 a2 a) (p a).val j := by
  unfold out0_18
  refine View.canon_apply_of_pieces (Val := Elt Ideal) (e := .f32) (fun i : S256x64.Idx =>
    (Proj.indexKey (zrow X a1 a2 (i 0)) (p (i 0)).val (i 1) : EReal)) _ ?_ (ix2 a j) (cover0_18 _ _)
  simp only [List.forall_mem_cons, List.not_mem_nil, false_imp_iff, implies_true, and_true]
  intro w
  exact piece_at (o := 0) (fun a => Proj.indexKey (zrow X a1 a2 a) (p a).val) _ _ (by decide) (fun a d => (low_band B a d).trans (congrArg (Proj.indexKey (zrow X a1 a2 a) (p a).val) (Fin.ext (Nat.zero_add _).symm))) w

theorem out19 (a : Fin 256) (j : Fin 64) : out0_19 x0 x1 x2 x3 x4 x5 x6 x7 x8 x9 x10 x11 x12 x13 (ix2 a j) = Proj.rotKey (zrow X a1 a2 a) (p a).val (fun l => a12 (ix1 l)) j := by
  unfold out0_19
  refine View.canon_apply_of_pieces (Val := Elt Ideal) (e := .f32) (fun i : S256x64.Idx =>
    (Proj.rotKey (zrow X a1 a2 (i 0)) (p (i 0)).val (fun l => a12 (ix1 l)) (i 1) : EReal)) _ ?_ (ix2 a j) (cover0_19 _ _)
  simp only [List.forall_mem_cons, List.not_mem_nil, false_imp_iff, implies_true, and_true]
  intro w
  exact piece_at (o := 0) (fun a => Proj.rotKey (zrow X a1 a2 a) (p a).val (fun l => a12 (ix1 l))) _ _ (by decide) (fun a d => (high_band B a d).trans (congrArg (Proj.rotKey (zrow X a1 a2 a) (p a).val (fun l => a12 (ix1 l))) (Fin.ext (Nat.zero_add _).symm))) w

theorem out21 (a : Fin 256) (j : Fin 1024) : out0_21 x0 x1 x2 x3 x4 x5 x6 x7 x8 x9 x10 x11 x12 x13 (ix2 a j) = Proj.plainQuery (Proj.latentQuery (zrow X a1 a2 a) (fun l => a5 (ix1 l))) a6 (fun l => a9 (ix1 l)) j := by
  unfold out0_21
  refine View.canon_apply_of_pieces (Val := Elt Ideal) (e := .bf16) (fun i : S256x1024.Idx =>
    (Proj.plainQuery (Proj.latentQuery (zrow X a1 a2 (i 0)) (fun l => a5 (ix1 l))) a6 (fun l => a9 (ix1 l)) (i 1) : EReal)) _ ?_ (ix2 a j) (cover0_21 _ _ _ _ _ _ _ _ _)
  simp only [List.forall_mem_cons, List.not_mem_nil, false_imp_iff, implies_true, and_true]
  refine ⟨fun w => ?_, fun w => ?_, fun w => ?_, fun w => ?_, fun w => ?_, fun w => ?_, fun w => ?_, fun w => ?_⟩
  · exact piece_at (o := 896) (fun a => Proj.plainQuery (Proj.latentQuery (zrow X a1 a2 a) (fun l => a5 (ix1 l))) a6 (fun l => a9 (ix1 l))) _ _ (by decide) (plainQuery_band B 7 (by decide) slices_S256x1536_o0_896_S256x128) w
  · exact piece_at (o := 768) (fun a => Proj.plainQuery (Proj.latentQuery (zrow X a1 a2 a) (fun l => a5 (ix1 l))) a6 (fun l => a9 (ix1 l))) _ _ (by decide) (plainQuery_band B 6 (by decide) slices_S256x1536_o0_768_S256x128) w
  · exact piece_at (o := 640) (fun a => Proj.plainQuery (Proj.latentQuery (zrow X a1 a2 a) (fun l => a5 (ix1 l))) a6 (fun l => a9 (ix1 l))) _ _ (by decide) (plainQuery_band B 5 (by decide) slices_S256x1536_o0_640_S256x128) w
  · exact piece_at (o := 512) (fun a => Proj.plainQuery (Proj.latentQuery (zrow X a1 a2 a) (fun l => a5 (ix1 l))) a6 (fun l => a9 (ix1 l))) _ _ (by decide) (plainQuery_band B 4 (by decide) slices_S256x1536_o0_512_S256x128) w
  · exact piece_at (o := 384) (fun a => Proj.plainQuery (Proj.latentQuery (zrow X a1 a2 a) (fun l => a5 (ix1 l))) a6 (fun l => a9 (ix1 l))) _ _ (by decide) (plainQuery_band B 3 (by decide) slices_S256x1536_o0_384_S256x128) w
  · exact piece_at (o := 256) (fun a => Proj.plainQuery (Proj.latentQuery (zrow X a1 a2 a) (fun l => a5 (ix1 l))) a6 (fun l => a9 (ix1 l))) _ _ (by decide) (plainQuery_band B 2 (by decide) slices_S256x1536_o0_256_S256x128) w
  · exact piece_at (o := 128) (fun a => Proj.plainQuery (Proj.latentQuery (zrow X a1 a2 a) (fun l => a5 (ix1 l))) a6 (fun l => a9 (ix1 l))) _ _ (by decide) (plainQuery_band B 1 (by decide) slices_S256x1536_o0_128_S256x128) w
  · exact piece_at (o := 0) (fun a => Proj.plainQuery (Proj.latentQuery (zrow X a1 a2 a) (fun l => a5 (ix1 l))) a6 (fun l => a9 (ix1 l))) _ _ (by decide) (plainQuery_band B 0 (by decide) slices_S256x1536_o0_0_S256x128) w

theorem out22 (a : Fin 256) (j : Fin 512) : out0_22 x0 x1 x2 x3 x4 x5 x6 x7 x8 x9 x10 x11 x12 x13 (ix2 a j) = Proj.rotQuery (Proj.latentQuery (zrow X a1 a2 a) (fun l => a5 (ix1 l))) (p a).val a6 (fun l => a11 (ix1 l)) j := by
  unfold out0_22
  refine View.canon_apply_of_pieces (Val := Elt Ideal) (e := .bf16) (fun i : S256x512.Idx =>
    (Proj.rotQuery (Proj.latentQuery (zrow X a1 a2 (i 0)) (fun l => a5 (ix1 l))) (p (i 0)).val a6 (fun l => a11 (ix1 l)) (i 1) : EReal)) _ ?_ (ix2 a j) (cover0_22 _ _ _ _ _)
  simp only [List.forall_mem_cons, List.not_mem_nil, false_imp_iff, implies_true, and_true]
  refine ⟨fun w => ?_, fun w => ?_, fun w => ?_, fun w => ?_⟩
  · exact piece_at (o := 384) (fun a => Proj.rotQuery (Proj.latentQuery (zrow X a1 a2 a) (fun l => a5 (ix1 l))) (p a).val a6 (fun l => a11 (ix1 l))) _ _ (by decide) (rotQuery_band B 3 (by decide) slices_S256x1536_o0_1408_S256x128) w
  · exact piece_at (o := 256) (fun a => Proj.rotQuery (Proj.latentQuery (zrow X a1 a2 a) (fun l => a5 (ix1 l))) (p a).val a6 (fun l => a11 (ix1 l))) _ _ (by decide) (rotQuery_band B 2 (by decide) slices_S256x1536_o0_1280_S256x128) w
  · exact piece_at (o := 128) (fun a => Proj.rotQuery (Proj.latentQuery (zrow X a1 a2 a) (fun l => a5 (ix1 l))) (p a).val a6 (fun l => a11 (ix1 l))) _ _ (by decide) (rotQuery_band B 1 (by decide) slices_S256x1536_o0_1152_S256x128) w
  · exact piece_at (o := 0) (fun a => Proj.rotQuery (Proj.latentQuery (zrow X a1 a2 a) (fun l => a5 (ix1 l))) (p a).val a6 (fun l => a11 (ix1 l))) _ _ (by decide) (rotQuery_band B 0 (by decide) slices_S256x1536_o0_1024_S256x128) w

theorem out23 (a : Fin 256) (j : Fin 256) : out0_23 x0 x1 x2 x3 x4 x5 x6 x7 x8 x9 x10 x11 x12 x13 (ix2 a j) = Proj.latentKey (zrow X a1 a2 a) (fun l => a7 (ix1 l)) j := by
  unfold out0_23
  refine View.canon_apply_of_pieces (Val := Elt Ideal) (e := .f32) (fun i : S256x256.Idx =>
    (Proj.latentKey (zrow X a1 a2 (i 0)) (fun l => a7 (ix1 l)) (i 1) : EReal)) _ ?_ (ix2 a j) (cover0_23 _ _)
  simp only [List.forall_mem_cons, List.not_mem_nil, false_imp_iff, implies_true, and_true]
  intro w
  exact piece_at (o := 0) (fun a => Proj.latentKey (zrow X a1 a2 a) (fun l => a7 (ix1 l))) _ _ (by decide) (fun a d => (latK B a d).trans (congrArg (Proj.latentKey (zrow X a1 a2 a) (fun l => a7 (ix1 l))) (Fin.ext (Nat.zero_add _).symm))) w

theorem out24 (a : Fin 256) (j : Fin 1024) : out0_24 x0 x1 x2 x3 x4 x5 x6 x7 x8 x9 x10 x11 x12 x13 (ix2 a j) = Proj.plainKey (Proj.latentKey (zrow X a1 a2 a) (fun l => a7 (ix1 l))) a8 (fun l => a10 (ix1 l)) j := by
  unfold out0_24
  refine View.canon_apply_of_pieces (Val := Elt Ideal) (e := .bf16) (fun i : S256x1024.Idx =>
    (Proj.plainKey (Proj.latentKey (zrow X a1 a2 (i 0)) (fun l => a7 (ix1 l))) a8 (fun l => a10 (ix1 l)) (i 1) : EReal)) _ ?_ (ix2 a j) (cover0_24 _ _ _ _ _ _ _ _ _)
  simp only [List.forall_mem_cons, List.not_mem_nil, false_imp_iff, implies_true, and_true]
  refine ⟨fun w => ?_, fun w => ?_, fun w => ?_, fun w => ?_, fun w => ?_, fun w => ?_, fun w => ?_, fun w => ?_⟩
  · exact piece_at (o := 896) (fun a => Proj.plainKey (Proj.latentKey (zrow X a1 a2 a) (fun l => a7 (ix1 l))) a8 (fun l => a10 (ix1 l))) _ _ (by decide) (plainKey_band B 7 (by decide) slices_S256x1024_o0_896_S256x128) w
  · exact piece_at (o := 768) (fun a => Proj.plainKey (Proj.latentKey (zrow X a1 a2 a) (fun l => a7 (ix1 l))) a8 (fun l => a10 (ix1 l))) _ _ (by decide) (plainKey_band B 6 (by decide) slices_S256x1024_o0_768_S256x128) w
  · exact piece_at (o := 640) (fun a => Proj.plainKey (Proj.latentKey (zrow X a1 a2 a) (fun l => a7 (ix1 l))) a8 (fun l => a10 (ix1 l))) _ _ (by decide) (plainKey_band B 5 (by decide) slices_S256x1024_o0_640_S256x128) w
  · exact piece_at (o := 512) (fun a => Proj.plainKey (Proj.latentKey (zrow X a1 a2 a) (fun l => a7 (ix1 l))) a8 (fun l => a10 (ix1 l))) _ _ (by decide) (plainKey_band B 4 (by decide) slices_S256x1024_o0_512_S256x128) w
  · exact piece_at (o := 384) (fun a => Proj.plainKey (Proj.latentKey (zrow X a1 a2 a) (fun l => a7 (ix1 l))) a8 (fun l => a10 (ix1 l))) _ _ (by decide) (plainKey_band B 3 (by decide) slices_S256x1024_o0_384_S256x128) w
  · exact piece_at (o := 256) (fun a => Proj.plainKey (Proj.latentKey (zrow X a1 a2 a) (fun l => a7 (ix1 l))) a8 (fun l => a10 (ix1 l))) _ _ (by decide) (plainKey_band B 2 (by decide) slices_S256x1024_o0_256_S256x128) w
  · exact piece_at (o := 128) (fun a => Proj.plainKey (Proj.latentKey (zrow X a1 a2 a) (fun l => a7 (ix1 l))) a8 (fun l => a10 (ix1 l))) _ _ (by decide) (plainKey_band B 1 (by decide) slices_S256x1024_o0_128_S256x128) w
  · exact piece_at (o := 0) (fun a => Proj.plainKey (Proj.latentKey (zrow X a1 a2 a) (fun l => a7 (ix1 l))) a8 (fun l => a10 (ix1 l))) _ _ (by decide) (plainKey_band B 0 (by decide) slices_S256x1024_o0_0_S256x128) w

theorem out25 (a : Fin 256) (j : Fin 2048) : out0_25 x0 x1 x2 x3 x4 x5 x6 x7 x8 x9 x10 x11 x12 x13 (ix2 a j) = Proj.gate (zrow X a1 a2 a) j := by
  unfold out0_25
  refine View.canon_apply_of_pieces (Val := Elt Ideal) (e := .f32) (fun i : S256x2048.Idx =>
    (Proj.gate (zrow X a1 a2 (i 0)) (i 1) : EReal)) _ ?_ (ix2 a j) (cover0_25 _ _)
  simp only [List.forall_mem_cons, List.not_mem_nil, false_imp_iff, implies_true, and_true]
  intro w
  exact piece_at (o := 0) (fun a => Proj.gate (zrow X a1 a2 a)) _ _ (by decide) (fun a d => (gate_band B a d).trans (congrArg (Proj.gate (zrow X a1 a2 a)) (Fin.ext (Nat.zero_add _).symm))) w

end block

end Cert.ProjectIdeal.ProjectPieces

end
-- ==== Proof.ProjectKernel.lean ====
/-
  The arrays that the projection kernel leaves, and the results they hold.
-/
module

public import proofs.«01_k».proof.Proof.ProjectOut
public import proofs.«01_k».proof.Proof.ProjectHost
public import proofs.«01_k».proof.Proof.Gen.ProjectIdeal.Value

@[expose] public section

set_option maxRecDepth 16384

noncomputable section

namespace Cert.ProjectIdeal.ProjectKernel

open Cert Cert.ProjectIdeal Cert.ProjectIdeal.Gen Cert.ProjectIdeal.Value Idealize.ShloMosaic Idealize.ShloMosaic.TcCoe Idealize.SL.Sem
open Idealize.ShloMosaic.Pipeline ProjectHost ProjectPieces

variable (m : (ℓ : Loc nD τ sig) → Buf (Elt Ideal) ℓ) (ρ : Dev nD → PrngReg)

/-! Where each window lies at a point: the tables repeat every eight points. -/

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val % 8, 0] :=
  (by decide +kernel : ∀ t : Fin grid0.N, win0_1.index t = ![t.val % 8, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0] :=
  (by decide +kernel : ∀ t : Fin grid0.N, win0_11.index t = ![0, 0])
theorem idx12 : ∀ t : Fin cfg0.N, win0_12.index t = ![0, 0] :=
  (by decide +kernel : ∀ t : Fin grid0.N, win0_12.index t = ![0, 0])
theorem idx13 : ∀ t : Fin cfg0.N, win0_13.index t = ![0, 0] :=
  (by decide +kernel : ∀ t : Fin grid0.N, win0_13.index t = ![0, 0])
theorem idx14 : ∀ t : Fin cfg0.N, win0_14.index t = ![t.val, 0] :=
  (by decide +kernel : ∀ t : Fin grid0.N, win0_14.index t = ![t.val, 0])
theorem idx15 : ∀ t : Fin cfg0.N, win0_15.index t = ![t.val, 0] :=
  (by decide +kernel : ∀ t : Fin grid0.N, win0_15.index t = ![t.val, 0])
theorem idx16 : ∀ t : Fin cfg0.N, win0_16.index t = ![t.val, 0] :=
  (by decide +kernel : ∀ t : Fin grid0.N, win0_16.index t = ![t.val, 0])
theorem idx17 : ∀ t : Fin cfg0.N, win0_17.index t = ![t.val, 0] :=
  (by decide +kernel : ∀ t : Fin grid0.N, win0_17.index t = ![t.val, 0])
theorem idx18 : ∀ t : Fin cfg0.N, win0_18.index t = ![t.val, 0] :=
  (by decide +kernel : ∀ t : Fin grid0.N, win0_18.index t = ![t.val, 0])
theorem idx19 : ∀ t : Fin cfg0.N, win0_19.index t = ![t.val, 0] :=
  (by decide +kernel : ∀ t : Fin grid0.N, win0_19.index t = ![t.val, 0])
theorem idx20 : ∀ t : Fin cfg0.N, win0_20.index t = ![t.val, 0] :=
  (by decide +kernel : ∀ t : Fin grid0.N, win0_20.index t = ![t.val, 0])
theorem idx21 : ∀ t : Fin cfg0.N, win0_21.index t = ![t.val, 0] :=
  (by decide +kernel : ∀ t : Fin grid0.N, win0_21.index t = ![t.val, 0])
theorem idx22 : ∀ t : Fin cfg0.N, win0_22.index t = ![t.val, 0] :=
  (by decide +kernel : ∀ t : Fin grid0.N, win0_22.index t = ![t.val, 0])
theorem idx23 : ∀ t : Fin cfg0.N, win0_23.index t = ![t.val, 0] :=
  (by decide +kernel : ∀ t : Fin grid0.N, win0_23.index t = ![t.val, 0])
theorem idx24 : ∀ t : Fin cfg0.N, win0_24.index t = ![t.val, 0] :=
  (by decide +kernel : ∀ t : Fin grid0.N, win0_24.index t = ![t.val, 0])
theorem idx25 : ∀ t : Fin cfg0.N, win0_25.index t = ![t.val, 0] :=
  (by decide +kernel : ∀ t : Fin grid0.N, win0_25.index t = ![t.val, 0])

/-- Row `n` of the input, and its position. -/
def xrow (x : (⟨3, ![16, 2048, 1024]⟩ : Shape).Idx → EReal) (n : Fin 32768) (k : Fin 1024) : EReal :=
  x (ix3 ⟨n.val / 2048, by omega⟩ ⟨n.val % 2048, by omega⟩ k)
def at_ (t : Fin cfg0.N) (a : Fin 256) : Fin 32768 := ⟨256 * t.val + a.val, by
  have : t.val < 128 := t.isLt
  omega⟩
def pos (n : Fin 32768) : Fin 2048 := ⟨n.val % 2048, by omega⟩

theorem blk0 (c : Dev nD) (t : Fin cfg0.N) (a : Fin 256) (k : Fin 1024) :
    (iblk m c 0 t : Proj.Mat 256 1024) (ix2 a k) = xrow (m ((c : Thread nD τ).loc main_arg0)) (at_ t a) k := by
  have ht : t.val < 128 := t.isLt
  blk_simp [iblk, idx0 t]
  entry_read
  pointwise
  have h₀ : ((((View.whole main_v128).slice (win0_0.rect t)).emb (ix2 a k) 0 : Fin 32768) : ℕ) = 256 * t.val + a.val := by
    blk_simp [idx0 t]
    omega
  have h₁ : ((((View.whole main_v128).slice (win0_0.rect t)).emb (ix2 a k) 1 : Fin 1024) : ℕ) = k.val := by
    blk_simp [idx0 t]
  exact congrArg (m ((c : Thread nD τ).loc main_arg0)) (funext fun b => by
    match b with
    | ⟨0, _⟩ => exact Fin.ext (congrArg (· / 2048) h₀)
    | ⟨1, _⟩ => exact Fin.ext (congrArg (· % 2048) h₀)
    | ⟨2, _⟩ => exact Fin.ext h₁)

theorem blk1 (c : Dev nD) (t : Fin cfg0.N) (a : Fin 256) (k : Fin 1792) :
    (iblk m c 1 t : Proj.Mat 256 1792) (ix2 a k) = tabs (ix2 (pos (at_ t a)) k) := by
  have ht : t.val < 128 := t.isLt
  show (V m c main_v127 : Proj.Mat 2048 1792) _ = _
  rw [V_v127]
  refine congrArg tabs ?_
  have h₀ : (((win0_1.blk t).view.emb (ix2 a k) 0 : Fin 2048) : ℕ) = 256 * (t.val % 8) + a.val := by
    blk_simp [idx1 t]
    omega
  have h₁ : (((win0_1.blk t).view.emb (ix2 a k) 1 : Fin 1792) : ℕ) = k.val := by
    blk_simp [idx1 t]
  exact funext fun b => by
    match b with
    | ⟨0, _⟩ => exact Fin.ext (h₀.trans (by show _ = (256 * t.val + a.val) % 2048; omega))
    | ⟨1, _⟩ => exact Fin.ext h₁

theorem blk2 (c : Dev nD) (t : Fin cfg0.N) (b : Fin 1024) :
    (iblk m c 2 t : Proj.Mat 1 1024) (ix2 0 b) = m ((c : Thread nD τ).loc main_arg1) (ix1 b) := by
  blk_simp [iblk, idx2 t]
  entry_read
  pointwise
  blk_ext [idx2 t]

theorem blk4 (c : Dev nD) (t : Fin cfg0.N) (b : Fin 128) :
    (iblk m c 4 t : Proj.Mat 1 128) (ix2 0 b) = m ((c : Thread nD τ).loc main_arg3) (ix1 b) := by
  blk_simp [iblk, idx4 t]
  entry_read
  pointwise
  blk_ext [idx4 t]

theorem blk5 (c : Dev nD) (t : Fin cfg0.N) (b : Fin 128) :
    (iblk m c 5 t : Proj.Mat 1 128) (ix2 0 b) = m ((c : Thread nD τ).loc main_arg4) (ix1 b) := by
  blk_simp [iblk, idx5 t]
  entry_read
  pointwise
  blk_ext [idx5 t]

theorem blk6 (c : Dev nD) (t : Fin cfg0.N) (b : Fin 256) :
    (iblk m c 6 t : Proj.Mat 1 256) (ix2 0 b) = m ((c : Thread nD τ).loc main_arg5) (ix1 b) := by
  blk_simp [iblk, idx6 t]
  entry_read
  pointwise
  blk_ext [idx6 t]

theorem blk8 (c : Dev nD) (t : Fin cfg0.N) (b : Fin 256) :
    (iblk m c 8 t : Proj.Mat 1 256) (ix2 0 b) = m ((c : Thread nD τ).loc main_arg7) (ix1 b) := by
  blk_simp [iblk, idx8 t]
  entry_read
  pointwise
  blk_ext [idx8 t]

theorem blk10 (c : Dev nD) (t : Fin cfg0.N) (b : Fin 128) :
    (iblk m c 10 t : Proj.Mat 1 128) (ix2 0 b) = m ((c : Thread nD τ).loc main_arg9) (ix1 b) := by
  blk_simp [iblk, idx10 t]
  entry_read
  pointwise
  blk_ext [idx10 t]

theorem blk11 (c : Dev nD) (t : Fin cfg0.N) (b : Fin 128) :
    (iblk m c 11 t : Proj.Mat 1 128) (ix2 0 b) = m ((c : Thread nD τ).loc main_arg10) (ix1 b) := by
  blk_simp [iblk, idx11 t]
  entry_read
  pointwise
  blk_ext [idx11 t]

theorem blk3 (c : Dev nD) (t : Fin cfg0.N) :
    (iblk m c 3 t : Proj.Mat 1024 5376) = weights (m ((c : Thread nD τ).loc main_arg2)) := by
  funext i
  rw [eq_ix2 i]
  show (V m c main_v12 : Proj.Mat 1024 5376) _ = _
  rw [V_v12]
  exact congrArg _ (by blk_ext [idx3 t])

theorem blk7 (c : Dev nD) (t : Fin cfg0.N) :
    (iblk m c 7 t : Proj.Mat 256 1536) = queryUp (m ((c : Thread nD τ).loc main_arg6)) := by
  funext i
  rw [eq_ix2 i]
  show (V m c main_v18 : Proj.Mat 256 1536) _ = _
  rw [V_v18]
  exact congrArg _ (by blk_ext [idx7 t])

theorem blk9 (c : Dev nD) (t : Fin cfg0.N) :
    (iblk m c 9 t : Proj.Mat 256 1024) = keyUp (m ((c : Thread nD τ).loc main_arg8)) := by
  funext i
  rw [eq_ix2 i]
  show (V m c main_v25 : Proj.Mat 256 1024) _ = _
  rw [V_v25]
  exact congrArg _ (by blk_ext [idx9 t])

theorem blk12 (c : Dev nD) (t : Fin cfg0.N) :
    (iblk m c 12 t : Proj.Mat 1 128) = gainPair (m ((c : Thread nD τ).loc main_arg11)) := by
  funext i
  rw [eq_ix2 i]
  show (V m c main_v31 : Proj.Mat 1 128) _ = _
  rw [V_v31]
  exact congrArg _ (by blk_ext [idx12 t])

theorem blk13 (c : Dev nD) (t : Fin cfg0.N) :
    (iblk m c 13 t : Proj.Mat 1 128) = gainHigh (m ((c : Thread nD τ).loc main_arg12)) := by
  funext i
  rw [eq_ix2 i]
  show (V m c main_v34 : Proj.Mat 1 128) _ = _
  rw [V_v34]
  exact congrArg _ (by blk_ext [idx13 t])

theorem block (c : Dev nD) (t : Fin cfg0.N) : Block (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t)
    (iblk m c 13 t) (fun a => xrow (m ((c : Thread nD τ).loc main_arg0)) (at_ t a)) (fun a => pos (at_ t a))
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  ⟨blk0 m c t, blk1 m c t, blk2 m c t, blk3 m c t, blk4 m c t, blk5 m c t, blk6 m c t, blk7 m c t, blk8 m c t, blk9 m c t,
    blk10 m c t, blk11 m c t, blk12 m c t, blk13 m c t⟩

/-- The rows of the first product of the whole input. -/
def Z (c : Dev nD) (n : Fin 32768) : Fin 5256 → EReal :=
  Proj.proj (xrow (m ((c : Thread nD τ).loc main_arg0)) n)
    (fun k => (m ((c : Thread nD τ).loc main_arg1) : (⟨1, ![1024]⟩ : Shape).Idx → EReal) (ix1 k)) (m ((c : Thread nD τ).loc main_arg2))

def G14 (c : Dev nD) : Proj.Mat 32768 1024 := fun i =>
  Proj.query (Z m c (i 0)) ((i 0).val % 2048) (fun l => (m ((c : Thread nD τ).loc main_arg3) : (⟨1, ![128]⟩ : Shape).Idx → EReal) (ix1 l)) (i 1)

theorem arr14 (c : Dev nD) : (dats m 0 c).arrAt 14 cfg0.N = (G14 m c : Proj.Mat 32768 1024) := by
  refine (dats m 0 c).arrAt_eq_of_covers 14 (G14 m c) (by decide +kernel) fun t hf y => ?_
  blk_simp [idx14 t]
  rw [after0_14]
  have h : ((((win0_14.blk t).view.emb y) 0 : Fin 32768) : ℕ) = 256 * t.val + (y 0).val := by
    blk_simp [idx14 t]
    omega
  have h₀ : (((win0_14.blk t).view.emb y) 0 : Fin 32768) = at_ t (y 0) := Fin.ext h
  have h₁ : (((win0_14.blk t).view.emb y) 1 : Fin 1024) = y 1 := Fin.ext (by
    blk_simp [idx14 t])
  refine ((congrArg _ (eq_ix2 y)).trans (out14 (block m c t) (y 0) (y 1))).trans ?_
  unfold G14
  rw [h₀, h₁]
  rfl

def G15 (c : Dev nD) : Proj.Mat 32768 512 := fun i =>
  Proj.key (Z m c (i 0)) ((i 0).val % 2048) (fun l => (m ((c : Thread nD τ).loc main_arg4) : (⟨1, ![128]⟩ : Shape).Idx → EReal) (ix1 l)) (i 1)

theorem arr15 (c : Dev nD) : (dats m 0 c).arrAt 15 cfg0.N = (G15 m c : Proj.Mat 32768 512) := by
  refine (dats m 0 c).arrAt_eq_of_covers 15 (G15 m c) (by decide +kernel) fun t hf y => ?_
  blk_simp [idx15 t]
  rw [after0_15]
  have h : ((((win0_15.blk t).view.emb y) 0 : Fin 32768) : ℕ) = 256 * t.val + (y 0).val := by
    blk_simp [idx15 t]
    omega
  have h₀ : (((win0_15.blk t).view.emb y) 0 : Fin 32768) = at_ t (y 0) := Fin.ext h
  have h₁ : (((win0_15.blk t).view.emb y) 1 : Fin 512) = y 1 := Fin.ext (by
    blk_simp [idx15 t])
  refine ((congrArg _ (eq_ix2 y)).trans (out15 (block m c t) (y 0) (y 1))).trans ?_
  unfold G15
  rw [h₀, h₁]
  rfl

def G16 (c : Dev nD) : Proj.Mat 32768 512 := fun i =>
  Proj.value (Z m c (i 0)) (i 1)

theorem arr16 (c : Dev nD) : (dats m 0 c).arrAt 16 cfg0.N = (G16 m c : Proj.Mat 32768 512) := by
  refine (dats m 0 c).arrAt_eq_of_covers 16 (G16 m c) (by decide +kernel) fun t hf y => ?_
  blk_simp [idx16 t]
  rw [after0_16]
  have h : ((((win0_16.blk t).view.emb y) 0 : Fin 32768) : ℕ) = 256 * t.val + (y 0).val := by
    blk_simp [idx16 t]
    omega
  have h₀ : (((win0_16.blk t).view.emb y) 0 : Fin 32768) = at_ t (y 0) := Fin.ext h
  have h₁ : (((win0_16.blk t).view.emb y) 1 : Fin 512) = y 1 := Fin.ext (by
    blk_simp [idx16 t])
  refine ((congrArg _ (eq_ix2 y)).trans (out16 (block m c t) (y 0) (y 1))).trans ?_
  unfold G16
  rw [h₀, h₁]
  rfl

def G17 (c : Dev nD) : Proj.Mat 32768 512 := fun i =>
  Proj.indexQuery (Z m c (i 0)) ((i 0).val % 2048) (i 1)

theorem arr17 (c : Dev nD) : (dats m 0 c).arrAt 17 cfg0.N = (G17 m c : Proj.Mat 32768 512) := by
  refine (dats m 0 c).arrAt_eq_of_covers 17 (G17 m c) (by decide +kernel) fun t hf y => ?_
  blk_simp [idx17 t]
  rw [after0_17]
  have h : ((((win0_17.blk t).view.emb y) 0 : Fin 32768) : ℕ) = 256 * t.val + (y 0).val := by
    blk_simp [idx17 t]
    omega
  have h₀ : (((win0_17.blk t).view.emb y) 0 : Fin 32768) = at_ t (y 0) := Fin.ext h
  have h₁ : (((win0_17.blk t).view.emb y) 1 : Fin 512) = y 1 := Fin.ext (by
    blk_simp [idx17 t])
  refine ((congrArg _ (eq_ix2 y)).trans (out17 (block m c t) (y 0) (y 1))).trans ?_
  unfold G17
  rw [h₀, h₁]
  rfl

def G18 (c : Dev nD) : Proj.Mat 32768 64 := fun i =>
  Proj.indexKey (Z m c (i 0)) ((i 0).val % 2048) (i 1)

theorem arr18 (c : Dev nD) : (dats m 0 c).arrAt 18 cfg0.N = (G18 m c : Proj.Mat 32768 64) := by
  refine (dats m 0 c).arrAt_eq_of_covers 18 (G18 m c) (by decide +kernel) fun t hf y => ?_
  blk_simp [idx18 t]
  rw [after0_18]
  have h : ((((win0_18.blk t).view.emb y) 0 : Fin 32768) : ℕ) = 256 * t.val + (y 0).val := by
    blk_simp [idx18 t]
    omega
  have h₀ : (((win0_18.blk t).view.emb y) 0 : Fin 32768) = at_ t (y 0) := Fin.ext h
  have h₁ : (((win0_18.blk t).view.emb y) 1 : Fin 64) = y 1 := Fin.ext (by
    blk_simp [idx18 t])
  refine ((congrArg _ (eq_ix2 y)).trans (out18 (block m c t) (y 0) (y 1))).trans ?_
  unfold G18
  rw [h₀, h₁]
  rfl

def G19 (c : Dev nD) : Proj.Mat 32768 64 := fun i =>
  Proj.rotKey (Z m c (i 0)) ((i 0).val % 2048) (fun l => (m ((c : Thread nD τ).loc main_arg12) : (⟨1, ![64]⟩ : Shape).Idx → EReal) (ix1 l)) (i 1)

theorem arr19 (c : Dev nD) : (dats m 0 c).arrAt 19 cfg0.N = (G19 m c : Proj.Mat 32768 64) := by
  refine (dats m 0 c).arrAt_eq_of_covers 19 (G19 m c) (by decide +kernel) fun t hf y => ?_
  blk_simp [idx19 t]
  rw [after0_19]
  have h : ((((win0_19.blk t).view.emb y) 0 : Fin 32768) : ℕ) = 256 * t.val + (y 0).val := by
    blk_simp [idx19 t]
    omega
  have h₀ : (((win0_19.blk t).view.emb y) 0 : Fin 32768) = at_ t (y 0) := Fin.ext h
  have h₁ : (((win0_19.blk t).view.emb y) 1 : Fin 64) = y 1 := Fin.ext (by
    blk_simp [idx19 t])
  refine ((congrArg _ (eq_ix2 y)).trans (out19 (block m c t) (y 0) (y 1))).trans ?_
  unfold G19
  rw [h₀, h₁]
  rfl

def G21 (c : Dev nD) : Proj.Mat 32768 1024 := fun i =>
  Proj.plainQuery (Proj.latentQuery (Z m c (i 0)) (fun l => (m ((c : Thread nD τ).loc main_arg5) : (⟨1, ![256]⟩ : Shape).Idx → EReal) (ix1 l))) (m ((c : Thread nD τ).loc main_arg6)) (fun l => (m ((c : Thread nD τ).loc main_arg9) : (⟨1, ![128]⟩ : Shape).Idx → EReal) (ix1 l)) (i 1)

theorem arr21 (c : Dev nD) : (dats m 0 c).arrAt 21 cfg0.N = (G21 m c : Proj.Mat 32768 1024) := by
  refine (dats m 0 c).arrAt_eq_of_covers 21 (G21 m c) (by decide +kernel) fun t hf y => ?_
  blk_simp [idx21 t]
  rw [after0_21]
  have h : ((((win0_21.blk t).view.emb y) 0 : Fin 32768) : ℕ) = 256 * t.val + (y 0).val := by
    blk_simp [idx21 t]
    omega
  have h₀ : (((win0_21.blk t).view.emb y) 0 : Fin 32768) = at_ t (y 0) := Fin.ext h
  have h₁ : (((win0_21.blk t).view.emb y) 1 : Fin 1024) = y 1 := Fin.ext (by
    blk_simp [idx21 t])
  refine ((congrArg _ (eq_ix2 y)).trans (out21 (block m c t) (y 0) (y 1))).trans ?_
  unfold G21
  rw [h₀, h₁]
  rfl

def G22 (c : Dev nD) : Proj.Mat 32768 512 := fun i =>
  Proj.rotQuery (Proj.latentQuery (Z m c (i 0)) (fun l => (m ((c : Thread nD τ).loc main_arg5) : (⟨1, ![256]⟩ : Shape).Idx → EReal) (ix1 l))) ((i 0).val % 2048) (m ((c : Thread nD τ).loc main_arg6)) (fun l => (m ((c : Thread nD τ).loc main_arg11) : (⟨1, ![64]⟩ : Shape).Idx → EReal) (ix1 l)) (i 1)

theorem arr22 (c : Dev nD) : (dats m 0 c).arrAt 22 cfg0.N = (G22 m c : Proj.Mat 32768 512) := by
  refine (dats m 0 c).arrAt_eq_of_covers 22 (G22 m c) (by decide +kernel) fun t hf y => ?_
  blk_simp [idx22 t]
  rw [after0_22]
  have h : ((((win0_22.blk t).view.emb y) 0 : Fin 32768) : ℕ) = 256 * t.val + (y 0).val := by
    blk_simp [idx22 t]
    omega
  have h₀ : (((win0_22.blk t).view.emb y) 0 : Fin 32768) = at_ t (y 0) := Fin.ext h
  have h₁ : (((win0_22.blk t).view.emb y) 1 : Fin 512) = y 1 := Fin.ext (by
    blk_simp [idx22 t])
  refine ((congrArg _ (eq_ix2 y)).trans (out22 (block m c t) (y 0) (y 1))).trans ?_
  unfold G22
  rw [h₀, h₁]
  rfl

def G23 (c : Dev nD) : Proj.Mat 32768 256 := fun i =>
  Proj.latentKey (Z m c (i 0)) (fun l => (m ((c : Thread nD τ).loc main_arg7) : (⟨1, ![256]⟩ : Shape).Idx → EReal) (ix1 l)) (i 1)

theorem arr23 (c : Dev nD) : (dats m 0 c).arrAt 23 cfg0.N = (G23 m c : Proj.Mat 32768 256) := by
  refine (dats m 0 c).arrAt_eq_of_covers 23 (G23 m c) (by decide +kernel) fun t hf y => ?_
  blk_simp [idx23 t]
  rw [after0_23]
  have h : ((((win0_23.blk t).view.emb y) 0 : Fin 32768) : ℕ) = 256 * t.val + (y 0).val := by
    blk_simp [idx23 t]
    omega
  have h₀ : (((win0_23.blk t).view.emb y) 0 : Fin 32768) = at_ t (y 0) := Fin.ext h
  have h₁ : (((win0_23.blk t).view.emb y) 1 : Fin 256) = y 1 := Fin.ext (by
    blk_simp [idx23 t])
  refine ((congrArg _ (eq_ix2 y)).trans (out23 (block m c t) (y 0) (y 1))).trans ?_
  unfold G23
  rw [h₀, h₁]
  rfl

def G24 (c : Dev nD) : Proj.Mat 32768 1024 := fun i =>
  Proj.plainKey (Proj.latentKey (Z m c (i 0)) (fun l => (m ((c : Thread nD τ).loc main_arg7) : (⟨1, ![256]⟩ : Shape).Idx → EReal) (ix1 l))) (m ((c : Thread nD τ).loc main_arg8)) (fun l => (m ((c : Thread nD τ).loc main_arg10) : (⟨1, ![128]⟩ : Shape).Idx → EReal) (ix1 l)) (i 1)

theorem arr24 (c : Dev nD) : (dats m 0 c).arrAt 24 cfg0.N = (G24 m c : Proj.Mat 32768 1024) := by
  refine (dats m 0 c).arrAt_eq_of_covers 24 (G24 m c) (by decide +kernel) fun t hf y => ?_
  blk_simp [idx24 t]
  rw [after0_24]
  have h : ((((win0_24.blk t).view.emb y) 0 : Fin 32768) : ℕ) = 256 * t.val + (y 0).val := by
    blk_simp [idx24 t]
    omega
  have h₀ : (((win0_24.blk t).view.emb y) 0 : Fin 32768) = at_ t (y 0) := Fin.ext h
  have h₁ : (((win0_24.blk t).view.emb y) 1 : Fin 1024) = y 1 := Fin.ext (by
    blk_simp [idx24 t])
  refine ((congrArg _ (eq_ix2 y)).trans (out24 (block m c t) (y 0) (y 1))).trans ?_
  unfold G24
  rw [h₀, h₁]
  rfl

def G25 (c : Dev nD) : Proj.Mat 32768 2048 := fun i =>
  Proj.gate (Z m c (i 0)) (i 1)

theorem arr25 (c : Dev nD) : (dats m 0 c).arrAt 25 cfg0.N = (G25 m c : Proj.Mat 32768 2048) := by
  refine (dats m 0 c).arrAt_eq_of_covers 25 (G25 m c) (by decide +kernel) fun t hf y => ?_
  blk_simp [idx25 t]
  rw [after0_25]
  have h : ((((win0_25.blk t).view.emb y) 0 : Fin 32768) : ℕ) = 256 * t.val + (y 0).val := by
    blk_simp [idx25 t]
    omega
  have h₀ : (((win0_25.blk t).view.emb y) 0 : Fin 32768) = at_ t (y 0) := Fin.ext h
  have h₁ : (((win0_25.blk t).view.emb y) 1 : Fin 2048) = y 1 := Fin.ext (by
    blk_simp [idx25 t])
  refine ((congrArg _ (eq_ix2 y)).trans (out25 (block m c t) (y 0) (y 1))).trans ?_
  unfold G25
  rw [h₀, h₁]
  rfl

end Cert.ProjectIdeal.ProjectKernel

end
-- ==== Proof.ProjectRef.lean ====
/-
  The results of the projection reference, entry by entry, are the rows of the specification.
-/
module

public import proofs.«01_k».proof.Proof.Gen.ProjectReferenceIdeal.Run
public import proofs.«01_k».proof.Proof.Gen.ProjectReferenceIdeal.Read
public import proofs.«01_k».proof.Proof.Proj
public import Idealize.ShloMosaic.Lib.Pointwise

@[expose] public section

set_option maxRecDepth 16384

noncomputable section

namespace Cert.ProjectRef

open Cert Idealize.ShloMosaic Cert.ProjectReferenceIdeal Cert.ProjectReferenceIdeal.Gen Cert.ProjectReferenceIdeal.Read

variable (x0 : (⟨3, ![16, 2048, 1024]⟩ : Shape).Idx → EReal) (x1 : (⟨1, ![1024]⟩ : Shape).Idx → EReal) (x2 : Proj.Mat 1024 5256)
  (x3 x4 : (⟨1, ![128]⟩ : Shape).Idx → EReal) (x5 : (⟨1, ![256]⟩ : Shape).Idx → EReal) (x6 : Proj.Cube 256 8 192)
  (x7 : (⟨1, ![256]⟩ : Shape).Idx → EReal) (x8 : Proj.Cube 256 8 128) (x9 x10 : (⟨1, ![128]⟩ : Shape).Idx → EReal)
  (x11 x12 : (⟨1, ![64]⟩ : Shape).Idx → EReal)
  (b : Fin 16) (t : Fin 2048)

/-- A row of the first product. -/
def zrow : Fin 5256 → EReal := Proj.proj (fun k => x0 (ix3 b t k)) (fun k => x1 (ix1 k)) x2

theorem v13_at (k : Fin 1024) :
    (val_main_v13 (F := Ideal) x0 x1 (ix3 b t k) : EReal) = Proj.norm Proj.w1024 (fun k => x0 (ix3 b t k)) (fun k => x1 (ix1 k)) k := by
  unfold val_main_v13 val_main_v12 val_main_v11 val_main_v10 val_main_v9 val_main_v8 val_main_v7 val_main_v6 val_main_cst_1 val_main_v5 val_main_v4 val_main_cst_0 val_main_v3 val_main_v2 val_main_cst val_main_v1
  pointwise
  rfl

theorem v14_at (e : Fin 5256) : (val_main_v14 (F := Ideal) x0 x1 x2 (ix3 b t e) : EReal) = zrow x0 x1 x2 b t e := by
  have h : (val_main_v14 (F := Ideal) x0 x1 x2 (ix3 b t e) : EReal) = ∑ k : Fin 1024, (val_main_v13 (F := Ideal) x0 x1 (ix3 b t k) : EReal) * x2 (ix2 k e) := by
    unfold val_main_v14
    generalize val_main_v13 (F := Ideal) x0 x1 = y
    pointwise
  rw [h]
  exact Finset.sum_congr rfl fun k _ => congrArg (fun v : EReal => v * x2 (ix2 k e)) (v13_at x0 x1 b t k)

theorem v25_at (h : Fin 8) (d : Fin 128) : (val_main_v25 (F := Ideal) x0 x1 x2 (ix4 b t h d) : EReal) = zrow x0 x1 x2 b t ⟨128 * h.val + d.val, by omega⟩ := by
  rw [← v14_at]
  unfold val_main_v25 val_main_v15
  generalize val_main_v14 (F := Ideal) x0 x1 x2 = y
  pointwise <;> exact congrArg (fun e => y (ix3 b t e)) (Fin.ext (by try dsimp only
                                                                     omega))

theorem v73_at (h : Fin 4) (d : Fin 128) : (val_main_v73 (F := Ideal) x0 x1 x2 (ix4 b t h d) : EReal) = zrow x0 x1 x2 b t ⟨1024 + (128 * h.val + d.val), by omega⟩ := by
  rw [← v14_at]
  unfold val_main_v73 val_main_v16
  generalize val_main_v14 (F := Ideal) x0 x1 x2 = y
  pointwise <;> exact congrArg (fun e => y (ix3 b t e)) (Fin.ext (by try dsimp only
                                                                     omega))

theorem v17_at (j : Fin 512) : (val_main_v17 (F := Ideal) x0 x1 x2 (ix3 b t j) : EReal) = zrow x0 x1 x2 b t ⟨1536 + j.val, by omega⟩ := by
  rw [← v14_at]
  unfold val_main_v17
  generalize val_main_v14 (F := Ideal) x0 x1 x2 = y
  pointwise <;> exact congrArg (fun e => y (ix3 b t e)) (Fin.ext (by try dsimp only
                                                                     omega))

theorem v121_at (h : Fin 8) (d : Fin 64) : (val_main_v121 (F := Ideal) x0 x1 x2 (ix4 b t h d) : EReal) = zrow x0 x1 x2 b t ⟨2048 + (64 * h.val + d.val), by omega⟩ := by
  rw [← v14_at]
  unfold val_main_v121 val_main_v18
  generalize val_main_v14 (F := Ideal) x0 x1 x2 = y
  pointwise <;> exact congrArg (fun e => y (ix3 b t e)) (Fin.ext (by try dsimp only
                                                                     omega))

theorem v156_at (d : Fin 64) : (val_main_v156 (F := Ideal) x0 x1 x2 (ix4 b t 0 d) : EReal) = zrow x0 x1 x2 b t ⟨2560 + d.val, by omega⟩ := by
  rw [← v14_at]
  unfold val_main_v156 val_main_v19
  generalize val_main_v14 (F := Ideal) x0 x1 x2 = y
  pointwise <;> exact congrArg (fun e => y (ix3 b t e)) (Fin.ext (by try dsimp only
                                                                     omega))

theorem v21_at (d : Fin 256) : (val_main_v21 (F := Ideal) x0 x1 x2 (ix3 b t d) : EReal) = zrow x0 x1 x2 b t ⟨2632 + d.val, by omega⟩ := by
  rw [← v14_at]
  unfold val_main_v21
  generalize val_main_v14 (F := Ideal) x0 x1 x2 = y
  pointwise <;> exact congrArg (fun e => y (ix3 b t e)) (Fin.ext (by try dsimp only
                                                                     omega))

theorem v22_at (d : Fin 256) : (val_main_v22 (F := Ideal) x0 x1 x2 (ix3 b t d) : EReal) = zrow x0 x1 x2 b t ⟨2888 + d.val, by omega⟩ := by
  rw [← v14_at]
  unfold val_main_v22
  generalize val_main_v14 (F := Ideal) x0 x1 x2 = y
  pointwise <;> exact congrArg (fun e => y (ix3 b t e)) (Fin.ext (by try dsimp only
                                                                     omega))

theorem v23_at (d : Fin 64) : (val_main_v23 (F := Ideal) x0 x1 x2 (ix3 b t d) : EReal) = zrow x0 x1 x2 b t ⟨3144 + d.val, by omega⟩ := by
  rw [← v14_at]
  unfold val_main_v23
  generalize val_main_v14 (F := Ideal) x0 x1 x2 = y
  pointwise <;> exact congrArg (fun e => y (ix3 b t e)) (Fin.ext (by try dsimp only
                                                                     omega))

theorem v24_at (j : Fin 2048) : (val_main_v24 (F := Ideal) x0 x1 x2 (ix3 b t j) : EReal) = zrow x0 x1 x2 b t ⟨3208 + j.val, by omega⟩ := by
  rw [← v14_at]
  unfold val_main_v24
  generalize val_main_v14 (F := Ideal) x0 x1 x2 = y
  pointwise <;> exact congrArg (fun e => y (ix3 b t e)) (Fin.ext (by try dsimp only
                                                                     omega))

theorem v38_at (h : Fin 8) (d : Fin 128) :
    (val_main_v38 (F := Ideal) x0 x1 x2 x3 (ix4 b t h d) : EReal) = Proj.norm Proj.w128 (fun d : Fin 128 => (val_main_v25 (F := Ideal) x0 x1 x2 (ix4 b t h d) : EReal)) (fun d => x3 (ix1 d)) d := by
  unfold val_main_v38 val_main_v37 val_main_v36 val_main_v35 val_main_v34 val_main_v33 val_main_v32 val_main_v31 val_main_cst_4 val_main_v30 val_main_v29 val_main_cst_3 val_main_v28 val_main_v27 val_main_cst_2 val_main_v26
  generalize val_main_v25 (F := Ideal) x0 x1 x2 = y0
  pointwise
  rfl

theorem v86_at (h : Fin 4) (d : Fin 128) :
    (val_main_v86 (F := Ideal) x0 x1 x2 x4 (ix4 b t h d) : EReal) = Proj.norm Proj.w128 (fun d : Fin 128 => (val_main_v73 (F := Ideal) x0 x1 x2 (ix4 b t h d) : EReal)) (fun d => x4 (ix1 d)) d := by
  unfold val_main_v86 val_main_v85 val_main_v84 val_main_v83 val_main_v82 val_main_v81 val_main_v80 val_main_v79 val_main_cst_9 val_main_v78 val_main_v77 val_main_cst_8 val_main_v76 val_main_v75 val_main_cst_7 val_main_v74
  generalize val_main_v73 (F := Ideal) x0 x1 x2 = y0
  pointwise
  rfl

theorem v204_at (d : Fin 256) :
    (val_main_v204 (F := Ideal) x0 x1 x2 x5 (ix3 b t d) : EReal) = Proj.norm Proj.w256 (fun d : Fin 256 => (val_main_v21 (F := Ideal) x0 x1 x2 (ix3 b t d) : EReal)) (fun d => x5 (ix1 d)) d := by
  unfold val_main_v204 val_main_v203 val_main_v202 val_main_v201 val_main_v200 val_main_v199 val_main_v198 val_main_v197 val_main_cst_18 val_main_v196 val_main_v195 val_main_cst_17 val_main_v194 val_main_v193 val_main_cst_16 val_main_v192
  generalize val_main_v21 (F := Ideal) x0 x1 x2 = y0
  pointwise
  rfl

theorem v219_at (h : Fin 8) (d : Fin 128) :
    (val_main_v219 (F := Ideal) x0 x1 x2 x5 x6 x9 (ix4 b t h d) : EReal) = Proj.norm Proj.w128 (fun d : Fin 128 => (val_main_v206 (F := Ideal) x0 x1 x2 x5 x6 (ix4 b t h d) : EReal)) (fun d => x9 (ix1 d)) d := by
  unfold val_main_v219 val_main_v218 val_main_v217 val_main_v216 val_main_v215 val_main_v214 val_main_v213 val_main_v212 val_main_cst_21 val_main_v211 val_main_v210 val_main_cst_20 val_main_v209 val_main_v208 val_main_cst_19 val_main_v207
  generalize val_main_v206 (F := Ideal) x0 x1 x2 x5 x6 = y0
  pointwise
  rfl

theorem v233_at (h : Fin 8) (d : Fin 64) :
    (val_main_v233 (F := Ideal) x0 x1 x2 x5 x6 x11 (ix4 b t h d) : EReal) = Proj.norm Proj.w64 (fun d : Fin 64 => (val_main_v220 (F := Ideal) x0 x1 x2 x5 x6 (ix4 b t h d) : EReal)) (fun d => x11 (ix1 d)) d := by
  unfold val_main_v233 val_main_v232 val_main_v231 val_main_v230 val_main_v229 val_main_v228 val_main_v227 val_main_v226 val_main_cst_24 val_main_v225 val_main_v224 val_main_cst_23 val_main_v223 val_main_v222 val_main_cst_22 val_main_v221
  generalize val_main_v220 (F := Ideal) x0 x1 x2 x5 x6 = y0
  pointwise
  rfl

theorem v280_at (d : Fin 256) :
    (val_main_v280 (F := Ideal) x0 x1 x2 x7 (ix3 b t d) : EReal) = Proj.norm Proj.w256 (fun d : Fin 256 => (val_main_v22 (F := Ideal) x0 x1 x2 (ix3 b t d) : EReal)) (fun d => x7 (ix1 d)) d := by
  unfold val_main_v280 val_main_v279 val_main_v278 val_main_v277 val_main_v276 val_main_v275 val_main_v274 val_main_v273 val_main_cst_29 val_main_v272 val_main_v271 val_main_cst_28 val_main_v270 val_main_v269 val_main_cst_27 val_main_v268
  generalize val_main_v22 (F := Ideal) x0 x1 x2 = y0
  pointwise
  rfl

theorem v294_at (d : Fin 64) :
    (val_main_v294 (F := Ideal) x0 x1 x2 x12 (ix4 b t 0 d) : EReal) = Proj.norm Proj.w64 (fun d : Fin 64 => (val_main_v23 (F := Ideal) x0 x1 x2 (ix3 b t d) : EReal)) (fun d => x12 (ix1 d)) d := by
  unfold val_main_v294 val_main_v293 val_main_v292 val_main_v291 val_main_v290 val_main_v289 val_main_v288 val_main_v287 val_main_v286 val_main_cst_32 val_main_v285 val_main_v284 val_main_cst_31 val_main_v283 val_main_v282 val_main_cst_30 val_main_v281
  generalize val_main_v23 (F := Ideal) x0 x1 x2 = y0
  pointwise
  rfl

theorem v343_at (h : Fin 8) (d : Fin 128) :
    (val_main_v343 (F := Ideal) x0 x1 x2 x7 x8 x10 (ix4 b t h d) : EReal) = Proj.norm Proj.w128 (fun d : Fin 128 => (val_main_v330 (F := Ideal) x0 x1 x2 x7 x8 (ix4 b t h d) : EReal)) (fun d => x10 (ix1 d)) d := by
  unfold val_main_v343 val_main_v342 val_main_v341 val_main_v340 val_main_v339 val_main_v338 val_main_v337 val_main_v336 val_main_cst_37 val_main_v335 val_main_v334 val_main_cst_36 val_main_v333 val_main_v332 val_main_cst_35 val_main_v331
  generalize val_main_v330 (F := Ideal) x0 x1 x2 x7 x8 = y0
  pointwise
  rfl

theorem v206_at (h : Fin 8) (d : Fin 128) :
    (val_main_v206 (F := Ideal) x0 x1 x2 x5 x6 (ix4 b t h d) : EReal) = (∑ r : Fin 256, (val_main_v204 (F := Ideal) x0 x1 x2 x5 (ix3 b t r) : EReal) * x6 (ix3 r h ⟨d.val, by omega⟩) : EReal) := by
  unfold val_main_v206 val_main_v205
  generalize val_main_v204 (F := Ideal) x0 x1 x2 x5 = y0
  pointwise

theorem v220_at (h : Fin 8) (d : Fin 64) :
    (val_main_v220 (F := Ideal) x0 x1 x2 x5 x6 (ix4 b t h d) : EReal) = (∑ r : Fin 256, (val_main_v204 (F := Ideal) x0 x1 x2 x5 (ix3 b t r) : EReal) * x6 (ix3 r h ⟨128 + d.val, by omega⟩) : EReal) := by
  unfold val_main_v220 val_main_v205
  generalize val_main_v204 (F := Ideal) x0 x1 x2 x5 = y0
  pointwise

theorem v330_at (h : Fin 8) (d : Fin 128) :
    (val_main_v330 (F := Ideal) x0 x1 x2 x7 x8 (ix4 b t h d) : EReal) = (∑ r : Fin 256, (val_main_v280 (F := Ideal) x0 x1 x2 x7 (ix3 b t r) : EReal) * x8 (ix3 r h d) : EReal) := by
  unfold val_main_v330
  generalize val_main_v280 (F := Ideal) x0 x1 x2 x7 = y0
  pointwise

theorem v349_at (j : Fin 2048) :
    (val_main_v349 (F := Ideal) x0 x1 x2 (ix3 b t j) : EReal) = Ideal.div (Ideal.ofBits .f32 0x3F800000#32) (Ideal.ofBits .f32 0x3F800000#32 + Ideal.exp (-(val_main_v24 (F := Ideal) x0 x1 x2 (ix3 b t j) : EReal))) := by
  unfold val_main_v349 val_main_v348 val_main_cst_39 val_main_v347 val_main_v346 val_main_cst_38 val_main_v345 val_main_v344
  generalize val_main_v24 (F := Ideal) x0 x1 x2 = y0
  pointwise

theorem v51_at (j : Fin 16) : (val_main_v51 (F := Ideal) (ix2 t j) : EReal) = Proj.cosine Proj.b32 t.val j.val := by
  unfold val_main_v51 val_main_v50 val_main_v49 val_main_v48 val_main_v47 val_main_v46 val_main_v45 val_main_v44 val_main_v43 val_main_cst_6 val_main_v42 val_main_v41 val_main_cst_5 val_main_v40 val_main_v39 val_main_v0
  pointwise
  rfl

theorem v53_at (j : Fin 16) : (val_main_v53 (F := Ideal) (ix2 t j) : EReal) = Proj.sine Proj.b32 t.val j.val := by
  unfold val_main_v53 val_main_v50 val_main_v49 val_main_v48 val_main_v47 val_main_v46 val_main_v45 val_main_v44 val_main_v43 val_main_cst_6 val_main_v42 val_main_v41 val_main_cst_5 val_main_v40 val_main_v39 val_main_v0
  pointwise
  rfl

theorem v99_at (j : Fin 16) : (val_main_v99 (F := Ideal) (ix2 t j) : EReal) = Proj.cosine Proj.b32 t.val j.val := by
  unfold val_main_v99 val_main_v98 val_main_v97 val_main_v96 val_main_v95 val_main_v94 val_main_v93 val_main_v92 val_main_v91 val_main_cst_11 val_main_v90 val_main_v89 val_main_cst_10 val_main_v88 val_main_v87 val_main_v0
  pointwise
  rfl

theorem v101_at (j : Fin 16) : (val_main_v101 (F := Ideal) (ix2 t j) : EReal) = Proj.sine Proj.b32 t.val j.val := by
  unfold val_main_v101 val_main_v98 val_main_v97 val_main_v96 val_main_v95 val_main_v94 val_main_v93 val_main_v92 val_main_v91 val_main_cst_11 val_main_v90 val_main_v89 val_main_cst_10 val_main_v88 val_main_v87 val_main_v0
  pointwise
  rfl

theorem v134_at (j : Fin 8) : (val_main_v134 (F := Ideal) (ix2 t j) : EReal) = Proj.cosine Proj.b16 t.val j.val := by
  unfold val_main_v134 val_main_v133 val_main_v132 val_main_v131 val_main_v130 val_main_v129 val_main_v128 val_main_v127 val_main_v126 val_main_cst_13 val_main_v125 val_main_v124 val_main_cst_12 val_main_v123 val_main_v122 val_main_v0
  pointwise
  rfl

theorem v136_at (j : Fin 8) : (val_main_v136 (F := Ideal) (ix2 t j) : EReal) = Proj.sine Proj.b16 t.val j.val := by
  unfold val_main_v136 val_main_v133 val_main_v132 val_main_v131 val_main_v130 val_main_v129 val_main_v128 val_main_v127 val_main_v126 val_main_cst_13 val_main_v125 val_main_v124 val_main_cst_12 val_main_v123 val_main_v122 val_main_v0
  pointwise
  rfl

theorem v169_at (j : Fin 8) : (val_main_v169 (F := Ideal) (ix2 t j) : EReal) = Proj.cosine Proj.b16 t.val j.val := by
  unfold val_main_v169 val_main_v168 val_main_v167 val_main_v166 val_main_v165 val_main_v164 val_main_v163 val_main_v162 val_main_v161 val_main_cst_15 val_main_v160 val_main_v159 val_main_cst_14 val_main_v158 val_main_v157 val_main_v0
  pointwise
  rfl

theorem v171_at (j : Fin 8) : (val_main_v171 (F := Ideal) (ix2 t j) : EReal) = Proj.sine Proj.b16 t.val j.val := by
  unfold val_main_v171 val_main_v168 val_main_v167 val_main_v166 val_main_v165 val_main_v164 val_main_v163 val_main_v162 val_main_v161 val_main_cst_15 val_main_v160 val_main_v159 val_main_cst_14 val_main_v158 val_main_v157 val_main_v0
  pointwise
  rfl

theorem v246_at (j : Fin 32) : (val_main_v246 (F := Ideal) (ix2 t j) : EReal) = Proj.cosine Proj.b64 t.val j.val := by
  unfold val_main_v246 val_main_v245 val_main_v244 val_main_v243 val_main_v242 val_main_v241 val_main_v240 val_main_v239 val_main_v238 val_main_cst_26 val_main_v237 val_main_v236 val_main_cst_25 val_main_v235 val_main_v234 val_main_v0
  pointwise
  rfl

theorem v248_at (j : Fin 32) : (val_main_v248 (F := Ideal) (ix2 t j) : EReal) = Proj.sine Proj.b64 t.val j.val := by
  unfold val_main_v248 val_main_v245 val_main_v244 val_main_v243 val_main_v242 val_main_v241 val_main_v240 val_main_v239 val_main_v238 val_main_cst_26 val_main_v237 val_main_v236 val_main_cst_25 val_main_v235 val_main_v234 val_main_v0
  pointwise
  rfl

theorem v307_at (j : Fin 32) : (val_main_v307 (F := Ideal) (ix2 t j) : EReal) = Proj.cosine Proj.b64 t.val j.val := by
  unfold val_main_v307 val_main_v306 val_main_v305 val_main_v304 val_main_v303 val_main_v302 val_main_v301 val_main_v300 val_main_v299 val_main_cst_34 val_main_v298 val_main_v297 val_main_cst_33 val_main_v296 val_main_v295 val_main_v0
  pointwise
  rfl

theorem v309_at (j : Fin 32) : (val_main_v309 (F := Ideal) (ix2 t j) : EReal) = Proj.sine Proj.b64 t.val j.val := by
  unfold val_main_v309 val_main_v306 val_main_v305 val_main_v304 val_main_v303 val_main_v302 val_main_v301 val_main_v300 val_main_v299 val_main_cst_34 val_main_v298 val_main_v297 val_main_cst_33 val_main_v296 val_main_v295 val_main_v0
  pointwise
  rfl

theorem v72_at (h : Fin 8) (d : Fin 128) : (val_main_v72 (F := Ideal) x0 x1 x2 x3 (ix4 b t h d) : EReal)
    = Proj.rope 16 (by decide) (Proj.cosine Proj.b32 t.val) (Proj.sine Proj.b32 t.val)
      (fun d : Fin 128 => (val_main_v38 (F := Ideal) x0 x1 x2 x3 (ix4 b t h d) : EReal)) d := by
  have hC := v51_at t
  have hS := v53_at t
  unfold val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v52
  generalize val_main_v38 (F := Ideal) x0 x1 x2 x3 = y
  generalize val_main_v51 (F := Ideal) = c at hC ⊢
  generalize val_main_v53 (F := Ideal) = s at hS ⊢
  pointwise
  simp only [hC, hS]
  unfold Proj.rope
  by_cases h₁ : d.val < 16
  · simp only [dif_pos h₁, Nat.add_comm 16] <;> rfl
  · by_cases h₂ : d.val - 16 < 16
    · have e : 16 + (d.val - 16) = d.val := by omega
      simp only [dif_neg h₁, dif_pos h₂, if_pos (show d.val < 2 * 16 by omega), e] <;> rfl
    · have e : 32 + (d.val - 16 - 16) = d.val := by omega
      simp only [dif_neg h₁, dif_neg h₂, if_neg (show ¬ d.val < 2 * 16 by omega), e] <;> rfl

theorem v120_at (h : Fin 4) (d : Fin 128) : (val_main_v120 (F := Ideal) x0 x1 x2 x4 (ix4 b t h d) : EReal)
    = Proj.rope 16 (by decide) (Proj.cosine Proj.b32 t.val) (Proj.sine Proj.b32 t.val)
      (fun d : Fin 128 => (val_main_v86 (F := Ideal) x0 x1 x2 x4 (ix4 b t h d) : EReal)) d := by
  have hC := v99_at t
  have hS := v101_at t
  unfold val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v100
  generalize val_main_v86 (F := Ideal) x0 x1 x2 x4 = y
  generalize val_main_v99 (F := Ideal) = c at hC ⊢
  generalize val_main_v101 (F := Ideal) = s at hS ⊢
  pointwise
  simp only [hC, hS]
  unfold Proj.rope
  by_cases h₁ : d.val < 16
  · simp only [dif_pos h₁, Nat.add_comm 16] <;> rfl
  · by_cases h₂ : d.val - 16 < 16
    · have e : 16 + (d.val - 16) = d.val := by omega
      simp only [dif_neg h₁, dif_pos h₂, if_pos (show d.val < 2 * 16 by omega), e] <;> rfl
    · have e : 32 + (d.val - 16 - 16) = d.val := by omega
      simp only [dif_neg h₁, dif_neg h₂, if_neg (show ¬ d.val < 2 * 16 by omega), e] <;> rfl

theorem v155_at (h : Fin 8) (d : Fin 64) : (val_main_v155 (F := Ideal) x0 x1 x2 (ix4 b t h d) : EReal)
    = Proj.rope 8 (by decide) (Proj.cosine Proj.b16 t.val) (Proj.sine Proj.b16 t.val)
      (fun d : Fin 64 => (val_main_v121 (F := Ideal) x0 x1 x2 (ix4 b t h d) : EReal)) d := by
  have hC := v134_at t
  have hS := v136_at t
  unfold val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v135
  generalize val_main_v121 (F := Ideal) x0 x1 x2 = y
  generalize val_main_v134 (F := Ideal) = c at hC ⊢
  generalize val_main_v136 (F := Ideal) = s at hS ⊢
  pointwise
  simp only [hC, hS]
  unfold Proj.rope
  by_cases h₁ : d.val < 8
  · simp only [dif_pos h₁, Nat.add_comm 8] <;> rfl
  · by_cases h₂ : d.val - 8 < 8
    · have e : 8 + (d.val - 8) = d.val := by omega
      simp only [dif_neg h₁, dif_pos h₂, if_pos (show d.val < 2 * 8 by omega), e] <;> rfl
    · have e : 16 + (d.val - 8 - 8) = d.val := by omega
      simp only [dif_neg h₁, dif_neg h₂, if_neg (show ¬ d.val < 2 * 8 by omega), e] <;> rfl

theorem v190_at (d : Fin 64) : (val_main_v190 (F := Ideal) x0 x1 x2 (ix4 b t 0 d) : EReal)
    = Proj.rope 8 (by decide) (Proj.cosine Proj.b16 t.val) (Proj.sine Proj.b16 t.val)
      (fun d : Fin 64 => (val_main_v156 (F := Ideal) x0 x1 x2 (ix4 b t 0 d) : EReal)) d := by
  have hC := v169_at t
  have hS := v171_at t
  unfold val_main_v190 val_main_v189 val_main_v188 val_main_v187 val_main_v186 val_main_v185 val_main_v184 val_main_v183 val_main_v182 val_main_v181 val_main_v180 val_main_v179 val_main_v178 val_main_v177 val_main_v176 val_main_v175 val_main_v174 val_main_v173 val_main_v172 val_main_v170
  generalize val_main_v156 (F := Ideal) x0 x1 x2 = y
  generalize val_main_v169 (F := Ideal) = c at hC ⊢
  generalize val_main_v171 (F := Ideal) = s at hS ⊢
  pointwise
  simp only [hC, hS]
  unfold Proj.rope
  by_cases h₁ : d.val < 8
  · simp only [dif_pos h₁, Nat.add_comm 8] <;> rfl
  · by_cases h₂ : d.val - 8 < 8
    · have e : 8 + (d.val - 8) = d.val := by omega
      simp only [dif_neg h₁, dif_pos h₂, if_pos (show d.val < 2 * 8 by omega), e] <;> rfl
    · have e : 16 + (d.val - 8 - 8) = d.val := by omega
      simp only [dif_neg h₁, dif_neg h₂, if_neg (show ¬ d.val < 2 * 8 by omega), e] <;> rfl

theorem v267_at (h : Fin 8) (d : Fin 64) : (val_main_v267 (F := Ideal) x0 x1 x2 x5 x6 x11 (ix4 b t h d) : EReal)
    = Proj.rope 32 (by decide) (Proj.cosine Proj.b64 t.val) (Proj.sine Proj.b64 t.val)
      (fun d : Fin 64 => (val_main_v233 (F := Ideal) x0 x1 x2 x5 x6 x11 (ix4 b t h d) : EReal)) d := by
  have hC := v246_at t
  have hS := v248_at t
  unfold val_main_v267 val_main_v266 val_main_v265 val_main_v264 val_main_v263 val_main_v262 val_main_v261 val_main_v260 val_main_v259 val_main_v258 val_main_v257 val_main_v256 val_main_v255 val_main_v254 val_main_v253 val_main_v252 val_main_v251 val_main_v250 val_main_v249 val_main_v247
  generalize val_main_v233 (F := Ideal) x0 x1 x2 x5 x6 x11 = y
  generalize val_main_v246 (F := Ideal) = c at hC ⊢
  generalize val_main_v248 (F := Ideal) = s at hS ⊢
  pointwise
  simp only [hC, hS]
  unfold Proj.rope
  by_cases h₁ : d.val < 32
  · simp only [dif_pos h₁, Nat.add_comm 32] <;> rfl
  · by_cases h₂ : d.val - 32 < 32
    · have e : 32 + (d.val - 32) = d.val := by omega
      simp only [dif_neg h₁, dif_pos h₂, if_pos (show d.val < 2 * 32 by omega), e] <;> rfl
    · have e : 64 + (d.val - 32 - 32) = d.val := by omega
      simp only [dif_neg h₁, dif_neg h₂, if_neg (show ¬ d.val < 2 * 32 by omega), e] <;> rfl

theorem v328_at (d : Fin 64) : (val_main_v328 (F := Ideal) x0 x1 x2 x12 (ix4 b t 0 d) : EReal)
    = Proj.rope 32 (by decide) (Proj.cosine Proj.b64 t.val) (Proj.sine Proj.b64 t.val)
      (fun d : Fin 64 => (val_main_v294 (F := Ideal) x0 x1 x2 x12 (ix4 b t 0 d) : EReal)) d := by
  have hC := v307_at t
  have hS := v309_at t
  unfold val_main_v328 val_main_v327 val_main_v326 val_main_v325 val_main_v324 val_main_v323 val_main_v322 val_main_v321 val_main_v320 val_main_v319 val_main_v318 val_main_v317 val_main_v316 val_main_v315 val_main_v314 val_main_v313 val_main_v312 val_main_v311 val_main_v310 val_main_v308
  generalize val_main_v294 (F := Ideal) x0 x1 x2 x12 = y
  generalize val_main_v307 (F := Ideal) = c at hC ⊢
  generalize val_main_v309 (F := Ideal) = s at hS ⊢
  pointwise
  simp only [hC, hS]
  unfold Proj.rope
  by_cases h₁ : d.val < 32
  · simp only [dif_pos h₁, Nat.add_comm 32] <;> rfl
  · by_cases h₂ : d.val - 32 < 32
    · have e : 32 + (d.val - 32) = d.val := by omega
      simp only [dif_neg h₁, dif_pos h₂, if_pos (show d.val < 2 * 32 by omega), e] <;> rfl
    · have e : 64 + (d.val - 32 - 32) = d.val := by omega
      simp only [dif_neg h₁, dif_neg h₂, if_neg (show ¬ d.val < 2 * 32 by omega), e] <;> rfl

theorem k_at (n : Fin 32768) (j : Fin 512) : (val_main_v350 (F := Ideal) x0 x1 x2 x4 (ix2 n j) : EReal) = Proj.key (zrow x0 x1 x2 ⟨n.val / 2048, by omega⟩ ⟨n.val % 2048, by omega⟩) (n.val % 2048) (fun l => x4 (ix1 l)) j := by
  have e : (val_main_v350 (F := Ideal) x0 x1 x2 x4 (ix2 n j) : EReal)
      = val_main_v120 (F := Ideal) x0 x1 x2 x4 (ix4 ⟨n.val / 2048, by omega⟩ ⟨n.val % 2048, by omega⟩ ⟨j.val / 128, by omega⟩ ⟨j.val % 128, by omega⟩) := by
    unfold val_main_v350
    generalize val_main_v120 (F := Ideal) x0 x1 x2 x4 = y
    pointwise
    try rfl
  rw [e, v120_at]
  simp only [v86_at, v73_at]
  rfl

theorem v_at (n : Fin 32768) (j : Fin 512) : (val_main_v351 (F := Ideal) x0 x1 x2 (ix2 n j) : EReal) = Proj.value (zrow x0 x1 x2 ⟨n.val / 2048, by omega⟩ ⟨n.val % 2048, by omega⟩) j := by
  have e : (val_main_v351 (F := Ideal) x0 x1 x2 (ix2 n j) : EReal)
      = val_main_v17 (F := Ideal) x0 x1 x2 (ix3 ⟨n.val / 2048, by omega⟩ ⟨n.val % 2048, by omega⟩ j) := by
    unfold val_main_v351
    generalize val_main_v17 (F := Ideal) x0 x1 x2 = y
    pointwise
    try rfl
  rw [e, v17_at]
  simp only [id]
  rfl

theorem ki_at (n : Fin 32768) (j : Fin 64) : (val_main_v352 (F := Ideal) x0 x1 x2 (ix2 n j) : EReal) = Proj.indexKey (zrow x0 x1 x2 ⟨n.val / 2048, by omega⟩ ⟨n.val % 2048, by omega⟩) (n.val % 2048) j := by
  have e : (val_main_v352 (F := Ideal) x0 x1 x2 (ix2 n j) : EReal)
      = val_main_v190 (F := Ideal) x0 x1 x2 (ix4 ⟨n.val / 2048, by omega⟩ ⟨n.val % 2048, by omega⟩ 0 j) := by
    unfold val_main_v352 val_main_v191
    generalize val_main_v190 (F := Ideal) x0 x1 x2 = y
    pointwise
    try rfl
  rw [e, v190_at]
  simp only [v156_at]
  rfl

theorem c_at (n : Fin 32768) (j : Fin 256) : (val_main_v353 (F := Ideal) x0 x1 x2 x7 (ix2 n j) : EReal) = Proj.latentKey (zrow x0 x1 x2 ⟨n.val / 2048, by omega⟩ ⟨n.val % 2048, by omega⟩) (fun l => x7 (ix1 l)) j := by
  have e : (val_main_v353 (F := Ideal) x0 x1 x2 x7 (ix2 n j) : EReal)
      = val_main_v280 (F := Ideal) x0 x1 x2 x7 (ix3 ⟨n.val / 2048, by omega⟩ ⟨n.val % 2048, by omega⟩ j) := by
    unfold val_main_v353
    generalize val_main_v280 (F := Ideal) x0 x1 x2 x7 = y
    pointwise
    try rfl
  rw [e, v280_at]
  simp only [v22_at]
  rfl

theorem kpe_at (n : Fin 32768) (j : Fin 64) : (val_main_v354 (F := Ideal) x0 x1 x2 x12 (ix2 n j) : EReal) = Proj.rotKey (zrow x0 x1 x2 ⟨n.val / 2048, by omega⟩ ⟨n.val % 2048, by omega⟩) (n.val % 2048) (fun l => x12 (ix1 l)) j := by
  have e : (val_main_v354 (F := Ideal) x0 x1 x2 x12 (ix2 n j) : EReal)
      = val_main_v328 (F := Ideal) x0 x1 x2 x12 (ix4 ⟨n.val / 2048, by omega⟩ ⟨n.val % 2048, by omega⟩ 0 j) := by
    unfold val_main_v354 val_main_v329
    generalize val_main_v328 (F := Ideal) x0 x1 x2 x12 = y
    pointwise
    try rfl
  rw [e, v328_at]
  simp only [v294_at, v23_at]
  rfl

theorem q_at (n : Fin 32768) (j : Fin 1024) : (val_main_v356 (F := Ideal) x0 x1 x2 x3 (ix2 n j) : EReal) = Proj.query (zrow x0 x1 x2 ⟨n.val / 2048, by omega⟩ ⟨n.val % 2048, by omega⟩) (n.val % 2048) (fun l => x3 (ix1 l)) j := by
  have e : (val_main_v356 (F := Ideal) x0 x1 x2 x3 (ix2 n j) : EReal)
      = val_main_v72 (F := Ideal) x0 x1 x2 x3 (ix4 ⟨n.val / 2048, by omega⟩ ⟨n.val % 2048, by omega⟩ ⟨j.val / 128, by omega⟩ ⟨j.val % 128, by omega⟩) := by
    unfold val_main_v356 val_main_v355
    generalize val_main_v72 (F := Ideal) x0 x1 x2 x3 = y
    pointwise
    try rfl
  rw [e, v72_at]
  simp only [v38_at, v25_at]
  rfl

theorem qi_at (n : Fin 32768) (j : Fin 512) : (val_main_v358 (F := Ideal) x0 x1 x2 (ix2 n j) : EReal) = Proj.indexQuery (zrow x0 x1 x2 ⟨n.val / 2048, by omega⟩ ⟨n.val % 2048, by omega⟩) (n.val % 2048) j := by
  have e : (val_main_v358 (F := Ideal) x0 x1 x2 (ix2 n j) : EReal)
      = val_main_v155 (F := Ideal) x0 x1 x2 (ix4 ⟨n.val / 2048, by omega⟩ ⟨n.val % 2048, by omega⟩ ⟨j.val / 64, by omega⟩ ⟨j.val % 64, by omega⟩) := by
    unfold val_main_v358 val_main_v357
    generalize val_main_v155 (F := Ideal) x0 x1 x2 = y
    pointwise
    try rfl
  rw [e, v155_at]
  simp only [v121_at]
  rfl

theorem qn_at (n : Fin 32768) (j : Fin 1024) : (val_main_v360 (F := Ideal) x0 x1 x2 x5 x6 x9 (ix2 n j) : EReal) = Proj.plainQuery (Proj.latentQuery (zrow x0 x1 x2 ⟨n.val / 2048, by omega⟩ ⟨n.val % 2048, by omega⟩) (fun l => x5 (ix1 l))) x6 (fun l => x9 (ix1 l)) j := by
  have e : (val_main_v360 (F := Ideal) x0 x1 x2 x5 x6 x9 (ix2 n j) : EReal)
      = val_main_v219 (F := Ideal) x0 x1 x2 x5 x6 x9 (ix4 ⟨n.val / 2048, by omega⟩ ⟨n.val % 2048, by omega⟩ ⟨j.val / 128, by omega⟩ ⟨j.val % 128, by omega⟩) := by
    unfold val_main_v360 val_main_v359
    generalize val_main_v219 (F := Ideal) x0 x1 x2 x5 x6 x9 = y
    pointwise
    try rfl
  rw [e, v219_at]
  simp only [v206_at, v204_at, v21_at]
  rfl

theorem qpe_at (n : Fin 32768) (j : Fin 512) : (val_main_v362 (F := Ideal) x0 x1 x2 x5 x6 x11 (ix2 n j) : EReal) = Proj.rotQuery (Proj.latentQuery (zrow x0 x1 x2 ⟨n.val / 2048, by omega⟩ ⟨n.val % 2048, by omega⟩) (fun l => x5 (ix1 l))) (n.val % 2048) x6 (fun l => x11 (ix1 l)) j := by
  have e : (val_main_v362 (F := Ideal) x0 x1 x2 x5 x6 x11 (ix2 n j) : EReal)
      = val_main_v267 (F := Ideal) x0 x1 x2 x5 x6 x11 (ix4 ⟨n.val / 2048, by omega⟩ ⟨n.val % 2048, by omega⟩ ⟨j.val / 64, by omega⟩ ⟨j.val % 64, by omega⟩) := by
    unfold val_main_v362 val_main_v361
    generalize val_main_v267 (F := Ideal) x0 x1 x2 x5 x6 x11 = y
    pointwise
    try rfl
  rw [e, v267_at]
  simp only [v233_at, v220_at, v204_at, v21_at]
  rfl

theorem kn_at (n : Fin 32768) (j : Fin 1024) : (val_main_v364 (F := Ideal) x0 x1 x2 x7 x8 x10 (ix2 n j) : EReal) = Proj.plainKey (Proj.latentKey (zrow x0 x1 x2 ⟨n.val / 2048, by omega⟩ ⟨n.val % 2048, by omega⟩) (fun l => x7 (ix1 l))) x8 (fun l => x10 (ix1 l)) j := by
  have e : (val_main_v364 (F := Ideal) x0 x1 x2 x7 x8 x10 (ix2 n j) : EReal)
      = val_main_v343 (F := Ideal) x0 x1 x2 x7 x8 x10 (ix4 ⟨n.val / 2048, by omega⟩ ⟨n.val % 2048, by omega⟩ ⟨j.val / 128, by omega⟩ ⟨j.val % 128, by omega⟩) := by
    unfold val_main_v364 val_main_v363
    generalize val_main_v343 (F := Ideal) x0 x1 x2 x7 x8 x10 = y
    pointwise
    try rfl
  rw [e, v343_at]
  simp only [v330_at, v280_at, v22_at]
  rfl

theorem g_at (n : Fin 32768) (j : Fin 2048) : (val_main_v365 (F := Ideal) x0 x1 x2 (ix2 n j) : EReal) = Proj.gate (zrow x0 x1 x2 ⟨n.val / 2048, by omega⟩ ⟨n.val % 2048, by omega⟩) j := by
  have e : (val_main_v365 (F := Ideal) x0 x1 x2 (ix2 n j) : EReal)
      = val_main_v349 (F := Ideal) x0 x1 x2 (ix3 ⟨n.val / 2048, by omega⟩ ⟨n.val % 2048, by omega⟩ j) := by
    unfold val_main_v365
    generalize val_main_v349 (F := Ideal) x0 x1 x2 = y
    pointwise
    try rfl
  rw [e, v349_at]
  simp only [v24_at]
  rfl

end Cert.ProjectRef

end
-- ==== Proof.ProjectSampleBlock.lean ====
/-
  The steps of the projection kernel of the sample group on one block of 128 rows: the norm of 128 lanes, the norm of each half of the lanes
  and the rotation with three lane tables, each read at one entry.
-/
module

public import proofs.«01_k».proof.Proof.Gen.ProjectSampleIdeal.Frame
public import proofs.«01_k».proof.Proof.Proj
public import Idealize.ShloMosaic.Lib.Pointwise
public import Idealize.ShloMosaic.Lib.KernelVsHost

@[expose] public section

set_option maxRecDepth 16384

noncomputable section

namespace Cert.ProjectSampleIdeal.ProjectSampleBlock

open Cert Cert.ProjectSampleIdeal Cert.ProjectSampleIdeal.Gen Idealize.ShloMosaic Idealize.ShloMosaic.TcCoe Idealize.SL.Sem

/-- The norm of the 128 lanes of every row. -/
def normV (y : FVec Ideal S128x128 .f32) (g : Vec Ideal S1x128 .f32) : FVec Ideal S128x128 .f32 :=
  mulf (mulf y (broadcastTo S128x128 (rsqrt (addf (divf (shapeCast S128x1
      (multiReduction .add [1] S128 (mulf y y) 0x00000000#32 reduces_S128x128_S128 (.inl rfl) rfl) shapeCasts_S128_S128x1)
      (broadcast S128x1 (Scalar.ofBits .f32 0x43000000#32))) (broadcast S128x1 (Scalar.ofBits .f32 0x358637BD#32))))
      broadcasts_S128x1_S128x128))
    (broadcastTo S128x128 (shapeCast S1x128 g shapeCasts_S1x128_S1x128) broadcasts_S1x128_S128x128)

theorem normV_apply (y : FVec Ideal S128x128 .f32) (g : Vec Ideal S1x128 .f32) (a : Fin 128) (l : Fin 128) :
    normV y g (ix2 a l) = Proj.norm Proj.w128 (fun d => y (ix2 a d)) (fun d => g (ix2 0 d)) l := by
  unfold normV
  pointwise
  rfl

/-- The rotation with three lane tables. -/
def lanesV (up down : BitVec 32) (y : FVec Ideal S128x128 .f32) (t₀ t₁ t₂ : Vec Ideal S128x128 .f32) :
    FVec Ideal S128x128 .f32 :=
  addf (addf (mulf y (shapeCast S128x128 t₀ shapeCasts_S128x128_S128x128))
      (mulf (dynamicRotate 1 up none y rotates_S128x128_d1) (shapeCast S128x128 t₁ shapeCasts_S128x128_S128x128)))
    (mulf (dynamicRotate 1 down none y rotates_S128x128_d1) (shapeCast S128x128 t₂ shapeCasts_S128x128_S128x128))

theorem lanesV16_apply (y : FVec Ideal S128x128 .f32) (t₀ t₁ t₂ : Vec Ideal S128x128 .f32) (a : Fin 128) (l : Fin 128) :
    lanesV 16#32 112#32 y t₀ t₁ t₂ (ix2 a l)
      = Proj.lanes 16 (fun d => y (ix2 a d)) (fun d => t₀ (ix2 a d)) (fun d => t₁ (ix2 a d)) (fun d => t₂ (ix2 a d)) l := by
  unfold lanesV
  pointwise
  rfl

theorem lanesV8_apply (y : FVec Ideal S128x128 .f32) (t₀ t₁ t₂ : Vec Ideal S128x128 .f32) (a : Fin 128) (l : Fin 128) :
    lanesV 8#32 120#32 y t₀ t₁ t₂ (ix2 a l)
      = Proj.lanes 8 (fun d => y (ix2 a d)) (fun d => t₀ (ix2 a d)) (fun d => t₁ (ix2 a d)) (fun d => t₂ (ix2 a d)) l := by
  unfold lanesV
  pointwise
  rfl

theorem lanesV32_apply (y : FVec Ideal S128x128 .f32) (t₀ t₁ t₂ : Vec Ideal S128x128 .f32) (a : Fin 128) (l : Fin 128) :
    lanesV 32#32 96#32 y t₀ t₁ t₂ (ix2 a l)
      = Proj.lanes 32 (fun d => y (ix2 a d)) (fun d => t₀ (ix2 a d)) (fun d => t₁ (ix2 a d)) (fun d => t₂ (ix2 a d)) l := by
  unfold lanesV
  pointwise
  rfl

/-- The sum over the lower half of the lanes, and over the upper half. -/
def lowV (y : FVec Ideal S128x128 .f32) : FVec Ideal S128x1 .f32 :=
  shapeCast S128x1 (multiReduction .add [1] S128 (select (broadcastTo S128x128 (shapeCast S1x128 k0_pay3
    shapeCasts_S1x128_S1x128) broadcasts_S1x128_S128x128) (mulf y y) (broadcast S128x128 (Scalar.ofBits .f32 0x00000000#32)))
    0x00000000#32 reduces_S128x128_S128 (.inl rfl) rfl) shapeCasts_S128_S128x1
def highV (y : FVec Ideal S128x128 .f32) : FVec Ideal S128x1 .f32 :=
  shapeCast S128x1 (multiReduction .add [1] S128 (select (broadcastTo S128x128 (shapeCast S1x128 k0_pay3
    shapeCasts_S1x128_S1x128) broadcasts_S1x128_S128x128) (broadcast S128x128 (Scalar.ofBits .f32 0x00000000#32)) (mulf y y))
    0x00000000#32 reduces_S128x128_S128 (.inl rfl) rfl) shapeCasts_S128_S128x1

theorem mask_apply (l : Fin 128) : k0_pay3 (ix2 0 l) = if l.val < 64 then 1#1 else 0#1 := by
  revert l
  decide +kernel

theorem lowV_apply (y : FVec Ideal S128x128 .f32) (a : Fin 128) :
    lowV y (ix2 a 0) = ∑ d : Fin 64, y (ix2 a ⟨d.val, by omega⟩) * y (ix2 a ⟨d.val, by omega⟩) := by
  have h : lowV y (ix2 a 0)
      = ∑ l : Fin 128, Scalar.select (k0_pay3 (ix2 0 l)) (y (ix2 a l) * y (ix2 a l) : EReal) 0 := by
    unfold lowV
    generalize k0_pay3 = k
    pointwise
  refine h.trans (Eq.trans (Finset.sum_congr rfl fun l _ => ?_) (Proj.sum_low fun l => y (ix2 a l) * y (ix2 a l)))
  rw [mask_apply]
  split_ifs <;> rfl

theorem highV_apply (y : FVec Ideal S128x128 .f32) (a : Fin 128) :
    highV y (ix2 a 0) = ∑ d : Fin 64, y (ix2 a ⟨64 + d.val, by omega⟩) * y (ix2 a ⟨64 + d.val, by omega⟩) := by
  have h : highV y (ix2 a 0)
      = ∑ l : Fin 128, Scalar.select (k0_pay3 (ix2 0 l)) (0 : EReal) (y (ix2 a l) * y (ix2 a l)) := by
    unfold highV
    generalize k0_pay3 = k
    pointwise
  refine h.trans (Eq.trans (Finset.sum_congr rfl fun l _ => ?_) (Proj.sum_high fun l => y (ix2 a l) * y (ix2 a l)))
  rw [mask_apply]
  split_ifs <;> rfl

/-- The norm of each half of the lanes. -/
def segV (y : FVec Ideal S128x128 .f32) (g : Vec Ideal S1x128 .f32) : FVec Ideal S128x128 .f32 :=
  mulf (mulf y (rsqrt (addf (mulf (select (broadcastTo S128x128 (shapeCast S1x128 k0_pay3 shapeCasts_S1x128_S1x128)
      broadcasts_S1x128_S128x128)
      (broadcastTo S128x128 (shapeCast S128x1 (lowV y) shapeCasts_S128x1_S128x1) broadcasts_S128x1_S128x128)
      (broadcastTo S128x128 (shapeCast S128x1 (highV y) shapeCasts_S128x1_S128x1) broadcasts_S128x1_S128x128))
      (broadcast S128x128 (Scalar.ofBits .f32 0x3C800000#32))) (broadcast S128x128 (Scalar.ofBits .f32 0x358637BD#32)))))
    (broadcastTo S128x128 (shapeCast S1x128 g shapeCasts_S1x128_S1x128) broadcasts_S1x128_S128x128)

theorem segV_apply (y : FVec Ideal S128x128 .f32) (g : Vec Ideal S1x128 .f32) (a : Fin 128) (l : Fin 128) :
    segV y g (ix2 a l) = Proj.norm Proj.w64 (fun d : Fin 64 => y (ix2 a ⟨64 * (l.val / 64) + d.val, by omega⟩))
      (fun d => g (ix2 0 ⟨64 * (l.val / 64) + d.val, by omega⟩)) ⟨l.val % 64, by omega⟩ := by
  have e : (⟨64 * (l.val / 64) + l.val % 64, by omega⟩ : Fin 128) = l := Fin.ext (by dsimp only; omega)
  have h : segV y g (ix2 a l) = y (ix2 a l) * Ideal.rsqrt (Scalar.select (k0_pay3 (ix2 0 l)) (lowV y (ix2 a 0) : EReal)
      (highV y (ix2 a 0)) * Ideal.ofBits .f32 0x3C800000#32 + Proj.eps) * g (ix2 0 l) := by
    unfold segV
    generalize k0_pay3 = k
    generalize lowV y = u
    generalize highV y = v
    pointwise
  rw [h, mask_apply, lowV_apply, highV_apply, Proj.mul_inv64]
  unfold Proj.norm
  dsimp only
  rw [e]
  by_cases hl : l.val < 64
  · have h0 : l.val / 64 = 0 := by omega
    simp only [h0, Nat.mul_zero, Nat.zero_add, if_pos hl]
    rfl
  · have h0 : l.val / 64 = 1 := by omega
    simp only [h0, Nat.mul_one, if_neg hl]
    rfl

/-- The index key in the lower lanes beside the normed key in the upper lanes. -/
def pairV (y : FVec Ideal S128x128 .f32) (g : Vec Ideal S1x128 .f32) : FVec Ideal S128x128 .f32 :=
  select (broadcastTo S128x128 (shapeCast S1x128 k0_pay3 shapeCasts_S1x128_S1x128) broadcasts_S1x128_S128x128) y
    (mulf (mulf y (broadcastTo S128x128 (rsqrt (addf (mulf (highV y) (broadcast S128x1 (Scalar.ofBits .f32 0x3C800000#32)))
      (broadcast S128x1 (Scalar.ofBits .f32 0x358637BD#32)))) broadcasts_S128x1_S128x128))
      (broadcastTo S128x128 (shapeCast S1x128 g shapeCasts_S1x128_S1x128) broadcasts_S1x128_S128x128))

theorem pairV_apply (y : FVec Ideal S128x128 .f32) (g : Vec Ideal S1x128 .f32) (a : Fin 128) (l : Fin 128) :
    pairV y g (ix2 a l) = if l.val < 64 then (y (ix2 a l) : EReal) else
      Proj.norm Proj.w64 (fun d : Fin 64 => y (ix2 a ⟨64 + d.val, by omega⟩))
      (fun d => g (ix2 0 ⟨64 + d.val, by omega⟩)) ⟨l.val % 64, by omega⟩ := by
  have h : pairV y g (ix2 a l) = Scalar.select (k0_pay3 (ix2 0 l)) (y (ix2 a l) : EReal)
      (y (ix2 a l) * Ideal.rsqrt (highV y (ix2 a 0) * Ideal.ofBits .f32 0x3C800000#32 + Proj.eps) * g (ix2 0 l)) := by
    unfold pairV
    generalize k0_pay3 = k
    generalize highV y = v
    pointwise
  rw [h, mask_apply, highV_apply, Proj.mul_inv64]
  split_ifs with hl
  · rfl
  · have e : (⟨64 + l.val % 64, by omega⟩ : Fin 128) = l := Fin.ext (by dsimp only; omega)
    unfold Proj.norm
    dsimp only
    rw [e]
    rfl

/-- The rotation of both halves at once with five lane tables. -/
def bothV (y : FVec Ideal S128x128 .f32) (t₀ t₁ t₂ t₃ t₄ : Vec Ideal S128x128 .f32) : FVec Ideal S128x128 .f32 :=
  addf (addf (lanesV 8#32 120#32 y t₀ t₁ t₂)
      (mulf (dynamicRotate 1 32#32 none y rotates_S128x128_d1) (shapeCast S128x128 t₃ shapeCasts_S128x128_S128x128)))
    (mulf (dynamicRotate 1 96#32 none y rotates_S128x128_d1) (shapeCast S128x128 t₄ shapeCasts_S128x128_S128x128))

theorem bothV_apply (y : FVec Ideal S128x128 .f32) (t₀ t₁ t₂ t₃ t₄ : Vec Ideal S128x128 .f32) (a : Fin 128) (l : Fin 128) :
    bothV y t₀ t₁ t₂ t₃ t₄ (ix2 a l)
      = Proj.lanes 8 (fun d => y (ix2 a d)) (fun d => t₀ (ix2 a d)) (fun d => t₁ (ix2 a d)) (fun d => t₂ (ix2 a d)) l
        + y (ix2 a ⟨(l.val + 128 - 32) % 128, by omega⟩) * t₃ (ix2 a l)
        + y (ix2 a ⟨(l.val + 128 - 96) % 128, by omega⟩) * t₄ (ix2 a l) := by
  rw [← lanesV8_apply]
  unfold bothV
  generalize lanesV 8#32 120#32 y t₀ t₁ t₂ = u
  pointwise

end Cert.ProjectSampleIdeal.ProjectSampleBlock

end
-- ==== Proof.ProjectSampleHost.lean ====
/-
  What the projection's call finds: the host's lane tables, all rows at the position 8192.
  The weights are rearranged as for the prompt group and keep the names given there.
-/
module

public import proofs.«01_k».proof.Proof.Gen.ProjectSampleIdeal.Frame
public import proofs.«01_k».proof.Proof.ProjectHost
public import Idealize.ShloMosaic.Lib.Pipeline.ValueKit
public import Idealize.ShloMosaic.Lib.StableHlo.RunRead

@[expose] public section

set_option maxRecDepth 16384

noncomputable section

namespace Cert.ProjectSampleIdeal.ProjectSampleHost

open Cert Cert.ProjectSampleIdeal Cert.ProjectSampleIdeal.Gen Idealize.ShloMosaic Idealize.ShloMosaic.TcCoe Idealize.SL.Sem

/-- Cosines of the first rotation. -/
def cosA : Vec Ideal S128x16 .f32 :=
  (Host.cos (mulf (broadcastInDim S128x16 ![0, 1] bcast_S128x1_S128x16_0_1 (broadcastInDim S128x1 ![0] bcast_S128_S128x1_0 (sitofp .f32 (broadcastInDim S128 ![] bcast_S_S128 (constantI S_ 32 8192#32))))) (broadcastInDim S128x16 ![0, 1] bcast_S1x16_S128x16_0_1 (broadcastInDim S1x16 ![1] bcast_S16_S1x16_1 (Host.powf (broadcastInDim S16 ![] bcast_S_S16 (constant (F := Ideal) S_ .f32 0x48F42400#32)) (mulf (Host.negf (F := Ideal) (φ := .f32) (sitofp (F := Ideal) .f32 (iotaInDim S16 32 0)) : Vec Ideal S16 .f32) (broadcastInDim S16 ![] bcast_S_S16 (constant (F := Ideal) S_ .f32 0x3D800000#32))))))))

/-- Its sines. -/
def sinA : Vec Ideal S128x16 .f32 :=
  (Host.sin (mulf (broadcastInDim S128x16 ![0, 1] bcast_S128x1_S128x16_0_1 (broadcastInDim S128x1 ![0] bcast_S128_S128x1_0 (sitofp .f32 (broadcastInDim S128 ![] bcast_S_S128 (constantI S_ 32 8192#32))))) (broadcastInDim S128x16 ![0, 1] bcast_S1x16_S128x16_0_1 (broadcastInDim S1x16 ![1] bcast_S16_S1x16_1 (Host.powf (broadcastInDim S16 ![] bcast_S_S16 (constant (F := Ideal) S_ .f32 0x48F42400#32)) (mulf (Host.negf (F := Ideal) (φ := .f32) (sitofp (F := Ideal) .f32 (iotaInDim S16 32 0)) : Vec Ideal S16 .f32) (broadcastInDim S16 ![] bcast_S_S16 (constant (F := Ideal) S_ .f32 0x3D800000#32))))))))

/-- Cosines of the index rotation. -/
def cosI : Vec Ideal S128x8 .f32 :=
  (Host.cos (mulf (broadcastInDim S128x8 ![0, 1] bcast_S128x1_S128x8_0_1 (broadcastInDim S128x1 ![0] bcast_S128_S128x1_0 (sitofp .f32 (broadcastInDim S128 ![] bcast_S_S128 (constantI S_ 32 8192#32))))) (broadcastInDim S128x8 ![0, 1] bcast_S1x8_S128x8_0_1 (broadcastInDim S1x8 ![1] bcast_S8_S1x8_1 (Host.powf (broadcastInDim S8 ![] bcast_S_S8 (constant (F := Ideal) S_ .f32 0x48F42400#32)) (mulf (Host.negf (F := Ideal) (φ := .f32) (sitofp (F := Ideal) .f32 (iotaInDim S8 32 0)) : Vec Ideal S8 .f32) (broadcastInDim S8 ![] bcast_S_S8 (constant (F := Ideal) S_ .f32 0x3E000000#32))))))))

/-- Its sines. -/
def sinI : Vec Ideal S128x8 .f32 :=
  (Host.sin (mulf (broadcastInDim S128x8 ![0, 1] bcast_S128x1_S128x8_0_1 (broadcastInDim S128x1 ![0] bcast_S128_S128x1_0 (sitofp .f32 (broadcastInDim S128 ![] bcast_S_S128 (constantI S_ 32 8192#32))))) (broadcastInDim S128x8 ![0, 1] bcast_S1x8_S128x8_0_1 (broadcastInDim S1x8 ![1] bcast_S8_S1x8_1 (Host.powf (broadcastInDim S8 ![] bcast_S_S8 (constant (F := Ideal) S_ .f32 0x48F42400#32)) (mulf (Host.negf (F := Ideal) (φ := .f32) (sitofp (F := Ideal) .f32 (iotaInDim S8 32 0)) : Vec Ideal S8 .f32) (broadcastInDim S8 ![] bcast_S_S8 (constant (F := Ideal) S_ .f32 0x3E000000#32))))))))

/-- Cosines of the latent rotation. -/
def cosM : Vec Ideal S128x32 .f32 :=
  (Host.cos (mulf (broadcastInDim S128x32 ![0, 1] bcast_S128x1_S128x32_0_1 (broadcastInDim S128x1 ![0] bcast_S128_S128x1_0 (sitofp .f32 (broadcastInDim S128 ![] bcast_S_S128 (constantI S_ 32 8192#32))))) (broadcastInDim S128x32 ![0, 1] bcast_S1x32_S128x32_0_1 (broadcastInDim S1x32 ![1] bcast_S32_S1x32_1 (Host.powf (broadcastInDim S32 ![] bcast_S_S32 (constant (F := Ideal) S_ .f32 0x48F42400#32)) (mulf (Host.negf (F := Ideal) (φ := .f32) (sitofp (F := Ideal) .f32 (iotaInDim S32 32 0)) : Vec Ideal S32 .f32) (broadcastInDim S32 ![] bcast_S_S32 (constant (F := Ideal) S_ .f32 0x3D000000#32))))))))

/-- Its sines. -/
def sinM : Vec Ideal S128x32 .f32 :=
  (Host.sin (mulf (broadcastInDim S128x32 ![0, 1] bcast_S128x1_S128x32_0_1 (broadcastInDim S128x1 ![0] bcast_S128_S128x1_0 (sitofp .f32 (broadcastInDim S128 ![] bcast_S_S128 (constantI S_ 32 8192#32))))) (broadcastInDim S128x32 ![0, 1] bcast_S1x32_S128x32_0_1 (broadcastInDim S1x32 ![1] bcast_S32_S1x32_1 (Host.powf (broadcastInDim S32 ![] bcast_S_S32 (constant (F := Ideal) S_ .f32 0x48F42400#32)) (mulf (Host.negf (F := Ideal) (φ := .f32) (sitofp (F := Ideal) .f32 (iotaInDim S32 32 0)) : Vec Ideal S32 .f32) (broadcastInDim S32 ![] bcast_S_S32 (constant (F := Ideal) S_ .f32 0x3D000000#32))))))))

/-- Lane table 0. -/
def tab0 : Vec Ideal S128x128 .f32 :=
  (concatenate S128x128 1 [⟨S128x16, cosA⟩, ⟨S128x16, cosA⟩, ⟨S128x96, (broadcastInDim S128x96 ![] bcast_S_S128x96 (constant (F := Ideal) S_ .f32 0x3F800000#32))⟩] concatenates_S128x16_S128x16_S128x96_S128x128_d1)

/-- Lane table 1. -/
def tab1 : Vec Ideal S128x128 .f32 :=
  (concatenate S128x128 1 [⟨S128x16, (broadcastInDim S128x16 ![] bcast_S_S128x16 (constant (F := Ideal) S_ .f32 0x00000000#32))⟩, ⟨S128x16, sinA⟩, ⟨S128x96, (broadcastInDim S128x96 ![] bcast_S_S128x96 (constant (F := Ideal) S_ .f32 0x00000000#32))⟩] concatenates_S128x16_S128x16_S128x96_S128x128_d1)

/-- Lane table 2. -/
def tab2 : Vec Ideal S128x128 .f32 :=
  (concatenate S128x128 1 [⟨S128x16, (Host.negf (F := Ideal) (φ := .f32) sinA : Vec Ideal S128x16 .f32)⟩, ⟨S128x16, (broadcastInDim S128x16 ![] bcast_S_S128x16 (constant (F := Ideal) S_ .f32 0x00000000#32))⟩, ⟨S128x96, (broadcastInDim S128x96 ![] bcast_S_S128x96 (constant (F := Ideal) S_ .f32 0x00000000#32))⟩] concatenates_S128x16_S128x16_S128x96_S128x128_d1)

/-- Lane table 3. -/
def tab3 : Vec Ideal S128x128 .f32 :=
  (concatenate S128x128 1 [⟨S128x8, cosI⟩, ⟨S128x8, cosI⟩, ⟨S128x48, (broadcastInDim S128x48 ![] bcast_S_S128x48 (constant (F := Ideal) S_ .f32 0x3F800000#32))⟩, ⟨S128x8, cosI⟩, ⟨S128x8, cosI⟩, ⟨S128x48, (broadcastInDim S128x48 ![] bcast_S_S128x48 (constant (F := Ideal) S_ .f32 0x3F800000#32))⟩] concatenates_S128x8_S128x8_S128x48_S128x8_S128x8_S128x48_S128x128_d1)

/-- Lane table 4. -/
def tab4 : Vec Ideal S128x128 .f32 :=
  (concatenate S128x128 1 [⟨S128x8, (broadcastInDim S128x8 ![] bcast_S_S128x8 (constant (F := Ideal) S_ .f32 0x00000000#32))⟩, ⟨S128x8, sinI⟩, ⟨S128x48, (broadcastInDim S128x48 ![] bcast_S_S128x48 (constant (F := Ideal) S_ .f32 0x00000000#32))⟩, ⟨S128x8, (broadcastInDim S128x8 ![] bcast_S_S128x8 (constant (F := Ideal) S_ .f32 0x00000000#32))⟩, ⟨S128x8, sinI⟩, ⟨S128x48, (broadcastInDim S128x48 ![] bcast_S_S128x48 (constant (F := Ideal) S_ .f32 0x00000000#32))⟩] concatenates_S128x8_S128x8_S128x48_S128x8_S128x8_S128x48_S128x128_d1)

/-- Lane table 5. -/
def tab5 : Vec Ideal S128x128 .f32 :=
  (concatenate S128x128 1 [⟨S128x8, (Host.negf (F := Ideal) (φ := .f32) sinI : Vec Ideal S128x8 .f32)⟩, ⟨S128x8, (broadcastInDim S128x8 ![] bcast_S_S128x8 (constant (F := Ideal) S_ .f32 0x00000000#32))⟩, ⟨S128x48, (broadcastInDim S128x48 ![] bcast_S_S128x48 (constant (F := Ideal) S_ .f32 0x00000000#32))⟩, ⟨S128x8, (Host.negf (F := Ideal) (φ := .f32) sinI : Vec Ideal S128x8 .f32)⟩, ⟨S128x8, (broadcastInDim S128x8 ![] bcast_S_S128x8 (constant (F := Ideal) S_ .f32 0x00000000#32))⟩, ⟨S128x48, (broadcastInDim S128x48 ![] bcast_S_S128x48 (constant (F := Ideal) S_ .f32 0x00000000#32))⟩] concatenates_S128x8_S128x8_S128x48_S128x8_S128x8_S128x48_S128x128_d1)

/-- Lane table 6. -/
def tab6 : Vec Ideal S128x128 .f32 :=
  (concatenate S128x128 1 [⟨S128x32, cosM⟩, ⟨S128x32, cosM⟩, ⟨S128x32, cosM⟩, ⟨S128x32, cosM⟩] concatenates_S128x32_S128x32_S128x32_S128x32_S128x128_d1)

/-- Lane table 7. -/
def tab7 : Vec Ideal S128x128 .f32 :=
  (concatenate S128x128 1 [⟨S128x32, (broadcastInDim S128x32 ![] bcast_S_S128x32 (constant (F := Ideal) S_ .f32 0x00000000#32))⟩, ⟨S128x32, sinM⟩, ⟨S128x32, (broadcastInDim S128x32 ![] bcast_S_S128x32 (constant (F := Ideal) S_ .f32 0x00000000#32))⟩, ⟨S128x32, sinM⟩] concatenates_S128x32_S128x32_S128x32_S128x32_S128x128_d1)

/-- Lane table 8. -/
def tab8 : Vec Ideal S128x128 .f32 :=
  (concatenate S128x128 1 [⟨S128x32, (Host.negf (F := Ideal) (φ := .f32) sinM : Vec Ideal S128x32 .f32)⟩, ⟨S128x32, (broadcastInDim S128x32 ![] bcast_S_S128x32 (constant (F := Ideal) S_ .f32 0x00000000#32))⟩, ⟨S128x32, (Host.negf (F := Ideal) (φ := .f32) sinM : Vec Ideal S128x32 .f32)⟩, ⟨S128x32, (broadcastInDim S128x32 ![] bcast_S_S128x32 (constant (F := Ideal) S_ .f32 0x00000000#32))⟩] concatenates_S128x32_S128x32_S128x32_S128x32_S128x128_d1)

/-- Lane table 9. -/
def tab9 : Vec Ideal S128x128 .f32 :=
  (concatenate S128x128 1 [⟨S128x8, cosI⟩, ⟨S128x8, cosI⟩, ⟨S128x48, (broadcastInDim S128x48 ![] bcast_S_S128x48 (constant (F := Ideal) S_ .f32 0x3F800000#32))⟩, ⟨S128x32, cosM⟩, ⟨S128x32, cosM⟩] concatenates_S128x8_S128x8_S128x48_S128x32_S128x32_S128x128_d1)

/-- Lane table 10. -/
def tab10 : Vec Ideal S128x128 .f32 :=
  (concatenate S128x128 1 [⟨S128x8, (broadcastInDim S128x8 ![] bcast_S_S128x8 (constant (F := Ideal) S_ .f32 0x00000000#32))⟩, ⟨S128x8, sinI⟩, ⟨S128x48, (broadcastInDim S128x48 ![] bcast_S_S128x48 (constant (F := Ideal) S_ .f32 0x00000000#32))⟩, ⟨S128x64, (broadcastInDim S128x64 ![] bcast_S_S128x64 (constant (F := Ideal) S_ .f32 0x00000000#32))⟩] concatenates_S128x8_S128x8_S128x48_S128x64_S128x128_d1)

/-- Lane table 11. -/
def tab11 : Vec Ideal S128x128 .f32 :=
  (concatenate S128x128 1 [⟨S128x8, (Host.negf (F := Ideal) (φ := .f32) sinI : Vec Ideal S128x8 .f32)⟩, ⟨S128x8, (broadcastInDim S128x8 ![] bcast_S_S128x8 (constant (F := Ideal) S_ .f32 0x00000000#32))⟩, ⟨S128x48, (broadcastInDim S128x48 ![] bcast_S_S128x48 (constant (F := Ideal) S_ .f32 0x00000000#32))⟩, ⟨S128x64, (broadcastInDim S128x64 ![] bcast_S_S128x64 (constant (F := Ideal) S_ .f32 0x00000000#32))⟩] concatenates_S128x8_S128x8_S128x48_S128x64_S128x128_d1)

/-- Lane table 12. -/
def tab12 : Vec Ideal S128x128 .f32 :=
  (concatenate S128x128 1 [⟨S128x64, (broadcastInDim S128x64 ![] bcast_S_S128x64 (constant (F := Ideal) S_ .f32 0x00000000#32))⟩, ⟨S128x32, (broadcastInDim S128x32 ![] bcast_S_S128x32 (constant (F := Ideal) S_ .f32 0x00000000#32))⟩, ⟨S128x32, sinM⟩] concatenates_S128x64_S128x32_S128x32_S128x128_d1)

/-- Lane table 13. -/
def tab13 : Vec Ideal S128x128 .f32 :=
  (concatenate S128x128 1 [⟨S128x64, (broadcastInDim S128x64 ![] bcast_S_S128x64 (constant (F := Ideal) S_ .f32 0x00000000#32))⟩, ⟨S128x32, (Host.negf (F := Ideal) (φ := .f32) sinM : Vec Ideal S128x32 .f32)⟩, ⟨S128x32, (broadcastInDim S128x32 ![] bcast_S_S128x32 (constant (F := Ideal) S_ .f32 0x00000000#32))⟩] concatenates_S128x64_S128x32_S128x32_S128x128_d1)

/-- The fourteen tables side by side. -/
def tabs : Vec Ideal S128x1792 .f32 :=
  (concatenate S128x1792 1 [⟨S128x128, tab0⟩, ⟨S128x128, tab1⟩, ⟨S128x128, tab2⟩, ⟨S128x128, tab3⟩, ⟨S128x128, tab4⟩, ⟨S128x128, tab5⟩, ⟨S128x128, tab6⟩, ⟨S128x128, tab7⟩, ⟨S128x128, tab8⟩, ⟨S128x128, tab9⟩, ⟨S128x128, tab10⟩, ⟨S128x128, tab11⟩, ⟨S128x128, tab12⟩, ⟨S128x128, tab13⟩] concatenates_S128x128_S128x128_S128x128_S128x128_S128x128_S128x128_S128x128_S128x128_S128x128_S128x128_S128x128_S128x128_S128x128_S128x128_S128x1792_d1)

theorem tab0_of {a0 : Vec Ideal S128x16 .f32} {a1 : Vec Ideal S128x16 .f32} {a2 : Vec Ideal S128x96 .f32} (h0 : a0 = cosA) (h1 : a1 = cosA) (h2 : a2 = (broadcastInDim S128x96 ![] bcast_S_S128x96 (constant (F := Ideal) S_ .f32 0x3F800000#32))) :
    concatenate S128x128 1 [⟨S128x16, a0⟩, ⟨S128x16, a1⟩, ⟨S128x96, a2⟩] concatenates_S128x16_S128x16_S128x96_S128x128_d1 = tab0 := by
  subst h0 h1 h2
  rfl

theorem tab1_of {a0 : Vec Ideal S128x16 .f32} {a1 : Vec Ideal S128x16 .f32} {a2 : Vec Ideal S128x96 .f32} (h0 : a0 = (broadcastInDim S128x16 ![] bcast_S_S128x16 (constant (F := Ideal) S_ .f32 0x00000000#32))) (h1 : a1 = sinA) (h2 : a2 = (broadcastInDim S128x96 ![] bcast_S_S128x96 (constant (F := Ideal) S_ .f32 0x00000000#32))) :
    concatenate S128x128 1 [⟨S128x16, a0⟩, ⟨S128x16, a1⟩, ⟨S128x96, a2⟩] concatenates_S128x16_S128x16_S128x96_S128x128_d1 = tab1 := by
  subst h0 h1 h2
  rfl

theorem tab2_of {a0 : Vec Ideal S128x16 .f32} {a1 : Vec Ideal S128x16 .f32} {a2 : Vec Ideal S128x96 .f32} (h0 : a0 = (Host.negf (F := Ideal) (φ := .f32) sinA : Vec Ideal S128x16 .f32)) (h1 : a1 = (broadcastInDim S128x16 ![] bcast_S_S128x16 (constant (F := Ideal) S_ .f32 0x00000000#32))) (h2 : a2 = (broadcastInDim S128x96 ![] bcast_S_S128x96 (constant (F := Ideal) S_ .f32 0x00000000#32))) :
    concatenate S128x128 1 [⟨S128x16, a0⟩, ⟨S128x16, a1⟩, ⟨S128x96, a2⟩] concatenates_S128x16_S128x16_S128x96_S128x128_d1 = tab2 := by
  subst h0 h1 h2
  rfl

theorem tab3_of {a0 : Vec Ideal S128x8 .f32} {a1 : Vec Ideal S128x8 .f32} {a2 : Vec Ideal S128x48 .f32} {a3 : Vec Ideal S128x8 .f32} {a4 : Vec Ideal S128x8 .f32} {a5 : Vec Ideal S128x48 .f32} (h0 : a0 = cosI) (h1 : a1 = cosI) (h2 : a2 = (broadcastInDim S128x48 ![] bcast_S_S128x48 (constant (F := Ideal) S_ .f32 0x3F800000#32))) (h3 : a3 = cosI) (h4 : a4 = cosI) (h5 : a5 = (broadcastInDim S128x48 ![] bcast_S_S128x48 (constant (F := Ideal) S_ .f32 0x3F800000#32))) :
    concatenate S128x128 1 [⟨S128x8, a0⟩, ⟨S128x8, a1⟩, ⟨S128x48, a2⟩, ⟨S128x8, a3⟩, ⟨S128x8, a4⟩, ⟨S128x48, a5⟩] concatenates_S128x8_S128x8_S128x48_S128x8_S128x8_S128x48_S128x128_d1 = tab3 := by
  subst h0 h1 h2 h3 h4 h5
  rfl

theorem tab4_of {a0 : Vec Ideal S128x8 .f32} {a1 : Vec Ideal S128x8 .f32} {a2 : Vec Ideal S128x48 .f32} {a3 : Vec Ideal S128x8 .f32} {a4 : Vec Ideal S128x8 .f32} {a5 : Vec Ideal S128x48 .f32} (h0 : a0 = (broadcastInDim S128x8 ![] bcast_S_S128x8 (constant (F := Ideal) S_ .f32 0x00000000#32))) (h1 : a1 = sinI) (h2 : a2 = (broadcastInDim S128x48 ![] bcast_S_S128x48 (constant (F := Ideal) S_ .f32 0x00000000#32))) (h3 : a3 = (broadcastInDim S128x8 ![] bcast_S_S128x8 (constant (F := Ideal) S_ .f32 0x00000000#32))) (h4 : a4 = sinI) (h5 : a5 = (broadcastInDim S128x48 ![] bcast_S_S128x48 (constant (F := Ideal) S_ .f32 0x00000000#32))) :
    concatenate S128x128 1 [⟨S128x8, a0⟩, ⟨S128x8, a1⟩, ⟨S128x48, a2⟩, ⟨S128x8, a3⟩, ⟨S128x8, a4⟩, ⟨S128x48, a5⟩] concatenates_S128x8_S128x8_S128x48_S128x8_S128x8_S128x48_S128x128_d1 = tab4 := by
  subst h0 h1 h2 h3 h4 h5
  rfl

theorem tab5_of {a0 : Vec Ideal S128x8 .f32} {a1 : Vec Ideal S128x8 .f32} {a2 : Vec Ideal S128x48 .f32} {a3 : Vec Ideal S128x8 .f32} {a4 : Vec Ideal S128x8 .f32} {a5 : Vec Ideal S128x48 .f32} (h0 : a0 = (Host.negf (F := Ideal) (φ := .f32) sinI : Vec Ideal S128x8 .f32)) (h1 : a1 = (broadcastInDim S128x8 ![] bcast_S_S128x8 (constant (F := Ideal) S_ .f32 0x00000000#32))) (h2 : a2 = (broadcastInDim S128x48 ![] bcast_S_S128x48 (constant (F := Ideal) S_ .f32 0x00000000#32))) (h3 : a3 = (Host.negf (F := Ideal) (φ := .f32) sinI : Vec Ideal S128x8 .f32)) (h4 : a4 = (broadcastInDim S128x8 ![] bcast_S_S128x8 (constant (F := Ideal) S_ .f32 0x00000000#32))) (h5 : a5 = (broadcastInDim S128x48 ![] bcast_S_S128x48 (constant (F := Ideal) S_ .f32 0x00000000#32))) :
    concatenate S128x128 1 [⟨S128x8, a0⟩, ⟨S128x8, a1⟩, ⟨S128x48, a2⟩, ⟨S128x8, a3⟩, ⟨S128x8, a4⟩, ⟨S128x48, a5⟩] concatenates_S128x8_S128x8_S128x48_S128x8_S128x8_S128x48_S128x128_d1 = tab5 := by
  subst h0 h1 h2 h3 h4 h5
  rfl

theorem tab6_of {a0 : Vec Ideal S128x32 .f32} {a1 : Vec Ideal S128x32 .f32} {a2 : Vec Ideal S128x32 .f32} {a3 : Vec Ideal S128x32 .f32} (h0 : a0 = cosM) (h1 : a1 = cosM) (h2 : a2 = cosM) (h3 : a3 = cosM) :
    concatenate S128x128 1 [⟨S128x32, a0⟩, ⟨S128x32, a1⟩, ⟨S128x32, a2⟩, ⟨S128x32, a3⟩] concatenates_S128x32_S128x32_S128x32_S128x32_S128x128_d1 = tab6 := by
  subst h0 h1 h2 h3
  rfl

theorem tab7_of {a0 : Vec Ideal S128x32 .f32} {a1 : Vec Ideal S128x32 .f32} {a2 : Vec Ideal S128x32 .f32} {a3 : Vec Ideal S128x32 .f32} (h0 : a0 = (broadcastInDim S128x32 ![] bcast_S_S128x32 (constant (F := Ideal) S_ .f32 0x00000000#32))) (h1 : a1 = sinM) (h2 : a2 = (broadcastInDim S128x32 ![] bcast_S_S128x32 (constant (F := Ideal) S_ .f32 0x00000000#32))) (h3 : a3 = sinM) :
    concatenate S128x128 1 [⟨S128x32, a0⟩, ⟨S128x32, a1⟩, ⟨S128x32, a2⟩, ⟨S128x32, a3⟩] concatenates_S128x32_S128x32_S128x32_S128x32_S128x128_d1 = tab7 := by
  subst h0 h1 h2 h3
  rfl

theorem tab8_of {a0 : Vec Ideal S128x32 .f32} {a1 : Vec Ideal S128x32 .f32} {a2 : Vec Ideal S128x32 .f32} {a3 : Vec Ideal S128x32 .f32} (h0 : a0 = (Host.negf (F := Ideal) (φ := .f32) sinM : Vec Ideal S128x32 .f32)) (h1 : a1 = (broadcastInDim S128x32 ![] bcast_S_S128x32 (constant (F := Ideal) S_ .f32 0x00000000#32))) (h2 : a2 = (Host.negf (F := Ideal) (φ := .f32) sinM : Vec Ideal S128x32 .f32)) (h3 : a3 = (broadcastInDim S128x32 ![] bcast_S_S128x32 (constant (F := Ideal) S_ .f32 0x00000000#32))) :
    concatenate S128x128 1 [⟨S128x32, a0⟩, ⟨S128x32, a1⟩, ⟨S128x32, a2⟩, ⟨S128x32, a3⟩] concatenates_S128x32_S128x32_S128x32_S128x32_S128x128_d1 = tab8 := by
  subst h0 h1 h2 h3
  rfl

theorem tab9_of {a0 : Vec Ideal S128x8 .f32} {a1 : Vec Ideal S128x8 .f32} {a2 : Vec Ideal S128x48 .f32} {a3 : Vec Ideal S128x32 .f32} {a4 : Vec Ideal S128x32 .f32} (h0 : a0 = cosI) (h1 : a1 = cosI) (h2 : a2 = (broadcastInDim S128x48 ![] bcast_S_S128x48 (constant (F := Ideal) S_ .f32 0x3F800000#32))) (h3 : a3 = cosM) (h4 : a4 = cosM) :
    concatenate S128x128 1 [⟨S128x8, a0⟩, ⟨S128x8, a1⟩, ⟨S128x48, a2⟩, ⟨S128x32, a3⟩, ⟨S128x32, a4⟩] concatenates_S128x8_S128x8_S128x48_S128x32_S128x32_S128x128_d1 = tab9 := by
  subst h0 h1 h2 h3 h4
  rfl

theorem tab10_of {a0 : Vec Ideal S128x8 .f32} {a1 : Vec Ideal S128x8 .f32} {a2 : Vec Ideal S128x48 .f32} {a3 : Vec Ideal S128x64 .f32} (h0 : a0 = (broadcastInDim S128x8 ![] bcast_S_S128x8 (constant (F := Ideal) S_ .f32 0x00000000#32))) (h1 : a1 = sinI) (h2 : a2 = (broadcastInDim S128x48 ![] bcast_S_S128x48 (constant (F := Ideal) S_ .f32 0x00000000#32))) (h3 : a3 = (broadcastInDim S128x64 ![] bcast_S_S128x64 (constant (F := Ideal) S_ .f32 0x00000000#32))) :
    concatenate S128x128 1 [⟨S128x8, a0⟩, ⟨S128x8, a1⟩, ⟨S128x48, a2⟩, ⟨S128x64, a3⟩] concatenates_S128x8_S128x8_S128x48_S128x64_S128x128_d1 = tab10 := by
  subst h0 h1 h2 h3
  rfl

theorem tab11_of {a0 : Vec Ideal S128x8 .f32} {a1 : Vec Ideal S128x8 .f32} {a2 : Vec Ideal S128x48 .f32} {a3 : Vec Ideal S128x64 .f32} (h0 : a0 = (Host.negf (F := Ideal) (φ := .f32) sinI : Vec Ideal S128x8 .f32)) (h1 : a1 = (broadcastInDim S128x8 ![] bcast_S_S128x8 (constant (F := Ideal) S_ .f32 0x00000000#32))) (h2 : a2 = (broadcastInDim S128x48 ![] bcast_S_S128x48 (constant (F := Ideal) S_ .f32 0x00000000#32))) (h3 : a3 = (broadcastInDim S128x64 ![] bcast_S_S128x64 (constant (F := Ideal) S_ .f32 0x00000000#32))) :
    concatenate S128x128 1 [⟨S128x8, a0⟩, ⟨S128x8, a1⟩, ⟨S128x48, a2⟩, ⟨S128x64, a3⟩] concatenates_S128x8_S128x8_S128x48_S128x64_S128x128_d1 = tab11 := by
  subst h0 h1 h2 h3
  rfl

theorem tab12_of {a0 : Vec Ideal S128x64 .f32} {a1 : Vec Ideal S128x32 .f32} {a2 : Vec Ideal S128x32 .f32} (h0 : a0 = (broadcastInDim S128x64 ![] bcast_S_S128x64 (constant (F := Ideal) S_ .f32 0x00000000#32))) (h1 : a1 = (broadcastInDim S128x32 ![] bcast_S_S128x32 (constant (F := Ideal) S_ .f32 0x00000000#32))) (h2 : a2 = sinM) :
    concatenate S128x128 1 [⟨S128x64, a0⟩, ⟨S128x32, a1⟩, ⟨S128x32, a2⟩] concatenates_S128x64_S128x32_S128x32_S128x128_d1 = tab12 := by
  subst h0 h1 h2
  rfl

theorem tab13_of {a0 : Vec Ideal S128x64 .f32} {a1 : Vec Ideal S128x32 .f32} {a2 : Vec Ideal S128x32 .f32} (h0 : a0 = (broadcastInDim S128x64 ![] bcast_S_S128x64 (constant (F := Ideal) S_ .f32 0x00000000#32))) (h1 : a1 = (Host.negf (F := Ideal) (φ := .f32) sinM : Vec Ideal S128x32 .f32)) (h2 : a2 = (broadcastInDim S128x32 ![] bcast_S_S128x32 (constant (F := Ideal) S_ .f32 0x00000000#32))) :
    concatenate S128x128 1 [⟨S128x64, a0⟩, ⟨S128x32, a1⟩, ⟨S128x32, a2⟩] concatenates_S128x64_S128x32_S128x32_S128x128_d1 = tab13 := by
  subst h0 h1 h2
  rfl

theorem tabs_of {a0 : Vec Ideal S128x128 .f32} {a1 : Vec Ideal S128x128 .f32} {a2 : Vec Ideal S128x128 .f32} {a3 : Vec Ideal S128x128 .f32} {a4 : Vec Ideal S128x128 .f32} {a5 : Vec Ideal S128x128 .f32} {a6 : Vec Ideal S128x128 .f32} {a7 : Vec Ideal S128x128 .f32} {a8 : Vec Ideal S128x128 .f32} {a9 : Vec Ideal S128x128 .f32} {a10 : Vec Ideal S128x128 .f32} {a11 : Vec Ideal S128x128 .f32} {a12 : Vec Ideal S128x128 .f32} {a13 : Vec Ideal S128x128 .f32} (h0 : a0 = tab0) (h1 : a1 = tab1) (h2 : a2 = tab2) (h3 : a3 = tab3) (h4 : a4 = tab4) (h5 : a5 = tab5) (h6 : a6 = tab6) (h7 : a7 = tab7) (h8 : a8 = tab8) (h9 : a9 = tab9) (h10 : a10 = tab10) (h11 : a11 = tab11) (h12 : a12 = tab12) (h13 : a13 = tab13) :
    concatenate S128x1792 1 [⟨S128x128, a0⟩, ⟨S128x128, a1⟩, ⟨S128x128, a2⟩, ⟨S128x128, a3⟩, ⟨S128x128, a4⟩, ⟨S128x128, a5⟩, ⟨S128x128, a6⟩, ⟨S128x128, a7⟩, ⟨S128x128, a8⟩, ⟨S128x128, a9⟩, ⟨S128x128, a10⟩, ⟨S128x128, a11⟩, ⟨S128x128, a12⟩, ⟨S128x128, a13⟩] concatenates_S128x128_S128x128_S128x128_S128x128_S128x128_S128x128_S128x128_S128x128_S128x128_S128x128_S128x128_S128x128_S128x128_S128x128_S128x1792_d1 = tabs := by
  subst h0 h1 h2 h3 h4 h5 h6 h7 h8 h9 h10 h11 h12 h13
  rfl

variable (m : (ℓ : Loc nD τ sig) → Buf (Elt Ideal) ℓ)

theorem read_tab0 (c : Dev nD) :
    StableHlo.upto hostOps0 (fun b => m (c, b)) 166 (Proc.tc.devRef main_v77) = tab0 := by
  after_reads_simp
  exact tab0_of (by
    show StableHlo.upto hostOps0 _ _ (Proc.tc.devRef main_v48) = _
    after_reads_simp <;> rfl) (by
    show StableHlo.upto hostOps0 _ _ (Proc.tc.devRef main_v48) = _
    after_reads_simp <;> rfl) (by
    show StableHlo.upto hostOps0 _ _ (Proc.tc.devRef main_v76) = _
    after_reads_simp <;> rfl)

theorem read_tab1 (c : Dev nD) :
    StableHlo.upto hostOps0 (fun b => m (c, b)) 166 (Proc.tc.devRef main_v80) = tab1 := by
  after_reads_simp
  exact tab1_of (by
    show StableHlo.upto hostOps0 _ _ (Proc.tc.devRef main_v78) = _
    after_reads_simp <;> rfl) (by
    show StableHlo.upto hostOps0 _ _ (Proc.tc.devRef main_v49) = _
    after_reads_simp <;> rfl) (by
    show StableHlo.upto hostOps0 _ _ (Proc.tc.devRef main_v79) = _
    after_reads_simp <;> rfl)

theorem read_tab2 (c : Dev nD) :
    StableHlo.upto hostOps0 (fun b => m (c, b)) 166 (Proc.tc.devRef main_v84) = tab2 := by
  after_reads_simp
  exact tab2_of (by
    show StableHlo.upto hostOps0 _ _ (Proc.tc.devRef main_v81) = _
    after_reads_simp <;> rfl) (by
    show StableHlo.upto hostOps0 _ _ (Proc.tc.devRef main_v82) = _
    after_reads_simp <;> rfl) (by
    show StableHlo.upto hostOps0 _ _ (Proc.tc.devRef main_v83) = _
    after_reads_simp <;> rfl)

theorem read_tab3 (c : Dev nD) :
    StableHlo.upto hostOps0 (fun b => m (c, b)) 166 (Proc.tc.devRef main_v87) = tab3 := by
  after_reads_simp
  exact tab3_of (by
    show StableHlo.upto hostOps0 _ _ (Proc.tc.devRef main_v61) = _
    after_reads_simp <;> rfl) (by
    show StableHlo.upto hostOps0 _ _ (Proc.tc.devRef main_v61) = _
    after_reads_simp <;> rfl) (by
    show StableHlo.upto hostOps0 _ _ (Proc.tc.devRef main_v85) = _
    after_reads_simp <;> rfl) (by
    show StableHlo.upto hostOps0 _ _ (Proc.tc.devRef main_v61) = _
    after_reads_simp <;> rfl) (by
    show StableHlo.upto hostOps0 _ _ (Proc.tc.devRef main_v61) = _
    after_reads_simp <;> rfl) (by
    show StableHlo.upto hostOps0 _ _ (Proc.tc.devRef main_v86) = _
    after_reads_simp <;> rfl)

theorem read_tab4 (c : Dev nD) :
    StableHlo.upto hostOps0 (fun b => m (c, b)) 166 (Proc.tc.devRef main_v92) = tab4 := by
  after_reads_simp
  exact tab4_of (by
    show StableHlo.upto hostOps0 _ _ (Proc.tc.devRef main_v88) = _
    after_reads_simp <;> rfl) (by
    show StableHlo.upto hostOps0 _ _ (Proc.tc.devRef main_v62) = _
    after_reads_simp <;> rfl) (by
    show StableHlo.upto hostOps0 _ _ (Proc.tc.devRef main_v89) = _
    after_reads_simp <;> rfl) (by
    show StableHlo.upto hostOps0 _ _ (Proc.tc.devRef main_v90) = _
    after_reads_simp <;> rfl) (by
    show StableHlo.upto hostOps0 _ _ (Proc.tc.devRef main_v62) = _
    after_reads_simp <;> rfl) (by
    show StableHlo.upto hostOps0 _ _ (Proc.tc.devRef main_v91) = _
    after_reads_simp <;> rfl)

theorem read_tab5 (c : Dev nD) :
    StableHlo.upto hostOps0 (fun b => m (c, b)) 166 (Proc.tc.devRef main_v99) = tab5 := by
  after_reads_simp
  exact tab5_of (by
    show StableHlo.upto hostOps0 _ _ (Proc.tc.devRef main_v93) = _
    after_reads_simp <;> rfl) (by
    show StableHlo.upto hostOps0 _ _ (Proc.tc.devRef main_v94) = _
    after_reads_simp <;> rfl) (by
    show StableHlo.upto hostOps0 _ _ (Proc.tc.devRef main_v95) = _
    after_reads_simp <;> rfl) (by
    show StableHlo.upto hostOps0 _ _ (Proc.tc.devRef main_v96) = _
    after_reads_simp <;> rfl) (by
    show StableHlo.upto hostOps0 _ _ (Proc.tc.devRef main_v97) = _
    after_reads_simp <;> rfl) (by
    show StableHlo.upto hostOps0 _ _ (Proc.tc.devRef main_v98) = _
    after_reads_simp <;> rfl)

theorem read_tab6 (c : Dev nD) :
    StableHlo.upto hostOps0 (fun b => m (c, b)) 166 (Proc.tc.devRef main_v100) = tab6 := by
  after_reads_simp
  exact tab6_of (by
    show StableHlo.upto hostOps0 _ _ (Proc.tc.devRef main_v74) = _
    after_reads_simp <;> rfl) (by
    show StableHlo.upto hostOps0 _ _ (Proc.tc.devRef main_v74) = _
    after_reads_simp <;> rfl) (by
    show StableHlo.upto hostOps0 _ _ (Proc.tc.devRef main_v74) = _
    after_reads_simp <;> rfl) (by
    show StableHlo.upto hostOps0 _ _ (Proc.tc.devRef main_v74) = _
    after_reads_simp <;> rfl)

theorem read_tab7 (c : Dev nD) :
    StableHlo.upto hostOps0 (fun b => m (c, b)) 166 (Proc.tc.devRef main_v103) = tab7 := by
  after_reads_simp
  exact tab7_of (by
    show StableHlo.upto hostOps0 _ _ (Proc.tc.devRef main_v101) = _
    after_reads_simp <;> rfl) (by
    show StableHlo.upto hostOps0 _ _ (Proc.tc.devRef main_v75) = _
    after_reads_simp <;> rfl) (by
    show StableHlo.upto hostOps0 _ _ (Proc.tc.devRef main_v102) = _
    after_reads_simp <;> rfl) (by
    show StableHlo.upto hostOps0 _ _ (Proc.tc.devRef main_v75) = _
    after_reads_simp <;> rfl)

theorem read_tab8 (c : Dev nD) :
    StableHlo.upto hostOps0 (fun b => m (c, b)) 166 (Proc.tc.devRef main_v108) = tab8 := by
  after_reads_simp
  exact tab8_of (by
    show StableHlo.upto hostOps0 _ _ (Proc.tc.devRef main_v104) = _
    after_reads_simp <;> rfl) (by
    show StableHlo.upto hostOps0 _ _ (Proc.tc.devRef main_v105) = _
    after_reads_simp <;> rfl) (by
    show StableHlo.upto hostOps0 _ _ (Proc.tc.devRef main_v106) = _
    after_reads_simp <;> rfl) (by
    show StableHlo.upto hostOps0 _ _ (Proc.tc.devRef main_v107) = _
    after_reads_simp <;> rfl)

theorem read_tab9 (c : Dev nD) :
    StableHlo.upto hostOps0 (fun b => m (c, b)) 166 (Proc.tc.devRef main_v110) = tab9 := by
  after_reads_simp
  exact tab9_of (by
    show StableHlo.upto hostOps0 _ _ (Proc.tc.devRef main_v61) = _
    after_reads_simp <;> rfl) (by
    show StableHlo.upto hostOps0 _ _ (Proc.tc.devRef main_v61) = _
    after_reads_simp <;> rfl) (by
    show StableHlo.upto hostOps0 _ _ (Proc.tc.devRef main_v109) = _
    after_reads_simp <;> rfl) (by
    show StableHlo.upto hostOps0 _ _ (Proc.tc.devRef main_v74) = _
    after_reads_simp <;> rfl) (by
    show StableHlo.upto hostOps0 _ _ (Proc.tc.devRef main_v74) = _
    after_reads_simp <;> rfl)

theorem read_tab10 (c : Dev nD) :
    StableHlo.upto hostOps0 (fun b => m (c, b)) 166 (Proc.tc.devRef main_v114) = tab10 := by
  after_reads_simp
  exact tab10_of (by
    show StableHlo.upto hostOps0 _ _ (Proc.tc.devRef main_v111) = _
    after_reads_simp <;> rfl) (by
    show StableHlo.upto hostOps0 _ _ (Proc.tc.devRef main_v62) = _
    after_reads_simp <;> rfl) (by
    show StableHlo.upto hostOps0 _ _ (Proc.tc.devRef main_v112) = _
    after_reads_simp <;> rfl) (by
    show StableHlo.upto hostOps0 _ _ (Proc.tc.devRef main_v113) = _
    after_reads_simp <;> rfl)

theorem read_tab11 (c : Dev nD) :
    StableHlo.upto hostOps0 (fun b => m (c, b)) 166 (Proc.tc.devRef main_v119) = tab11 := by
  after_reads_simp
  exact tab11_of (by
    show StableHlo.upto hostOps0 _ _ (Proc.tc.devRef main_v115) = _
    after_reads_simp <;> rfl) (by
    show StableHlo.upto hostOps0 _ _ (Proc.tc.devRef main_v116) = _
    after_reads_simp <;> rfl) (by
    show StableHlo.upto hostOps0 _ _ (Proc.tc.devRef main_v117) = _
    after_reads_simp <;> rfl) (by
    show StableHlo.upto hostOps0 _ _ (Proc.tc.devRef main_v118) = _
    after_reads_simp <;> rfl)

theorem read_tab12 (c : Dev nD) :
    StableHlo.upto hostOps0 (fun b => m (c, b)) 166 (Proc.tc.devRef main_v122) = tab12 := by
  after_reads_simp
  exact tab12_of (by
    show StableHlo.upto hostOps0 _ _ (Proc.tc.devRef main_v120) = _
    after_reads_simp <;> rfl) (by
    show StableHlo.upto hostOps0 _ _ (Proc.tc.devRef main_v121) = _
    after_reads_simp <;> rfl) (by
    show StableHlo.upto hostOps0 _ _ (Proc.tc.devRef main_v75) = _
    after_reads_simp <;> rfl)

theorem read_tab13 (c : Dev nD) :
    StableHlo.upto hostOps0 (fun b => m (c, b)) 166 (Proc.tc.devRef main_v126) = tab13 := by
  after_reads_simp
  exact tab13_of (by
    show StableHlo.upto hostOps0 _ _ (Proc.tc.devRef main_v123) = _
    after_reads_simp <;> rfl) (by
    show StableHlo.upto hostOps0 _ _ (Proc.tc.devRef main_v124) = _
    after_reads_simp <;> rfl) (by
    show StableHlo.upto hostOps0 _ _ (Proc.tc.devRef main_v125) = _
    after_reads_simp <;> rfl)

theorem V_v127 (c : Dev nD) : V m c main_v127 = tabs := by
  unfold V
  after_reads_simp
  exact tabs_of (read_tab0 m c) (read_tab1 m c) (read_tab2 m c) (read_tab3 m c) (read_tab4 m c) (read_tab5 m c) (read_tab6 m c) (read_tab7 m c) (read_tab8 m c) (read_tab9 m c) (read_tab10 m c) (read_tab11 m c) (read_tab12 m c) (read_tab13 m c)

theorem V_v12 (c : Dev nD) : V m c main_v12 = ProjectIdeal.ProjectHost.weights (m ((c : Thread nD τ).loc main_arg2)) := by
  unfold V
  after_reads_simp
  rfl

theorem V_v18 (c : Dev nD) : V m c main_v18 = ProjectIdeal.ProjectHost.queryUp (m ((c : Thread nD τ).loc main_arg6)) := by
  unfold V
  after_reads_simp
  rfl

theorem V_v25 (c : Dev nD) : V m c main_v25 = ProjectIdeal.ProjectHost.keyUp (m ((c : Thread nD τ).loc main_arg8)) := by
  unfold V
  after_reads_simp
  rfl

theorem V_v31 (c : Dev nD) : V m c main_v31 = ProjectIdeal.ProjectHost.gainPair (m ((c : Thread nD τ).loc main_arg11)) := by
  unfold V
  after_reads_simp
  rfl

theorem V_v34 (c : Dev nD) : V m c main_v34 = ProjectIdeal.ProjectHost.gainHigh (m ((c : Thread nD τ).loc main_arg12)) := by
  unfold V
  after_reads_simp
  rfl

end Cert.ProjectSampleIdeal.ProjectSampleHost

end
-- ==== Proof.ProjectSampleTables.lean ====
/-
  The entries of the lane tables of the sample group: every row is at position 8192.
-/
module

public import proofs.«01_k».proof.Proof.ProjectSampleHost
public import proofs.«01_k».proof.Proof.Proj
public import Idealize.ShloMosaic.Lib.Pointwise

@[expose] public section

set_option maxRecDepth 16384

noncomputable section

namespace Cert.ProjectSampleIdeal.ProjectSampleHost

open Cert Cert.ProjectSampleIdeal Cert.ProjectSampleIdeal.Gen Idealize.ShloMosaic Idealize.ShloMosaic.TcCoe Idealize.SL.Sem

theorem cosA_apply (p : Fin 128) (j : Fin 16) : cosA (ix2 p j) = Proj.cosine Proj.b32 8192 j.val := by
  unfold cosA
  pointwise
  rfl

theorem sinA_apply (p : Fin 128) (j : Fin 16) : sinA (ix2 p j) = Proj.sine Proj.b32 8192 j.val := by
  unfold sinA
  pointwise
  rfl

theorem cosI_apply (p : Fin 128) (j : Fin 8) : cosI (ix2 p j) = Proj.cosine Proj.b16 8192 j.val := by
  unfold cosI
  pointwise
  rfl

theorem sinI_apply (p : Fin 128) (j : Fin 8) : sinI (ix2 p j) = Proj.sine Proj.b16 8192 j.val := by
  unfold sinI
  pointwise
  rfl

theorem cosM_apply (p : Fin 128) (j : Fin 32) : cosM (ix2 p j) = Proj.cosine Proj.b64 8192 j.val := by
  unfold cosM
  pointwise
  rfl

theorem sinM_apply (p : Fin 128) (j : Fin 32) : sinM (ix2 p j) = Proj.sine Proj.b64 8192 j.val := by
  unfold sinM
  pointwise
  rfl

theorem tab0_apply (p : Fin 128) (l : Fin 128) : tab0 (ix2 p l) = Proj.tabCos 128 16 (Proj.cosine Proj.b32 8192) l := by
  unfold tab0
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab1_apply (p : Fin 128) (l : Fin 128) : tab1 (ix2 p l) = Proj.tabUp 128 16 (Proj.sine Proj.b32 8192) l := by
  unfold tab1
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab2_apply (p : Fin 128) (l : Fin 128) : tab2 (ix2 p l) = Proj.tabDown 128 16 (Proj.sine Proj.b32 8192) l := by
  unfold tab2
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab3_apply (p : Fin 128) (l : Fin 128) : tab3 (ix2 p l) = Proj.tabCos 64 8 (Proj.cosine Proj.b16 8192) l := by
  unfold tab3
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab4_apply (p : Fin 128) (l : Fin 128) : tab4 (ix2 p l) = Proj.tabUp 64 8 (Proj.sine Proj.b16 8192) l := by
  unfold tab4
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab5_apply (p : Fin 128) (l : Fin 128) : tab5 (ix2 p l) = Proj.tabDown 64 8 (Proj.sine Proj.b16 8192) l := by
  unfold tab5
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab6_apply (p : Fin 128) (l : Fin 128) : tab6 (ix2 p l) = Proj.tabCos 64 32 (Proj.cosine Proj.b64 8192) l := by
  unfold tab6
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab7_apply (p : Fin 128) (l : Fin 128) : tab7 (ix2 p l) = Proj.tabUp 64 32 (Proj.sine Proj.b64 8192) l := by
  unfold tab7
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab8_apply (p : Fin 128) (l : Fin 128) : tab8 (ix2 p l) = Proj.tabDown 64 32 (Proj.sine Proj.b64 8192) l := by
  unfold tab8
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab9_apply (p : Fin 128) (l : Fin 128) :
    tab9 (ix2 p l) = if l.val < 64 then Proj.tabCos 64 8 (Proj.cosine Proj.b16 8192) l else Proj.tabCos 64 32 (Proj.cosine Proj.b64 8192) l := by
  unfold tab9
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab10_apply (p : Fin 128) (l : Fin 128) :
    tab10 (ix2 p l) = if l.val < 64 then Proj.tabUp 64 8 (Proj.sine Proj.b16 8192) l else 0 := by
  unfold tab10
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab11_apply (p : Fin 128) (l : Fin 128) :
    tab11 (ix2 p l) = if l.val < 64 then Proj.tabDown 64 8 (Proj.sine Proj.b16 8192) l else 0 := by
  unfold tab11
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab12_apply (p : Fin 128) (l : Fin 128) :
    tab12 (ix2 p l) = if l.val < 64 then 0 else Proj.tabUp 64 32 (Proj.sine Proj.b64 8192) l := by
  unfold tab12
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tab13_apply (p : Fin 128) (l : Fin 128) :
    tab13 (ix2 p l) = if l.val < 64 then 0 else Proj.tabDown 64 32 (Proj.sine Proj.b64 8192) l := by
  unfold tab13
  pointwise
  simp only [cosA_apply, sinA_apply, cosI_apply, sinI_apply, cosM_apply, sinM_apply, Proj.tabCos, Proj.tabUp, Proj.tabDown]
  split_ifs <;> first | omega | rfl | (congr 1; omega) | (congr 2; omega) | exact Ideal.ofBits_one_f32

theorem tabs_at0 (p : Fin 128) (l : Fin 128) : tabs (ix2 p ⟨0 + l.val, by omega⟩) = tab0 (ix2 p l) := by
  unfold tabs
  exact concatenate_apply_piece (t := S128x1792) 1 _ _ (ix2 p ⟨0 + l.val, by omega⟩) 0 (by show 0 < 14; decide) S128x128 tab0 rfl rfl 0 (by rfl) (ix2 p l)
    (fun b hb => by fin_cases b; · rfl
                    · exact absurd rfl hb) rfl

theorem tabs_at1 (p : Fin 128) (l : Fin 128) : tabs (ix2 p ⟨128 + l.val, by omega⟩) = tab1 (ix2 p l) := by
  unfold tabs
  exact concatenate_apply_piece (t := S128x1792) 1 _ _ (ix2 p ⟨128 + l.val, by omega⟩) 1 (by show 1 < 14; decide) S128x128 tab1 rfl rfl 128 (by rfl) (ix2 p l)
    (fun b hb => by fin_cases b; · rfl
                    · exact absurd rfl hb) rfl

theorem tabs_at2 (p : Fin 128) (l : Fin 128) : tabs (ix2 p ⟨256 + l.val, by omega⟩) = tab2 (ix2 p l) := by
  unfold tabs
  exact concatenate_apply_piece (t := S128x1792) 1 _ _ (ix2 p ⟨256 + l.val, by omega⟩) 2 (by show 2 < 14; decide) S128x128 tab2 rfl rfl 256 (by rfl) (ix2 p l)
    (fun b hb => by fin_cases b; · rfl
                    · exact absurd rfl hb) rfl

theorem tabs_at3 (p : Fin 128) (l : Fin 128) : tabs (ix2 p ⟨384 + l.val, by omega⟩) = tab3 (ix2 p l) := by
  unfold tabs
  exact concatenate_apply_piece (t := S128x1792) 1 _ _ (ix2 p ⟨384 + l.val, by omega⟩) 3 (by show 3 < 14; decide) S128x128 tab3 rfl rfl 384 (by rfl) (ix2 p l)
    (fun b hb => by fin_cases b; · rfl
                    · exact absurd rfl hb) rfl

theorem tabs_at4 (p : Fin 128) (l : Fin 128) : tabs (ix2 p ⟨512 + l.val, by omega⟩) = tab4 (ix2 p l) := by
  unfold tabs
  exact concatenate_apply_piece (t := S128x1792) 1 _ _ (ix2 p ⟨512 + l.val, by omega⟩) 4 (by show 4 < 14; decide) S128x128 tab4 rfl rfl 512 (by rfl) (ix2 p l)
    (fun b hb => by fin_cases b; · rfl
                    · exact absurd rfl hb) rfl

theorem tabs_at5 (p : Fin 128) (l : Fin 128) : tabs (ix2 p ⟨640 + l.val, by omega⟩) = tab5 (ix2 p l) := by
  unfold tabs
  exact concatenate_apply_piece (t := S128x1792) 1 _ _ (ix2 p ⟨640 + l.val, by omega⟩) 5 (by show 5 < 14; decide) S128x128 tab5 rfl rfl 640 (by rfl) (ix2 p l)
    (fun b hb => by fin_cases b; · rfl
                    · exact absurd rfl hb) rfl

theorem tabs_at6 (p : Fin 128) (l : Fin 128) : tabs (ix2 p ⟨768 + l.val, by omega⟩) = tab6 (ix2 p l) := by
  unfold tabs
  exact concatenate_apply_piece (t := S128x1792) 1 _ _ (ix2 p ⟨768 + l.val, by omega⟩) 6 (by show 6 < 14; decide) S128x128 tab6 rfl rfl 768 (by rfl) (ix2 p l)
    (fun b hb => by fin_cases b; · rfl
                    · exact absurd rfl hb) rfl

theorem tabs_at7 (p : Fin 128) (l : Fin 128) : tabs (ix2 p ⟨896 + l.val, by omega⟩) = tab7 (ix2 p l) := by
  unfold tabs
  exact concatenate_apply_piece (t := S128x1792) 1 _ _ (ix2 p ⟨896 + l.val, by omega⟩) 7 (by show 7 < 14; decide) S128x128 tab7 rfl rfl 896 (by rfl) (ix2 p l)
    (fun b hb => by fin_cases b; · rfl
                    · exact absurd rfl hb) rfl

theorem tabs_at8 (p : Fin 128) (l : Fin 128) : tabs (ix2 p ⟨1024 + l.val, by omega⟩) = tab8 (ix2 p l) := by
  unfold tabs
  exact concatenate_apply_piece (t := S128x1792) 1 _ _ (ix2 p ⟨1024 + l.val, by omega⟩) 8 (by show 8 < 14; decide) S128x128 tab8 rfl rfl 1024 (by rfl) (ix2 p l)
    (fun b hb => by fin_cases b; · rfl
                    · exact absurd rfl hb) rfl

theorem tabs_at9 (p : Fin 128) (l : Fin 128) : tabs (ix2 p ⟨1152 + l.val, by omega⟩) = tab9 (ix2 p l) := by
  unfold tabs
  exact concatenate_apply_piece (t := S128x1792) 1 _ _ (ix2 p ⟨1152 + l.val, by omega⟩) 9 (by show 9 < 14; decide) S128x128 tab9 rfl rfl 1152 (by rfl) (ix2 p l)
    (fun b hb => by fin_cases b; · rfl
                    · exact absurd rfl hb) rfl

theorem tabs_at10 (p : Fin 128) (l : Fin 128) : tabs (ix2 p ⟨1280 + l.val, by omega⟩) = tab10 (ix2 p l) := by
  unfold tabs
  exact concatenate_apply_piece (t := S128x1792) 1 _ _ (ix2 p ⟨1280 + l.val, by omega⟩) 10 (by show 10 < 14; decide) S128x128 tab10 rfl rfl 1280 (by rfl) (ix2 p l)
    (fun b hb => by fin_cases b; · rfl
                    · exact absurd rfl hb) rfl

theorem tabs_at11 (p : Fin 128) (l : Fin 128) : tabs (ix2 p ⟨1408 + l.val, by omega⟩) = tab11 (ix2 p l) := by
  unfold tabs
  exact concatenate_apply_piece (t := S128x1792) 1 _ _ (ix2 p ⟨1408 + l.val, by omega⟩) 11 (by show 11 < 14; decide) S128x128 tab11 rfl rfl 1408 (by rfl) (ix2 p l)
    (fun b hb => by fin_cases b; · rfl
                    · exact absurd rfl hb) rfl

theorem tabs_at12 (p : Fin 128) (l : Fin 128) : tabs (ix2 p ⟨1536 + l.val, by omega⟩) = tab12 (ix2 p l) := by
  unfold tabs
  exact concatenate_apply_piece (t := S128x1792) 1 _ _ (ix2 p ⟨1536 + l.val, by omega⟩) 12 (by show 12 < 14; decide) S128x128 tab12 rfl rfl 1536 (by rfl) (ix2 p l)
    (fun b hb => by fin_cases b; · rfl
                    · exact absurd rfl hb) rfl

theorem tabs_at13 (p : Fin 128) (l : Fin 128) : tabs (ix2 p ⟨1664 + l.val, by omega⟩) = tab13 (ix2 p l) := by
  unfold tabs
  exact concatenate_apply_piece (t := S128x1792) 1 _ _ (ix2 p ⟨1664 + l.val, by omega⟩) 13 (by show 13 < 14; decide) S128x128 tab13 rfl rfl 1664 (by rfl) (ix2 p l)
    (fun b hb => by fin_cases b; · rfl
                    · exact absurd rfl hb) rfl

end Cert.ProjectSampleIdeal.ProjectSampleHost

end
-- ==== Proof.ProjectSamplePieces.lean ====
/-
  The blocks that the projection kernel of the sample group leaves, entry by entry, from the blocks it finds.
-/
module

public import proofs.«01_k».proof.Proof.ProjectSampleBlock
public import proofs.«01_k».proof.Proof.ProjectSampleTables
public import proofs.«01_k».proof.Proof.ProjectPieces

@[expose] public section

set_option maxRecDepth 16384

noncomputable section

namespace Cert.ProjectSampleIdeal.ProjectSamplePieces

open Cert Cert.ProjectSampleIdeal Cert.ProjectSampleIdeal.Gen Idealize.ShloMosaic Idealize.ShloMosaic.TcCoe Idealize.SL.Sem ProjectSampleHost
  ProjectSampleBlock
open _root_.Cert.ProjectIdeal.ProjectHost (weights queryUp keyUp gainPair gainHigh weights_q weights_k weights_v weights_qi weights_ki weights_pe weights_qa
  weights_kva weights_g queryUp_plain queryUp_rot keyUp_apply gainPair_apply gainHigh_apply)
open _root_.Cert.ProjectIdeal.ProjectPieces (ld_at emb_at query_at key_at indexQuery_at plainQuery_at plainKey_at rotQuery_at)

/-- The blocks of a point: 128 rows of the input, their rows of the tables, and the weights. -/
structure Block (x0 : Vec Ideal S128x1024 .f32) (x1 : Vec Ideal S128x1792 .f32) (x2 : Vec Ideal S1x1024 .f32)
    (x3 : Vec Ideal S1024x5376 .bf16) (x4 x5 : Vec Ideal S1x128 .f32) (x6 : Vec Ideal S1x256 .f32)
    (x7 : Vec Ideal S256x1536 .bf16) (x8 : Vec Ideal S1x256 .f32) (x9 : Vec Ideal S256x1024 .bf16)
    (x10 x11 x12 x13 : Vec Ideal S1x128 .f32)
    (X : Fin 128 → Fin 1024 → EReal) (a1 : Vec Ideal S1024 .f32) (a2 : Vec Ideal S1024x5256 .f32)
    (a3 a4 : Vec Ideal S128 .f32) (a5 : Vec Ideal S256 .f32) (a6 : Vec Ideal S256x8x192 .f32) (a7 : Vec Ideal S256 .f32)
    (a8 : Vec Ideal S256x8x128 .f32) (a9 a10 : Vec Ideal S128 .f32) (a11 a12 : Vec Ideal S64 .f32) : Prop where
  rows : ∀ a k, x0 (ix2 a k) = X a k
  tables : ∀ a c, x1 (ix2 a c) = tabs (ix2 a c)
  gain1 : ∀ k, x2 (ix2 0 k) = a1 (ix1 k)
  weight : x3 = weights a2
  gainQ : ∀ l, x4 (ix2 0 l) = a3 (ix1 l)
  gainK : ∀ l, x5 (ix2 0 l) = a4 (ix1 l)
  gainQa : ∀ l, x6 (ix2 0 l) = a5 (ix1 l)
  upQ : x7 = queryUp a6
  gainKva : ∀ l, x8 (ix2 0 l) = a7 (ix1 l)
  upK : x9 = keyUp a8
  gainQn : ∀ l, x10 (ix2 0 l) = a9 (ix1 l)
  gainKn : ∀ l, x11 (ix2 0 l) = a10 (ix1 l)
  gainQr : x12 = gainPair a11
  gainKr : x13 = gainHigh a12

/-- The entries of a slice of 128 columns. -/
theorem slice_at {W off : ℕ} (Z : (⟨2, ![128, W]⟩ : Shape).Idx → EReal) (h : (⟨2, ![128, W]⟩ : Shape).Slices ![0, off] S128x128)
    (a : Fin 128) (d : Fin 128) (k : Fin W) (hk : k.val = off + d.val) :
    extractStridedSlice S128x128 ![0, off] Z h (ix2 a d) = Z (ix2 a k) :=
  congrArg Z (funext fun b => by
    match b with
    | ⟨0, _⟩ => exact Fin.ext (by show 0 + a.val = a.val; omega)
    | ⟨1, _⟩ => exact Fin.ext (by show off + d.val = k.val; omega))

section steps

variable (y : FVec Ideal S128x128 .f32) (g : Vec Ideal S1x128 .f32) (t₀ t₁ t₂ : Vec Ideal S128x128 .f32)
  (a : Fin 128) (l : Fin 128)

/-- A normed and rotated head of 128 lanes. -/
theorem headPiece (h₀ : ∀ l, t₀ (ix2 a l) = tab0 (ix2 a l)) (h₁ : ∀ l, t₁ (ix2 a l) = tab1 (ix2 a l))
    (h₂ : ∀ l, t₂ (ix2 a l) = tab2 (ix2 a l)) :
    lanesV 16#32 112#32 (normV y g) t₀ t₁ t₂ (ix2 a l)
      = Proj.rope 16 (by decide) (Proj.cosine Proj.b32 8192) (Proj.sine Proj.b32 8192)
          (Proj.norm Proj.w128 (fun d => y (ix2 a d)) (fun d => g (ix2 0 d))) l := by
  rw [lanesV16_apply, ← Proj.lanes_whole 16 (by decide)]
  simp only [h₀, h₁, h₂, tab0_apply, tab1_apply, tab2_apply, normV_apply]

/-- Two rotated heads of 64 lanes. -/
theorem indexPiece (h₀ : ∀ l, t₀ (ix2 a l) = tab3 (ix2 a l)) (h₁ : ∀ l, t₁ (ix2 a l) = tab4 (ix2 a l))
    (h₂ : ∀ l, t₂ (ix2 a l) = tab5 (ix2 a l)) :
    lanesV 8#32 120#32 y t₀ t₁ t₂ (ix2 a l)
      = Proj.rope 8 (by decide) (Proj.cosine Proj.b16 8192) (Proj.sine Proj.b16 8192)
          (fun d : Fin 64 => y (ix2 a ⟨64 * (l.val / 64) + d.val, by omega⟩)) ⟨l.val % 64, by omega⟩ := by
  rw [lanesV8_apply, ← Proj.lanes_half 8 (by decide) (by decide) _ _ (fun d => y (ix2 a d))]
  simp only [h₀, h₁, h₂, tab3_apply, tab4_apply, tab5_apply]

/-- Two normed and rotated heads of 64 lanes. -/
theorem rotPiece (h₀ : ∀ l, t₀ (ix2 a l) = tab6 (ix2 a l)) (h₁ : ∀ l, t₁ (ix2 a l) = tab7 (ix2 a l))
    (h₂ : ∀ l, t₂ (ix2 a l) = tab8 (ix2 a l)) (γ : Fin 64 → EReal)
    (hγ : ∀ l : Fin 128, g (ix2 0 l) = γ ⟨l.val % 64, by omega⟩) :
    lanesV 32#32 96#32 (segV y g) t₀ t₁ t₂ (ix2 a l)
      = Proj.rope 32 (by decide) (Proj.cosine Proj.b64 8192) (Proj.sine Proj.b64 8192)
          (Proj.norm Proj.w64 (fun d : Fin 64 => y (ix2 a ⟨64 * (l.val / 64) + d.val, by omega⟩)) γ)
          ⟨l.val % 64, by omega⟩ := by
  have e : (fun d : Fin 64 => segV y g (ix2 a ⟨64 * (l.val / 64) + d.val, by omega⟩))
      = Proj.norm Proj.w64 (fun d : Fin 64 => y (ix2 a ⟨64 * (l.val / 64) + d.val, by omega⟩)) γ := by
    funext d
    rw [segV_apply]
    have e₁ : (64 * (l.val / 64) + d.val) / 64 = l.val / 64 := by omega
    have e₂ : (64 * (l.val / 64) + d.val) % 64 = d.val := by omega
    have e₃ (d : Fin 64) : (64 * (l.val / 64) + d.val) % 64 = d.val := by omega
    simp only [e₁, e₂, e₃, hγ]
  rw [lanesV32_apply, ← e, ← Proj.lanes_half 32 (by decide) (by decide) _ _ (fun d => segV y g (ix2 a d))]
  simp only [h₀, h₁, h₂, tab6_apply, tab7_apply, tab8_apply]

end steps

/-! ### The products -/

theorem normed_apply (x0 : Vec Ideal S128x1024 .f32) (x2 : Vec Ideal S1x1024 .f32) (a : Fin 128) (k : Fin 1024) :
    k0_pay2 x0 x2 (ix2 a k) = Proj.norm Proj.w1024 (fun k => x0 (ix2 a k)) (fun k => x2 (ix2 0 k)) k := by
  unfold k0_pay2
  pointwise
  rfl

theorem pay4_apply (x0 : Vec Ideal S128x1024 .f32) (x2 : Vec Ideal S1x1024 .f32) (w : Vec Ideal S1024x1024 .bf16)
    (a : Fin 128) (c : Fin 1024) :
    k0_pay4 x0 x2 w (ix2 a c) = (∑ k : Fin 1024, k0_pay2 x0 x2 (ix2 a k) * w (ix2 k c) : EReal) := by
  unfold k0_pay4
  generalize k0_pay2 x0 x2 = h
  pointwise

theorem pay29_apply (h : FVec Ideal S128x1024 .bf16) (w : Vec Ideal S1024x512 .bf16) (a : Fin 128) (c : Fin 512) :
    k0_pay29 h w (ix2 a c) = (∑ k : Fin 1024, h (ix2 a k) * w (ix2 k c) : EReal) := by
  unfold k0_pay29
  pointwise

theorem pay40_apply (h : FVec Ideal S128x1024 .bf16) (w : Vec Ideal S1024x512 .bf16) (a : Fin 128) (c : Fin 512) :
    k0_pay40 h w (ix2 a c) = (∑ k : Fin 1024, h (ix2 a k) * w (ix2 k c) : EReal) := by
  unfold k0_pay40
  pointwise

theorem pay41_apply (h : FVec Ideal S128x1024 .bf16) (w : Vec Ideal S1024x512 .bf16) (a : Fin 128) (c : Fin 512) :
    k0_pay41 h w (ix2 a c) = (∑ k : Fin 1024, h (ix2 a k) * w (ix2 k c) : EReal) := by
  unfold k0_pay41
  pointwise

theorem pay47_apply (h : FVec Ideal S128x1024 .bf16) (w : Vec Ideal S1024x128 .bf16) (a : Fin 128) (c : Fin 128) :
    k0_pay47 h w (ix2 a c) = (∑ k : Fin 1024, h (ix2 a k) * w (ix2 k c) : EReal) := by
  unfold k0_pay47
  pointwise

theorem pay91_apply (h : FVec Ideal S128x1024 .bf16) (w : Vec Ideal S1024x256 .bf16) (a : Fin 128) (c : Fin 256) :
    k0_pay91 h w (ix2 a c) = (∑ k : Fin 1024, h (ix2 a k) * w (ix2 k c) : EReal) := by
  unfold k0_pay91
  pointwise

theorem pay1_apply (h : FVec Ideal S128x1024 .bf16) (w : Vec Ideal S1024x2048 .bf16) (a : Fin 128) (c : Fin 2048) :
    k0_pay1 h w (ix2 a c) = Ideal.div (Ideal.ofBits .f32 0x3F800000#32)
      (Ideal.ofBits .f32 0x3F800000#32 + Ideal.exp (-(∑ k : Fin 1024, h (ix2 a k) * w (ix2 k c) : EReal))) := by
  unfold k0_pay1
  pointwise
  simp only [zero_sub]

theorem pay58_apply (h : FVec Ideal S128x256 .bf16) (w : Vec Ideal S256x1536 .bf16) (a : Fin 128) (c : Fin 1536) :
    k0_pay58 h (k0_pay57 w) (constant S128x1536 .f32 0x00000000#32) (ix2 a c)
      = (∑ k : Fin 256, h (ix2 a k) * w (ix2 k c) : EReal) := by
  unfold k0_pay58 k0_pay57
  pointwise

theorem pay96_apply (z : FVec Ideal S128x256 .f32) (g : FVec Ideal S1x256 .f32) (u v : FVec Ideal S128x1 .f32)
    (w : Vec Ideal S256x1024 .bf16) (a : Fin 128) (c : Fin 1024) :
    k0_pay96 z g u v w (ix2 a c) = (∑ k : Fin 256, k0_pay95 z g u v (ix2 a k) * w (ix2 k c) : EReal) := by
  unfold k0_pay96
  generalize k0_pay95 z g u v = h
  pointwise

/-- The norm of a product of 256 columns. -/
theorem norm256_apply (z : FVec Ideal S128x256 .f32) (g : Vec Ideal S1x256 .f32) (a : Fin 128) (l : Fin 256) :
    mulf (mulf z (broadcastTo S128x256 (rsqrt (addf (divf (shapeCast S128x1
      (multiReduction .add [1] S128 (mulf z z) 0x00000000#32 reduces_S128x256_S128 (.inl rfl) rfl) shapeCasts_S128_S128x1)
      (broadcast S128x1 (Scalar.ofBits .f32 0x43800000#32))) (broadcast S128x1 (Scalar.ofBits .f32 0x358637BD#32))))
      broadcasts_S128x1_S128x256))
    (broadcastTo S128x256 (shapeCast S1x256 g shapeCasts_S1x256_S1x256) broadcasts_S1x256_S128x256) (ix2 a l)
      = Proj.norm Proj.w256 (fun d => z (ix2 a d)) (fun d => g (ix2 0 d)) l := by
  pointwise
  rfl

end Cert.ProjectSampleIdeal.ProjectSamplePieces

end
-- ==== Proof.ProjectSampleOut.lean ====
/-
  The arrays that the projection kernel of the sample group leaves at a point, entry by entry: each store is a band of columns of a result.
-/
module

public import proofs.«01_k».proof.Proof.ProjectSamplePieces
public import Idealize.ShloMosaic.Lib.Pipeline.ValueKit

@[expose] public section

set_option maxRecDepth 16384

noncomputable section

namespace Cert.ProjectSampleIdeal.ProjectSamplePieces

open Cert Cert.ProjectSampleIdeal Cert.ProjectSampleIdeal.Gen Idealize.ShloMosaic Idealize.ShloMosaic.TcCoe Idealize.SL.Sem ProjectSampleHost
  ProjectSampleBlock
open _root_.Cert.ProjectIdeal.ProjectHost (weights queryUp keyUp gainPair gainHigh weights_q weights_k weights_v weights_qi weights_ki weights_pe weights_qa
  weights_kva weights_g queryUp_plain queryUp_rot keyUp_apply gainPair_apply gainHigh_apply)
open _root_.Cert.ProjectIdeal.ProjectPieces (ld_at emb_at query_at key_at indexQuery_at plainQuery_at plainKey_at rotQuery_at)

/-- A store of a band of columns holds the band of a result. -/
theorem piece_at {W B o : ℕ} (f : Fin 128 → Fin W → EReal)
    (inb : ∀ a, (![0, o] : Fin 2 → ℕ) a + (![128, B] : Fin 2 → ℕ) a ≤ (⟨2, ![128, W]⟩ : Shape).size a)
    (P : (⟨2, ![128, B]⟩ : Shape).Idx → EReal) (hW : o + B ≤ W)
    (h : ∀ a (d : Fin B), P (ix2 a d) = f a ⟨o + d.val, by omega⟩) (w : (⟨2, ![128, B]⟩ : Shape).Idx) :
    P w = (fun i : (⟨2, ![128, W]⟩ : Shape).Idx => f (i 0) (i 1))
      ((Rect.unit (s := ⟨2, ![128, W]⟩) ![0, o] ![128, B] inb).emb w) := by
  obtain ⟨a, d, rfl⟩ : ∃ a d, w = ix2 a d := ⟨w 0, w 1, eq_ix2 w⟩
  exact (h a d).trans (congrArg (fun i : (⟨2, ![128, W]⟩ : Shape).Idx => f (i 0) (i 1))
    (emb_at inb a d a ⟨o + d.val, by omega⟩ (by omega) rfl).symm)

/-- The row of the first product. -/
def zrow (X : Fin 128 → Fin 1024 → EReal) (a1 : Vec Ideal S1024 .f32) (a2 : Vec Ideal S1024x5256 .f32) (a : Fin 128) :
    Fin 5256 → EReal := Proj.proj (X a) (fun k => a1 (ix1 k)) a2

/-- The entries of a slice of 64 columns. -/
theorem slice64_at {off : ℕ} (Z : S128x128.Idx → EReal) (h : S128x128.Slices ![0, off] S128x64)
    (a : Fin 128) (d : Fin 64) (k : Fin 128) (hk : k.val = off + d.val) :
    extractStridedSlice S128x64 ![0, off] Z h (ix2 a d) = Z (ix2 a k) :=
  congrArg Z (funext fun b => by
    match b with
    | ⟨0, _⟩ => exact Fin.ext (by show 0 + a.val = a.val; omega)
    | ⟨1, _⟩ => exact Fin.ext (by show off + d.val = k.val; omega))

section block

variable {x0 : Vec Ideal S128x1024 .f32} {x1 : Vec Ideal S128x1792 .f32} {x2 : Vec Ideal S1x1024 .f32}
    {x3 : Vec Ideal S1024x5376 .bf16} {x4 x5 : Vec Ideal S1x128 .f32} {x6 : Vec Ideal S1x256 .f32}
    {x7 : Vec Ideal S256x1536 .bf16} {x8 : Vec Ideal S1x256 .f32} {x9 : Vec Ideal S256x1024 .bf16}
    {x10 x11 x12 x13 : Vec Ideal S1x128 .f32}
    {X : Fin 128 → Fin 1024 → EReal} {a1 : Vec Ideal S1024 .f32} {a2 : Vec Ideal S1024x5256 .f32}
    {a3 a4 : Vec Ideal S128 .f32} {a5 : Vec Ideal S256 .f32} {a6 : Vec Ideal S256x8x192 .f32} {a7 : Vec Ideal S256 .f32}
    {a8 : Vec Ideal S256x8x128 .f32} {a9 a10 : Vec Ideal S128 .f32} {a11 a12 : Vec Ideal S64 .f32}
    (B : Block x0 x1 x2 x3 x4 x5 x6 x7 x8 x9 x10 x11 x12 x13 X a1 a2 a3 a4 a5 a6 a7 a8 a9 a10 a11 a12)
include B

/-! ### Loads -/

theorem hidden (a : Fin 128) (k : Fin 1024) :
    k0_pay111 x0 x1 x2 x3 x4 x5 x6 x7 x8 x9 x10 x11 x12 x13 (ix2 a k) = Proj.norm Proj.w1024 (X a) (fun k => a1 (ix1 k)) k := by
  show k0_pay2 (View.ld x0 r0_0) (View.ld x2 r0_1) (ix2 a k) = _
  rw [normed_apply]
  have e0 (k : Fin 1024) : View.ld x0 r0_0 (ix2 a k) = X a k := (ld_at (o := 0) (p := 0) x0 _ a k a k (by omega) (by omega)).trans (B.rows a k)
  have e2 (k : Fin 1024) : View.ld x2 r0_1 (ix2 0 k) = a1 (ix1 k) := (ld_at (o := 0) (p := 0) x2 _ 0 k 0 k rfl (by omega)).trans (B.gain1 k)
  simp only [e0, e2]

theorem table0 (a : Fin 128) (l : Fin 128) : View.ld x1 r0_4 (ix2 a l) = tab0 (ix2 a l) :=
  (ld_at x1 _ a l a ⟨0 + l.val, by omega⟩ (by omega) rfl).trans ((B.tables a _).trans (tabs_at0 a l))
theorem table1 (a : Fin 128) (l : Fin 128) : View.ld x1 r0_5 (ix2 a l) = tab1 (ix2 a l) :=
  (ld_at x1 _ a l a ⟨128 + l.val, by omega⟩ (by omega) rfl).trans ((B.tables a _).trans (tabs_at1 a l))
theorem table2 (a : Fin 128) (l : Fin 128) : View.ld x1 r0_6 (ix2 a l) = tab2 (ix2 a l) :=
  (ld_at x1 _ a l a ⟨256 + l.val, by omega⟩ (by omega) rfl).trans ((B.tables a _).trans (tabs_at2 a l))
theorem table3 (a : Fin 128) (l : Fin 128) : View.ld x1 r0_23 (ix2 a l) = tab3 (ix2 a l) :=
  (ld_at x1 _ a l a ⟨384 + l.val, by omega⟩ (by omega) rfl).trans ((B.tables a _).trans (tabs_at3 a l))
theorem table4 (a : Fin 128) (l : Fin 128) : View.ld x1 r0_24 (ix2 a l) = tab4 (ix2 a l) :=
  (ld_at x1 _ a l a ⟨512 + l.val, by omega⟩ (by omega) rfl).trans ((B.tables a _).trans (tabs_at4 a l))
theorem table5 (a : Fin 128) (l : Fin 128) : View.ld x1 r0_25 (ix2 a l) = tab5 (ix2 a l) :=
  (ld_at x1 _ a l a ⟨640 + l.val, by omega⟩ (by omega) rfl).trans ((B.tables a _).trans (tabs_at5 a l))
theorem table6 (a : Fin 128) (l : Fin 128) : View.ld x1 r0_38 (ix2 a l) = tab6 (ix2 a l) :=
  (ld_at x1 _ a l a ⟨768 + l.val, by omega⟩ (by omega) rfl).trans ((B.tables a _).trans (tabs_at6 a l))
theorem table7 (a : Fin 128) (l : Fin 128) : View.ld x1 r0_39 (ix2 a l) = tab7 (ix2 a l) :=
  (ld_at x1 _ a l a ⟨896 + l.val, by omega⟩ (by omega) rfl).trans ((B.tables a _).trans (tabs_at7 a l))
theorem table8 (a : Fin 128) (l : Fin 128) : View.ld x1 r0_40 (ix2 a l) = tab8 (ix2 a l) :=
  (ld_at x1 _ a l a ⟨1024 + l.val, by omega⟩ (by omega) rfl).trans ((B.tables a _).trans (tabs_at8 a l))
theorem table9 (a : Fin 128) (l : Fin 128) : View.ld x1 r0_27 (ix2 a l) = tab9 (ix2 a l) :=
  (ld_at x1 _ a l a ⟨1152 + l.val, by omega⟩ (by omega) rfl).trans ((B.tables a _).trans (tabs_at9 a l))
theorem table10 (a : Fin 128) (l : Fin 128) : View.ld x1 r0_28 (ix2 a l) = tab10 (ix2 a l) :=
  (ld_at x1 _ a l a ⟨1280 + l.val, by omega⟩ (by omega) rfl).trans ((B.tables a _).trans (tabs_at10 a l))
theorem table11 (a : Fin 128) (l : Fin 128) : View.ld x1 r0_29 (ix2 a l) = tab11 (ix2 a l) :=
  (ld_at x1 _ a l a ⟨1408 + l.val, by omega⟩ (by omega) rfl).trans ((B.tables a _).trans (tabs_at11 a l))
theorem table12 (a : Fin 128) (l : Fin 128) : View.ld x1 r0_30 (ix2 a l) = tab12 (ix2 a l) :=
  (ld_at x1 _ a l a ⟨1536 + l.val, by omega⟩ (by omega) rfl).trans ((B.tables a _).trans (tabs_at12 a l))
theorem table13 (a : Fin 128) (l : Fin 128) : View.ld x1 r0_31 (ix2 a l) = tab13 (ix2 a l) :=
  (ld_at x1 _ a l a ⟨1664 + l.val, by omega⟩ (by omega) rfl).trans ((B.tables a _).trans (tabs_at13 a l))

theorem cols_q (k : Fin 1024) (c : Fin 1024) : View.ld x3 r0_2 (ix2 k c) = a2 (ix2 k ⟨0 + c.val, by omega⟩) :=
  (ld_at x3 _ k c k ⟨0 + c.val, by omega⟩ (by omega) rfl).trans (by rw [B.weight]; exact weights_q a2 k c)
theorem cols_k (k : Fin 1024) (c : Fin 512) : View.ld x3 r0_15 (ix2 k c) = a2 (ix2 k ⟨1024 + c.val, by omega⟩) :=
  (ld_at x3 _ k c k ⟨1024 + c.val, by omega⟩ (by omega) rfl).trans (by rw [B.weight]; exact weights_k a2 k c)
theorem cols_v (k : Fin 1024) (c : Fin 512) : View.ld x3 r0_20 (ix2 k c) = a2 (ix2 k ⟨1536 + c.val, by omega⟩) :=
  (ld_at x3 _ k c k ⟨1536 + c.val, by omega⟩ (by omega) rfl).trans (by rw [B.weight]; exact weights_v a2 k c)
theorem cols_qi (k : Fin 1024) (c : Fin 512) : View.ld x3 r0_22 (ix2 k c) = a2 (ix2 k ⟨2048 + c.val, by omega⟩) :=
  (ld_at x3 _ k c k ⟨2048 + c.val, by omega⟩ (by omega) rfl).trans (by rw [B.weight]; exact weights_qi a2 k c)
theorem cols_qa (k : Fin 1024) (c : Fin 256) : View.ld x3 r0_35 (ix2 k c) = a2 (ix2 k ⟨2632 + c.val, by omega⟩) :=
  (ld_at x3 _ k c k ⟨2816 + c.val, by omega⟩ (by omega) rfl).trans (by rw [B.weight]; exact weights_qa a2 k c)
theorem cols_kva (k : Fin 1024) (c : Fin 256) : View.ld x3 r0_41 (ix2 k c) = a2 (ix2 k ⟨2888 + c.val, by omega⟩) :=
  (ld_at x3 _ k c k ⟨3072 + c.val, by omega⟩ (by omega) rfl).trans (by rw [B.weight]; exact weights_kva a2 k c)
theorem cols_g (k : Fin 1024) (c : Fin 2048) : View.ld x3 r0_44 (ix2 k c) = a2 (ix2 k ⟨3208 + c.val, by omega⟩) :=
  (ld_at x3 _ k c k ⟨3328 + c.val, by omega⟩ (by omega) rfl).trans (by rw [B.weight]; exact weights_g a2 k c)
theorem cols_ki (k : Fin 1024) (c : Fin 64) :
    View.ld x3 r0_26 (ix2 k ⟨c.val, by omega⟩) = a2 (ix2 k ⟨2560 + c.val, by omega⟩) :=
  (ld_at (o := 0) (B := 128) x3 _ k ⟨c.val, by omega⟩ k ⟨2560 + c.val, by omega⟩ (by omega) rfl).trans (by rw [B.weight]; exact weights_ki a2 k c)
theorem cols_pe (k : Fin 1024) (c : Fin 64) :
    View.ld x3 r0_26 (ix2 k ⟨64 + c.val, by omega⟩) = a2 (ix2 k ⟨3144 + c.val, by omega⟩) :=
  (ld_at (o := 0) (B := 128) x3 _ k ⟨64 + c.val, by omega⟩ k ⟨2624 + c.val, by omega⟩ (by omega) (by dsimp only; omega)).trans
    (by rw [B.weight]; exact weights_pe a2 k c)

theorem ld_gainQ (l : Fin 128) : View.ld x4 r0_3 (ix2 0 l) = a3 (ix1 l) :=
  (ld_at x4 _ 0 l 0 l rfl (by omega)).trans (B.gainQ l)
theorem ld_gainK (l : Fin 128) : View.ld x5 r0_3 (ix2 0 l) = a4 (ix1 l) :=
  (ld_at x5 _ 0 l 0 l rfl (by omega)).trans (B.gainK l)
theorem ld_gainQa (l : Fin 256) : View.ld x6 r0_36 (ix2 0 l) = a5 (ix1 l) :=
  (ld_at x6 _ 0 l 0 l rfl (by omega)).trans (B.gainQa l)
theorem ld_gainKva (l : Fin 256) : View.ld x8 r0_36 (ix2 0 l) = a7 (ix1 l) :=
  (ld_at x8 _ 0 l 0 l rfl (by omega)).trans (B.gainKva l)
theorem ld_gainQn (l : Fin 128) : View.ld x10 r0_3 (ix2 0 l) = a9 (ix1 l) :=
  (ld_at x10 _ 0 l 0 l rfl (by omega)).trans (B.gainQn l)
theorem ld_gainKn (l : Fin 128) : View.ld x11 r0_3 (ix2 0 l) = a10 (ix1 l) :=
  (ld_at x11 _ 0 l 0 l rfl (by omega)).trans (B.gainKn l)
theorem ld_gainQr (l : Fin 128) : View.ld x12 r0_3 (ix2 0 l) = a11 (ix1 ⟨l.val % 64, by omega⟩) :=
  (ld_at x12 _ 0 l 0 l rfl (by omega)).trans (by rw [B.gainQr]; exact gainPair_apply a11 l)
theorem ld_gainKr (d : Fin 64) : View.ld x13 r0_3 (ix2 0 ⟨64 + d.val, by omega⟩) = a12 (ix1 d) :=
  (ld_at x13 _ 0 ⟨64 + d.val, by omega⟩ 0 ⟨64 + d.val, by omega⟩ rfl (by omega)).trans
    (by rw [B.gainKr]; exact gainHigh_apply a12 d)

/-! ### The products -/

/-- A product of the normed rows is a band of the first product. -/
theorem row_eq {W : ℕ} (w : (⟨2, ![1024, W]⟩ : Shape).Idx → EReal) (a : Fin 128) (c : Fin W) (e : Fin 5256)
    (h : ∀ k : Fin 1024, w (ix2 k c) = a2 (ix2 k e)) :
    (∑ k : Fin 1024, (k0_pay111 x0 x1 x2 x3 x4 x5 x6 x7 x8 x9 x10 x11 x12 x13 (ix2 a k) : EReal) * w (ix2 k c)) = zrow X a1 a2 a e :=
  Finset.sum_congr rfl fun k _ => congrArg₂ (fun u v : EReal => u * v) (hidden B a k) (h k)

theorem zQ (a : Fin 128) (c : Fin 1024) : k0_pay113 x0 x1 x2 x3 x4 x5 x6 x7 x8 x9 x10 x11 x12 x13 (ix2 a c) = zrow X a1 a2 a ⟨c.val, by omega⟩ :=
  (pay4_apply _ _ _ a c).trans (row_eq B _ a c _ fun k =>
    (cols_q B k c).trans (congrArg (fun e => a2 (ix2 k e)) (Fin.ext (Nat.zero_add _))))
theorem zK (a : Fin 128) (c : Fin 512) : k0_pay114 x0 x1 x2 x3 x4 x5 x6 x7 x8 x9 x10 x11 x12 x13 (ix2 a c) = zrow X a1 a2 a ⟨1024 + c.val, by omega⟩ :=
  (pay29_apply _ _ a c).trans (row_eq B _ a c _ fun k => cols_k B k c)
theorem zV (a : Fin 128) (c : Fin 512) :
    k0_pay40 (k0_pay111 x0 x1 x2 x3 x4 x5 x6 x7 x8 x9 x10 x11 x12 x13) (View.ld x3 r0_20) (ix2 a c) = zrow X a1 a2 a ⟨1536 + c.val, by omega⟩ :=
  (pay40_apply _ _ a c).trans (row_eq B _ a c _ fun k => cols_v B k c)
theorem zQi (a : Fin 128) (c : Fin 512) :
    k0_pay41 (k0_pay111 x0 x1 x2 x3 x4 x5 x6 x7 x8 x9 x10 x11 x12 x13) (View.ld x3 r0_22) (ix2 a c) = zrow X a1 a2 a ⟨2048 + c.val, by omega⟩ :=
  (pay41_apply _ _ a c).trans (row_eq B _ a c _ fun k => cols_qi B k c)
theorem zKi (a : Fin 128) (c : Fin 64) :
    k0_pay115 x0 x1 x2 x3 x4 x5 x6 x7 x8 x9 x10 x11 x12 x13 (ix2 a ⟨c.val, by omega⟩) = zrow X a1 a2 a ⟨2560 + c.val, by omega⟩ :=
  (pay47_apply _ _ a ⟨c.val, by omega⟩).trans (row_eq B _ a _ _ fun k => cols_ki B k c)
theorem zPe (a : Fin 128) (c : Fin 64) :
    k0_pay115 x0 x1 x2 x3 x4 x5 x6 x7 x8 x9 x10 x11 x12 x13 (ix2 a ⟨64 + c.val, by omega⟩) = zrow X a1 a2 a ⟨3144 + c.val, by omega⟩ :=
  (pay47_apply _ _ a ⟨64 + c.val, by omega⟩).trans (row_eq B _ a _ _ fun k => cols_pe B k c)
theorem zQa (a : Fin 128) (r : Fin 256) :
    k0_pay91 (k0_pay111 x0 x1 x2 x3 x4 x5 x6 x7 x8 x9 x10 x11 x12 x13) (View.ld x3 r0_35) (ix2 a r) = zrow X a1 a2 a ⟨2632 + r.val, by omega⟩ :=
  (pay91_apply _ _ a r).trans (row_eq B _ a r _ fun k => cols_qa B k r)
theorem zKva (a : Fin 128) (r : Fin 256) : k0_pay123 x0 x1 x2 x3 x4 x5 x6 x7 x8 x9 x10 x11 x12 x13 (ix2 a r) = zrow X a1 a2 a ⟨2888 + r.val, by omega⟩ :=
  (pay91_apply _ _ a r).trans (row_eq B _ a r _ fun k => cols_kva B k r)

theorem latQ (a : Fin 128) (r : Fin 256) : k0_pay120 x0 x1 x2 x3 x4 x5 x6 x7 x8 x9 x10 x11 x12 x13 (ix2 a r) = Proj.latentQuery (zrow X a1 a2 a) (fun l => a5 (ix1 l)) r := by
  refine (norm256_apply (k0_pay91 (k0_pay111 x0 x1 x2 x3 x4 x5 x6 x7 x8 x9 x10 x11 x12 x13) (View.ld x3 r0_35)) (View.ld x6 r0_36) a r).trans ?_
  unfold Proj.latentQuery
  simp only [zQa B, ld_gainQa B]
theorem latK (a : Fin 128) (r : Fin 256) : k0_pay95 (k0_pay123 x0 x1 x2 x3 x4 x5 x6 x7 x8 x9 x10 x11 x12 x13) (k0_pay124 x0 x1 x2 x3 x4 x5 x6 x7 x8 x9 x10 x11 x12 x13) (k0_pay125 x0 x1 x2 x3 x4 x5 x6 x7 x8 x9 x10 x11 x12 x13) (k0_pay126 x0 x1 x2 x3 x4 x5 x6 x7 x8 x9 x10 x11 x12 x13) (ix2 a r)
    = Proj.latentKey (zrow X a1 a2 a) (fun l => a7 (ix1 l)) r := by
  refine (norm256_apply (k0_pay123 x0 x1 x2 x3 x4 x5 x6 x7 x8 x9 x10 x11 x12 x13) (View.ld x8 r0_36) a r).trans ?_
  unfold Proj.latentKey
  simp only [zKva B, ld_gainKva B]

theorem upQ_apply (a : Fin 128) (c : Fin 1536) : k0_pay122 x0 x1 x2 x3 x4 x5 x6 x7 x8 x9 x10 x11 x12 x13 (ix2 a c)
    = (∑ r : Fin 256, Proj.latentQuery (zrow X a1 a2 a) (fun l => a5 (ix1 l)) r * (queryUp a6 (ix2 r c) : EReal) : EReal) := by
  refine (pay58_apply (k0_pay120 x0 x1 x2 x3 x4 x5 x6 x7 x8 x9 x10 x11 x12 x13) (View.ld x7 r0_37) a c).trans (Finset.sum_congr rfl fun r _ => ?_)
  exact congrArg₂ (fun u v : EReal => u * v) (latQ B a r)
    ((ld_at x7 _ r c r c (by omega) (by omega)).trans (by rw [B.upQ]))
theorem upK_apply (a : Fin 128) (c : Fin 1024) : k0_pay127 x0 x1 x2 x3 x4 x5 x6 x7 x8 x9 x10 x11 x12 x13 (ix2 a c)
    = (∑ r : Fin 256, Proj.latentKey (zrow X a1 a2 a) (fun l => a7 (ix1 l)) r * (keyUp a8 (ix2 r c) : EReal) : EReal) := by
  refine (pay96_apply (k0_pay123 x0 x1 x2 x3 x4 x5 x6 x7 x8 x9 x10 x11 x12 x13) (k0_pay124 x0 x1 x2 x3 x4 x5 x6 x7 x8 x9 x10 x11 x12 x13) (k0_pay125 x0 x1 x2 x3 x4 x5 x6 x7 x8 x9 x10 x11 x12 x13) (k0_pay126 x0 x1 x2 x3 x4 x5 x6 x7 x8 x9 x10 x11 x12 x13) (View.ld x9 r0_43) a c).trans
    (Finset.sum_congr rfl fun r _ => ?_)
  exact congrArg₂ (fun u v : EReal => u * v) (latK B a r)
    ((ld_at x9 _ r c r c (by omega) (by omega)).trans (by rw [B.upK]))

/-! ### One band -/

theorem query_band (c : ℕ) (hc : c < 8) (h : S128x1024.Slices ![0, 128 * c] S128x128) (a : Fin 128) (d : Fin 128) :
    lanesV 16#32 112#32 (normV (extractStridedSlice S128x128 ![0, 128 * c] (k0_pay113 x0 x1 x2 x3 x4 x5 x6 x7 x8 x9 x10 x11 x12 x13) h) (View.ld x4 r0_3))
      (View.ld x1 r0_4) (View.ld x1 r0_5) (View.ld x1 r0_6) (ix2 a d)
      = Proj.query (zrow X a1 a2 a) 8192 (fun l => a3 (ix1 l)) ⟨128 * c + d.val, by omega⟩ := by
  rw [query_at _ _ c _ hc d, headPiece _ _ _ _ _ a d (table0 B a) (table1 B a) (table2 B a)]
  have e (d : Fin 128) : extractStridedSlice S128x128 ![0, 128 * c] (k0_pay113 x0 x1 x2 x3 x4 x5 x6 x7 x8 x9 x10 x11 x12 x13) h (ix2 a d)
      = zrow X a1 a2 a ⟨128 * c + d.val, by omega⟩ :=
    (slice_at _ h a d ⟨128 * c + d.val, by omega⟩ rfl).trans (zQ B a _)
  simp only [e, ld_gainQ B]

theorem key_band (c : ℕ) (hc : c < 4) (h : S128x512.Slices ![0, 128 * c] S128x128) (a : Fin 128) (d : Fin 128) :
    lanesV 16#32 112#32 (normV (extractStridedSlice S128x128 ![0, 128 * c] (k0_pay114 x0 x1 x2 x3 x4 x5 x6 x7 x8 x9 x10 x11 x12 x13) h) (View.ld x5 r0_3))
      (View.ld x1 r0_4) (View.ld x1 r0_5) (View.ld x1 r0_6) (ix2 a d)
      = Proj.key (zrow X a1 a2 a) 8192 (fun l => a4 (ix1 l)) ⟨128 * c + d.val, by omega⟩ := by
  rw [key_at _ _ c _ hc d, headPiece _ _ _ _ _ a d (table0 B a) (table1 B a) (table2 B a)]
  have e (d : Fin 128) : extractStridedSlice S128x128 ![0, 128 * c] (k0_pay114 x0 x1 x2 x3 x4 x5 x6 x7 x8 x9 x10 x11 x12 x13) h (ix2 a d)
      = zrow X a1 a2 a ⟨1024 + (128 * c + d.val), by omega⟩ :=
    (slice_at _ h a d ⟨128 * c + d.val, by omega⟩ rfl).trans (zK B a _)
  simp only [e, ld_gainK B]

theorem index_band (c : ℕ) (hc : c < 4) (h : S128x512.Slices ![0, 128 * c] S128x128) (a : Fin 128) (d : Fin 128) :
    lanesV 8#32 120#32 (extractStridedSlice S128x128 ![0, 128 * c] (k0_pay41 (k0_pay111 x0 x1 x2 x3 x4 x5 x6 x7 x8 x9 x10 x11 x12 x13) (View.ld x3 r0_22)) h)
      (View.ld x1 r0_23) (View.ld x1 r0_24) (View.ld x1 r0_25) (ix2 a d)
      = Proj.indexQuery (zrow X a1 a2 a) 8192 ⟨128 * c + d.val, by omega⟩ := by
  rw [indexQuery_at _ _ c hc d, indexPiece _ _ _ _ a d (table3 B a) (table4 B a) (table5 B a)]
  have e (d : Fin 128) : extractStridedSlice S128x128 ![0, 128 * c] (k0_pay41 (k0_pay111 x0 x1 x2 x3 x4 x5 x6 x7 x8 x9 x10 x11 x12 x13) (View.ld x3 r0_22)) h (ix2 a d)
      = zrow X a1 a2 a ⟨2048 + (128 * c + d.val), by omega⟩ :=
    (slice_at _ h a d ⟨128 * c + d.val, by omega⟩ rfl).trans (zQi B a _)
  simp only [e]

theorem plainQuery_band (c : ℕ) (hc : c < 8) (h : S128x1536.Slices ![0, 128 * c] S128x128) (a : Fin 128) (d : Fin 128) :
    normV (extractStridedSlice S128x128 ![0, 128 * c] (k0_pay122 x0 x1 x2 x3 x4 x5 x6 x7 x8 x9 x10 x11 x12 x13) h) (View.ld x10 r0_3) (ix2 a d)
      = Proj.plainQuery (Proj.latentQuery (zrow X a1 a2 a) (fun l => a5 (ix1 l))) a6 (fun l => a9 (ix1 l))
        ⟨128 * c + d.val, by omega⟩ := by
  rw [plainQuery_at c _ _ _ hc d, normV_apply]
  have e (d : Fin 128) : extractStridedSlice S128x128 ![0, 128 * c] (k0_pay122 x0 x1 x2 x3 x4 x5 x6 x7 x8 x9 x10 x11 x12 x13) h (ix2 a d)
      = (∑ r : Fin 256, Proj.latentQuery (zrow X a1 a2 a) (fun l => a5 (ix1 l)) r
        * (a6 (ix3 r ⟨c, hc⟩ ⟨d.val, by omega⟩) : EReal) : EReal) := by
    refine (slice_at _ h a d ⟨128 * c + d.val, by omega⟩ rfl).trans ((upQ_apply B a _).trans ?_)
    refine Finset.sum_congr rfl fun r _ => congrArg₂ (fun u v : EReal => u * v) rfl ?_
    refine (queryUp_plain a6 r ⟨128 * c + d.val, by omega⟩).trans (congrArg₂ (fun u v => a6 (ix3 r u v)) ?_ ?_)
    · exact Fin.ext (by dsimp only; omega)
    · exact Fin.ext (by dsimp only; omega)
  simp only [e, ld_gainQn B]

theorem plainKey_band (c : ℕ) (hc : c < 8) (h : S128x1024.Slices ![0, 128 * c] S128x128) (a : Fin 128) (d : Fin 128) :
    normV (extractStridedSlice S128x128 ![0, 128 * c] (k0_pay127 x0 x1 x2 x3 x4 x5 x6 x7 x8 x9 x10 x11 x12 x13) h) (View.ld x11 r0_3) (ix2 a d)
      = Proj.plainKey (Proj.latentKey (zrow X a1 a2 a) (fun l => a7 (ix1 l))) a8 (fun l => a10 (ix1 l))
        ⟨128 * c + d.val, by omega⟩ := by
  rw [plainKey_at c _ _ _ hc d, normV_apply]
  have e (d : Fin 128) : extractStridedSlice S128x128 ![0, 128 * c] (k0_pay127 x0 x1 x2 x3 x4 x5 x6 x7 x8 x9 x10 x11 x12 x13) h (ix2 a d)
      = (∑ r : Fin 256, Proj.latentKey (zrow X a1 a2 a) (fun l => a7 (ix1 l)) r
        * (a8 (ix3 r ⟨c, hc⟩ d) : EReal) : EReal) := by
    refine (slice_at _ h a d ⟨128 * c + d.val, by omega⟩ rfl).trans ((upK_apply B a _).trans ?_)
    refine Finset.sum_congr rfl fun r _ => congrArg₂ (fun u v : EReal => u * v) rfl ?_
    refine (keyUp_apply a8 r ⟨128 * c + d.val, by omega⟩).trans (congrArg₂ (fun u v => a8 (ix3 r u v)) ?_ ?_)
    · exact Fin.ext (by dsimp only; omega)
    · exact Fin.ext (by dsimp only; omega)
  simp only [e, ld_gainKn B]

theorem rotQuery_band (c : ℕ) (hc : c < 4) (h : S128x1536.Slices ![0, 1024 + 128 * c] S128x128) (a : Fin 128) (d : Fin 128) :
    lanesV 32#32 96#32 (segV (extractStridedSlice S128x128 ![0, 1024 + 128 * c] (k0_pay122 x0 x1 x2 x3 x4 x5 x6 x7 x8 x9 x10 x11 x12 x13) h) (View.ld x12 r0_3))
      (View.ld x1 r0_38) (View.ld x1 r0_39) (View.ld x1 r0_40) (ix2 a d)
      = Proj.rotQuery (Proj.latentQuery (zrow X a1 a2 a) (fun l => a5 (ix1 l))) 8192 a6 (fun l => a11 (ix1 l))
        ⟨128 * c + d.val, by omega⟩ := by
  rw [rotQuery_at _ c _ _ _ hc d, rotPiece _ _ _ _ _ a d (table6 B a) (table7 B a) (table8 B a)
    (fun l => a11 (ix1 l)) (ld_gainQr B)]
  have e (t : Fin 64) : extractStridedSlice S128x128 ![0, 1024 + 128 * c] (k0_pay122 x0 x1 x2 x3 x4 x5 x6 x7 x8 x9 x10 x11 x12 x13) h
        (ix2 a ⟨64 * (d.val / 64) + t.val, by omega⟩)
      = (∑ r : Fin 256, Proj.latentQuery (zrow X a1 a2 a) (fun l => a5 (ix1 l)) r
        * (a6 (ix3 r ⟨2 * c + d.val / 64, by omega⟩ ⟨128 + t.val, by omega⟩) : EReal) : EReal) := by
    refine (slice_at _ h a _ ⟨1024 + (128 * c + (64 * (d.val / 64) + t.val)), by omega⟩ (by dsimp only; omega)).trans
      ((upQ_apply B a _).trans ?_)
    refine Finset.sum_congr rfl fun r _ => congrArg₂ (fun u v : EReal => u * v) rfl ?_
    refine (queryUp_rot a6 r ⟨128 * c + (64 * (d.val / 64) + t.val), by omega⟩).trans (congrArg₂ (fun u v => a6 (ix3 r u v)) ?_ ?_)
    · exact Fin.ext (by dsimp only; omega)
    · exact Fin.ext (by dsimp only; omega)
  simp only [e]

/-! ### The index key and the rotated key, which share 128 lanes -/

theorem pair_low (a : Fin 128) (d : Fin 64) : pairV (k0_pay115 x0 x1 x2 x3 x4 x5 x6 x7 x8 x9 x10 x11 x12 x13) (View.ld x13 r0_3) (ix2 a ⟨d.val, by omega⟩)
    = zrow X a1 a2 a ⟨2560 + d.val, by omega⟩ := by
  rw [pairV_apply, if_pos d.isLt]
  exact zKi B a d
theorem pair_high (a : Fin 128) (d : Fin 64) : pairV (k0_pay115 x0 x1 x2 x3 x4 x5 x6 x7 x8 x9 x10 x11 x12 x13) (View.ld x13 r0_3) (ix2 a ⟨64 + d.val, by omega⟩)
    = Proj.norm Proj.w64 (fun d : Fin 64 => zrow X a1 a2 a ⟨3144 + d.val, by omega⟩) (fun d => a12 (ix1 d)) d := by
  rw [pairV_apply, if_neg (by dsimp only; omega)]
  have e : (64 + d.val) % 64 = d.val := by omega
  simp only [zPe B, ld_gainKr B, e]

theorem both_low (a : Fin 128) (d : Fin 64) :
    bothV (pairV (k0_pay115 x0 x1 x2 x3 x4 x5 x6 x7 x8 x9 x10 x11 x12 x13) (View.ld x13 r0_3)) (View.ld x1 r0_27) (View.ld x1 r0_28) (View.ld x1 r0_29) (View.ld x1 r0_30)
      (View.ld x1 r0_31) (ix2 a ⟨d.val, by omega⟩) = Proj.indexKey (zrow X a1 a2 a) 8192 d := by
  rw [bothV_apply]
  generalize hP : pairV (k0_pay115 x0 x1 x2 x3 x4 x5 x6 x7 x8 x9 x10 x11 x12 x13) (View.ld x13 r0_3) = P
  have hl : (⟨d.val, by omega⟩ : Fin 128).val < 64 := d.isLt
  have e₁ : Proj.lanes 8 (fun d => P (ix2 a d)) (fun d => View.ld x1 r0_27 (ix2 a d)) (fun d => View.ld x1 r0_28 (ix2 a d))
        (fun d => View.ld x1 r0_29 (ix2 a d)) ⟨d.val, by omega⟩
      = Proj.lanes 8 (fun d => P (ix2 a d)) (Proj.tabCos 64 8 (Proj.cosine Proj.b16 8192))
        (Proj.tabUp 64 8 (Proj.sine Proj.b16 8192)) (Proj.tabDown 64 8 (Proj.sine Proj.b16 8192)) ⟨d.val, by omega⟩ := by
    simp only [Proj.lanes, table9 B, table10 B, table11 B, tab9_apply, tab10_apply, tab11_apply, if_pos hl]
  rw [e₁, table12 B, table13 B, tab12_apply, tab13_apply, if_pos hl, if_pos hl, Proj.lanes_half 8 (by decide) (by decide)]
  have e₂ (t : Fin 64) : P (ix2 a ⟨64 * (d.val / 64) + t.val, by omega⟩) = zrow X a1 a2 a ⟨2560 + t.val, by omega⟩ := by
    rw [← pair_low B a t, hP]
    exact congrArg (fun l => P (ix2 a l)) (Fin.ext (by dsimp only; omega))
  have e₃ : d.val % 64 = d.val := Nat.mod_eq_of_lt d.isLt
  simp only [e₂, e₃, mul_zero, add_zero]
  rfl

theorem both_high (a : Fin 128) (d : Fin 64) :
    bothV (pairV (k0_pay115 x0 x1 x2 x3 x4 x5 x6 x7 x8 x9 x10 x11 x12 x13) (View.ld x13 r0_3)) (View.ld x1 r0_27) (View.ld x1 r0_28) (View.ld x1 r0_29) (View.ld x1 r0_30)
      (View.ld x1 r0_31) (ix2 a ⟨64 + d.val, by omega⟩)
      = Proj.rotKey (zrow X a1 a2 a) 8192 (fun d => a12 (ix1 d)) d := by
  rw [bothV_apply]
  generalize hP : pairV (k0_pay115 x0 x1 x2 x3 x4 x5 x6 x7 x8 x9 x10 x11 x12 x13) (View.ld x13 r0_3) = P
  have hl : ¬ (⟨64 + d.val, by omega⟩ : Fin 128).val < 64 := by dsimp only; omega
  have e₂ (t : Fin 64) : P (ix2 a ⟨64 * ((64 + d.val) / 64) + t.val, by omega⟩)
      = Proj.norm Proj.w64 (fun d : Fin 64 => zrow X a1 a2 a ⟨3144 + d.val, by omega⟩) (fun d => a12 (ix1 d)) t := by
    rw [← pair_high B a t, hP]
    exact congrArg (fun l => P (ix2 a l)) (Fin.ext (by dsimp only; omega))
  have e₃ : (64 + d.val) % 64 = d.val := by omega
  have e₁ := Proj.lanes_half 32 (by decide) (by decide) (Proj.cosine Proj.b64 8192) (Proj.sine Proj.b64 8192)
    (fun d => P (ix2 a d)) ⟨64 + d.val, by omega⟩
  simp only [e₂, e₃] at e₁
  refine Eq.trans ?_ e₁
  simp only [Proj.lanes, table9 B, table10 B, table11 B, table12 B, table13 B, tab9_apply, tab10_apply, tab11_apply,
    tab12_apply, tab13_apply, if_neg hl, mul_zero, add_zero]

theorem low_band (a : Fin 128) (d : Fin 64) : k0_pay53 (k0_pay117 x0 x1 x2 x3 x4 x5 x6 x7 x8 x9 x10 x11 x12 x13) (k0_pay118 x0 x1 x2 x3 x4 x5 x6 x7 x8 x9 x10 x11 x12 x13) (View.ld x1 r0_31) (ix2 a d)
    = Proj.indexKey (zrow X a1 a2 a) 8192 d := by
  exact (slice64_at (off := 0) (bothV (pairV (k0_pay115 x0 x1 x2 x3 x4 x5 x6 x7 x8 x9 x10 x11 x12 x13) (View.ld x13 r0_3)) (View.ld x1 r0_27) (View.ld x1 r0_28)
    (View.ld x1 r0_29) (View.ld x1 r0_30) (View.ld x1 r0_31)) slices_S128x128_o0_0_S128x64 a d ⟨d.val, by omega⟩ (by dsimp only; omega)).trans
    (both_low B a d)
theorem high_band (a : Fin 128) (d : Fin 64) : k0_pay54 (k0_pay117 x0 x1 x2 x3 x4 x5 x6 x7 x8 x9 x10 x11 x12 x13) (k0_pay118 x0 x1 x2 x3 x4 x5 x6 x7 x8 x9 x10 x11 x12 x13) (View.ld x1 r0_31) (ix2 a d)
    = Proj.rotKey (zrow X a1 a2 a) 8192 (fun d => a12 (ix1 d)) d := by
  exact (slice64_at (off := 64) (bothV (pairV (k0_pay115 x0 x1 x2 x3 x4 x5 x6 x7 x8 x9 x10 x11 x12 x13) (View.ld x13 r0_3)) (View.ld x1 r0_27) (View.ld x1 r0_28)
    (View.ld x1 r0_29) (View.ld x1 r0_30) (View.ld x1 r0_31)) slices_S128x128_o0_64_S128x64 a d ⟨64 + d.val, by omega⟩ rfl).trans
    (both_high B a d)
theorem gate_band (a : Fin 128) (d : Fin 2048) : k0_pay1 (k0_pay111 x0 x1 x2 x3 x4 x5 x6 x7 x8 x9 x10 x11 x12 x13) (View.ld x3 r0_44) (ix2 a d)
    = Proj.gate (zrow X a1 a2 a) d := by
  rw [pay1_apply, row_eq B (View.ld x3 r0_44) a d ⟨3208 + d.val, by omega⟩ fun k => cols_g B k d]
  rfl

/-! ### The results -/

theorem out14 (a : Fin 128) (j : Fin 1024) : out0_14 x0 x1 x2 x3 x4 x5 x6 x7 x8 x9 x10 x11 x12 x13 (ix2 a j) = Proj.query (zrow X a1 a2 a) 8192 (fun l => a3 (ix1 l)) j := by
  unfold out0_14
  refine View.canon_apply_of_pieces (Val := Elt Ideal) (e := .bf16) (fun i : S128x1024.Idx =>
    (Proj.query (zrow X a1 a2 (i 0)) 8192 (fun l => a3 (ix1 l)) (i 1) : EReal)) _ ?_ (ix2 a j) (cover0_14 _ _ _ _ _ _ _ _ _)
  simp only [List.forall_mem_cons, List.not_mem_nil, false_imp_iff, implies_true, and_true]
  refine ⟨fun w => ?_, fun w => ?_, fun w => ?_, fun w => ?_, fun w => ?_, fun w => ?_, fun w => ?_, fun w => ?_⟩
  · exact piece_at (o := 896) (fun a => Proj.query (zrow X a1 a2 a) 8192 (fun l => a3 (ix1 l))) _ _ (by decide) (query_band B 7 (by decide) slices_S128x1024_o0_896_S128x128) w
  · exact piece_at (o := 768) (fun a => Proj.query (zrow X a1 a2 a) 8192 (fun l => a3 (ix1 l))) _ _ (by decide) (query_band B 6 (by decide) slices_S128x1024_o0_768_S128x128) w
  · exact piece_at (o := 640) (fun a => Proj.query (zrow X a1 a2 a) 8192 (fun l => a3 (ix1 l))) _ _ (by decide) (query_band B 5 (by decide) slices_S128x1024_o0_640_S128x128) w
  · exact piece_at (o := 512) (fun a => Proj.query (zrow X a1 a2 a) 8192 (fun l => a3 (ix1 l))) _ _ (by decide) (query_band B 4 (by decide) slices_S128x1024_o0_512_S128x128) w
  · exact piece_at (o := 384) (fun a => Proj.query (zrow X a1 a2 a) 8192 (fun l => a3 (ix1 l))) _ _ (by decide) (query_band B 3 (by decide) slices_S128x1024_o0_384_S128x128) w
  · exact piece_at (o := 256) (fun a => Proj.query (zrow X a1 a2 a) 8192 (fun l => a3 (ix1 l))) _ _ (by decide) (query_band B 2 (by decide) slices_S128x1024_o0_256_S128x128) w
  · exact piece_at (o := 128) (fun a => Proj.query (zrow X a1 a2 a) 8192 (fun l => a3 (ix1 l))) _ _ (by decide) (query_band B 1 (by decide) slices_S128x1024_o0_128_S128x128) w
  · exact piece_at (o := 0) (fun a => Proj.query (zrow X a1 a2 a) 8192 (fun l => a3 (ix1 l))) _ _ (by decide) (query_band B 0 (by decide) slices_S128x1024_o0_0_S128x128) w

theorem out15 (a : Fin 128) (j : Fin 512) : out0_15 x0 x1 x2 x3 x4 x5 x6 x7 x8 x9 x10 x11 x12 x13 (ix2 a j) = Proj.key (zrow X a1 a2 a) 8192 (fun l => a4 (ix1 l)) j := by
  unfold out0_15
  refine View.canon_apply_of_pieces (Val := Elt Ideal) (e := .f32) (fun i : S128x512.Idx =>
    (Proj.key (zrow X a1 a2 (i 0)) 8192 (fun l => a4 (ix1 l)) (i 1) : EReal)) _ ?_ (ix2 a j) (cover0_15 _ _ _ _ _)
  simp only [List.forall_mem_cons, List.not_mem_nil, false_imp_iff, implies_true, and_true]
  refine ⟨fun w => ?_, fun w => ?_, fun w => ?_, fun w => ?_⟩
  · exact piece_at (o := 384) (fun a => Proj.key (zrow X a1 a2 a) 8192 (fun l => a4 (ix1 l))) _ _ (by decide) (key_band B 3 (by decide) slices_S128x512_o0_384_S128x128) w
  · exact piece_at (o := 256) (fun a => Proj.key (zrow X a1 a2 a) 8192 (fun l => a4 (ix1 l))) _ _ (by decide) (key_band B 2 (by decide) slices_S128x512_o0_256_S128x128) w
  · exact piece_at (o := 128) (fun a => Proj.key (zrow X a1 a2 a) 8192 (fun l => a4 (ix1 l))) _ _ (by decide) (key_band B 1 (by decide) slices_S128x512_o0_128_S128x128) w
  · exact piece_at (o := 0) (fun a => Proj.key (zrow X a1 a2 a) 8192 (fun l => a4 (ix1 l))) _ _ (by decide) (key_band B 0 (by decide) slices_S128x512_o0_0_S128x128) w

theorem out16 (a : Fin 128) (j : Fin 512) : out0_16 x0 x1 x2 x3 x4 x5 x6 x7 x8 x9 x10 x11 x12 x13 (ix2 a j) = Proj.value (zrow X a1 a2 a) j := by
  unfold out0_16
  refine View.canon_apply_of_pieces (Val := Elt Ideal) (e := .f32) (fun i : S128x512.Idx =>
    (Proj.value (zrow X a1 a2 (i 0)) (i 1) : EReal)) _ ?_ (ix2 a j) (cover0_16 _ _)
  simp only [List.forall_mem_cons, List.not_mem_nil, false_imp_iff, implies_true, and_true]
  intro w
  exact piece_at (o := 0) (fun a => Proj.value (zrow X a1 a2 a)) _ _ (by decide) (fun a d => (zV B a d).trans (congrArg (Proj.value (zrow X a1 a2 a)) (Fin.ext (Nat.zero_add _).symm))) w

theorem out17 (a : Fin 128) (j : Fin 512) : out0_17 x0 x1 x2 x3 x4 x5 x6 x7 x8 x9 x10 x11 x12 x13 (ix2 a j) = Proj.indexQuery (zrow X a1 a2 a) 8192 j := by
  unfold out0_17
  refine View.canon_apply_of_pieces (Val := Elt Ideal) (e := .bf16) (fun i : S128x512.Idx =>
    (Proj.indexQuery (zrow X a1 a2 (i 0)) 8192 (i 1) : EReal)) _ ?_ (ix2 a j) (cover0_17 _ _ _ _ _)
  simp only [List.forall_mem_cons, List.not_mem_nil, false_imp_iff, implies_true, and_true]
  refine ⟨fun w => ?_, fun w => ?_, fun w => ?_, fun w => ?_⟩
  · exact piece_at (o := 384) (fun a => Proj.indexQuery (zrow X a1 a2 a) 8192) _ _ (by decide) (index_band B 3 (by decide) slices_S128x512_o0_384_S128x128) w
  · exact piece_at (o := 256) (fun a => Proj.indexQuery (zrow X a1 a2 a) 8192) _ _ (by decide) (index_band B 2 (by decide) slices_S128x512_o0_256_S128x128) w
  · exact piece_at (o := 128) (fun a => Proj.indexQuery (zrow X a1 a2 a) 8192) _ _ (by decide) (index_band B 1 (by decide) slices_S128x512_o0_128_S128x128) w
  · exact piece_at (o := 0) (fun a => Proj.indexQuery (zrow X a1 a2 a) 8192) _ _ (by decide) (index_band B 0 (by decide) slices_S128x512_o0_0_S128x128) w

theorem out18 (a : Fin 128) (j : Fin 64) : out0_18 x0 x1 x2 x3 x4 x5 x6 x7 x8 x9 x10 x11 x12 x13 (ix2 a j) = Proj.indexKey (zrow X a1 a2 a) 8192 j := by
  unfold out0_18
  refine View.canon_apply_of_pieces (Val := Elt Ideal) (e := .f32) (fun i : S128x64.Idx =>
    (Proj.indexKey (zrow X a1 a2 (i 0)) 8192 (i 1) : EReal)) _ ?_ (ix2 a j) (cover0_18 _ _)
  simp only [List.forall_mem_cons, List.not_mem_nil, false_imp_iff, implies_true, and_true]
  intro w
  exact piece_at (o := 0) (fun a => Proj.indexKey (zrow X a1 a2 a) 8192) _ _ (by decide) (fun a d => (low_band B a d).trans (congrArg (Proj.indexKey (zrow X a1 a2 a) 8192) (Fin.ext (Nat.zero_add _).symm))) w

theorem out19 (a : Fin 128) (j : Fin 64) : out0_19 x0 x1 x2 x3 x4 x5 x6 x7 x8 x9 x10 x11 x12 x13 (ix2 a j) = Proj.rotKey (zrow X a1 a2 a) 8192 (fun l => a12 (ix1 l)) j := by
  unfold out0_19
  refine View.canon_apply_of_pieces (Val := Elt Ideal) (e := .f32) (fun i : S128x64.Idx =>
    (Proj.rotKey (zrow X a1 a2 (i 0)) 8192 (fun l => a12 (ix1 l)) (i 1) : EReal)) _ ?_ (ix2 a j) (cover0_19 _ _)
  simp only [List.forall_mem_cons, List.not_mem_nil, false_imp_iff, implies_true, and_true]
  intro w
  exact piece_at (o := 0) (fun a => Proj.rotKey (zrow X a1 a2 a) 8192 (fun l => a12 (ix1 l))) _ _ (by decide) (fun a d => (high_band B a d).trans (congrArg (Proj.rotKey (zrow X a1 a2 a) 8192 (fun l => a12 (ix1 l))) (Fin.ext (Nat.zero_add _).symm))) w

theorem out21 (a : Fin 128) (j : Fin 1024) : out0_21 x0 x1 x2 x3 x4 x5 x6 x7 x8 x9 x10 x11 x12 x13 (ix2 a j) = Proj.plainQuery (Proj.latentQuery (zrow X a1 a2 a) (fun l => a5 (ix1 l))) a6 (fun l => a9 (ix1 l)) j := by
  unfold out0_21
  refine View.canon_apply_of_pieces (Val := Elt Ideal) (e := .bf16) (fun i : S128x1024.Idx =>
    (Proj.plainQuery (Proj.latentQuery (zrow X a1 a2 (i 0)) (fun l => a5 (ix1 l))) a6 (fun l => a9 (ix1 l)) (i 1) : EReal)) _ ?_ (ix2 a j) (cover0_21 _ _ _ _ _ _ _ _ _)
  simp only [List.forall_mem_cons, List.not_mem_nil, false_imp_iff, implies_true, and_true]
  refine ⟨fun w => ?_, fun w => ?_, fun w => ?_, fun w => ?_, fun w => ?_, fun w => ?_, fun w => ?_, fun w => ?_⟩
  · exact piece_at (o := 896) (fun a => Proj.plainQuery (Proj.latentQuery (zrow X a1 a2 a) (fun l => a5 (ix1 l))) a6 (fun l => a9 (ix1 l))) _ _ (by decide) (plainQuery_band B 7 (by decide) slices_S128x1536_o0_896_S128x128) w
  · exact piece_at (o := 768) (fun a => Proj.plainQuery (Proj.latentQuery (zrow X a1 a2 a) (fun l => a5 (ix1 l))) a6 (fun l => a9 (ix1 l))) _ _ (by decide) (plainQuery_band B 6 (by decide) slices_S128x1536_o0_768_S128x128) w
  · exact piece_at (o := 640) (fun a => Proj.plainQuery (Proj.latentQuery (zrow X a1 a2 a) (fun l => a5 (ix1 l))) a6 (fun l => a9 (ix1 l))) _ _ (by decide) (plainQuery_band B 5 (by decide) slices_S128x1536_o0_640_S128x128) w
  · exact piece_at (o := 512) (fun a => Proj.plainQuery (Proj.latentQuery (zrow X a1 a2 a) (fun l => a5 (ix1 l))) a6 (fun l => a9 (ix1 l))) _ _ (by decide) (plainQuery_band B 4 (by decide) slices_S128x1536_o0_512_S128x128) w
  · exact piece_at (o := 384) (fun a => Proj.plainQuery (Proj.latentQuery (zrow X a1 a2 a) (fun l => a5 (ix1 l))) a6 (fun l => a9 (ix1 l))) _ _ (by decide) (plainQuery_band B 3 (by decide) slices_S128x1536_o0_384_S128x128) w
  · exact piece_at (o := 256) (fun a => Proj.plainQuery (Proj.latentQuery (zrow X a1 a2 a) (fun l => a5 (ix1 l))) a6 (fun l => a9 (ix1 l))) _ _ (by decide) (plainQuery_band B 2 (by decide) slices_S128x1536_o0_256_S128x128) w
  · exact piece_at (o := 128) (fun a => Proj.plainQuery (Proj.latentQuery (zrow X a1 a2 a) (fun l => a5 (ix1 l))) a6 (fun l => a9 (ix1 l))) _ _ (by decide) (plainQuery_band B 1 (by decide) slices_S128x1536_o0_128_S128x128) w
  · exact piece_at (o := 0) (fun a => Proj.plainQuery (Proj.latentQuery (zrow X a1 a2 a) (fun l => a5 (ix1 l))) a6 (fun l => a9 (ix1 l))) _ _ (by decide) (plainQuery_band B 0 (by decide) slices_S128x1536_o0_0_S128x128) w

theorem out22 (a : Fin 128) (j : Fin 512) : out0_22 x0 x1 x2 x3 x4 x5 x6 x7 x8 x9 x10 x11 x12 x13 (ix2 a j) = Proj.rotQuery (Proj.latentQuery (zrow X a1 a2 a) (fun l => a5 (ix1 l))) 8192 a6 (fun l => a11 (ix1 l)) j := by
  unfold out0_22
  refine View.canon_apply_of_pieces (Val := Elt Ideal) (e := .bf16) (fun i : S128x512.Idx =>
    (Proj.rotQuery (Proj.latentQuery (zrow X a1 a2 (i 0)) (fun l => a5 (ix1 l))) 8192 a6 (fun l => a11 (ix1 l)) (i 1) : EReal)) _ ?_ (ix2 a j) (cover0_22 _ _ _ _ _)
  simp only [List.forall_mem_cons, List.not_mem_nil, false_imp_iff, implies_true, and_true]
  refine ⟨fun w => ?_, fun w => ?_, fun w => ?_, fun w => ?_⟩
  · exact piece_at (o := 384) (fun a => Proj.rotQuery (Proj.latentQuery (zrow X a1 a2 a) (fun l => a5 (ix1 l))) 8192 a6 (fun l => a11 (ix1 l))) _ _ (by decide) (rotQuery_band B 3 (by decide) slices_S128x1536_o0_1408_S128x128) w
  · exact piece_at (o := 256) (fun a => Proj.rotQuery (Proj.latentQuery (zrow X a1 a2 a) (fun l => a5 (ix1 l))) 8192 a6 (fun l => a11 (ix1 l))) _ _ (by decide) (rotQuery_band B 2 (by decide) slices_S128x1536_o0_1280_S128x128) w
  · exact piece_at (o := 128) (fun a => Proj.rotQuery (Proj.latentQuery (zrow X a1 a2 a) (fun l => a5 (ix1 l))) 8192 a6 (fun l => a11 (ix1 l))) _ _ (by decide) (rotQuery_band B 1 (by decide) slices_S128x1536_o0_1152_S128x128) w
  · exact piece_at (o := 0) (fun a => Proj.rotQuery (Proj.latentQuery (zrow X a1 a2 a) (fun l => a5 (ix1 l))) 8192 a6 (fun l => a11 (ix1 l))) _ _ (by decide) (rotQuery_band B 0 (by decide) slices_S128x1536_o0_1024_S128x128) w

theorem out23 (a : Fin 128) (j : Fin 256) : out0_23 x0 x1 x2 x3 x4 x5 x6 x7 x8 x9 x10 x11 x12 x13 (ix2 a j) = Proj.latentKey (zrow X a1 a2 a) (fun l => a7 (ix1 l)) j := by
  unfold out0_23
  refine View.canon_apply_of_pieces (Val := Elt Ideal) (e := .f32) (fun i : S128x256.Idx =>
    (Proj.latentKey (zrow X a1 a2 (i 0)) (fun l => a7 (ix1 l)) (i 1) : EReal)) _ ?_ (ix2 a j) (cover0_23 _ _)
  simp only [List.forall_mem_cons, List.not_mem_nil, false_imp_iff, implies_true, and_true]
  intro w
  exact piece_at (o := 0) (fun a => Proj.latentKey (zrow X a1 a2 a) (fun l => a7 (ix1 l))) _ _ (by decide) (fun a d => (latK B a d).trans (congrArg (Proj.latentKey (zrow X a1 a2 a) (fun l => a7 (ix1 l))) (Fin.ext (Nat.zero_add _).symm))) w

theorem out24 (a : Fin 128) (j : Fin 1024) : out0_24 x0 x1 x2 x3 x4 x5 x6 x7 x8 x9 x10 x11 x12 x13 (ix2 a j) = Proj.plainKey (Proj.latentKey (zrow X a1 a2 a) (fun l => a7 (ix1 l))) a8 (fun l => a10 (ix1 l)) j := by
  unfold out0_24
  refine View.canon_apply_of_pieces (Val := Elt Ideal) (e := .bf16) (fun i : S128x1024.Idx =>
    (Proj.plainKey (Proj.latentKey (zrow X a1 a2 (i 0)) (fun l => a7 (ix1 l))) a8 (fun l => a10 (ix1 l)) (i 1) : EReal)) _ ?_ (ix2 a j) (cover0_24 _ _ _ _ _ _ _ _ _)
  simp only [List.forall_mem_cons, List.not_mem_nil, false_imp_iff, implies_true, and_true]
  refine ⟨fun w => ?_, fun w => ?_, fun w => ?_, fun w => ?_, fun w => ?_, fun w => ?_, fun w => ?_, fun w => ?_⟩
  · exact piece_at (o := 896) (fun a => Proj.plainKey (Proj.latentKey (zrow X a1 a2 a) (fun l => a7 (ix1 l))) a8 (fun l => a10 (ix1 l))) _ _ (by decide) (plainKey_band B 7 (by decide) slices_S128x1024_o0_896_S128x128) w
  · exact piece_at (o := 768) (fun a => Proj.plainKey (Proj.latentKey (zrow X a1 a2 a) (fun l => a7 (ix1 l))) a8 (fun l => a10 (ix1 l))) _ _ (by decide) (plainKey_band B 6 (by decide) slices_S128x1024_o0_768_S128x128) w
  · exact piece_at (o := 640) (fun a => Proj.plainKey (Proj.latentKey (zrow X a1 a2 a) (fun l => a7 (ix1 l))) a8 (fun l => a10 (ix1 l))) _ _ (by decide) (plainKey_band B 5 (by decide) slices_S128x1024_o0_640_S128x128) w
  · exact piece_at (o := 512) (fun a => Proj.plainKey (Proj.latentKey (zrow X a1 a2 a) (fun l => a7 (ix1 l))) a8 (fun l => a10 (ix1 l))) _ _ (by decide) (plainKey_band B 4 (by decide) slices_S128x1024_o0_512_S128x128) w
  · exact piece_at (o := 384) (fun a => Proj.plainKey (Proj.latentKey (zrow X a1 a2 a) (fun l => a7 (ix1 l))) a8 (fun l => a10 (ix1 l))) _ _ (by decide) (plainKey_band B 3 (by decide) slices_S128x1024_o0_384_S128x128) w
  · exact piece_at (o := 256) (fun a => Proj.plainKey (Proj.latentKey (zrow X a1 a2 a) (fun l => a7 (ix1 l))) a8 (fun l => a10 (ix1 l))) _ _ (by decide) (plainKey_band B 2 (by decide) slices_S128x1024_o0_256_S128x128) w
  · exact piece_at (o := 128) (fun a => Proj.plainKey (Proj.latentKey (zrow X a1 a2 a) (fun l => a7 (ix1 l))) a8 (fun l => a10 (ix1 l))) _ _ (by decide) (plainKey_band B 1 (by decide) slices_S128x1024_o0_128_S128x128) w
  · exact piece_at (o := 0) (fun a => Proj.plainKey (Proj.latentKey (zrow X a1 a2 a) (fun l => a7 (ix1 l))) a8 (fun l => a10 (ix1 l))) _ _ (by decide) (plainKey_band B 0 (by decide) slices_S128x1024_o0_0_S128x128) w

theorem out25 (a : Fin 128) (j : Fin 2048) : out0_25 x0 x1 x2 x3 x4 x5 x6 x7 x8 x9 x10 x11 x12 x13 (ix2 a j) = Proj.gate (zrow X a1 a2 a) j := by
  unfold out0_25
  refine View.canon_apply_of_pieces (Val := Elt Ideal) (e := .f32) (fun i : S128x2048.Idx =>
    (Proj.gate (zrow X a1 a2 (i 0)) (i 1) : EReal)) _ ?_ (ix2 a j) (cover0_25 _ _)
  simp only [List.forall_mem_cons, List.not_mem_nil, false_imp_iff, implies_true, and_true]
  intro w
  exact piece_at (o := 0) (fun a => Proj.gate (zrow X a1 a2 a)) _ _ (by decide) (fun a d => (gate_band B a d).trans (congrArg (Proj.gate (zrow X a1 a2 a)) (Fin.ext (Nat.zero_add _).symm))) w

end block

end Cert.ProjectSampleIdeal.ProjectSamplePieces

end
-- ==== Proof.ProjectSampleKernel.lean ====
/-
  The arrays that the projection kernel of the sample group leaves, and the results they hold.
-/
module

public import proofs.«01_k».proof.Proof.ProjectSampleOut
public import proofs.«01_k».proof.Proof.ProjectSampleHost
public import proofs.«01_k».proof.Proof.Gen.ProjectSampleIdeal.Value

@[expose] public section

set_option maxRecDepth 16384

noncomputable section

namespace Cert.ProjectSampleIdeal.ProjectSampleKernel

open Cert Cert.ProjectSampleIdeal Cert.ProjectSampleIdeal.Gen Cert.ProjectSampleIdeal.Value Idealize.ShloMosaic Idealize.ShloMosaic.TcCoe Idealize.SL.Sem
open Idealize.ShloMosaic.Pipeline ProjectSampleHost ProjectSamplePieces

variable (m : (ℓ : Loc nD τ sig) → Buf (Elt Ideal) ℓ) (ρ : Dev nD → PrngReg)

/-! Where each window lies at a point. -/

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0] :=
  (by decide +kernel : ∀ t : Fin grid0.N, win0_11.index t = ![0, 0])
theorem idx12 : ∀ t : Fin cfg0.N, win0_12.index t = ![0, 0] :=
  (by decide +kernel : ∀ t : Fin grid0.N, win0_12.index t = ![0, 0])
theorem idx13 : ∀ t : Fin cfg0.N, win0_13.index t = ![0, 0] :=
  (by decide +kernel : ∀ t : Fin grid0.N, win0_13.index t = ![0, 0])
theorem idx14 : ∀ t : Fin cfg0.N, win0_14.index t = ![t.val, 0] :=
  (by decide +kernel : ∀ t : Fin grid0.N, win0_14.index t = ![t.val, 0])
theorem idx15 : ∀ t : Fin cfg0.N, win0_15.index t = ![t.val, 0] :=
  (by decide +kernel : ∀ t : Fin grid0.N, win0_15.index t = ![t.val, 0])
theorem idx16 : ∀ t : Fin cfg0.N, win0_16.index t = ![t.val, 0] :=
  (by decide +kernel : ∀ t : Fin grid0.N, win0_16.index t = ![t.val, 0])
theorem idx17 : ∀ t : Fin cfg0.N, win0_17.index t = ![t.val, 0] :=
  (by decide +kernel : ∀ t : Fin grid0.N, win0_17.index t = ![t.val, 0])
theorem idx18 : ∀ t : Fin cfg0.N, win0_18.index t = ![t.val, 0] :=
  (by decide +kernel : ∀ t : Fin grid0.N, win0_18.index t = ![t.val, 0])
theorem idx19 : ∀ t : Fin cfg0.N, win0_19.index t = ![t.val, 0] :=
  (by decide +kernel : ∀ t : Fin grid0.N, win0_19.index t = ![t.val, 0])
theorem idx20 : ∀ t : Fin cfg0.N, win0_20.index t = ![t.val, 0] :=
  (by decide +kernel : ∀ t : Fin grid0.N, win0_20.index t = ![t.val, 0])
theorem idx21 : ∀ t : Fin cfg0.N, win0_21.index t = ![t.val, 0] :=
  (by decide +kernel : ∀ t : Fin grid0.N, win0_21.index t = ![t.val, 0])
theorem idx22 : ∀ t : Fin cfg0.N, win0_22.index t = ![t.val, 0] :=
  (by decide +kernel : ∀ t : Fin grid0.N, win0_22.index t = ![t.val, 0])
theorem idx23 : ∀ t : Fin cfg0.N, win0_23.index t = ![t.val, 0] :=
  (by decide +kernel : ∀ t : Fin grid0.N, win0_23.index t = ![t.val, 0])
theorem idx24 : ∀ t : Fin cfg0.N, win0_24.index t = ![t.val, 0] :=
  (by decide +kernel : ∀ t : Fin grid0.N, win0_24.index t = ![t.val, 0])
theorem idx25 : ∀ t : Fin cfg0.N, win0_25.index t = ![t.val, 0] :=
  (by decide +kernel : ∀ t : Fin grid0.N, win0_25.index t = ![t.val, 0])

/-- Row `n` of the input. -/
def xrow (x : (⟨3, ![128, 1, 1024]⟩ : Shape).Idx → EReal) (n : Fin 128) (k : Fin 1024) : EReal := x (ix3 n 0 k)
def at_ (t : Fin cfg0.N) (a : Fin 128) : Fin 128 := ⟨128 * t.val + a.val, by
  have : t.val < 1 := t.isLt
  omega⟩

theorem blk0 (c : Dev nD) (t : Fin cfg0.N) (a : Fin 128) (k : Fin 1024) :
    (iblk m c 0 t : Proj.Mat 128 1024) (ix2 a k) = xrow (m ((c : Thread nD τ).loc main_arg0)) (at_ t a) k := by
  have ht : t.val < 1 := t.isLt
  blk_simp [iblk, idx0 t]
  entry_read
  pointwise
  have h₀ : ((((View.whole main_v128).slice (win0_0.rect t)).emb (ix2 a k) 0 : Fin 128) : ℕ) = 128 * t.val + a.val := by
    blk_simp [idx0 t]
    omega
  have h₁ : ((((View.whole main_v128).slice (win0_0.rect t)).emb (ix2 a k) 1 : Fin 1024) : ℕ) = k.val := by
    blk_simp [idx0 t]
  exact congrArg (m ((c : Thread nD τ).loc main_arg0)) (funext fun b => by
    match b with
    | ⟨0, _⟩ => exact Fin.ext h₀
    | ⟨1, _⟩ => rfl
    | ⟨2, _⟩ => exact Fin.ext h₁)

theorem blk1 (c : Dev nD) (t : Fin cfg0.N) (a : Fin 128) (k : Fin 1792) :
    (iblk m c 1 t : Proj.Mat 128 1792) (ix2 a k) = tabs (ix2 a k) := by
  have ht : t.val < 1 := t.isLt
  show (V m c main_v127 : Proj.Mat 128 1792) _ = _
  rw [V_v127]
  refine congrArg tabs ?_
  have h₀ : (((win0_1.blk t).view.emb (ix2 a k) 0 : Fin 128) : ℕ) = a.val := by
    blk_simp [idx1 t]
  have h₁ : (((win0_1.blk t).view.emb (ix2 a k) 1 : Fin 1792) : ℕ) = k.val := by
    blk_simp [idx1 t]
  exact funext fun b => by
    match b with
    | ⟨0, _⟩ => exact Fin.ext (h₀)
    | ⟨1, _⟩ => exact Fin.ext h₁

theorem blk2 (c : Dev nD) (t : Fin cfg0.N) (b : Fin 1024) :
    (iblk m c 2 t : Proj.Mat 1 1024) (ix2 0 b) = m ((c : Thread nD τ).loc main_arg1) (ix1 b) := by
  blk_simp [iblk, idx2 t]
  entry_read
  pointwise
  blk_ext [idx2 t]

theorem blk4 (c : Dev nD) (t : Fin cfg0.N) (b : Fin 128) :
    (iblk m c 4 t : Proj.Mat 1 128) (ix2 0 b) = m ((c : Thread nD τ).loc main_arg3) (ix1 b) := by
  blk_simp [iblk, idx4 t]
  entry_read
  pointwise
  blk_ext [idx4 t]

theorem blk5 (c : Dev nD) (t : Fin cfg0.N) (b : Fin 128) :
    (iblk m c 5 t : Proj.Mat 1 128) (ix2 0 b) = m ((c : Thread nD τ).loc main_arg4) (ix1 b) := by
  blk_simp [iblk, idx5 t]
  entry_read
  pointwise
  blk_ext [idx5 t]

theorem blk6 (c : Dev nD) (t : Fin cfg0.N) (b : Fin 256) :
    (iblk m c 6 t : Proj.Mat 1 256) (ix2 0 b) = m ((c : Thread nD τ).loc main_arg5) (ix1 b) := by
  blk_simp [iblk, idx6 t]
  entry_read
  pointwise
  blk_ext [idx6 t]

theorem blk8 (c : Dev nD) (t : Fin cfg0.N) (b : Fin 256) :
    (iblk m c 8 t : Proj.Mat 1 256) (ix2 0 b) = m ((c : Thread nD τ).loc main_arg7) (ix1 b) := by
  blk_simp [iblk, idx8 t]
  entry_read
  pointwise
  blk_ext [idx8 t]

theorem blk10 (c : Dev nD) (t : Fin cfg0.N) (b : Fin 128) :
    (iblk m c 10 t : Proj.Mat 1 128) (ix2 0 b) = m ((c : Thread nD τ).loc main_arg9) (ix1 b) := by
  blk_simp [iblk, idx10 t]
  entry_read
  pointwise
  blk_ext [idx10 t]

theorem blk11 (c : Dev nD) (t : Fin cfg0.N) (b : Fin 128) :
    (iblk m c 11 t : Proj.Mat 1 128) (ix2 0 b) = m ((c : Thread nD τ).loc main_arg10) (ix1 b) := by
  blk_simp [iblk, idx11 t]
  entry_read
  pointwise
  blk_ext [idx11 t]

theorem blk3 (c : Dev nD) (t : Fin cfg0.N) :
    (iblk m c 3 t : Proj.Mat 1024 5376) = ProjectIdeal.ProjectHost.weights (m ((c : Thread nD τ).loc main_arg2)) := by
  funext i
  rw [eq_ix2 i]
  show (V m c main_v12 : Proj.Mat 1024 5376) _ = _
  rw [V_v12]
  exact congrArg _ (by blk_ext [idx3 t])

theorem blk7 (c : Dev nD) (t : Fin cfg0.N) :
    (iblk m c 7 t : Proj.Mat 256 1536) = ProjectIdeal.ProjectHost.queryUp (m ((c : Thread nD τ).loc main_arg6)) := by
  funext i
  rw [eq_ix2 i]
  show (V m c main_v18 : Proj.Mat 256 1536) _ = _
  rw [V_v18]
  exact congrArg _ (by blk_ext [idx7 t])

theorem blk9 (c : Dev nD) (t : Fin cfg0.N) :
    (iblk m c 9 t : Proj.Mat 256 1024) = ProjectIdeal.ProjectHost.keyUp (m ((c : Thread nD τ).loc main_arg8)) := by
  funext i
  rw [eq_ix2 i]
  show (V m c main_v25 : Proj.Mat 256 1024) _ = _
  rw [V_v25]
  exact congrArg _ (by blk_ext [idx9 t])

theorem blk12 (c : Dev nD) (t : Fin cfg0.N) :
    (iblk m c 12 t : Proj.Mat 1 128) = ProjectIdeal.ProjectHost.gainPair (m ((c : Thread nD τ).loc main_arg11)) := by
  funext i
  rw [eq_ix2 i]
  show (V m c main_v31 : Proj.Mat 1 128) _ = _
  rw [V_v31]
  exact congrArg _ (by blk_ext [idx12 t])

theorem blk13 (c : Dev nD) (t : Fin cfg0.N) :
    (iblk m c 13 t : Proj.Mat 1 128) = ProjectIdeal.ProjectHost.gainHigh (m ((c : Thread nD τ).loc main_arg12)) := by
  funext i
  rw [eq_ix2 i]
  show (V m c main_v34 : Proj.Mat 1 128) _ = _
  rw [V_v34]
  exact congrArg _ (by blk_ext [idx13 t])

theorem block (c : Dev nD) (t : Fin cfg0.N) : Block (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t)
    (iblk m c 13 t) (fun a => xrow (m ((c : Thread nD τ).loc main_arg0)) (at_ t a))
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  ⟨blk0 m c t, blk1 m c t, blk2 m c t, blk3 m c t, blk4 m c t, blk5 m c t, blk6 m c t, blk7 m c t, blk8 m c t, blk9 m c t,
    blk10 m c t, blk11 m c t, blk12 m c t, blk13 m c t⟩

/-- The rows of the first product of the whole input. -/
def Z (c : Dev nD) (n : Fin 128) : Fin 5256 → EReal :=
  Proj.proj (xrow (m ((c : Thread nD τ).loc main_arg0)) n)
    (fun k => (m ((c : Thread nD τ).loc main_arg1) : (⟨1, ![1024]⟩ : Shape).Idx → EReal) (ix1 k)) (m ((c : Thread nD τ).loc main_arg2))

def G14 (c : Dev nD) : Proj.Mat 128 1024 := fun i =>
  Proj.query (Z m c (i 0)) 8192 (fun l => (m ((c : Thread nD τ).loc main_arg3) : (⟨1, ![128]⟩ : Shape).Idx → EReal) (ix1 l)) (i 1)

theorem arr14 (c : Dev nD) : (dats m 0 c).arrAt 14 cfg0.N = (G14 m c : Proj.Mat 128 1024) := by
  refine (dats m 0 c).arrAt_eq_of_covers 14 (G14 m c) (by decide +kernel) fun t hf y => ?_
  blk_simp [idx14 t]
  rw [after0_14]
  have h : ((((win0_14.blk t).view.emb y) 0 : Fin 128) : ℕ) = 128 * t.val + (y 0).val := by
    blk_simp [idx14 t]
    omega
  have h₀ : (((win0_14.blk t).view.emb y) 0 : Fin 128) = at_ t (y 0) := Fin.ext h
  have h₁ : (((win0_14.blk t).view.emb y) 1 : Fin 1024) = y 1 := Fin.ext (by
    blk_simp [idx14 t])
  refine ((congrArg _ (eq_ix2 y)).trans (out14 (block m c t) (y 0) (y 1))).trans ?_
  unfold G14
  rw [h₀, h₁]
  rfl

def G15 (c : Dev nD) : Proj.Mat 128 512 := fun i =>
  Proj.key (Z m c (i 0)) 8192 (fun l => (m ((c : Thread nD τ).loc main_arg4) : (⟨1, ![128]⟩ : Shape).Idx → EReal) (ix1 l)) (i 1)

theorem arr15 (c : Dev nD) : (dats m 0 c).arrAt 15 cfg0.N = (G15 m c : Proj.Mat 128 512) := by
  refine (dats m 0 c).arrAt_eq_of_covers 15 (G15 m c) (by decide +kernel) fun t hf y => ?_
  blk_simp [idx15 t]
  rw [after0_15]
  have h : ((((win0_15.blk t).view.emb y) 0 : Fin 128) : ℕ) = 128 * t.val + (y 0).val := by
    blk_simp [idx15 t]
    omega
  have h₀ : (((win0_15.blk t).view.emb y) 0 : Fin 128) = at_ t (y 0) := Fin.ext h
  have h₁ : (((win0_15.blk t).view.emb y) 1 : Fin 512) = y 1 := Fin.ext (by
    blk_simp [idx15 t])
  refine ((congrArg _ (eq_ix2 y)).trans (out15 (block m c t) (y 0) (y 1))).trans ?_
  unfold G15
  rw [h₀, h₁]
  rfl

def G16 (c : Dev nD) : Proj.Mat 128 512 := fun i =>
  Proj.value (Z m c (i 0)) (i 1)

theorem arr16 (c : Dev nD) : (dats m 0 c).arrAt 16 cfg0.N = (G16 m c : Proj.Mat 128 512) := by
  refine (dats m 0 c).arrAt_eq_of_covers 16 (G16 m c) (by decide +kernel) fun t hf y => ?_
  blk_simp [idx16 t]
  rw [after0_16]
  have h : ((((win0_16.blk t).view.emb y) 0 : Fin 128) : ℕ) = 128 * t.val + (y 0).val := by
    blk_simp [idx16 t]
    omega
  have h₀ : (((win0_16.blk t).view.emb y) 0 : Fin 128) = at_ t (y 0) := Fin.ext h
  have h₁ : (((win0_16.blk t).view.emb y) 1 : Fin 512) = y 1 := Fin.ext (by
    blk_simp [idx16 t])
  refine ((congrArg _ (eq_ix2 y)).trans (out16 (block m c t) (y 0) (y 1))).trans ?_
  unfold G16
  rw [h₀, h₁]
  rfl

def G17 (c : Dev nD) : Proj.Mat 128 512 := fun i =>
  Proj.indexQuery (Z m c (i 0)) 8192 (i 1)

theorem arr17 (c : Dev nD) : (dats m 0 c).arrAt 17 cfg0.N = (G17 m c : Proj.Mat 128 512) := by
  refine (dats m 0 c).arrAt_eq_of_covers 17 (G17 m c) (by decide +kernel) fun t hf y => ?_
  blk_simp [idx17 t]
  rw [after0_17]
  have h : ((((win0_17.blk t).view.emb y) 0 : Fin 128) : ℕ) = 128 * t.val + (y 0).val := by
    blk_simp [idx17 t]
    omega
  have h₀ : (((win0_17.blk t).view.emb y) 0 : Fin 128) = at_ t (y 0) := Fin.ext h
  have h₁ : (((win0_17.blk t).view.emb y) 1 : Fin 512) = y 1 := Fin.ext (by
    blk_simp [idx17 t])
  refine ((congrArg _ (eq_ix2 y)).trans (out17 (block m c t) (y 0) (y 1))).trans ?_
  unfold G17
  rw [h₀, h₁]
  rfl

def G18 (c : Dev nD) : Proj.Mat 128 64 := fun i =>
  Proj.indexKey (Z m c (i 0)) 8192 (i 1)

theorem arr18 (c : Dev nD) : (dats m 0 c).arrAt 18 cfg0.N = (G18 m c : Proj.Mat 128 64) := by
  refine (dats m 0 c).arrAt_eq_of_covers 18 (G18 m c) (by decide +kernel) fun t hf y => ?_
  blk_simp [idx18 t]
  rw [after0_18]
  have h : ((((win0_18.blk t).view.emb y) 0 : Fin 128) : ℕ) = 128 * t.val + (y 0).val := by
    blk_simp [idx18 t]
    omega
  have h₀ : (((win0_18.blk t).view.emb y) 0 : Fin 128) = at_ t (y 0) := Fin.ext h
  have h₁ : (((win0_18.blk t).view.emb y) 1 : Fin 64) = y 1 := Fin.ext (by
    blk_simp [idx18 t])
  refine ((congrArg _ (eq_ix2 y)).trans (out18 (block m c t) (y 0) (y 1))).trans ?_
  unfold G18
  rw [h₀, h₁]
  rfl

def G19 (c : Dev nD) : Proj.Mat 128 64 := fun i =>
  Proj.rotKey (Z m c (i 0)) 8192 (fun l => (m ((c : Thread nD τ).loc main_arg12) : (⟨1, ![64]⟩ : Shape).Idx → EReal) (ix1 l)) (i 1)

theorem arr19 (c : Dev nD) : (dats m 0 c).arrAt 19 cfg0.N = (G19 m c : Proj.Mat 128 64) := by
  refine (dats m 0 c).arrAt_eq_of_covers 19 (G19 m c) (by decide +kernel) fun t hf y => ?_
  blk_simp [idx19 t]
  rw [after0_19]
  have h : ((((win0_19.blk t).view.emb y) 0 : Fin 128) : ℕ) = 128 * t.val + (y 0).val := by
    blk_simp [idx19 t]
    omega
  have h₀ : (((win0_19.blk t).view.emb y) 0 : Fin 128) = at_ t (y 0) := Fin.ext h
  have h₁ : (((win0_19.blk t).view.emb y) 1 : Fin 64) = y 1 := Fin.ext (by
    blk_simp [idx19 t])
  refine ((congrArg _ (eq_ix2 y)).trans (out19 (block m c t) (y 0) (y 1))).trans ?_
  unfold G19
  rw [h₀, h₁]
  rfl

def G21 (c : Dev nD) : Proj.Mat 128 1024 := fun i =>
  Proj.plainQuery (Proj.latentQuery (Z m c (i 0)) (fun l => (m ((c : Thread nD τ).loc main_arg5) : (⟨1, ![256]⟩ : Shape).Idx → EReal) (ix1 l))) (m ((c : Thread nD τ).loc main_arg6)) (fun l => (m ((c : Thread nD τ).loc main_arg9) : (⟨1, ![128]⟩ : Shape).Idx → EReal) (ix1 l)) (i 1)

theorem arr21 (c : Dev nD) : (dats m 0 c).arrAt 21 cfg0.N = (G21 m c : Proj.Mat 128 1024) := by
  refine (dats m 0 c).arrAt_eq_of_covers 21 (G21 m c) (by decide +kernel) fun t hf y => ?_
  blk_simp [idx21 t]
  rw [after0_21]
  have h : ((((win0_21.blk t).view.emb y) 0 : Fin 128) : ℕ) = 128 * t.val + (y 0).val := by
    blk_simp [idx21 t]
    omega
  have h₀ : (((win0_21.blk t).view.emb y) 0 : Fin 128) = at_ t (y 0) := Fin.ext h
  have h₁ : (((win0_21.blk t).view.emb y) 1 : Fin 1024) = y 1 := Fin.ext (by
    blk_simp [idx21 t])
  refine ((congrArg _ (eq_ix2 y)).trans (out21 (block m c t) (y 0) (y 1))).trans ?_
  unfold G21
  rw [h₀, h₁]
  rfl

def G22 (c : Dev nD) : Proj.Mat 128 512 := fun i =>
  Proj.rotQuery (Proj.latentQuery (Z m c (i 0)) (fun l => (m ((c : Thread nD τ).loc main_arg5) : (⟨1, ![256]⟩ : Shape).Idx → EReal) (ix1 l))) 8192 (m ((c : Thread nD τ).loc main_arg6)) (fun l => (m ((c : Thread nD τ).loc main_arg11) : (⟨1, ![64]⟩ : Shape).Idx → EReal) (ix1 l)) (i 1)

theorem arr22 (c : Dev nD) : (dats m 0 c).arrAt 22 cfg0.N = (G22 m c : Proj.Mat 128 512) := by
  refine (dats m 0 c).arrAt_eq_of_covers 22 (G22 m c) (by decide +kernel) fun t hf y => ?_
  blk_simp [idx22 t]
  rw [after0_22]
  have h : ((((win0_22.blk t).view.emb y) 0 : Fin 128) : ℕ) = 128 * t.val + (y 0).val := by
    blk_simp [idx22 t]
    omega
  have h₀ : (((win0_22.blk t).view.emb y) 0 : Fin 128) = at_ t (y 0) := Fin.ext h
  have h₁ : (((win0_22.blk t).view.emb y) 1 : Fin 512) = y 1 := Fin.ext (by
    blk_simp [idx22 t])
  refine ((congrArg _ (eq_ix2 y)).trans (out22 (block m c t) (y 0) (y 1))).trans ?_
  unfold G22
  rw [h₀, h₁]
  rfl

def G23 (c : Dev nD) : Proj.Mat 128 256 := fun i =>
  Proj.latentKey (Z m c (i 0)) (fun l => (m ((c : Thread nD τ).loc main_arg7) : (⟨1, ![256]⟩ : Shape).Idx → EReal) (ix1 l)) (i 1)

theorem arr23 (c : Dev nD) : (dats m 0 c).arrAt 23 cfg0.N = (G23 m c : Proj.Mat 128 256) := by
  refine (dats m 0 c).arrAt_eq_of_covers 23 (G23 m c) (by decide +kernel) fun t hf y => ?_
  blk_simp [idx23 t]
  rw [after0_23]
  have h : ((((win0_23.blk t).view.emb y) 0 : Fin 128) : ℕ) = 128 * t.val + (y 0).val := by
    blk_simp [idx23 t]
    omega
  have h₀ : (((win0_23.blk t).view.emb y) 0 : Fin 128) = at_ t (y 0) := Fin.ext h
  have h₁ : (((win0_23.blk t).view.emb y) 1 : Fin 256) = y 1 := Fin.ext (by
    blk_simp [idx23 t])
  refine ((congrArg _ (eq_ix2 y)).trans (out23 (block m c t) (y 0) (y 1))).trans ?_
  unfold G23
  rw [h₀, h₁]
  rfl

def G24 (c : Dev nD) : Proj.Mat 128 1024 := fun i =>
  Proj.plainKey (Proj.latentKey (Z m c (i 0)) (fun l => (m ((c : Thread nD τ).loc main_arg7) : (⟨1, ![256]⟩ : Shape).Idx → EReal) (ix1 l))) (m ((c : Thread nD τ).loc main_arg8)) (fun l => (m ((c : Thread nD τ).loc main_arg10) : (⟨1, ![128]⟩ : Shape).Idx → EReal) (ix1 l)) (i 1)

theorem arr24 (c : Dev nD) : (dats m 0 c).arrAt 24 cfg0.N = (G24 m c : Proj.Mat 128 1024) := by
  refine (dats m 0 c).arrAt_eq_of_covers 24 (G24 m c) (by decide +kernel) fun t hf y => ?_
  blk_simp [idx24 t]
  rw [after0_24]
  have h : ((((win0_24.blk t).view.emb y) 0 : Fin 128) : ℕ) = 128 * t.val + (y 0).val := by
    blk_simp [idx24 t]
    omega
  have h₀ : (((win0_24.blk t).view.emb y) 0 : Fin 128) = at_ t (y 0) := Fin.ext h
  have h₁ : (((win0_24.blk t).view.emb y) 1 : Fin 1024) = y 1 := Fin.ext (by
    blk_simp [idx24 t])
  refine ((congrArg _ (eq_ix2 y)).trans (out24 (block m c t) (y 0) (y 1))).trans ?_
  unfold G24
  rw [h₀, h₁]
  rfl

def G25 (c : Dev nD) : Proj.Mat 128 2048 := fun i =>
  Proj.gate (Z m c (i 0)) (i 1)

theorem arr25 (c : Dev nD) : (dats m 0 c).arrAt 25 cfg0.N = (G25 m c : Proj.Mat 128 2048) := by
  refine (dats m 0 c).arrAt_eq_of_covers 25 (G25 m c) (by decide +kernel) fun t hf y => ?_
  blk_simp [idx25 t]
  rw [after0_25]
  have h : ((((win0_25.blk t).view.emb y) 0 : Fin 128) : ℕ) = 128 * t.val + (y 0).val := by
    blk_simp [idx25 t]
    omega
  have h₀ : (((win0_25.blk t).view.emb y) 0 : Fin 128) = at_ t (y 0) := Fin.ext h
  have h₁ : (((win0_25.blk t).view.emb y) 1 : Fin 2048) = y 1 := Fin.ext (by
    blk_simp [idx25 t])
  refine ((congrArg _ (eq_ix2 y)).trans (out25 (block m c t) (y 0) (y 1))).trans ?_
  unfold G25
  rw [h₀, h₁]
  rfl

end Cert.ProjectSampleIdeal.ProjectSampleKernel

end
-- ==== Proof.ProjectSampleRef.lean ====
/-
  The results of the projection reference of the sample group, entry by entry, are the rows of the specification.
-/
module

public import proofs.«01_k».proof.Proof.Gen.ProjectSampleReferenceIdeal.Run
public import proofs.«01_k».proof.Proof.Gen.ProjectSampleReferenceIdeal.Read
public import proofs.«01_k».proof.Proof.Proj
public import Idealize.ShloMosaic.Lib.Pointwise

@[expose] public section

set_option maxRecDepth 16384

noncomputable section

namespace Cert.ProjectSampleRef

open Cert Idealize.ShloMosaic Cert.ProjectSampleReferenceIdeal Cert.ProjectSampleReferenceIdeal.Gen Cert.ProjectSampleReferenceIdeal.Read

variable (x0 : (⟨3, ![128, 1, 1024]⟩ : Shape).Idx → EReal) (x1 : (⟨1, ![1024]⟩ : Shape).Idx → EReal) (x2 : Proj.Mat 1024 5256)
  (x3 x4 : (⟨1, ![128]⟩ : Shape).Idx → EReal) (x5 : (⟨1, ![256]⟩ : Shape).Idx → EReal) (x6 : Proj.Cube 256 8 192)
  (x7 : (⟨1, ![256]⟩ : Shape).Idx → EReal) (x8 : Proj.Cube 256 8 128) (x9 x10 : (⟨1, ![128]⟩ : Shape).Idx → EReal)
  (x11 x12 : (⟨1, ![64]⟩ : Shape).Idx → EReal)
  (b : Fin 128)

/-- A row of the first product. -/
def zrow : Fin 5256 → EReal := Proj.proj (fun k => x0 (ix3 b 0 k)) (fun k => x1 (ix1 k)) x2

theorem v15_at (k : Fin 1024) :
    (val_main_v15 (F := Ideal) x0 x1 (ix3 b 0 k) : EReal) = Proj.norm Proj.w1024 (fun k => x0 (ix3 b 0 k)) (fun k => x1 (ix1 k)) k := by
  unfold val_main_v15 val_main_v14 val_main_v13 val_main_v12 val_main_v11 val_main_v10 val_main_v9 val_main_v8 val_main_cst_1 val_main_v7 val_main_v6 val_main_cst_0 val_main_v5 val_main_v4 val_main_cst val_main_v3
  pointwise
  rfl

theorem v16_at (e : Fin 5256) : (val_main_v16 (F := Ideal) x0 x1 x2 (ix3 b 0 e) : EReal) = zrow x0 x1 x2 b e := by
  have h : (val_main_v16 (F := Ideal) x0 x1 x2 (ix3 b 0 e) : EReal) = ∑ k : Fin 1024, (val_main_v15 (F := Ideal) x0 x1 (ix3 b 0 k) : EReal) * x2 (ix2 k e) := by
    unfold val_main_v16
    generalize val_main_v15 (F := Ideal) x0 x1 = y
    pointwise
  rw [h]
  exact Finset.sum_congr rfl fun k _ => congrArg (fun v : EReal => v * x2 (ix2 k e)) (v15_at x0 x1 b k)

theorem v27_at (h : Fin 8) (d : Fin 128) : (val_main_v27 (F := Ideal) x0 x1 x2 (ix4 b 0 h d) : EReal) = zrow x0 x1 x2 b ⟨128 * h.val + d.val, by omega⟩ := by
  rw [← v16_at]
  unfold val_main_v27 val_main_v17
  generalize val_main_v16 (F := Ideal) x0 x1 x2 = y
  pointwise <;> exact congrArg (fun e => y (ix3 b 0 e)) (Fin.ext (by try dsimp only
                                                                     omega))

theorem v74_at (h : Fin 4) (d : Fin 128) : (val_main_v74 (F := Ideal) x0 x1 x2 (ix4 b 0 h d) : EReal) = zrow x0 x1 x2 b ⟨1024 + (128 * h.val + d.val), by omega⟩ := by
  rw [← v16_at]
  unfold val_main_v74 val_main_v18
  generalize val_main_v16 (F := Ideal) x0 x1 x2 = y
  pointwise <;> exact congrArg (fun e => y (ix3 b 0 e)) (Fin.ext (by try dsimp only
                                                                     omega))

theorem v19_at (j : Fin 512) : (val_main_v19 (F := Ideal) x0 x1 x2 (ix3 b 0 j) : EReal) = zrow x0 x1 x2 b ⟨1536 + j.val, by omega⟩ := by
  rw [← v16_at]
  unfold val_main_v19
  generalize val_main_v16 (F := Ideal) x0 x1 x2 = y
  pointwise <;> exact congrArg (fun e => y (ix3 b 0 e)) (Fin.ext (by try dsimp only
                                                                     omega))

theorem v121_at (h : Fin 8) (d : Fin 64) : (val_main_v121 (F := Ideal) x0 x1 x2 (ix4 b 0 h d) : EReal) = zrow x0 x1 x2 b ⟨2048 + (64 * h.val + d.val), by omega⟩ := by
  rw [← v16_at]
  unfold val_main_v121 val_main_v20
  generalize val_main_v16 (F := Ideal) x0 x1 x2 = y
  pointwise <;> exact congrArg (fun e => y (ix3 b 0 e)) (Fin.ext (by try dsimp only
                                                                     omega))

theorem v155_at (d : Fin 64) : (val_main_v155 (F := Ideal) x0 x1 x2 (ix4 b 0 0 d) : EReal) = zrow x0 x1 x2 b ⟨2560 + d.val, by omega⟩ := by
  rw [← v16_at]
  unfold val_main_v155 val_main_v21
  generalize val_main_v16 (F := Ideal) x0 x1 x2 = y
  pointwise <;> exact congrArg (fun e => y (ix3 b 0 e)) (Fin.ext (by try dsimp only
                                                                     omega))

theorem v23_at (d : Fin 256) : (val_main_v23 (F := Ideal) x0 x1 x2 (ix3 b 0 d) : EReal) = zrow x0 x1 x2 b ⟨2632 + d.val, by omega⟩ := by
  rw [← v16_at]
  unfold val_main_v23
  generalize val_main_v16 (F := Ideal) x0 x1 x2 = y
  pointwise <;> exact congrArg (fun e => y (ix3 b 0 e)) (Fin.ext (by try dsimp only
                                                                     omega))

theorem v24_at (d : Fin 256) : (val_main_v24 (F := Ideal) x0 x1 x2 (ix3 b 0 d) : EReal) = zrow x0 x1 x2 b ⟨2888 + d.val, by omega⟩ := by
  rw [← v16_at]
  unfold val_main_v24
  generalize val_main_v16 (F := Ideal) x0 x1 x2 = y
  pointwise <;> exact congrArg (fun e => y (ix3 b 0 e)) (Fin.ext (by try dsimp only
                                                                     omega))

theorem v25_at (d : Fin 64) : (val_main_v25 (F := Ideal) x0 x1 x2 (ix3 b 0 d) : EReal) = zrow x0 x1 x2 b ⟨3144 + d.val, by omega⟩ := by
  rw [← v16_at]
  unfold val_main_v25
  generalize val_main_v16 (F := Ideal) x0 x1 x2 = y
  pointwise <;> exact congrArg (fun e => y (ix3 b 0 e)) (Fin.ext (by try dsimp only
                                                                     omega))

theorem v26_at (j : Fin 2048) : (val_main_v26 (F := Ideal) x0 x1 x2 (ix3 b 0 j) : EReal) = zrow x0 x1 x2 b ⟨3208 + j.val, by omega⟩ := by
  rw [← v16_at]
  unfold val_main_v26
  generalize val_main_v16 (F := Ideal) x0 x1 x2 = y
  pointwise <;> exact congrArg (fun e => y (ix3 b 0 e)) (Fin.ext (by try dsimp only
                                                                     omega))

theorem v40_at (h : Fin 8) (d : Fin 128) :
    (val_main_v40 (F := Ideal) x0 x1 x2 x3 (ix4 b 0 h d) : EReal) = Proj.norm Proj.w128 (fun d : Fin 128 => (val_main_v27 (F := Ideal) x0 x1 x2 (ix4 b 0 h d) : EReal)) (fun d => x3 (ix1 d)) d := by
  unfold val_main_v40 val_main_v39 val_main_v38 val_main_v37 val_main_v36 val_main_v35 val_main_v34 val_main_v33 val_main_cst_4 val_main_v32 val_main_v31 val_main_cst_3 val_main_v30 val_main_v29 val_main_cst_2 val_main_v28
  generalize val_main_v27 (F := Ideal) x0 x1 x2 = y0
  pointwise
  rfl

theorem v87_at (h : Fin 4) (d : Fin 128) :
    (val_main_v87 (F := Ideal) x0 x1 x2 x4 (ix4 b 0 h d) : EReal) = Proj.norm Proj.w128 (fun d : Fin 128 => (val_main_v74 (F := Ideal) x0 x1 x2 (ix4 b 0 h d) : EReal)) (fun d => x4 (ix1 d)) d := by
  unfold val_main_v87 val_main_v86 val_main_v85 val_main_v84 val_main_v83 val_main_v82 val_main_v81 val_main_v80 val_main_cst_9 val_main_v79 val_main_v78 val_main_cst_8 val_main_v77 val_main_v76 val_main_cst_7 val_main_v75
  generalize val_main_v74 (F := Ideal) x0 x1 x2 = y0
  pointwise
  rfl

theorem v202_at (d : Fin 256) :
    (val_main_v202 (F := Ideal) x0 x1 x2 x5 (ix3 b 0 d) : EReal) = Proj.norm Proj.w256 (fun d : Fin 256 => (val_main_v23 (F := Ideal) x0 x1 x2 (ix3 b 0 d) : EReal)) (fun d => x5 (ix1 d)) d := by
  unfold val_main_v202 val_main_v201 val_main_v200 val_main_v199 val_main_v198 val_main_v197 val_main_v196 val_main_v195 val_main_cst_18 val_main_v194 val_main_v193 val_main_cst_17 val_main_v192 val_main_v191 val_main_cst_16 val_main_v190
  generalize val_main_v23 (F := Ideal) x0 x1 x2 = y0
  pointwise
  rfl

theorem v217_at (h : Fin 8) (d : Fin 128) :
    (val_main_v217 (F := Ideal) x0 x1 x2 x5 x6 x9 (ix4 b 0 h d) : EReal) = Proj.norm Proj.w128 (fun d : Fin 128 => (val_main_v204 (F := Ideal) x0 x1 x2 x5 x6 (ix4 b 0 h d) : EReal)) (fun d => x9 (ix1 d)) d := by
  unfold val_main_v217 val_main_v216 val_main_v215 val_main_v214 val_main_v213 val_main_v212 val_main_v211 val_main_v210 val_main_cst_21 val_main_v209 val_main_v208 val_main_cst_20 val_main_v207 val_main_v206 val_main_cst_19 val_main_v205
  generalize val_main_v204 (F := Ideal) x0 x1 x2 x5 x6 = y0
  pointwise
  rfl

theorem v231_at (h : Fin 8) (d : Fin 64) :
    (val_main_v231 (F := Ideal) x0 x1 x2 x5 x6 x11 (ix4 b 0 h d) : EReal) = Proj.norm Proj.w64 (fun d : Fin 64 => (val_main_v218 (F := Ideal) x0 x1 x2 x5 x6 (ix4 b 0 h d) : EReal)) (fun d => x11 (ix1 d)) d := by
  unfold val_main_v231 val_main_v230 val_main_v229 val_main_v228 val_main_v227 val_main_v226 val_main_v225 val_main_v224 val_main_cst_24 val_main_v223 val_main_v222 val_main_cst_23 val_main_v221 val_main_v220 val_main_cst_22 val_main_v219
  generalize val_main_v218 (F := Ideal) x0 x1 x2 x5 x6 = y0
  pointwise
  rfl

theorem v277_at (d : Fin 256) :
    (val_main_v277 (F := Ideal) x0 x1 x2 x7 (ix3 b 0 d) : EReal) = Proj.norm Proj.w256 (fun d : Fin 256 => (val_main_v24 (F := Ideal) x0 x1 x2 (ix3 b 0 d) : EReal)) (fun d => x7 (ix1 d)) d := by
  unfold val_main_v277 val_main_v276 val_main_v275 val_main_v274 val_main_v273 val_main_v272 val_main_v271 val_main_v270 val_main_cst_29 val_main_v269 val_main_v268 val_main_cst_28 val_main_v267 val_main_v266 val_main_cst_27 val_main_v265
  generalize val_main_v24 (F := Ideal) x0 x1 x2 = y0
  pointwise
  rfl

theorem v291_at (d : Fin 64) :
    (val_main_v291 (F := Ideal) x0 x1 x2 x12 (ix4 b 0 0 d) : EReal) = Proj.norm Proj.w64 (fun d : Fin 64 => (val_main_v25 (F := Ideal) x0 x1 x2 (ix3 b 0 d) : EReal)) (fun d => x12 (ix1 d)) d := by
  unfold val_main_v291 val_main_v290 val_main_v289 val_main_v288 val_main_v287 val_main_v286 val_main_v285 val_main_v284 val_main_v283 val_main_cst_32 val_main_v282 val_main_v281 val_main_cst_31 val_main_v280 val_main_v279 val_main_cst_30 val_main_v278
  generalize val_main_v25 (F := Ideal) x0 x1 x2 = y0
  pointwise
  rfl

theorem v339_at (h : Fin 8) (d : Fin 128) :
    (val_main_v339 (F := Ideal) x0 x1 x2 x7 x8 x10 (ix4 b 0 h d) : EReal) = Proj.norm Proj.w128 (fun d : Fin 128 => (val_main_v326 (F := Ideal) x0 x1 x2 x7 x8 (ix4 b 0 h d) : EReal)) (fun d => x10 (ix1 d)) d := by
  unfold val_main_v339 val_main_v338 val_main_v337 val_main_v336 val_main_v335 val_main_v334 val_main_v333 val_main_v332 val_main_cst_37 val_main_v331 val_main_v330 val_main_cst_36 val_main_v329 val_main_v328 val_main_cst_35 val_main_v327
  generalize val_main_v326 (F := Ideal) x0 x1 x2 x7 x8 = y0
  pointwise
  rfl

theorem v204_at (h : Fin 8) (d : Fin 128) :
    (val_main_v204 (F := Ideal) x0 x1 x2 x5 x6 (ix4 b 0 h d) : EReal) = (∑ r : Fin 256, (val_main_v202 (F := Ideal) x0 x1 x2 x5 (ix3 b 0 r) : EReal) * x6 (ix3 r h ⟨d.val, by omega⟩) : EReal) := by
  unfold val_main_v204 val_main_v203
  generalize val_main_v202 (F := Ideal) x0 x1 x2 x5 = y0
  pointwise

theorem v218_at (h : Fin 8) (d : Fin 64) :
    (val_main_v218 (F := Ideal) x0 x1 x2 x5 x6 (ix4 b 0 h d) : EReal) = (∑ r : Fin 256, (val_main_v202 (F := Ideal) x0 x1 x2 x5 (ix3 b 0 r) : EReal) * x6 (ix3 r h ⟨128 + d.val, by omega⟩) : EReal) := by
  unfold val_main_v218 val_main_v203
  generalize val_main_v202 (F := Ideal) x0 x1 x2 x5 = y0
  pointwise

theorem v326_at (h : Fin 8) (d : Fin 128) :
    (val_main_v326 (F := Ideal) x0 x1 x2 x7 x8 (ix4 b 0 h d) : EReal) = (∑ r : Fin 256, (val_main_v277 (F := Ideal) x0 x1 x2 x7 (ix3 b 0 r) : EReal) * x8 (ix3 r h d) : EReal) := by
  unfold val_main_v326
  generalize val_main_v277 (F := Ideal) x0 x1 x2 x7 = y0
  pointwise

theorem v345_at (j : Fin 2048) :
    (val_main_v345 (F := Ideal) x0 x1 x2 (ix3 b 0 j) : EReal) = Ideal.div (Ideal.ofBits .f32 0x3F800000#32) (Ideal.ofBits .f32 0x3F800000#32 + Ideal.exp (-(val_main_v26 (F := Ideal) x0 x1 x2 (ix3 b 0 j) : EReal))) := by
  unfold val_main_v345 val_main_v344 val_main_cst_39 val_main_v343 val_main_v342 val_main_cst_38 val_main_v341 val_main_v340
  generalize val_main_v26 (F := Ideal) x0 x1 x2 = y0
  pointwise

/-- The position of the new token. -/
theorem position : val_main_v2 (F := Ideal) (ix1 0) = 8192#32 := by
  unfold val_main_v2 val_main_v1 val_main_c val_main_v0
  rfl

theorem v52_at (j : Fin 16) : (val_main_v52 (F := Ideal) (ix2 0 j) : EReal) = Proj.cosine Proj.b32 8192 j.val := by
  have hp := position
  unfold val_main_v52 val_main_v51 val_main_v50 val_main_v49 val_main_v48 val_main_v47 val_main_v46 val_main_v45 val_main_cst_6 val_main_v44 val_main_v43 val_main_cst_5 val_main_v42 val_main_v41
  generalize val_main_v2 (F := Ideal) = y at hp ⊢
  pointwise
  simp only [hp]
  rfl

theorem v54_at (j : Fin 16) : (val_main_v54 (F := Ideal) (ix2 0 j) : EReal) = Proj.sine Proj.b32 8192 j.val := by
  have hp := position
  unfold val_main_v54 val_main_v51 val_main_v50 val_main_v49 val_main_v48 val_main_v47 val_main_v46 val_main_v45 val_main_cst_6 val_main_v44 val_main_v43 val_main_cst_5 val_main_v42 val_main_v41
  generalize val_main_v2 (F := Ideal) = y at hp ⊢
  pointwise
  simp only [hp]
  rfl

theorem v99_at (j : Fin 16) : (val_main_v99 (F := Ideal) (ix2 0 j) : EReal) = Proj.cosine Proj.b32 8192 j.val := by
  have hp := position
  unfold val_main_v99 val_main_v98 val_main_v97 val_main_v96 val_main_v95 val_main_v94 val_main_v93 val_main_v92 val_main_cst_11 val_main_v91 val_main_v90 val_main_cst_10 val_main_v89 val_main_v88
  generalize val_main_v2 (F := Ideal) = y at hp ⊢
  pointwise
  simp only [hp]
  rfl

theorem v101_at (j : Fin 16) : (val_main_v101 (F := Ideal) (ix2 0 j) : EReal) = Proj.sine Proj.b32 8192 j.val := by
  have hp := position
  unfold val_main_v101 val_main_v98 val_main_v97 val_main_v96 val_main_v95 val_main_v94 val_main_v93 val_main_v92 val_main_cst_11 val_main_v91 val_main_v90 val_main_cst_10 val_main_v89 val_main_v88
  generalize val_main_v2 (F := Ideal) = y at hp ⊢
  pointwise
  simp only [hp]
  rfl

theorem v133_at (j : Fin 8) : (val_main_v133 (F := Ideal) (ix2 0 j) : EReal) = Proj.cosine Proj.b16 8192 j.val := by
  have hp := position
  unfold val_main_v133 val_main_v132 val_main_v131 val_main_v130 val_main_v129 val_main_v128 val_main_v127 val_main_v126 val_main_cst_13 val_main_v125 val_main_v124 val_main_cst_12 val_main_v123 val_main_v122
  generalize val_main_v2 (F := Ideal) = y at hp ⊢
  pointwise
  simp only [hp]
  rfl

theorem v135_at (j : Fin 8) : (val_main_v135 (F := Ideal) (ix2 0 j) : EReal) = Proj.sine Proj.b16 8192 j.val := by
  have hp := position
  unfold val_main_v135 val_main_v132 val_main_v131 val_main_v130 val_main_v129 val_main_v128 val_main_v127 val_main_v126 val_main_cst_13 val_main_v125 val_main_v124 val_main_cst_12 val_main_v123 val_main_v122
  generalize val_main_v2 (F := Ideal) = y at hp ⊢
  pointwise
  simp only [hp]
  rfl

theorem v167_at (j : Fin 8) : (val_main_v167 (F := Ideal) (ix2 0 j) : EReal) = Proj.cosine Proj.b16 8192 j.val := by
  have hp := position
  unfold val_main_v167 val_main_v166 val_main_v165 val_main_v164 val_main_v163 val_main_v162 val_main_v161 val_main_v160 val_main_cst_15 val_main_v159 val_main_v158 val_main_cst_14 val_main_v157 val_main_v156
  generalize val_main_v2 (F := Ideal) = y at hp ⊢
  pointwise
  simp only [hp]
  rfl

theorem v169_at (j : Fin 8) : (val_main_v169 (F := Ideal) (ix2 0 j) : EReal) = Proj.sine Proj.b16 8192 j.val := by
  have hp := position
  unfold val_main_v169 val_main_v166 val_main_v165 val_main_v164 val_main_v163 val_main_v162 val_main_v161 val_main_v160 val_main_cst_15 val_main_v159 val_main_v158 val_main_cst_14 val_main_v157 val_main_v156
  generalize val_main_v2 (F := Ideal) = y at hp ⊢
  pointwise
  simp only [hp]
  rfl

theorem v243_at (j : Fin 32) : (val_main_v243 (F := Ideal) (ix2 0 j) : EReal) = Proj.cosine Proj.b64 8192 j.val := by
  have hp := position
  unfold val_main_v243 val_main_v242 val_main_v241 val_main_v240 val_main_v239 val_main_v238 val_main_v237 val_main_v236 val_main_cst_26 val_main_v235 val_main_v234 val_main_cst_25 val_main_v233 val_main_v232
  generalize val_main_v2 (F := Ideal) = y at hp ⊢
  pointwise
  simp only [hp]
  rfl

theorem v245_at (j : Fin 32) : (val_main_v245 (F := Ideal) (ix2 0 j) : EReal) = Proj.sine Proj.b64 8192 j.val := by
  have hp := position
  unfold val_main_v245 val_main_v242 val_main_v241 val_main_v240 val_main_v239 val_main_v238 val_main_v237 val_main_v236 val_main_cst_26 val_main_v235 val_main_v234 val_main_cst_25 val_main_v233 val_main_v232
  generalize val_main_v2 (F := Ideal) = y at hp ⊢
  pointwise
  simp only [hp]
  rfl

theorem v303_at (j : Fin 32) : (val_main_v303 (F := Ideal) (ix2 0 j) : EReal) = Proj.cosine Proj.b64 8192 j.val := by
  have hp := position
  unfold val_main_v303 val_main_v302 val_main_v301 val_main_v300 val_main_v299 val_main_v298 val_main_v297 val_main_v296 val_main_cst_34 val_main_v295 val_main_v294 val_main_cst_33 val_main_v293 val_main_v292
  generalize val_main_v2 (F := Ideal) = y at hp ⊢
  pointwise
  simp only [hp]
  rfl

theorem v305_at (j : Fin 32) : (val_main_v305 (F := Ideal) (ix2 0 j) : EReal) = Proj.sine Proj.b64 8192 j.val := by
  have hp := position
  unfold val_main_v305 val_main_v302 val_main_v301 val_main_v300 val_main_v299 val_main_v298 val_main_v297 val_main_v296 val_main_cst_34 val_main_v295 val_main_v294 val_main_cst_33 val_main_v293 val_main_v292
  generalize val_main_v2 (F := Ideal) = y at hp ⊢
  pointwise
  simp only [hp]
  rfl

theorem v73_at (h : Fin 8) (d : Fin 128) : (val_main_v73 (F := Ideal) x0 x1 x2 x3 (ix4 b 0 h d) : EReal)
    = Proj.rope 16 (by decide) (Proj.cosine Proj.b32 8192) (Proj.sine Proj.b32 8192)
      (fun d : Fin 128 => (val_main_v40 (F := Ideal) x0 x1 x2 x3 (ix4 b 0 h d) : EReal)) d := by
  have hC := v52_at
  have hS := v54_at
  unfold val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v53
  generalize val_main_v40 (F := Ideal) x0 x1 x2 x3 = y
  generalize val_main_v52 (F := Ideal) = c at hC ⊢
  generalize val_main_v54 (F := Ideal) = s at hS ⊢
  pointwise
  simp only [hC, hS]
  unfold Proj.rope
  by_cases h₁ : d.val < 16
  · simp only [dif_pos h₁, Nat.add_comm 16] <;> rfl
  · by_cases h₂ : d.val - 16 < 16
    · have e : 16 + (d.val - 16) = d.val := by omega
      simp only [dif_neg h₁, dif_pos h₂, if_pos (show d.val < 2 * 16 by omega), e] <;> rfl
    · have e : 32 + (d.val - 16 - 16) = d.val := by omega
      simp only [dif_neg h₁, dif_neg h₂, if_neg (show ¬ d.val < 2 * 16 by omega), e] <;> rfl

theorem v120_at (h : Fin 4) (d : Fin 128) : (val_main_v120 (F := Ideal) x0 x1 x2 x4 (ix4 b 0 h d) : EReal)
    = Proj.rope 16 (by decide) (Proj.cosine Proj.b32 8192) (Proj.sine Proj.b32 8192)
      (fun d : Fin 128 => (val_main_v87 (F := Ideal) x0 x1 x2 x4 (ix4 b 0 h d) : EReal)) d := by
  have hC := v99_at
  have hS := v101_at
  unfold val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v100
  generalize val_main_v87 (F := Ideal) x0 x1 x2 x4 = y
  generalize val_main_v99 (F := Ideal) = c at hC ⊢
  generalize val_main_v101 (F := Ideal) = s at hS ⊢
  pointwise
  simp only [hC, hS]
  unfold Proj.rope
  by_cases h₁ : d.val < 16
  · simp only [dif_pos h₁, Nat.add_comm 16] <;> rfl
  · by_cases h₂ : d.val - 16 < 16
    · have e : 16 + (d.val - 16) = d.val := by omega
      simp only [dif_neg h₁, dif_pos h₂, if_pos (show d.val < 2 * 16 by omega), e] <;> rfl
    · have e : 32 + (d.val - 16 - 16) = d.val := by omega
      simp only [dif_neg h₁, dif_neg h₂, if_neg (show ¬ d.val < 2 * 16 by omega), e] <;> rfl

theorem v154_at (h : Fin 8) (d : Fin 64) : (val_main_v154 (F := Ideal) x0 x1 x2 (ix4 b 0 h d) : EReal)
    = Proj.rope 8 (by decide) (Proj.cosine Proj.b16 8192) (Proj.sine Proj.b16 8192)
      (fun d : Fin 64 => (val_main_v121 (F := Ideal) x0 x1 x2 (ix4 b 0 h d) : EReal)) d := by
  have hC := v133_at
  have hS := v135_at
  unfold val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v134
  generalize val_main_v121 (F := Ideal) x0 x1 x2 = y
  generalize val_main_v133 (F := Ideal) = c at hC ⊢
  generalize val_main_v135 (F := Ideal) = s at hS ⊢
  pointwise
  simp only [hC, hS]
  unfold Proj.rope
  by_cases h₁ : d.val < 8
  · simp only [dif_pos h₁, Nat.add_comm 8] <;> rfl
  · by_cases h₂ : d.val - 8 < 8
    · have e : 8 + (d.val - 8) = d.val := by omega
      simp only [dif_neg h₁, dif_pos h₂, if_pos (show d.val < 2 * 8 by omega), e] <;> rfl
    · have e : 16 + (d.val - 8 - 8) = d.val := by omega
      simp only [dif_neg h₁, dif_neg h₂, if_neg (show ¬ d.val < 2 * 8 by omega), e] <;> rfl

theorem v188_at (d : Fin 64) : (val_main_v188 (F := Ideal) x0 x1 x2 (ix4 b 0 0 d) : EReal)
    = Proj.rope 8 (by decide) (Proj.cosine Proj.b16 8192) (Proj.sine Proj.b16 8192)
      (fun d : Fin 64 => (val_main_v155 (F := Ideal) x0 x1 x2 (ix4 b 0 0 d) : EReal)) d := by
  have hC := v167_at
  have hS := v169_at
  unfold val_main_v188 val_main_v187 val_main_v186 val_main_v185 val_main_v184 val_main_v183 val_main_v182 val_main_v181 val_main_v180 val_main_v179 val_main_v178 val_main_v177 val_main_v176 val_main_v175 val_main_v174 val_main_v173 val_main_v172 val_main_v171 val_main_v170 val_main_v168
  generalize val_main_v155 (F := Ideal) x0 x1 x2 = y
  generalize val_main_v167 (F := Ideal) = c at hC ⊢
  generalize val_main_v169 (F := Ideal) = s at hS ⊢
  pointwise
  simp only [hC, hS]
  unfold Proj.rope
  by_cases h₁ : d.val < 8
  · simp only [dif_pos h₁, Nat.add_comm 8] <;> rfl
  · by_cases h₂ : d.val - 8 < 8
    · have e : 8 + (d.val - 8) = d.val := by omega
      simp only [dif_neg h₁, dif_pos h₂, if_pos (show d.val < 2 * 8 by omega), e] <;> rfl
    · have e : 16 + (d.val - 8 - 8) = d.val := by omega
      simp only [dif_neg h₁, dif_neg h₂, if_neg (show ¬ d.val < 2 * 8 by omega), e] <;> rfl

theorem v264_at (h : Fin 8) (d : Fin 64) : (val_main_v264 (F := Ideal) x0 x1 x2 x5 x6 x11 (ix4 b 0 h d) : EReal)
    = Proj.rope 32 (by decide) (Proj.cosine Proj.b64 8192) (Proj.sine Proj.b64 8192)
      (fun d : Fin 64 => (val_main_v231 (F := Ideal) x0 x1 x2 x5 x6 x11 (ix4 b 0 h d) : EReal)) d := by
  have hC := v243_at
  have hS := v245_at
  unfold val_main_v264 val_main_v263 val_main_v262 val_main_v261 val_main_v260 val_main_v259 val_main_v258 val_main_v257 val_main_v256 val_main_v255 val_main_v254 val_main_v253 val_main_v252 val_main_v251 val_main_v250 val_main_v249 val_main_v248 val_main_v247 val_main_v246 val_main_v244
  generalize val_main_v231 (F := Ideal) x0 x1 x2 x5 x6 x11 = y
  generalize val_main_v243 (F := Ideal) = c at hC ⊢
  generalize val_main_v245 (F := Ideal) = s at hS ⊢
  pointwise
  simp only [hC, hS]
  unfold Proj.rope
  by_cases h₁ : d.val < 32
  · simp only [dif_pos h₁, Nat.add_comm 32] <;> rfl
  · by_cases h₂ : d.val - 32 < 32
    · have e : 32 + (d.val - 32) = d.val := by omega
      simp only [dif_neg h₁, dif_pos h₂, if_pos (show d.val < 2 * 32 by omega), e] <;> rfl
    · have e : 64 + (d.val - 32 - 32) = d.val := by omega
      simp only [dif_neg h₁, dif_neg h₂, if_neg (show ¬ d.val < 2 * 32 by omega), e] <;> rfl

theorem v324_at (d : Fin 64) : (val_main_v324 (F := Ideal) x0 x1 x2 x12 (ix4 b 0 0 d) : EReal)
    = Proj.rope 32 (by decide) (Proj.cosine Proj.b64 8192) (Proj.sine Proj.b64 8192)
      (fun d : Fin 64 => (val_main_v291 (F := Ideal) x0 x1 x2 x12 (ix4 b 0 0 d) : EReal)) d := by
  have hC := v303_at
  have hS := v305_at
  unfold val_main_v324 val_main_v323 val_main_v322 val_main_v321 val_main_v320 val_main_v319 val_main_v318 val_main_v317 val_main_v316 val_main_v315 val_main_v314 val_main_v313 val_main_v312 val_main_v311 val_main_v310 val_main_v309 val_main_v308 val_main_v307 val_main_v306 val_main_v304
  generalize val_main_v291 (F := Ideal) x0 x1 x2 x12 = y
  generalize val_main_v303 (F := Ideal) = c at hC ⊢
  generalize val_main_v305 (F := Ideal) = s at hS ⊢
  pointwise
  simp only [hC, hS]
  unfold Proj.rope
  by_cases h₁ : d.val < 32
  · simp only [dif_pos h₁, Nat.add_comm 32] <;> rfl
  · by_cases h₂ : d.val - 32 < 32
    · have e : 32 + (d.val - 32) = d.val := by omega
      simp only [dif_neg h₁, dif_pos h₂, if_pos (show d.val < 2 * 32 by omega), e] <;> rfl
    · have e : 64 + (d.val - 32 - 32) = d.val := by omega
      simp only [dif_neg h₁, dif_neg h₂, if_neg (show ¬ d.val < 2 * 32 by omega), e] <;> rfl

theorem k_at (n : Fin 128) (j : Fin 512) : (val_main_v346 (F := Ideal) x0 x1 x2 x4 (ix2 n j) : EReal) = Proj.key (zrow x0 x1 x2 n) 8192 (fun l => x4 (ix1 l)) j := by
  have e : (val_main_v346 (F := Ideal) x0 x1 x2 x4 (ix2 n j) : EReal)
      = val_main_v120 (F := Ideal) x0 x1 x2 x4 (ix4 n 0 ⟨j.val / 128, by omega⟩ ⟨j.val % 128, by omega⟩) := by
    unfold val_main_v346
    generalize val_main_v120 (F := Ideal) x0 x1 x2 x4 = y
    pointwise
    try rfl
  rw [e, v120_at]
  simp only [v87_at, v74_at]
  rfl

theorem v_at (n : Fin 128) (j : Fin 512) : (val_main_v347 (F := Ideal) x0 x1 x2 (ix2 n j) : EReal) = Proj.value (zrow x0 x1 x2 n) j := by
  have e : (val_main_v347 (F := Ideal) x0 x1 x2 (ix2 n j) : EReal)
      = val_main_v19 (F := Ideal) x0 x1 x2 (ix3 n 0 j) := by
    unfold val_main_v347
    generalize val_main_v19 (F := Ideal) x0 x1 x2 = y
    pointwise
    try rfl
  rw [e, v19_at]
  simp only [id]
  rfl

theorem ki_at (n : Fin 128) (j : Fin 64) : (val_main_v348 (F := Ideal) x0 x1 x2 (ix2 n j) : EReal) = Proj.indexKey (zrow x0 x1 x2 n) 8192 j := by
  have e : (val_main_v348 (F := Ideal) x0 x1 x2 (ix2 n j) : EReal)
      = val_main_v188 (F := Ideal) x0 x1 x2 (ix4 n 0 0 j) := by
    unfold val_main_v348 val_main_v189
    generalize val_main_v188 (F := Ideal) x0 x1 x2 = y
    pointwise
    try rfl
  rw [e, v188_at]
  simp only [v155_at]
  rfl

theorem c_at (n : Fin 128) (j : Fin 256) : (val_main_v349 (F := Ideal) x0 x1 x2 x7 (ix2 n j) : EReal) = Proj.latentKey (zrow x0 x1 x2 n) (fun l => x7 (ix1 l)) j := by
  have e : (val_main_v349 (F := Ideal) x0 x1 x2 x7 (ix2 n j) : EReal)
      = val_main_v277 (F := Ideal) x0 x1 x2 x7 (ix3 n 0 j) := by
    unfold val_main_v349
    generalize val_main_v277 (F := Ideal) x0 x1 x2 x7 = y
    pointwise
    try rfl
  rw [e, v277_at]
  simp only [v24_at]
  rfl

theorem kpe_at (n : Fin 128) (j : Fin 64) : (val_main_v350 (F := Ideal) x0 x1 x2 x12 (ix2 n j) : EReal) = Proj.rotKey (zrow x0 x1 x2 n) 8192 (fun l => x12 (ix1 l)) j := by
  have e : (val_main_v350 (F := Ideal) x0 x1 x2 x12 (ix2 n j) : EReal)
      = val_main_v324 (F := Ideal) x0 x1 x2 x12 (ix4 n 0 0 j) := by
    unfold val_main_v350 val_main_v325
    generalize val_main_v324 (F := Ideal) x0 x1 x2 x12 = y
    pointwise
    try rfl
  rw [e, v324_at]
  simp only [v291_at, v25_at]
  rfl

theorem q_at (n : Fin 128) (j : Fin 1024) : (val_main_v352 (F := Ideal) x0 x1 x2 x3 (ix2 n j) : EReal) = Proj.query (zrow x0 x1 x2 n) 8192 (fun l => x3 (ix1 l)) j := by
  have e : (val_main_v352 (F := Ideal) x0 x1 x2 x3 (ix2 n j) : EReal)
      = val_main_v73 (F := Ideal) x0 x1 x2 x3 (ix4 n 0 ⟨j.val / 128, by omega⟩ ⟨j.val % 128, by omega⟩) := by
    unfold val_main_v352 val_main_v351
    generalize val_main_v73 (F := Ideal) x0 x1 x2 x3 = y
    pointwise
    try rfl
  rw [e, v73_at]
  simp only [v40_at, v27_at]
  rfl

theorem qi_at (n : Fin 128) (j : Fin 512) : (val_main_v354 (F := Ideal) x0 x1 x2 (ix2 n j) : EReal) = Proj.indexQuery (zrow x0 x1 x2 n) 8192 j := by
  have e : (val_main_v354 (F := Ideal) x0 x1 x2 (ix2 n j) : EReal)
      = val_main_v154 (F := Ideal) x0 x1 x2 (ix4 n 0 ⟨j.val / 64, by omega⟩ ⟨j.val % 64, by omega⟩) := by
    unfold val_main_v354 val_main_v353
    generalize val_main_v154 (F := Ideal) x0 x1 x2 = y
    pointwise
    try rfl
  rw [e, v154_at]
  simp only [v121_at]
  rfl

theorem qn_at (n : Fin 128) (j : Fin 1024) : (val_main_v356 (F := Ideal) x0 x1 x2 x5 x6 x9 (ix2 n j) : EReal) = Proj.plainQuery (Proj.latentQuery (zrow x0 x1 x2 n) (fun l => x5 (ix1 l))) x6 (fun l => x9 (ix1 l)) j := by
  have e : (val_main_v356 (F := Ideal) x0 x1 x2 x5 x6 x9 (ix2 n j) : EReal)
      = val_main_v217 (F := Ideal) x0 x1 x2 x5 x6 x9 (ix4 n 0 ⟨j.val / 128, by omega⟩ ⟨j.val % 128, by omega⟩) := by
    unfold val_main_v356 val_main_v355
    generalize val_main_v217 (F := Ideal) x0 x1 x2 x5 x6 x9 = y
    pointwise
    try rfl
  rw [e, v217_at]
  simp only [v204_at, v202_at, v23_at]
  rfl

theorem qpe_at (n : Fin 128) (j : Fin 512) : (val_main_v358 (F := Ideal) x0 x1 x2 x5 x6 x11 (ix2 n j) : EReal) = Proj.rotQuery (Proj.latentQuery (zrow x0 x1 x2 n) (fun l => x5 (ix1 l))) 8192 x6 (fun l => x11 (ix1 l)) j := by
  have e : (val_main_v358 (F := Ideal) x0 x1 x2 x5 x6 x11 (ix2 n j) : EReal)
      = val_main_v264 (F := Ideal) x0 x1 x2 x5 x6 x11 (ix4 n 0 ⟨j.val / 64, by omega⟩ ⟨j.val % 64, by omega⟩) := by
    unfold val_main_v358 val_main_v357
    generalize val_main_v264 (F := Ideal) x0 x1 x2 x5 x6 x11 = y
    pointwise
    try rfl
  rw [e, v264_at]
  simp only [v231_at, v218_at, v202_at, v23_at]
  rfl

theorem kn_at (n : Fin 128) (j : Fin 1024) : (val_main_v360 (F := Ideal) x0 x1 x2 x7 x8 x10 (ix2 n j) : EReal) = Proj.plainKey (Proj.latentKey (zrow x0 x1 x2 n) (fun l => x7 (ix1 l))) x8 (fun l => x10 (ix1 l)) j := by
  have e : (val_main_v360 (F := Ideal) x0 x1 x2 x7 x8 x10 (ix2 n j) : EReal)
      = val_main_v339 (F := Ideal) x0 x1 x2 x7 x8 x10 (ix4 n 0 ⟨j.val / 128, by omega⟩ ⟨j.val % 128, by omega⟩) := by
    unfold val_main_v360 val_main_v359
    generalize val_main_v339 (F := Ideal) x0 x1 x2 x7 x8 x10 = y
    pointwise
    try rfl
  rw [e, v339_at]
  simp only [v326_at, v277_at, v24_at]
  rfl

theorem g_at (n : Fin 128) (j : Fin 2048) : (val_main_v361 (F := Ideal) x0 x1 x2 (ix2 n j) : EReal) = Proj.gate (zrow x0 x1 x2 n) j := by
  have e : (val_main_v361 (F := Ideal) x0 x1 x2 (ix2 n j) : EReal)
      = val_main_v345 (F := Ideal) x0 x1 x2 (ix3 n 0 j) := by
    unfold val_main_v361
    generalize val_main_v345 (F := Ideal) x0 x1 x2 = y
    pointwise
    try rfl
  rw [e, v345_at]
  simp only [v26_at]
  rfl

end Cert.ProjectSampleRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.MergeSample
public import proofs.«01_k».proof.Proof.Gen.MergeSample.Skeleton
public import proofs.«01_k».proof.Proof.Gen.MergeSample.Launch
public import proofs.«01_k».proof.Proof.Gen.MergeSample.Points
public import proofs.«01_k».proof.Proof.Gen.MergeSample.Frame
public import proofs.«01_k».proof.Proof.Gen.MergeSampleIdeal
public import proofs.«01_k».proof.Proof.Gen.MergeSampleIdeal.Skeleton
public import proofs.«01_k».proof.Proof.Gen.MergeSampleIdeal.Launch
public import proofs.«01_k».proof.Proof.Gen.MergeSampleIdeal.Points
public import proofs.«01_k».proof.Proof.Gen.MergeSampleIdeal.Frame
public import proofs.«01_k».proof.Proof.Gen.MergeSampleIdeal.Value
public import proofs.«01_k».proof.Proof.Gen.MergeSampleReferenceIdeal
public import proofs.«01_k».proof.Proof.Gen.MergeSampleReferenceIdeal.Run
public import proofs.«01_k».proof.Proof.Gen.MergeSampleReferenceIdeal.Read
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.ProjectReferenceIdeal.Read
public import proofs.«01_k».proof.Proof.Gen.ProjectSample
public import proofs.«01_k».proof.Proof.Gen.ProjectSample.Skeleton
public import proofs.«01_k».proof.Proof.Gen.ProjectSample.Launch
public import proofs.«01_k».proof.Proof.Gen.ProjectSample.Points
public import proofs.«01_k».proof.Proof.Gen.ProjectSample.Frame
public import proofs.«01_k».proof.Proof.Gen.ProjectSampleIdeal
public import proofs.«01_k».proof.Proof.Gen.ProjectSampleIdeal.Skeleton
public import proofs.«01_k».proof.Proof.Gen.ProjectSampleIdeal.Launch
public import proofs.«01_k».proof.Proof.Gen.ProjectSampleIdeal.Points
public import proofs.«01_k».proof.Proof.Gen.ProjectSampleIdeal.Frame
public import proofs.«01_k».proof.Proof.Gen.ProjectSampleIdeal.Value
public import proofs.«01_k».proof.Proof.Gen.ProjectSampleReferenceIdeal
public import proofs.«01_k».proof.Proof.Gen.ProjectSampleReferenceIdeal.Run
public import proofs.«01_k».proof.Proof.Gen.ProjectSampleReferenceIdeal.Read
public import proofs.«01_k».proof.Proof.AttnKernel
public import proofs.«01_k».proof.Proof.AttnRef
public import proofs.«01_k».proof.Proof.AttnPre
public import proofs.«01_k».proof.Proof.MergeKernel
public import proofs.«01_k».proof.Proof.MergeRef
public import proofs.«01_k».proof.Proof.MergeSampleKernel
public import proofs.«01_k».proof.Proof.MergeSampleRef
public import proofs.«01_k».proof.Proof.ProjectKernel
public import proofs.«01_k».proof.Proof.ProjectRef
public import proofs.«01_k».proof.Proof.ProjectSampleKernel
public import proofs.«01_k».proof.Proof.ProjectSampleRef
public import Idealize.ShloMosaic.Adequacy
public import Idealize.ShloMosaic.Init

@[expose] public section

noncomputable section

namespace Cert.Proof

open Idealize.ShloMosaic Idealize.SL.Sem Cert.Kernel

/-- The attention kernel and the reference leave the same array, where the queries and keys are real numbers. -/
theorem attn [Cert.KernelIdeal.Facts] [Cert.ReferenceIdeal.Facts] [Cert.Pre_finite.Facts] :
    algebraic_KernelIdeal_ReferenceIdeal_pre_finite := fun m ρ m' ρ' hpre hag =>
  ⟨fun c => Cert.KernelIdeal.AttnKernel.G m c,
    (θ_run _ _ _).mono (fun _ h c => ⟨(h c).1.trans (Cert.KernelIdeal.AttnKernel.arr6 m c), (h c).2⟩)
      (Cert.KernelIdeal.Value.run_blocks m ρ),
    (θ_run _ _ _).mono (fun _ h c => ⟨(h c).1.trans (by
      obtain ⟨a0, a1, a2, a3, a4, a5⟩ := hag c
      obtain ⟨p0, p1, p2, p3⟩ := hpre c
      rw [Cert.ReferenceIdeal.Read.val_main_v39_eq, a0, a1, a2, a3, a4, a5]
      exact Cert.AttnRef.out_eq _ _ _ _ _ _ (Cert.AttnPre.real0 _ _ _ _ _ _ p0) (Cert.AttnPre.real1 _ _ _ _ _ _ p1)
        (Cert.AttnPre.real2 _ _ _ _ _ _ p2) (Cert.AttnPre.real3 _ _ _ _ _ _ p3)), (h c).2⟩)
      (Cert.ReferenceIdeal.Value.run m' ρ')⟩

/-- The attention's reference leaves its arguments as they were; it has no semaphore. -/
theorem attn_reference [Cert.ReferenceIdeal.Facts] : quiescent_ReferenceIdeal := fun m ρ _ =>
  (θ_run _ _ _).mono (fun r h => ⟨fun c => (h c).2, sem_eq_zero_of_no_sems (by decide) r.2⟩) (Cert.ReferenceIdeal.Value.run m ρ)

/-- The merge kernel and its reference leave the same array. -/
theorem merge [Cert.MergeIdeal.Facts] [Cert.MergeReferenceIdeal.Facts] : algebraic_MergeIdeal_MergeReferenceIdeal := fun m ρ m' ρ' _ hag =>
  ⟨fun c => Cert.MergeIdeal.MergeKernel.G m c,
    (θ_run _ _ _).mono (fun _ h c => ⟨(h c).1.trans (Cert.MergeIdeal.MergeKernel.arr8 m c), (h c).2⟩) (Cert.MergeIdeal.Value.run_blocks m ρ),
    (θ_run _ _ _).mono (fun _ h c => ⟨(h c).1.trans (by
      obtain ⟨a0, a1, a2, a3, a4, a5, a6, a7⟩ := hag c
      rw [Cert.MergeReferenceIdeal.Read.val_main_v24_eq, a0, a1, a2, a3, a4, a5, a6, a7]
      exact Cert.MergeRef.out_eq _ _ _ _ _ _ _ _), (h c).2⟩) (Cert.MergeReferenceIdeal.Value.run m' ρ')⟩

/-- The merge's reference leaves its arguments as they were; it has no semaphore. -/
theorem merge_reference [Cert.MergeReferenceIdeal.Facts] : quiescent_MergeReferenceIdeal := fun m ρ _ =>
  (θ_run _ _ _).mono (fun r h => ⟨fun c => (h c).2, sem_eq_zero_of_no_sems (by decide) r.2⟩) (Cert.MergeReferenceIdeal.Value.run m ρ)

/-- The same for the sample group's rows. -/
theorem merge_sample [Cert.MergeSampleIdeal.Facts] [Cert.MergeSampleReferenceIdeal.Facts] : algebraic_MergeSampleIdeal_MergeSampleReferenceIdeal := fun m ρ m' ρ' _ hag =>
  ⟨fun c => Cert.MergeSampleIdeal.MergeSampleKernel.G m c,
    (θ_run _ _ _).mono (fun _ h c => ⟨(h c).1.trans (Cert.MergeSampleIdeal.MergeSampleKernel.arr8 m c), (h c).2⟩) (Cert.MergeSampleIdeal.Value.run_blocks m ρ),
    (θ_run _ _ _).mono (fun _ h c => ⟨(h c).1.trans (by
      obtain ⟨a0, a1, a2, a3, a4, a5, a6, a7⟩ := hag c
      rw [Cert.MergeSampleReferenceIdeal.Read.val_main_v24_eq, a0, a1, a2, a3, a4, a5, a6, a7]
      exact Cert.MergeSampleRef.out_eq _ _ _ _ _ _ _ _), (h c).2⟩) (Cert.MergeSampleReferenceIdeal.Value.run m' ρ')⟩

/-- Likewise its reference. -/
theorem merge_sample_reference [Cert.MergeSampleReferenceIdeal.Facts] : quiescent_MergeSampleReferenceIdeal := fun m ρ _ =>
  (θ_run _ _ _).mono (fun r h => ⟨fun c => (h c).2, sem_eq_zero_of_no_sems (by decide) r.2⟩) (Cert.MergeSampleReferenceIdeal.Value.run m ρ)

/-- The projection kernel and its reference leave the same eleven results: every array of both is the rows of one specification. -/
theorem project [Cert.ProjectIdeal.Facts] [Cert.ProjectReferenceIdeal.Facts] : algebraic_ProjectIdeal_ProjectReferenceIdeal := fun m ρ m' ρ' _ hag =>
  ⟨fun c => Cert.ProjectIdeal.ProjectKernel.G15 m c,
    fun c => Cert.ProjectIdeal.ProjectKernel.G16 m c,
    fun c => Cert.ProjectIdeal.ProjectKernel.G18 m c,
    fun c => Cert.ProjectIdeal.ProjectKernel.G23 m c,
    fun c => Cert.ProjectIdeal.ProjectKernel.G19 m c,
    fun c => Cert.ProjectIdeal.ProjectKernel.G14 m c,
    fun c => Cert.ProjectIdeal.ProjectKernel.G17 m c,
    fun c => Cert.ProjectIdeal.ProjectKernel.G21 m c,
    fun c => Cert.ProjectIdeal.ProjectKernel.G22 m c,
    fun c => Cert.ProjectIdeal.ProjectKernel.G24 m c,
    fun c => Cert.ProjectIdeal.ProjectKernel.G25 m c,
    (θ_run _ _ _).mono (fun _ h c => by
      obtain ⟨h0, h1, h2, h3, h4, h5, h6, h7, h8, h9, h10, h11, hargs⟩ := h c
      exact ⟨h1.trans (Cert.ProjectIdeal.ProjectKernel.arr15 m c), h2.trans (Cert.ProjectIdeal.ProjectKernel.arr16 m c), h4.trans (Cert.ProjectIdeal.ProjectKernel.arr18 m c), h9.trans (Cert.ProjectIdeal.ProjectKernel.arr23 m c), h5.trans (Cert.ProjectIdeal.ProjectKernel.arr19 m c), h0.trans (Cert.ProjectIdeal.ProjectKernel.arr14 m c), h3.trans (Cert.ProjectIdeal.ProjectKernel.arr17 m c), h7.trans (Cert.ProjectIdeal.ProjectKernel.arr21 m c), h8.trans (Cert.ProjectIdeal.ProjectKernel.arr22 m c), h10.trans (Cert.ProjectIdeal.ProjectKernel.arr24 m c), h11.trans (Cert.ProjectIdeal.ProjectKernel.arr25 m c), hargs⟩) (Cert.ProjectIdeal.Value.run_blocks m ρ),
    (θ_run _ _ _).mono (fun _ h c => by
      obtain ⟨h0, h1, h2, h3, h4, h5, h6, h7, h8, h9, h10, hargs⟩ := h c
      obtain ⟨a0, a1, a2, a3, a4, a5, a6, a7, a8, a9, a10, a11, a12⟩ := hag c
      refine ⟨h0.trans ?_, h1.trans ?_, h2.trans ?_, h3.trans ?_, h4.trans ?_, h5.trans ?_, h6.trans ?_, h7.trans ?_, h8.trans ?_, h9.trans ?_, h10.trans ?_, hargs⟩
      · rw [Cert.ProjectReferenceIdeal.Read.val_main_v350_eq]
        change Cert.ProjectReferenceIdeal.Read.val_main_v350 (F := Ideal)
          (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1)) (m' ((c.tc : Thread Cert.ProjectReferenceIdeal.nD Cert.ProjectReferenceIdeal.τ).loc Cert.ProjectReferenceIdeal.main_arg2)) (m' ((c.tc : Thread Cert.ProjectReferenceIdeal.nD Cert.ProjectReferenceIdeal.τ).loc Cert.ProjectReferenceIdeal.main_arg4)) = _
        rw [a0, a1, a2, a4]
        exact funext fun i => (congrArg _ (eq_ix2 i)).trans (Cert.ProjectRef.k_at _ _ _ _ (i 0) (i 1))
      · rw [Cert.ProjectReferenceIdeal.Read.val_main_v351_eq]
        change Cert.ProjectReferenceIdeal.Read.val_main_v351 (F := Ideal)
          (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1)) (m' ((c.tc : Thread Cert.ProjectReferenceIdeal.nD Cert.ProjectReferenceIdeal.τ).loc Cert.ProjectReferenceIdeal.main_arg2)) = _
        rw [a0, a1, a2]
        exact funext fun i => (congrArg _ (eq_ix2 i)).trans (Cert.ProjectRef.v_at _ _ _ (i 0) (i 1))
      · rw [Cert.ProjectReferenceIdeal.Read.val_main_v352_eq]
        change Cert.ProjectReferenceIdeal.Read.val_main_v352 (F := Ideal)
          (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1)) (m' ((c.tc : Thread Cert.ProjectReferenceIdeal.nD Cert.ProjectReferenceIdeal.τ).loc Cert.ProjectReferenceIdeal.main_arg2)) = _
        rw [a0, a1, a2]
        exact funext fun i => (congrArg _ (eq_ix2 i)).trans (Cert.ProjectRef.ki_at _ _ _ (i 0) (i 1))
      · rw [Cert.ProjectReferenceIdeal.Read.val_main_v353_eq]
        change Cert.ProjectReferenceIdeal.Read.val_main_v353 (F := Ideal)
          (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1)) (m' ((c.tc : Thread Cert.ProjectReferenceIdeal.nD Cert.ProjectReferenceIdeal.τ).loc Cert.ProjectReferenceIdeal.main_arg2)) (m' ((c.tc : Thread Cert.ProjectReferenceIdeal.nD Cert.ProjectReferenceIdeal.τ).loc Cert.ProjectReferenceIdeal.main_arg7)) = _
        rw [a0, a1, a2, a7]
        exact funext fun i => (congrArg _ (eq_ix2 i)).trans (Cert.ProjectRef.c_at _ _ _ _ (i 0) (i 1))
      · rw [Cert.ProjectReferenceIdeal.Read.val_main_v354_eq]
        change Cert.ProjectReferenceIdeal.Read.val_main_v354 (F := Ideal)
          (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1)) (m' ((c.tc : Thread Cert.ProjectReferenceIdeal.nD Cert.ProjectReferenceIdeal.τ).loc Cert.ProjectReferenceIdeal.main_arg2)) (m' ((c.tc : Thread Cert.ProjectReferenceIdeal.nD Cert.ProjectReferenceIdeal.τ).loc Cert.ProjectReferenceIdeal.main_arg12)) = _
        rw [a0, a1, a2, a12]
        exact funext fun i => (congrArg _ (eq_ix2 i)).trans (Cert.ProjectRef.kpe_at _ _ _ _ (i 0) (i 1))
      · rw [Cert.ProjectReferenceIdeal.Read.val_main_v356_eq]
        change Cert.ProjectReferenceIdeal.Read.val_main_v356 (F := Ideal)
          (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1)) (m' ((c.tc : Thread Cert.ProjectReferenceIdeal.nD Cert.ProjectReferenceIdeal.τ).loc Cert.ProjectReferenceIdeal.main_arg2)) (m' ((c.tc : Thread Cert.ProjectReferenceIdeal.nD Cert.ProjectReferenceIdeal.τ).loc Cert.ProjectReferenceIdeal.main_arg3)) = _
        rw [a0, a1, a2, a3]
        exact funext fun i => (congrArg _ (eq_ix2 i)).trans (Cert.ProjectRef.q_at _ _ _ _ (i 0) (i 1))
      · rw [Cert.ProjectReferenceIdeal.Read.val_main_v358_eq]
        change Cert.ProjectReferenceIdeal.Read.val_main_v358 (F := Ideal)
          (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1)) (m' ((c.tc : Thread Cert.ProjectReferenceIdeal.nD Cert.ProjectReferenceIdeal.τ).loc Cert.ProjectReferenceIdeal.main_arg2)) = _
        rw [a0, a1, a2]
        exact funext fun i => (congrArg _ (eq_ix2 i)).trans (Cert.ProjectRef.qi_at _ _ _ (i 0) (i 1))
      · rw [Cert.ProjectReferenceIdeal.Read.val_main_v360_eq]
        change Cert.ProjectReferenceIdeal.Read.val_main_v360 (F := Ideal)
          (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1)) (m' ((c.tc : Thread Cert.ProjectReferenceIdeal.nD Cert.ProjectReferenceIdeal.τ).loc Cert.ProjectReferenceIdeal.main_arg2)) (m' ((c.tc : Thread Cert.ProjectReferenceIdeal.nD Cert.ProjectReferenceIdeal.τ).loc Cert.ProjectReferenceIdeal.main_arg5)) (m' ((c.tc : Thread Cert.ProjectReferenceIdeal.nD Cert.ProjectReferenceIdeal.τ).loc Cert.ProjectReferenceIdeal.main_arg6)) (m' ((c.tc : Thread Cert.ProjectReferenceIdeal.nD Cert.ProjectReferenceIdeal.τ).loc Cert.ProjectReferenceIdeal.main_arg9)) = _
        rw [a0, a1, a2, a5, a6, a9]
        exact funext fun i => (congrArg _ (eq_ix2 i)).trans (Cert.ProjectRef.qn_at _ _ _ _ _ _ (i 0) (i 1))
      · rw [Cert.ProjectReferenceIdeal.Read.val_main_v362_eq]
        change Cert.ProjectReferenceIdeal.Read.val_main_v362 (F := Ideal)
          (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1)) (m' ((c.tc : Thread Cert.ProjectReferenceIdeal.nD Cert.ProjectReferenceIdeal.τ).loc Cert.ProjectReferenceIdeal.main_arg2)) (m' ((c.tc : Thread Cert.ProjectReferenceIdeal.nD Cert.ProjectReferenceIdeal.τ).loc Cert.ProjectReferenceIdeal.main_arg5)) (m' ((c.tc : Thread Cert.ProjectReferenceIdeal.nD Cert.ProjectReferenceIdeal.τ).loc Cert.ProjectReferenceIdeal.main_arg6)) (m' ((c.tc : Thread Cert.ProjectReferenceIdeal.nD Cert.ProjectReferenceIdeal.τ).loc Cert.ProjectReferenceIdeal.main_arg11)) = _
        rw [a0, a1, a2, a5, a6, a11]
        exact funext fun i => (congrArg _ (eq_ix2 i)).trans (Cert.ProjectRef.qpe_at _ _ _ _ _ _ (i 0) (i 1))
      · rw [Cert.ProjectReferenceIdeal.Read.val_main_v364_eq]
        change Cert.ProjectReferenceIdeal.Read.val_main_v364 (F := Ideal)
          (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1)) (m' ((c.tc : Thread Cert.ProjectReferenceIdeal.nD Cert.ProjectReferenceIdeal.τ).loc Cert.ProjectReferenceIdeal.main_arg2)) (m' ((c.tc : Thread Cert.ProjectReferenceIdeal.nD Cert.ProjectReferenceIdeal.τ).loc Cert.ProjectReferenceIdeal.main_arg7)) (m' ((c.tc : Thread Cert.ProjectReferenceIdeal.nD Cert.ProjectReferenceIdeal.τ).loc Cert.ProjectReferenceIdeal.main_arg8)) (m' ((c.tc : Thread Cert.ProjectReferenceIdeal.nD Cert.ProjectReferenceIdeal.τ).loc Cert.ProjectReferenceIdeal.main_arg10)) = _
        rw [a0, a1, a2, a7, a8, a10]
        exact funext fun i => (congrArg _ (eq_ix2 i)).trans (Cert.ProjectRef.kn_at _ _ _ _ _ _ (i 0) (i 1))
      · rw [Cert.ProjectReferenceIdeal.Read.val_main_v365_eq]
        change Cert.ProjectReferenceIdeal.Read.val_main_v365 (F := Ideal)
          (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1)) (m' ((c.tc : Thread Cert.ProjectReferenceIdeal.nD Cert.ProjectReferenceIdeal.τ).loc Cert.ProjectReferenceIdeal.main_arg2)) = _
        rw [a0, a1, a2]
        exact funext fun i => (congrArg _ (eq_ix2 i)).trans (Cert.ProjectRef.g_at _ _ _ (i 0) (i 1))
      ) (Cert.ProjectReferenceIdeal.Value.run m' ρ')⟩

/-- Its reference leaves its arguments as they were; it has no semaphore. -/
theorem project_reference [Cert.ProjectReferenceIdeal.Facts] : quiescent_ProjectReferenceIdeal := fun m ρ _ =>
  (θ_run _ _ _).mono (fun r h => ⟨fun c => (h c).2.2.2.2.2.2.2.2.2.2.2, sem_eq_zero_of_no_sems (by decide) r.2⟩) (Cert.ProjectReferenceIdeal.Value.run m ρ)

/-- The same for the new token of each of the 128 sequences, all at position 8192. -/
theorem project_sample [Cert.ProjectSampleIdeal.Facts] [Cert.ProjectSampleReferenceIdeal.Facts] : algebraic_ProjectSampleIdeal_ProjectSampleReferenceIdeal := fun m ρ m' ρ' _ hag =>
  ⟨fun c => Cert.ProjectSampleIdeal.ProjectSampleKernel.G15 m c,
    fun c => Cert.ProjectSampleIdeal.ProjectSampleKernel.G16 m c,
    fun c => Cert.ProjectSampleIdeal.ProjectSampleKernel.G18 m c,
    fun c => Cert.ProjectSampleIdeal.ProjectSampleKernel.G23 m c,
    fun c => Cert.ProjectSampleIdeal.ProjectSampleKernel.G19 m c,
    fun c => Cert.ProjectSampleIdeal.ProjectSampleKernel.G14 m c,
    fun c => Cert.ProjectSampleIdeal.ProjectSampleKernel.G17 m c,
    fun c => Cert.ProjectSampleIdeal.ProjectSampleKernel.G21 m c,
    fun c => Cert.ProjectSampleIdeal.ProjectSampleKernel.G22 m c,
    fun c => Cert.ProjectSampleIdeal.ProjectSampleKernel.G24 m c,
    fun c => Cert.ProjectSampleIdeal.ProjectSampleKernel.G25 m c,
    (θ_run _ _ _).mono (fun _ h c => by
      obtain ⟨h0, h1, h2, h3, h4, h5, h6, h7, h8, h9, h10, h11, hargs⟩ := h c
      exact ⟨h1.trans (Cert.ProjectSampleIdeal.ProjectSampleKernel.arr15 m c), h2.trans (Cert.ProjectSampleIdeal.ProjectSampleKernel.arr16 m c), h4.trans (Cert.ProjectSampleIdeal.ProjectSampleKernel.arr18 m c), h9.trans (Cert.ProjectSampleIdeal.ProjectSampleKernel.arr23 m c), h5.trans (Cert.ProjectSampleIdeal.ProjectSampleKernel.arr19 m c), h0.trans (Cert.ProjectSampleIdeal.ProjectSampleKernel.arr14 m c), h3.trans (Cert.ProjectSampleIdeal.ProjectSampleKernel.arr17 m c), h7.trans (Cert.ProjectSampleIdeal.ProjectSampleKernel.arr21 m c), h8.trans (Cert.ProjectSampleIdeal.ProjectSampleKernel.arr22 m c), h10.trans (Cert.ProjectSampleIdeal.ProjectSampleKernel.arr24 m c), h11.trans (Cert.ProjectSampleIdeal.ProjectSampleKernel.arr25 m c), hargs⟩) (Cert.ProjectSampleIdeal.Value.run_blocks m ρ),
    (θ_run _ _ _).mono (fun _ h c => by
      obtain ⟨h0, h1, h2, h3, h4, h5, h6, h7, h8, h9, h10, hargs⟩ := h c
      obtain ⟨a0, a1, a2, a3, a4, a5, a6, a7, a8, a9, a10, a11, a12⟩ := hag c
      refine ⟨h0.trans ?_, h1.trans ?_, h2.trans ?_, h3.trans ?_, h4.trans ?_, h5.trans ?_, h6.trans ?_, h7.trans ?_, h8.trans ?_, h9.trans ?_, h10.trans ?_, hargs⟩
      · rw [Cert.ProjectSampleReferenceIdeal.Read.val_main_v346_eq]
        change Cert.ProjectSampleReferenceIdeal.Read.val_main_v346 (F := Ideal)
          (m' ((c.tc : Thread Cert.ProjectSampleReferenceIdeal.nD Cert.ProjectSampleReferenceIdeal.τ).loc Cert.ProjectSampleReferenceIdeal.main_arg0)) (m' ((c.tc : Thread Cert.ProjectSampleReferenceIdeal.nD Cert.ProjectSampleReferenceIdeal.τ).loc Cert.ProjectSampleReferenceIdeal.main_arg1)) (m' ((c.tc : Thread Cert.ProjectSampleReferenceIdeal.nD Cert.ProjectSampleReferenceIdeal.τ).loc Cert.ProjectSampleReferenceIdeal.main_arg2)) (m' ((c.tc : Thread Cert.ProjectSampleReferenceIdeal.nD Cert.ProjectSampleReferenceIdeal.τ).loc Cert.ProjectSampleReferenceIdeal.main_arg4)) = _
        rw [a0, a1, a2, a4]
        exact funext fun i => (congrArg _ (eq_ix2 i)).trans (Cert.ProjectSampleRef.k_at _ _ _ _ (i 0) (i 1))
      · rw [Cert.ProjectSampleReferenceIdeal.Read.val_main_v347_eq]
        change Cert.ProjectSampleReferenceIdeal.Read.val_main_v347 (F := Ideal)
          (m' ((c.tc : Thread Cert.ProjectSampleReferenceIdeal.nD Cert.ProjectSampleReferenceIdeal.τ).loc Cert.ProjectSampleReferenceIdeal.main_arg0)) (m' ((c.tc : Thread Cert.ProjectSampleReferenceIdeal.nD Cert.ProjectSampleReferenceIdeal.τ).loc Cert.ProjectSampleReferenceIdeal.main_arg1)) (m' ((c.tc : Thread Cert.ProjectSampleReferenceIdeal.nD Cert.ProjectSampleReferenceIdeal.τ).loc Cert.ProjectSampleReferenceIdeal.main_arg2)) = _
        rw [a0, a1, a2]
        exact funext fun i => (congrArg _ (eq_ix2 i)).trans (Cert.ProjectSampleRef.v_at _ _ _ (i 0) (i 1))
      · rw [Cert.ProjectSampleReferenceIdeal.Read.val_main_v348_eq]
        change Cert.ProjectSampleReferenceIdeal.Read.val_main_v348 (F := Ideal)
          (m' ((c.tc : Thread Cert.ProjectSampleReferenceIdeal.nD Cert.ProjectSampleReferenceIdeal.τ).loc Cert.ProjectSampleReferenceIdeal.main_arg0)) (m' ((c.tc : Thread Cert.ProjectSampleReferenceIdeal.nD Cert.ProjectSampleReferenceIdeal.τ).loc Cert.ProjectSampleReferenceIdeal.main_arg1)) (m' ((c.tc : Thread Cert.ProjectSampleReferenceIdeal.nD Cert.ProjectSampleReferenceIdeal.τ).loc Cert.ProjectSampleReferenceIdeal.main_arg2)) = _
        rw [a0, a1, a2]
        exact funext fun i => (congrArg _ (eq_ix2 i)).trans (Cert.ProjectSampleRef.ki_at _ _ _ (i 0) (i 1))
      · rw [Cert.ProjectSampleReferenceIdeal.Read.val_main_v349_eq]
        change Cert.ProjectSampleReferenceIdeal.Read.val_main_v349 (F := Ideal)
          (m' ((c.tc : Thread Cert.ProjectSampleReferenceIdeal.nD Cert.ProjectSampleReferenceIdeal.τ).loc Cert.ProjectSampleReferenceIdeal.main_arg0)) (m' ((c.tc : Thread Cert.ProjectSampleReferenceIdeal.nD Cert.ProjectSampleReferenceIdeal.τ).loc Cert.ProjectSampleReferenceIdeal.main_arg1)) (m' ((c.tc : Thread Cert.ProjectSampleReferenceIdeal.nD Cert.ProjectSampleReferenceIdeal.τ).loc Cert.ProjectSampleReferenceIdeal.main_arg2)) (m' ((c.tc : Thread Cert.ProjectSampleReferenceIdeal.nD Cert.ProjectSampleReferenceIdeal.τ).loc Cert.ProjectSampleReferenceIdeal.main_arg7)) = _
        rw [a0, a1, a2, a7]
        exact funext fun i => (congrArg _ (eq_ix2 i)).trans (Cert.ProjectSampleRef.c_at _ _ _ _ (i 0) (i 1))
      · rw [Cert.ProjectSampleReferenceIdeal.Read.val_main_v350_eq]
        change Cert.ProjectSampleReferenceIdeal.Read.val_main_v350 (F := Ideal)
          (m' ((c.tc : Thread Cert.ProjectSampleReferenceIdeal.nD Cert.ProjectSampleReferenceIdeal.τ).loc Cert.ProjectSampleReferenceIdeal.main_arg0)) (m' ((c.tc : Thread Cert.ProjectSampleReferenceIdeal.nD Cert.ProjectSampleReferenceIdeal.τ).loc Cert.ProjectSampleReferenceIdeal.main_arg1)) (m' ((c.tc : Thread Cert.ProjectSampleReferenceIdeal.nD Cert.ProjectSampleReferenceIdeal.τ).loc Cert.ProjectSampleReferenceIdeal.main_arg2)) (m' ((c.tc : Thread Cert.ProjectSampleReferenceIdeal.nD Cert.ProjectSampleReferenceIdeal.τ).loc Cert.ProjectSampleReferenceIdeal.main_arg12)) = _
        rw [a0, a1, a2, a12]
        exact funext fun i => (congrArg _ (eq_ix2 i)).trans (Cert.ProjectSampleRef.kpe_at _ _ _ _ (i 0) (i 1))
      · rw [Cert.ProjectSampleReferenceIdeal.Read.val_main_v352_eq]
        change Cert.ProjectSampleReferenceIdeal.Read.val_main_v352 (F := Ideal)
          (m' ((c.tc : Thread Cert.ProjectSampleReferenceIdeal.nD Cert.ProjectSampleReferenceIdeal.τ).loc Cert.ProjectSampleReferenceIdeal.main_arg0)) (m' ((c.tc : Thread Cert.ProjectSampleReferenceIdeal.nD Cert.ProjectSampleReferenceIdeal.τ).loc Cert.ProjectSampleReferenceIdeal.main_arg1)) (m' ((c.tc : Thread Cert.ProjectSampleReferenceIdeal.nD Cert.ProjectSampleReferenceIdeal.τ).loc Cert.ProjectSampleReferenceIdeal.main_arg2)) (m' ((c.tc : Thread Cert.ProjectSampleReferenceIdeal.nD Cert.ProjectSampleReferenceIdeal.τ).loc Cert.ProjectSampleReferenceIdeal.main_arg3)) = _
        rw [a0, a1, a2, a3]
        exact funext fun i => (congrArg _ (eq_ix2 i)).trans (Cert.ProjectSampleRef.q_at _ _ _ _ (i 0) (i 1))
      · rw [Cert.ProjectSampleReferenceIdeal.Read.val_main_v354_eq]
        change Cert.ProjectSampleReferenceIdeal.Read.val_main_v354 (F := Ideal)
          (m' ((c.tc : Thread Cert.ProjectSampleReferenceIdeal.nD Cert.ProjectSampleReferenceIdeal.τ).loc Cert.ProjectSampleReferenceIdeal.main_arg0)) (m' ((c.tc : Thread Cert.ProjectSampleReferenceIdeal.nD Cert.ProjectSampleReferenceIdeal.τ).loc Cert.ProjectSampleReferenceIdeal.main_arg1)) (m' ((c.tc : Thread Cert.ProjectSampleReferenceIdeal.nD Cert.ProjectSampleReferenceIdeal.τ).loc Cert.ProjectSampleReferenceIdeal.main_arg2)) = _
        rw [a0, a1, a2]
        exact funext fun i => (congrArg _ (eq_ix2 i)).trans (Cert.ProjectSampleRef.qi_at _ _ _ (i 0) (i 1))
      · rw [Cert.ProjectSampleReferenceIdeal.Read.val_main_v356_eq]
        change Cert.ProjectSampleReferenceIdeal.Read.val_main_v356 (F := Ideal)
          (m' ((c.tc : Thread Cert.ProjectSampleReferenceIdeal.nD Cert.ProjectSampleReferenceIdeal.τ).loc Cert.ProjectSampleReferenceIdeal.main_arg0)) (m' ((c.tc : Thread Cert.ProjectSampleReferenceIdeal.nD Cert.ProjectSampleReferenceIdeal.τ).loc Cert.ProjectSampleReferenceIdeal.main_arg1)) (m' ((c.tc : Thread Cert.ProjectSampleReferenceIdeal.nD Cert.ProjectSampleReferenceIdeal.τ).loc Cert.ProjectSampleReferenceIdeal.main_arg2)) (m' ((c.tc : Thread Cert.ProjectSampleReferenceIdeal.nD Cert.ProjectSampleReferenceIdeal.τ).loc Cert.ProjectSampleReferenceIdeal.main_arg5)) (m' ((c.tc : Thread Cert.ProjectSampleReferenceIdeal.nD Cert.ProjectSampleReferenceIdeal.τ).loc Cert.ProjectSampleReferenceIdeal.main_arg6)) (m' ((c.tc : Thread Cert.ProjectSampleReferenceIdeal.nD Cert.ProjectSampleReferenceIdeal.τ).loc Cert.ProjectSampleReferenceIdeal.main_arg9)) = _
        rw [a0, a1, a2, a5, a6, a9]
        exact funext fun i => (congrArg _ (eq_ix2 i)).trans (Cert.ProjectSampleRef.qn_at _ _ _ _ _ _ (i 0) (i 1))
      · rw [Cert.ProjectSampleReferenceIdeal.Read.val_main_v358_eq]
        change Cert.ProjectSampleReferenceIdeal.Read.val_main_v358 (F := Ideal)
          (m' ((c.tc : Thread Cert.ProjectSampleReferenceIdeal.nD Cert.ProjectSampleReferenceIdeal.τ).loc Cert.ProjectSampleReferenceIdeal.main_arg0)) (m' ((c.tc : Thread Cert.ProjectSampleReferenceIdeal.nD Cert.ProjectSampleReferenceIdeal.τ).loc Cert.ProjectSampleReferenceIdeal.main_arg1)) (m' ((c.tc : Thread Cert.ProjectSampleReferenceIdeal.nD Cert.ProjectSampleReferenceIdeal.τ).loc Cert.ProjectSampleReferenceIdeal.main_arg2)) (m' ((c.tc : Thread Cert.ProjectSampleReferenceIdeal.nD Cert.ProjectSampleReferenceIdeal.τ).loc Cert.ProjectSampleReferenceIdeal.main_arg5)) (m' ((c.tc : Thread Cert.ProjectSampleReferenceIdeal.nD Cert.ProjectSampleReferenceIdeal.τ).loc Cert.ProjectSampleReferenceIdeal.main_arg6)) (m' ((c.tc : Thread Cert.ProjectSampleReferenceIdeal.nD Cert.ProjectSampleReferenceIdeal.τ).loc Cert.ProjectSampleReferenceIdeal.main_arg11)) = _
        rw [a0, a1, a2, a5, a6, a11]
        exact funext fun i => (congrArg _ (eq_ix2 i)).trans (Cert.ProjectSampleRef.qpe_at _ _ _ _ _ _ (i 0) (i 1))
      · rw [Cert.ProjectSampleReferenceIdeal.Read.val_main_v360_eq]
        change Cert.ProjectSampleReferenceIdeal.Read.val_main_v360 (F := Ideal)
          (m' ((c.tc : Thread Cert.ProjectSampleReferenceIdeal.nD Cert.ProjectSampleReferenceIdeal.τ).loc Cert.ProjectSampleReferenceIdeal.main_arg0)) (m' ((c.tc : Thread Cert.ProjectSampleReferenceIdeal.nD Cert.ProjectSampleReferenceIdeal.τ).loc Cert.ProjectSampleReferenceIdeal.main_arg1)) (m' ((c.tc : Thread Cert.ProjectSampleReferenceIdeal.nD Cert.ProjectSampleReferenceIdeal.τ).loc Cert.ProjectSampleReferenceIdeal.main_arg2)) (m' ((c.tc : Thread Cert.ProjectSampleReferenceIdeal.nD Cert.ProjectSampleReferenceIdeal.τ).loc Cert.ProjectSampleReferenceIdeal.main_arg7)) (m' ((c.tc : Thread Cert.ProjectSampleReferenceIdeal.nD Cert.ProjectSampleReferenceIdeal.τ).loc Cert.ProjectSampleReferenceIdeal.main_arg8)) (m' ((c.tc : Thread Cert.ProjectSampleReferenceIdeal.nD Cert.ProjectSampleReferenceIdeal.τ).loc Cert.ProjectSampleReferenceIdeal.main_arg10)) = _
        rw [a0, a1, a2, a7, a8, a10]
        exact funext fun i => (congrArg _ (eq_ix2 i)).trans (Cert.ProjectSampleRef.kn_at _ _ _ _ _ _ (i 0) (i 1))
      · rw [Cert.ProjectSampleReferenceIdeal.Read.val_main_v361_eq]
        change Cert.ProjectSampleReferenceIdeal.Read.val_main_v361 (F := Ideal)
          (m' ((c.tc : Thread Cert.ProjectSampleReferenceIdeal.nD Cert.ProjectSampleReferenceIdeal.τ).loc Cert.ProjectSampleReferenceIdeal.main_arg0)) (m' ((c.tc : Thread Cert.ProjectSampleReferenceIdeal.nD Cert.ProjectSampleReferenceIdeal.τ).loc Cert.ProjectSampleReferenceIdeal.main_arg1)) (m' ((c.tc : Thread Cert.ProjectSampleReferenceIdeal.nD Cert.ProjectSampleReferenceIdeal.τ).loc Cert.ProjectSampleReferenceIdeal.main_arg2)) = _
        rw [a0, a1, a2]
        exact funext fun i => (congrArg _ (eq_ix2 i)).trans (Cert.ProjectSampleRef.g_at _ _ _ (i 0) (i 1))
      ) (Cert.ProjectSampleReferenceIdeal.Value.run m' ρ')⟩

/-- Its reference leaves its arguments as they were; it has no semaphore. -/
theorem project_sample_reference [Cert.ProjectSampleReferenceIdeal.Facts] : quiescent_ProjectSampleReferenceIdeal := fun m ρ _ =>
  (θ_run _ _ _).mono (fun r h => ⟨fun c => (h c).2.2.2.2.2.2.2.2.2.2.2, sem_eq_zero_of_no_sems (by decide) r.2⟩) (Cert.ProjectSampleReferenceIdeal.Value.run m ρ)

theorem claim : Cert.Claim :=
  ⟨Cert.Kernel.Gen.facts, Cert.KernelIdeal.Gen.facts, Cert.ReferenceIdeal.Gen.facts,
    Cert.Merge.Gen.facts, Cert.MergeIdeal.Gen.facts, Cert.MergeReferenceIdeal.Gen.facts,
    Cert.MergeSample.Gen.facts, Cert.MergeSampleIdeal.Gen.facts, Cert.MergeSampleReferenceIdeal.Gen.facts,
    Cert.Project.Gen.facts, Cert.ProjectIdeal.Gen.facts, Cert.ProjectReferenceIdeal.Gen.facts,
    Cert.ProjectSample.Gen.facts, Cert.ProjectSampleIdeal.Gen.facts, Cert.ProjectSampleReferenceIdeal.Gen.facts, Cert.AttnPre.facts,
    fun m ρ _ => Cert.Kernel.Gen.frame m ρ, fun m ρ _ => Cert.KernelIdeal.Gen.frame m ρ, fun m ρ _ => Cert.KernelIdeal.Gen.frame m ρ,
    @attn_reference Cert.ReferenceIdeal.Gen.facts, fun m ρ _ => @attn_reference Cert.ReferenceIdeal.Gen.facts m ρ trivial,
    fun m ρ _ => Cert.Merge.Gen.frame m ρ, fun m ρ _ => Cert.MergeIdeal.Gen.frame m ρ, @merge_reference Cert.MergeReferenceIdeal.Gen.facts,
    fun m ρ _ => Cert.MergeSample.Gen.frame m ρ, fun m ρ _ => Cert.MergeSampleIdeal.Gen.frame m ρ,
    @merge_sample_reference Cert.MergeSampleReferenceIdeal.Gen.facts,
    fun m ρ _ => Cert.Project.Gen.frame m ρ, fun m ρ _ => Cert.ProjectIdeal.Gen.frame m ρ,
    @project_reference Cert.ProjectReferenceIdeal.Gen.facts,
    fun m ρ _ => Cert.ProjectSample.Gen.frame m ρ, fun m ρ _ => Cert.ProjectSampleIdeal.Gen.frame m ρ,
    @project_sample_reference Cert.ProjectSampleReferenceIdeal.Gen.facts,
    trivial, @attn Cert.KernelIdeal.Gen.facts Cert.ReferenceIdeal.Gen.facts Cert.AttnPre.facts,
    trivial, @merge Cert.MergeIdeal.Gen.facts Cert.MergeReferenceIdeal.Gen.facts,
    trivial, @merge_sample Cert.MergeSampleIdeal.Gen.facts Cert.MergeSampleReferenceIdeal.Gen.facts,
    trivial, @project Cert.ProjectIdeal.Gen.facts Cert.ProjectReferenceIdeal.Gen.facts,
    trivial, @project_sample Cert.ProjectSampleIdeal.Gen.facts Cert.ProjectSampleReferenceIdeal.Gen.facts⟩

end Cert.Proof

end
